-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleIdeal_finite_sample_router [hPre_finite_sample_router : Cert.Pre_finite_sample_router.Facts] (m : (ℓ : Loc Cert.SampleIdeal.nD Cert.SampleIdeal.τ Cert.SampleIdeal.sig) → Buf (Elt Ideal) ℓ) : Prop :=
  ∀ c : Dev Cert.SampleIdeal.nD,
    (Cert.Pre_finite_sample_router.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9))) = (fun _ => 1#1)

def Pre_SampleReferenceIdeal (m : (ℓ : Loc Cert.SampleReferenceIdeal.nD Cert.SampleReferenceIdeal.τ Cert.SampleReferenceIdeal.sig) → Buf (Elt Ideal) ℓ) : Prop :=
  True

def Pre_SampleReferenceIdeal_finite_sample_router [hPre_finite_sample_router : Cert.Pre_finite_sample_router.Facts] (m : (ℓ : Loc Cert.SampleReferenceIdeal.nD Cert.SampleReferenceIdeal.τ Cert.SampleReferenceIdeal.sig) → Buf (Elt Ideal) ℓ) : Prop :=
  ∀ c : Dev Cert.SampleReferenceIdeal.nD,
    (Cert.Pre_finite_sample_router.fn (F := Ideal) (m ((c.tc : Thread Cert.SampleReferenceIdeal.nD Cert.SampleReferenceIdeal.τ).loc Cert.SampleReferenceIdeal.main_arg0)) (m ((c.tc : Thread Cert.SampleReferenceIdeal.nD Cert.SampleReferenceIdeal.τ).loc Cert.SampleReferenceIdeal.main_arg1)) (m ((c.tc : Thread Cert.SampleReferenceIdeal.nD Cert.SampleReferenceIdeal.τ).loc Cert.SampleReferenceIdeal.main_arg2)) (m ((c.tc : Thread Cert.SampleReferenceIdeal.nD Cert.SampleReferenceIdeal.τ).loc Cert.SampleReferenceIdeal.main_arg3)) (m ((c.tc : Thread Cert.SampleReferenceIdeal.nD Cert.SampleReferenceIdeal.τ).loc Cert.SampleReferenceIdeal.main_arg4)) (m ((c.tc : Thread Cert.SampleReferenceIdeal.nD Cert.SampleReferenceIdeal.τ).loc Cert.SampleReferenceIdeal.main_arg5)) (m ((c.tc : Thread Cert.SampleReferenceIdeal.nD Cert.SampleReferenceIdeal.τ).loc Cert.SampleReferenceIdeal.main_arg6)) (m ((c.tc : Thread Cert.SampleReferenceIdeal.nD Cert.SampleReferenceIdeal.τ).loc Cert.SampleReferenceIdeal.main_arg7)) (m ((c.tc : Thread Cert.SampleReferenceIdeal.nD Cert.SampleReferenceIdeal.τ).loc Cert.SampleReferenceIdeal.main_arg8)) (m ((c.tc : Thread Cert.SampleReferenceIdeal.nD Cert.SampleReferenceIdeal.τ).loc Cert.SampleReferenceIdeal.main_arg9))) = (fun _ => 1#1)

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsReferenceIdeal (m : (ℓ : Loc Cert.RowsReferenceIdeal.nD Cert.RowsReferenceIdeal.τ Cert.RowsReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Pages (m : (ℓ : Loc Cert.Pages.nD Cert.Pages.τ Cert.Pages.sig) → Buf (Elt Bits) ℓ) : Prop :=
  True

def Pre_PagesIdeal (m : (ℓ : Loc Cert.PagesIdeal.nD Cert.PagesIdeal.τ Cert.PagesIdeal.sig) → Buf (Elt Ideal) ℓ) : Prop :=
  True

def Pre_PagesReferenceIdeal (m : (ℓ : Loc Cert.PagesReferenceIdeal.nD Cert.PagesReferenceIdeal.τ Cert.PagesReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9))
      ∧ r.2.sem = fun _ => 0)

def quiescent_SampleIdeal_pre_finite_sample_router [hSampleIdeal : Cert.SampleIdeal.Facts] [hPre_finite_sample_router : Cert.Pre_finite_sample_router.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal_finite_sample_router m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7)
      ∧ r.2.mem ((c.tc : Thread Cert.SampleReferenceIdeal.nD Cert.SampleReferenceIdeal.τ).loc Cert.SampleReferenceIdeal.main_arg8) = m ((c.tc : Thread Cert.SampleReferenceIdeal.nD Cert.SampleReferenceIdeal.τ).loc Cert.SampleReferenceIdeal.main_arg8)
      ∧ r.2.mem ((c.tc : Thread Cert.SampleReferenceIdeal.nD Cert.SampleReferenceIdeal.τ).loc Cert.SampleReferenceIdeal.main_arg9) = m ((c.tc : Thread Cert.SampleReferenceIdeal.nD Cert.SampleReferenceIdeal.τ).loc Cert.SampleReferenceIdeal.main_arg9))
      ∧ r.2.sem = fun _ => 0)

def quiescent_SampleReferenceIdeal_pre_finite_sample_router [hSampleReferenceIdeal : Cert.SampleReferenceIdeal.Facts] [hPre_finite_sample_router : Cert.Pre_finite_sample_router.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal_finite_sample_router m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7)
      ∧ r.2.mem ((c.tc : Thread Cert.SampleReferenceIdeal.nD Cert.SampleReferenceIdeal.τ).loc Cert.SampleReferenceIdeal.main_arg8) = m ((c.tc : Thread Cert.SampleReferenceIdeal.nD Cert.SampleReferenceIdeal.τ).loc Cert.SampleReferenceIdeal.main_arg8)
      ∧ r.2.mem ((c.tc : Thread Cert.SampleReferenceIdeal.nD Cert.SampleReferenceIdeal.τ).loc Cert.SampleReferenceIdeal.main_arg9) = m ((c.tc : Thread Cert.SampleReferenceIdeal.nD Cert.SampleReferenceIdeal.τ).loc Cert.SampleReferenceIdeal.main_arg9))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1)
      ∧ r.2.mem ((c.tc : Thread Cert.Rows.nD Cert.Rows.τ).loc Cert.Rows.main_arg2) = m ((c.tc : Thread Cert.Rows.nD Cert.Rows.τ).loc Cert.Rows.main_arg2)
      ∧ r.2.mem ((c.tc : Thread Cert.Rows.nD Cert.Rows.τ).loc Cert.Rows.main_arg3) = m ((c.tc : Thread Cert.Rows.nD Cert.Rows.τ).loc Cert.Rows.main_arg3)
      ∧ r.2.mem ((c.tc : Thread Cert.Rows.nD Cert.Rows.τ).loc Cert.Rows.main_arg4) = m ((c.tc : Thread Cert.Rows.nD Cert.Rows.τ).loc Cert.Rows.main_arg4)
      ∧ r.2.mem ((c.tc : Thread Cert.Rows.nD Cert.Rows.τ).loc Cert.Rows.main_arg5) = m ((c.tc : Thread Cert.Rows.nD Cert.Rows.τ).loc Cert.Rows.main_arg5))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
      ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
      ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4)
      ∧ r.2.mem ((c.tc : Thread Cert.RowsIdeal.nD Cert.RowsIdeal.τ).loc Cert.RowsIdeal.main_arg5) = m ((c.tc : Thread Cert.RowsIdeal.nD Cert.RowsIdeal.τ).loc Cert.RowsIdeal.main_arg5))
      ∧ r.2.sem = fun _ => 0)

def quiescent_RowsReferenceIdeal [hRowsReferenceIdeal : Cert.RowsReferenceIdeal.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1)
      ∧ r.2.mem ((c.tc : Thread Cert.RowsReferenceIdeal.nD Cert.RowsReferenceIdeal.τ).loc Cert.RowsReferenceIdeal.main_arg2) = m ((c.tc : Thread Cert.RowsReferenceIdeal.nD Cert.RowsReferenceIdeal.τ).loc Cert.RowsReferenceIdeal.main_arg2)
      ∧ r.2.mem ((c.tc : Thread Cert.RowsReferenceIdeal.nD Cert.RowsReferenceIdeal.τ).loc Cert.RowsReferenceIdeal.main_arg3) = m ((c.tc : Thread Cert.RowsReferenceIdeal.nD Cert.RowsReferenceIdeal.τ).loc Cert.RowsReferenceIdeal.main_arg3)
      ∧ r.2.mem ((c.tc : Thread Cert.RowsReferenceIdeal.nD Cert.RowsReferenceIdeal.τ).loc Cert.RowsReferenceIdeal.main_arg4) = m ((c.tc : Thread Cert.RowsReferenceIdeal.nD Cert.RowsReferenceIdeal.τ).loc Cert.RowsReferenceIdeal.main_arg4)
      ∧ r.2.mem ((c.tc : Thread Cert.RowsReferenceIdeal.nD Cert.RowsReferenceIdeal.τ).loc Cert.RowsReferenceIdeal.main_arg5) = m ((c.tc : Thread Cert.RowsReferenceIdeal.nD Cert.RowsReferenceIdeal.τ).loc Cert.RowsReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_Pages [hPages : Cert.Pages.Facts] : Prop :=
  ∀ (m : (ℓ : Loc Cert.Pages.nD Cert.Pages.τ Cert.Pages.sig) → Buf (Elt Bits) ℓ) (g : Dev Cert.Pages.nD → PrngReg), Pre_Pages m →
    θ_run (Cert.Pages.defs (F := Bits)) (onTc (τ := Cert.Pages.τ) (Cert.Pages.main (F := Bits))) ⟨m, fun _ => 0, g⟩ (fun r => (∀ c : Dev Cert.Pages.nD,
      r.2.mem ((c.tc : Thread Cert.Pages.nD Cert.Pages.τ).loc Cert.Pages.main_arg0) = m ((c.tc : Thread Cert.Pages.nD Cert.Pages.τ).loc Cert.Pages.main_arg0)
      ∧ r.2.mem ((c.tc : Thread Cert.Pages.nD Cert.Pages.τ).loc Cert.Pages.main_arg1) = m ((c.tc : Thread Cert.Pages.nD Cert.Pages.τ).loc Cert.Pages.main_arg1)
      ∧ r.2.mem ((c.tc : Thread Cert.Pages.nD Cert.Pages.τ).loc Cert.Pages.main_arg2) = m ((c.tc : Thread Cert.Pages.nD Cert.Pages.τ).loc Cert.Pages.main_arg2)
      ∧ r.2.mem ((c.tc : Thread Cert.Pages.nD Cert.Pages.τ).loc Cert.Pages.main_arg3) = m ((c.tc : Thread Cert.Pages.nD Cert.Pages.τ).loc Cert.Pages.main_arg3)
      ∧ r.2.mem ((c.tc : Thread Cert.Pages.nD Cert.Pages.τ).loc Cert.Pages.main_arg4) = m ((c.tc : Thread Cert.Pages.nD Cert.Pages.τ).loc Cert.Pages.main_arg4)
      ∧ r.2.mem ((c.tc : Thread Cert.Pages.nD Cert.Pages.τ).loc Cert.Pages.main_arg5) = m ((c.tc : Thread Cert.Pages.nD Cert.Pages.τ).loc Cert.Pages.main_arg5)
      ∧ r.2.mem ((c.tc : Thread Cert.Pages.nD Cert.Pages.τ).loc Cert.Pages.main_arg6) = m ((c.tc : Thread Cert.Pages.nD Cert.Pages.τ).loc Cert.Pages.main_arg6)
      ∧ r.2.mem ((c.tc : Thread Cert.Pages.nD Cert.Pages.τ).loc Cert.Pages.main_arg7) = m ((c.tc : Thread Cert.Pages.nD Cert.Pages.τ).loc Cert.Pages.main_arg7)
      ∧ r.2.mem ((c.tc : Thread Cert.Pages.nD Cert.Pages.τ).loc Cert.Pages.main_arg8) = m ((c.tc : Thread Cert.Pages.nD Cert.Pages.τ).loc Cert.Pages.main_arg8))
      ∧ r.2.sem = fun _ => 0)

def quiescent_PagesIdeal [hPagesIdeal : Cert.PagesIdeal.Facts] : Prop :=
  ∀ (m : (ℓ : Loc Cert.PagesIdeal.nD Cert.PagesIdeal.τ Cert.PagesIdeal.sig) → Buf (Elt Ideal) ℓ) (g : Dev Cert.PagesIdeal.nD → PrngReg), Pre_PagesIdeal m →
    θ_run (Cert.PagesIdeal.defs (F := Ideal)) (onTc (τ := Cert.PagesIdeal.τ) (Cert.PagesIdeal.main (F := Ideal))) ⟨m, fun _ => 0, g⟩ (fun r => (∀ c : Dev Cert.PagesIdeal.nD,
      r.2.mem ((c.tc : Thread Cert.PagesIdeal.nD Cert.PagesIdeal.τ).loc Cert.PagesIdeal.main_arg0) = m ((c.tc : Thread Cert.PagesIdeal.nD Cert.PagesIdeal.τ).loc Cert.PagesIdeal.main_arg0)
      ∧ r.2.mem ((c.tc : Thread Cert.PagesIdeal.nD Cert.PagesIdeal.τ).loc Cert.PagesIdeal.main_arg1) = m ((c.tc : Thread Cert.PagesIdeal.nD Cert.PagesIdeal.τ).loc Cert.PagesIdeal.main_arg1)
      ∧ r.2.mem ((c.tc : Thread Cert.PagesIdeal.nD Cert.PagesIdeal.τ).loc Cert.PagesIdeal.main_arg2) = m ((c.tc : Thread Cert.PagesIdeal.nD Cert.PagesIdeal.τ).loc Cert.PagesIdeal.main_arg2)
      ∧ r.2.mem ((c.tc : Thread Cert.PagesIdeal.nD Cert.PagesIdeal.τ).loc Cert.PagesIdeal.main_arg3) = m ((c.tc : Thread Cert.PagesIdeal.nD Cert.PagesIdeal.τ).loc Cert.PagesIdeal.main_arg3)
      ∧ r.2.mem ((c.tc : Thread Cert.PagesIdeal.nD Cert.PagesIdeal.τ).loc Cert.PagesIdeal.main_arg4) = m ((c.tc : Thread Cert.PagesIdeal.nD Cert.PagesIdeal.τ).loc Cert.PagesIdeal.main_arg4)
      ∧ r.2.mem ((c.tc : Thread Cert.PagesIdeal.nD Cert.PagesIdeal.τ).loc Cert.PagesIdeal.main_arg5) = m ((c.tc : Thread Cert.PagesIdeal.nD Cert.PagesIdeal.τ).loc Cert.PagesIdeal.main_arg5)
      ∧ r.2.mem ((c.tc : Thread Cert.PagesIdeal.nD Cert.PagesIdeal.τ).loc Cert.PagesIdeal.main_arg6) = m ((c.tc : Thread Cert.PagesIdeal.nD Cert.PagesIdeal.τ).loc Cert.PagesIdeal.main_arg6)
      ∧ r.2.mem ((c.tc : Thread Cert.PagesIdeal.nD Cert.PagesIdeal.τ).loc Cert.PagesIdeal.main_arg7) = m ((c.tc : Thread Cert.PagesIdeal.nD Cert.PagesIdeal.τ).loc Cert.PagesIdeal.main_arg7)
      ∧ r.2.mem ((c.tc : Thread Cert.PagesIdeal.nD Cert.PagesIdeal.τ).loc Cert.PagesIdeal.main_arg8) = m ((c.tc : Thread Cert.PagesIdeal.nD Cert.PagesIdeal.τ).loc Cert.PagesIdeal.main_arg8))
      ∧ r.2.sem = fun _ => 0)

def quiescent_PagesReferenceIdeal [hPagesReferenceIdeal : Cert.PagesReferenceIdeal.Facts] : Prop :=
  ∀ (m : (ℓ : Loc Cert.PagesReferenceIdeal.nD Cert.PagesReferenceIdeal.τ Cert.PagesReferenceIdeal.sig) → Buf (Elt Ideal) ℓ) (g : Dev Cert.PagesReferenceIdeal.nD → PrngReg), Pre_PagesReferenceIdeal m →
    θ_run (Cert.PagesReferenceIdeal.defs (F := Ideal)) (onTc (τ := Cert.PagesReferenceIdeal.τ) (Cert.PagesReferenceIdeal.main (F := Ideal))) ⟨m, fun _ => 0, g⟩ (fun r => (∀ c : Dev Cert.PagesReferenceIdeal.nD,
      r.2.mem ((c.tc : Thread Cert.PagesReferenceIdeal.nD Cert.PagesReferenceIdeal.τ).loc Cert.PagesReferenceIdeal.main_arg0) = m ((c.tc : Thread Cert.PagesReferenceIdeal.nD Cert.PagesReferenceIdeal.τ).loc Cert.PagesReferenceIdeal.main_arg0)
      ∧ r.2.mem ((c.tc : Thread Cert.PagesReferenceIdeal.nD Cert.PagesReferenceIdeal.τ).loc Cert.PagesReferenceIdeal.main_arg1) = m ((c.tc : Thread Cert.PagesReferenceIdeal.nD Cert.PagesReferenceIdeal.τ).loc Cert.PagesReferenceIdeal.main_arg1)
      ∧ r.2.mem ((c.tc : Thread Cert.PagesReferenceIdeal.nD Cert.PagesReferenceIdeal.τ).loc Cert.PagesReferenceIdeal.main_arg2) = m ((c.tc : Thread Cert.PagesReferenceIdeal.nD Cert.PagesReferenceIdeal.τ).loc Cert.PagesReferenceIdeal.main_arg2)
      ∧ r.2.mem ((c.tc : Thread Cert.PagesReferenceIdeal.nD Cert.PagesReferenceIdeal.τ).loc Cert.PagesReferenceIdeal.main_arg3) = m ((c.tc : Thread Cert.PagesReferenceIdeal.nD Cert.PagesReferenceIdeal.τ).loc Cert.PagesReferenceIdeal.main_arg3)
      ∧ r.2.mem ((c.tc : Thread Cert.PagesReferenceIdeal.nD Cert.PagesReferenceIdeal.τ).loc Cert.PagesReferenceIdeal.main_arg4) = m ((c.tc : Thread Cert.PagesReferenceIdeal.nD Cert.PagesReferenceIdeal.τ).loc Cert.PagesReferenceIdeal.main_arg4)
      ∧ r.2.mem ((c.tc : Thread Cert.PagesReferenceIdeal.nD Cert.PagesReferenceIdeal.τ).loc Cert.PagesReferenceIdeal.main_arg5) = m ((c.tc : Thread Cert.PagesReferenceIdeal.nD Cert.PagesReferenceIdeal.τ).loc Cert.PagesReferenceIdeal.main_arg5)
      ∧ r.2.mem ((c.tc : Thread Cert.PagesReferenceIdeal.nD Cert.PagesReferenceIdeal.τ).loc Cert.PagesReferenceIdeal.main_arg6) = m ((c.tc : Thread Cert.PagesReferenceIdeal.nD Cert.PagesReferenceIdeal.τ).loc Cert.PagesReferenceIdeal.main_arg6)
      ∧ r.2.mem ((c.tc : Thread Cert.PagesReferenceIdeal.nD Cert.PagesReferenceIdeal.τ).loc Cert.PagesReferenceIdeal.main_arg7) = m ((c.tc : Thread Cert.PagesReferenceIdeal.nD Cert.PagesReferenceIdeal.τ).loc Cert.PagesReferenceIdeal.main_arg7)
      ∧ r.2.mem ((c.tc : Thread Cert.PagesReferenceIdeal.nD Cert.PagesReferenceIdeal.τ).loc Cert.PagesReferenceIdeal.main_arg8) = m ((c.tc : Thread Cert.PagesReferenceIdeal.nD Cert.PagesReferenceIdeal.τ).loc Cert.PagesReferenceIdeal.main_arg8))
      ∧ r.2.sem = fun _ => 0)

def preserves_Kernel_KernelIdeal : Prop :=
  True

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Sample_SampleIdeal : Prop :=
  True

def algebraic_SampleIdeal_SampleReferenceIdeal_pre_finite_sample_router [hSampleIdeal : Cert.SampleIdeal.Facts] [hSampleReferenceIdeal : Cert.SampleReferenceIdeal.Facts] [hPre_finite_sample_router : Cert.Pre_finite_sample_router.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal_finite_sample_router m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)
      ∧ m' ((c.tc : Thread Cert.SampleReferenceIdeal.nD Cert.SampleReferenceIdeal.τ).loc Cert.SampleReferenceIdeal.main_arg4) = m ((c.tc : Thread Cert.SampleIdeal.nD Cert.SampleIdeal.τ).loc Cert.SampleIdeal.main_arg4)
      ∧ m' ((c.tc : Thread Cert.SampleReferenceIdeal.nD Cert.SampleReferenceIdeal.τ).loc Cert.SampleReferenceIdeal.main_arg5) = m ((c.tc : Thread Cert.SampleIdeal.nD Cert.SampleIdeal.τ).loc Cert.SampleIdeal.main_arg5)
      ∧ m' ((c.tc : Thread Cert.SampleReferenceIdeal.nD Cert.SampleReferenceIdeal.τ).loc Cert.SampleReferenceIdeal.main_arg6) = m ((c.tc : Thread Cert.SampleIdeal.nD Cert.SampleIdeal.τ).loc Cert.SampleIdeal.main_arg6)
      ∧ m' ((c.tc : Thread Cert.SampleReferenceIdeal.nD Cert.SampleReferenceIdeal.τ).loc Cert.SampleReferenceIdeal.main_arg7) = m ((c.tc : Thread Cert.SampleIdeal.nD Cert.SampleIdeal.τ).loc Cert.SampleIdeal.main_arg7)
      ∧ m' ((c.tc : Thread Cert.SampleReferenceIdeal.nD Cert.SampleReferenceIdeal.τ).loc Cert.SampleReferenceIdeal.main_arg8) = m ((c.tc : Thread Cert.SampleIdeal.nD Cert.SampleIdeal.τ).loc Cert.SampleIdeal.main_arg8)
      ∧ m' ((c.tc : Thread Cert.SampleReferenceIdeal.nD Cert.SampleReferenceIdeal.τ).loc Cert.SampleReferenceIdeal.main_arg9) = m ((c.tc : Thread Cert.SampleIdeal.nD Cert.SampleIdeal.τ).loc Cert.SampleIdeal.main_arg9)) →
    ∃ (v0 : (c : Dev Cert.SampleIdeal.nD) → Buf (Elt Ideal) ((c.tc : Thread Cert.SampleIdeal.nD Cert.SampleIdeal.τ).loc Cert.SampleIdeal.main_v15)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v15) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v108) = v0 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4)
          ∧ r.2.mem ((c.tc : Thread Cert.SampleReferenceIdeal.nD Cert.SampleReferenceIdeal.τ).loc Cert.SampleReferenceIdeal.main_arg5) = m' ((c.tc : Thread Cert.SampleReferenceIdeal.nD Cert.SampleReferenceIdeal.τ).loc Cert.SampleReferenceIdeal.main_arg5)
          ∧ r.2.mem ((c.tc : Thread Cert.SampleReferenceIdeal.nD Cert.SampleReferenceIdeal.τ).loc Cert.SampleReferenceIdeal.main_arg6) = m' ((c.tc : Thread Cert.SampleReferenceIdeal.nD Cert.SampleReferenceIdeal.τ).loc Cert.SampleReferenceIdeal.main_arg6)
          ∧ r.2.mem ((c.tc : Thread Cert.SampleReferenceIdeal.nD Cert.SampleReferenceIdeal.τ).loc Cert.SampleReferenceIdeal.main_arg7) = m' ((c.tc : Thread Cert.SampleReferenceIdeal.nD Cert.SampleReferenceIdeal.τ).loc Cert.SampleReferenceIdeal.main_arg7)
          ∧ r.2.mem ((c.tc : Thread Cert.SampleReferenceIdeal.nD Cert.SampleReferenceIdeal.τ).loc Cert.SampleReferenceIdeal.main_arg8) = m' ((c.tc : Thread Cert.SampleReferenceIdeal.nD Cert.SampleReferenceIdeal.τ).loc Cert.SampleReferenceIdeal.main_arg8)
          ∧ r.2.mem ((c.tc : Thread Cert.SampleReferenceIdeal.nD Cert.SampleReferenceIdeal.τ).loc Cert.SampleReferenceIdeal.main_arg9) = m' ((c.tc : Thread Cert.SampleReferenceIdeal.nD Cert.SampleReferenceIdeal.τ).loc Cert.SampleReferenceIdeal.main_arg9))

def preserves_Rows_RowsIdeal : Prop :=
  True

def algebraic_RowsIdeal_RowsReferenceIdeal [hRowsIdeal : Cert.RowsIdeal.Facts] [hRowsReferenceIdeal : Cert.RowsReferenceIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsIdeal m →
    (∀ c : Dev Cert.RowsIdeal.nD,
      m' ((c.tc : Thread Cert.RowsReferenceIdeal.nD Cert.RowsReferenceIdeal.τ).loc Cert.RowsReferenceIdeal.main_arg0) = m ((c.tc : Thread Cert.RowsIdeal.nD Cert.RowsIdeal.τ).loc Cert.RowsIdeal.main_arg0)
      ∧ m' ((c.tc : Thread Cert.RowsReferenceIdeal.nD Cert.RowsReferenceIdeal.τ).loc Cert.RowsReferenceIdeal.main_arg1) = m ((c.tc : Thread Cert.RowsIdeal.nD Cert.RowsIdeal.τ).loc Cert.RowsIdeal.main_arg1)
      ∧ m' ((c.tc : Thread Cert.RowsReferenceIdeal.nD Cert.RowsReferenceIdeal.τ).loc Cert.RowsReferenceIdeal.main_arg2) = m ((c.tc : Thread Cert.RowsIdeal.nD Cert.RowsIdeal.τ).loc Cert.RowsIdeal.main_arg2)
      ∧ m' ((c.tc : Thread Cert.RowsReferenceIdeal.nD Cert.RowsReferenceIdeal.τ).loc Cert.RowsReferenceIdeal.main_arg3) = m ((c.tc : Thread Cert.RowsIdeal.nD Cert.RowsIdeal.τ).loc Cert.RowsIdeal.main_arg3)
      ∧ m' ((c.tc : Thread Cert.RowsReferenceIdeal.nD Cert.RowsReferenceIdeal.τ).loc Cert.RowsReferenceIdeal.main_arg4) = m ((c.tc : Thread Cert.RowsIdeal.nD Cert.RowsIdeal.τ).loc Cert.RowsIdeal.main_arg4)
      ∧ m' ((c.tc : Thread Cert.RowsReferenceIdeal.nD Cert.RowsReferenceIdeal.τ).loc Cert.RowsReferenceIdeal.main_arg5) = m ((c.tc : Thread Cert.RowsIdeal.nD Cert.RowsIdeal.τ).loc Cert.RowsIdeal.main_arg5)) →
    ∃ (v0 : (c : Dev Cert.RowsIdeal.nD) → Buf (Elt Ideal) ((c.tc : Thread Cert.RowsIdeal.nD Cert.RowsIdeal.τ).loc Cert.RowsIdeal.main_v147_2)) (v1 : (c : Dev Cert.RowsIdeal.nD) → Buf (Elt Ideal) ((c.tc : Thread Cert.RowsIdeal.nD Cert.RowsIdeal.τ).loc Cert.RowsIdeal.main_v147_3)) (v2 : (c : Dev Cert.RowsIdeal.nD) → Buf (Elt Ideal) ((c.tc : Thread Cert.RowsIdeal.nD Cert.RowsIdeal.τ).loc Cert.RowsIdeal.main_v147_5)) (v3 : (c : Dev Cert.RowsIdeal.nD) → Buf (Elt Ideal) ((c.tc : Thread Cert.RowsIdeal.nD Cert.RowsIdeal.τ).loc Cert.RowsIdeal.main_v147_7)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v147_2) = v0 c
          ∧ r.2.mem ((c.tc : Thread Cert.RowsIdeal.nD Cert.RowsIdeal.τ).loc Cert.RowsIdeal.main_v147_3) = v1 c
          ∧ r.2.mem ((c.tc : Thread Cert.RowsIdeal.nD Cert.RowsIdeal.τ).loc Cert.RowsIdeal.main_v147_5) = v2 c
          ∧ r.2.mem ((c.tc : Thread Cert.RowsIdeal.nD Cert.RowsIdeal.τ).loc Cert.RowsIdeal.main_v147_7) = v3 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
          ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
          ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4)
          ∧ r.2.mem ((c.tc : Thread Cert.RowsIdeal.nD Cert.RowsIdeal.τ).loc Cert.RowsIdeal.main_arg5) = m ((c.tc : Thread Cert.RowsIdeal.nD Cert.RowsIdeal.τ).loc Cert.RowsIdeal.main_arg5))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_v161) = v0 c
          ∧ r.2.mem ((c.tc : Thread Cert.RowsReferenceIdeal.nD Cert.RowsReferenceIdeal.τ).loc Cert.RowsReferenceIdeal.main_v162) = v1 c
          ∧ r.2.mem ((c.tc : Thread Cert.RowsReferenceIdeal.nD Cert.RowsReferenceIdeal.τ).loc Cert.RowsReferenceIdeal.main_v163) = v2 c
          ∧ r.2.mem ((c.tc : Thread Cert.RowsReferenceIdeal.nD Cert.RowsReferenceIdeal.τ).loc Cert.RowsReferenceIdeal.main_v164) = v3 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0)
          ∧ r.2.mem ((c.tc : Thread Cert.RowsReferenceIdeal.nD Cert.RowsReferenceIdeal.τ).loc Cert.RowsReferenceIdeal.main_arg1) = m' ((c.tc : Thread Cert.RowsReferenceIdeal.nD Cert.RowsReferenceIdeal.τ).loc Cert.RowsReferenceIdeal.main_arg1)
          ∧ r.2.mem ((c.tc : Thread Cert.RowsReferenceIdeal.nD Cert.RowsReferenceIdeal.τ).loc Cert.RowsReferenceIdeal.main_arg2) = m' ((c.tc : Thread Cert.RowsReferenceIdeal.nD Cert.RowsReferenceIdeal.τ).loc Cert.RowsReferenceIdeal.main_arg2)
          ∧ r.2.mem ((c.tc : Thread Cert.RowsReferenceIdeal.nD Cert.RowsReferenceIdeal.τ).loc Cert.RowsReferenceIdeal.main_arg3) = m' ((c.tc : Thread Cert.RowsReferenceIdeal.nD Cert.RowsReferenceIdeal.τ).loc Cert.RowsReferenceIdeal.main_arg3)
          ∧ r.2.mem ((c.tc : Thread Cert.RowsReferenceIdeal.nD Cert.RowsReferenceIdeal.τ).loc Cert.RowsReferenceIdeal.main_arg4) = m' ((c.tc : Thread Cert.RowsReferenceIdeal.nD Cert.RowsReferenceIdeal.τ).loc Cert.RowsReferenceIdeal.main_arg4)
          ∧ r.2.mem ((c.tc : Thread Cert.RowsReferenceIdeal.nD Cert.RowsReferenceIdeal.τ).loc Cert.RowsReferenceIdeal.main_arg5) = m' ((c.tc : Thread Cert.RowsReferenceIdeal.nD Cert.RowsReferenceIdeal.τ).loc Cert.RowsReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v11)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v60) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_Pages_PagesIdeal : Prop :=
  True

def algebraic_PagesIdeal_PagesReferenceIdeal [hPagesIdeal : Cert.PagesIdeal.Facts] [hPagesReferenceIdeal : Cert.PagesReferenceIdeal.Facts] : Prop :=
  ∀ (m : (ℓ : Loc Cert.PagesIdeal.nD Cert.PagesIdeal.τ Cert.PagesIdeal.sig) → Buf (Elt Ideal) ℓ) (g : Dev Cert.PagesIdeal.nD → PrngReg)
    (m' : (ℓ : Loc Cert.PagesReferenceIdeal.nD Cert.PagesReferenceIdeal.τ Cert.PagesReferenceIdeal.sig) → Buf (Elt Ideal) ℓ) (g' : Dev Cert.PagesReferenceIdeal.nD → PrngReg), Pre_PagesIdeal m →
    (∀ c : Dev Cert.PagesIdeal.nD,
      m' ((c.tc : Thread Cert.PagesReferenceIdeal.nD Cert.PagesReferenceIdeal.τ).loc Cert.PagesReferenceIdeal.main_arg0) = m ((c.tc : Thread Cert.PagesIdeal.nD Cert.PagesIdeal.τ).loc Cert.PagesIdeal.main_arg0)
      ∧ m' ((c.tc : Thread Cert.PagesReferenceIdeal.nD Cert.PagesReferenceIdeal.τ).loc Cert.PagesReferenceIdeal.main_arg1) = m ((c.tc : Thread Cert.PagesIdeal.nD Cert.PagesIdeal.τ).loc Cert.PagesIdeal.main_arg1)
      ∧ m' ((c.tc : Thread Cert.PagesReferenceIdeal.nD Cert.PagesReferenceIdeal.τ).loc Cert.PagesReferenceIdeal.main_arg2) = m ((c.tc : Thread Cert.PagesIdeal.nD Cert.PagesIdeal.τ).loc Cert.PagesIdeal.main_arg2)
      ∧ m' ((c.tc : Thread Cert.PagesReferenceIdeal.nD Cert.PagesReferenceIdeal.τ).loc Cert.PagesReferenceIdeal.main_arg3) = m ((c.tc : Thread Cert.PagesIdeal.nD Cert.PagesIdeal.τ).loc Cert.PagesIdeal.main_arg3)
      ∧ m' ((c.tc : Thread Cert.PagesReferenceIdeal.nD Cert.PagesReferenceIdeal.τ).loc Cert.PagesReferenceIdeal.main_arg4) = m ((c.tc : Thread Cert.PagesIdeal.nD Cert.PagesIdeal.τ).loc Cert.PagesIdeal.main_arg4)
      ∧ m' ((c.tc : Thread Cert.PagesReferenceIdeal.nD Cert.PagesReferenceIdeal.τ).loc Cert.PagesReferenceIdeal.main_arg5) = m ((c.tc : Thread Cert.PagesIdeal.nD Cert.PagesIdeal.τ).loc Cert.PagesIdeal.main_arg5)
      ∧ m' ((c.tc : Thread Cert.PagesReferenceIdeal.nD Cert.PagesReferenceIdeal.τ).loc Cert.PagesReferenceIdeal.main_arg6) = m ((c.tc : Thread Cert.PagesIdeal.nD Cert.PagesIdeal.τ).loc Cert.PagesIdeal.main_arg6)
      ∧ m' ((c.tc : Thread Cert.PagesReferenceIdeal.nD Cert.PagesReferenceIdeal.τ).loc Cert.PagesReferenceIdeal.main_arg7) = m ((c.tc : Thread Cert.PagesIdeal.nD Cert.PagesIdeal.τ).loc Cert.PagesIdeal.main_arg7)
      ∧ m' ((c.tc : Thread Cert.PagesReferenceIdeal.nD Cert.PagesReferenceIdeal.τ).loc Cert.PagesReferenceIdeal.main_arg8) = m ((c.tc : Thread Cert.PagesIdeal.nD Cert.PagesIdeal.τ).loc Cert.PagesIdeal.main_arg8)) →
    ∃ (v0 : (c : Dev Cert.PagesIdeal.nD) → Buf (Elt Ideal) ((c.tc : Thread Cert.PagesIdeal.nD Cert.PagesIdeal.τ).loc Cert.PagesIdeal.main_v145_13)) (v1 : (c : Dev Cert.PagesIdeal.nD) → Buf (Elt Ideal) ((c.tc : Thread Cert.PagesIdeal.nD Cert.PagesIdeal.τ).loc Cert.PagesIdeal.main_v145_14)) (v2 : (c : Dev Cert.PagesIdeal.nD) → Buf (Elt Ideal) ((c.tc : Thread Cert.PagesIdeal.nD Cert.PagesIdeal.τ).loc Cert.PagesIdeal.main_v145_15)) (v3 : (c : Dev Cert.PagesIdeal.nD) → Buf (Elt Ideal) ((c.tc : Thread Cert.PagesIdeal.nD Cert.PagesIdeal.τ).loc Cert.PagesIdeal.main_v145_0)) (v4 : (c : Dev Cert.PagesIdeal.nD) → Buf (Elt Ideal) ((c.tc : Thread Cert.PagesIdeal.nD Cert.PagesIdeal.τ).loc Cert.PagesIdeal.main_v145_1)),
      θ_run (Cert.PagesIdeal.defs (F := Ideal)) (onTc (τ := Cert.PagesIdeal.τ) (Cert.PagesIdeal.main (F := Ideal))) ⟨m, fun _ => 0, g⟩ (fun r => ∀ c : Dev Cert.PagesIdeal.nD,
          r.2.mem ((c.tc : Thread Cert.PagesIdeal.nD Cert.PagesIdeal.τ).loc Cert.PagesIdeal.main_v145_13) = v0 c
          ∧ r.2.mem ((c.tc : Thread Cert.PagesIdeal.nD Cert.PagesIdeal.τ).loc Cert.PagesIdeal.main_v145_14) = v1 c
          ∧ r.2.mem ((c.tc : Thread Cert.PagesIdeal.nD Cert.PagesIdeal.τ).loc Cert.PagesIdeal.main_v145_15) = v2 c
          ∧ r.2.mem ((c.tc : Thread Cert.PagesIdeal.nD Cert.PagesIdeal.τ).loc Cert.PagesIdeal.main_v145_0) = v3 c
          ∧ r.2.mem ((c.tc : Thread Cert.PagesIdeal.nD Cert.PagesIdeal.τ).loc Cert.PagesIdeal.main_v145_1) = v4 c
          ∧ r.2.mem ((c.tc : Thread Cert.PagesIdeal.nD Cert.PagesIdeal.τ).loc Cert.PagesIdeal.main_arg0) = m ((c.tc : Thread Cert.PagesIdeal.nD Cert.PagesIdeal.τ).loc Cert.PagesIdeal.main_arg0)
          ∧ r.2.mem ((c.tc : Thread Cert.PagesIdeal.nD Cert.PagesIdeal.τ).loc Cert.PagesIdeal.main_arg1) = m ((c.tc : Thread Cert.PagesIdeal.nD Cert.PagesIdeal.τ).loc Cert.PagesIdeal.main_arg1)
          ∧ r.2.mem ((c.tc : Thread Cert.PagesIdeal.nD Cert.PagesIdeal.τ).loc Cert.PagesIdeal.main_arg2) = m ((c.tc : Thread Cert.PagesIdeal.nD Cert.PagesIdeal.τ).loc Cert.PagesIdeal.main_arg2)
          ∧ r.2.mem ((c.tc : Thread Cert.PagesIdeal.nD Cert.PagesIdeal.τ).loc Cert.PagesIdeal.main_arg3) = m ((c.tc : Thread Cert.PagesIdeal.nD Cert.PagesIdeal.τ).loc Cert.PagesIdeal.main_arg3)
          ∧ r.2.mem ((c.tc : Thread Cert.PagesIdeal.nD Cert.PagesIdeal.τ).loc Cert.PagesIdeal.main_arg4) = m ((c.tc : Thread Cert.PagesIdeal.nD Cert.PagesIdeal.τ).loc Cert.PagesIdeal.main_arg4)
          ∧ r.2.mem ((c.tc : Thread Cert.PagesIdeal.nD Cert.PagesIdeal.τ).loc Cert.PagesIdeal.main_arg5) = m ((c.tc : Thread Cert.PagesIdeal.nD Cert.PagesIdeal.τ).loc Cert.PagesIdeal.main_arg5)
          ∧ r.2.mem ((c.tc : Thread Cert.PagesIdeal.nD Cert.PagesIdeal.τ).loc Cert.PagesIdeal.main_arg6) = m ((c.tc : Thread Cert.PagesIdeal.nD Cert.PagesIdeal.τ).loc Cert.PagesIdeal.main_arg6)
          ∧ r.2.mem ((c.tc : Thread Cert.PagesIdeal.nD Cert.PagesIdeal.τ).loc Cert.PagesIdeal.main_arg7) = m ((c.tc : Thread Cert.PagesIdeal.nD Cert.PagesIdeal.τ).loc Cert.PagesIdeal.main_arg7)
          ∧ r.2.mem ((c.tc : Thread Cert.PagesIdeal.nD Cert.PagesIdeal.τ).loc Cert.PagesIdeal.main_arg8) = m ((c.tc : Thread Cert.PagesIdeal.nD Cert.PagesIdeal.τ).loc Cert.PagesIdeal.main_arg8))
      ∧ θ_run (Cert.PagesReferenceIdeal.defs (F := Ideal)) (onTc (τ := Cert.PagesReferenceIdeal.τ) (Cert.PagesReferenceIdeal.main (F := Ideal))) ⟨m', fun _ => 0, g'⟩ (fun r => ∀ c : Dev Cert.PagesReferenceIdeal.nD,
          r.2.mem ((c.tc : Thread Cert.PagesReferenceIdeal.nD Cert.PagesReferenceIdeal.τ).loc Cert.PagesReferenceIdeal.main_v164) = v0 c
          ∧ r.2.mem ((c.tc : Thread Cert.PagesReferenceIdeal.nD Cert.PagesReferenceIdeal.τ).loc Cert.PagesReferenceIdeal.main_v169) = v1 c
          ∧ r.2.mem ((c.tc : Thread Cert.PagesReferenceIdeal.nD Cert.PagesReferenceIdeal.τ).loc Cert.PagesReferenceIdeal.main_v174) = v2 c
          ∧ r.2.mem ((c.tc : Thread Cert.PagesReferenceIdeal.nD Cert.PagesReferenceIdeal.τ).loc Cert.PagesReferenceIdeal.main_v254) = v3 c
          ∧ r.2.mem ((c.tc : Thread Cert.PagesReferenceIdeal.nD Cert.PagesReferenceIdeal.τ).loc Cert.PagesReferenceIdeal.main_v255) = v4 c
          ∧ r.2.mem ((c.tc : Thread Cert.PagesReferenceIdeal.nD Cert.PagesReferenceIdeal.τ).loc Cert.PagesReferenceIdeal.main_arg0) = m' ((c.tc : Thread Cert.PagesReferenceIdeal.nD Cert.PagesReferenceIdeal.τ).loc Cert.PagesReferenceIdeal.main_arg0)
          ∧ r.2.mem ((c.tc : Thread Cert.PagesReferenceIdeal.nD Cert.PagesReferenceIdeal.τ).loc Cert.PagesReferenceIdeal.main_arg1) = m' ((c.tc : Thread Cert.PagesReferenceIdeal.nD Cert.PagesReferenceIdeal.τ).loc Cert.PagesReferenceIdeal.main_arg1)
          ∧ r.2.mem ((c.tc : Thread Cert.PagesReferenceIdeal.nD Cert.PagesReferenceIdeal.τ).loc Cert.PagesReferenceIdeal.main_arg2) = m' ((c.tc : Thread Cert.PagesReferenceIdeal.nD Cert.PagesReferenceIdeal.τ).loc Cert.PagesReferenceIdeal.main_arg2)
          ∧ r.2.mem ((c.tc : Thread Cert.PagesReferenceIdeal.nD Cert.PagesReferenceIdeal.τ).loc Cert.PagesReferenceIdeal.main_arg3) = m' ((c.tc : Thread Cert.PagesReferenceIdeal.nD Cert.PagesReferenceIdeal.τ).loc Cert.PagesReferenceIdeal.main_arg3)
          ∧ r.2.mem ((c.tc : Thread Cert.PagesReferenceIdeal.nD Cert.PagesReferenceIdeal.τ).loc Cert.PagesReferenceIdeal.main_arg4) = m' ((c.tc : Thread Cert.PagesReferenceIdeal.nD Cert.PagesReferenceIdeal.τ).loc Cert.PagesReferenceIdeal.main_arg4)
          ∧ r.2.mem ((c.tc : Thread Cert.PagesReferenceIdeal.nD Cert.PagesReferenceIdeal.τ).loc Cert.PagesReferenceIdeal.main_arg5) = m' ((c.tc : Thread Cert.PagesReferenceIdeal.nD Cert.PagesReferenceIdeal.τ).loc Cert.PagesReferenceIdeal.main_arg5)
          ∧ r.2.mem ((c.tc : Thread Cert.PagesReferenceIdeal.nD Cert.PagesReferenceIdeal.τ).loc Cert.PagesReferenceIdeal.main_arg6) = m' ((c.tc : Thread Cert.PagesReferenceIdeal.nD Cert.PagesReferenceIdeal.τ).loc Cert.PagesReferenceIdeal.main_arg6)
          ∧ r.2.mem ((c.tc : Thread Cert.PagesReferenceIdeal.nD Cert.PagesReferenceIdeal.τ).loc Cert.PagesReferenceIdeal.main_arg7) = m' ((c.tc : Thread Cert.PagesReferenceIdeal.nD Cert.PagesReferenceIdeal.τ).loc Cert.PagesReferenceIdeal.main_arg7)
          ∧ r.2.mem ((c.tc : Thread Cert.PagesReferenceIdeal.nD Cert.PagesReferenceIdeal.τ).loc Cert.PagesReferenceIdeal.main_arg8) = m' ((c.tc : Thread Cert.PagesReferenceIdeal.nD Cert.PagesReferenceIdeal.τ).loc Cert.PagesReferenceIdeal.main_arg8))

def Claim : Prop :=
  ∃ (hKernel : Cert.Kernel.Facts) (hKernelIdeal : Cert.KernelIdeal.Facts) (hReferenceIdeal : Cert.ReferenceIdeal.Facts) (hSample : Cert.Sample.Facts) (hSampleIdeal : Cert.SampleIdeal.Facts) (hSampleReferenceIdeal : Cert.SampleReferenceIdeal.Facts) (hRows : Cert.Rows.Facts) (hRowsIdeal : Cert.RowsIdeal.Facts) (hRowsReferenceIdeal : Cert.RowsReferenceIdeal.Facts) (hMerge : Cert.Merge.Facts) (hMergeIdeal : Cert.MergeIdeal.Facts) (hMergeReferenceIdeal : Cert.MergeReferenceIdeal.Facts) (hPages : Cert.Pages.Facts) (hPagesIdeal : Cert.PagesIdeal.Facts) (hPagesReferenceIdeal : Cert.PagesReferenceIdeal.Facts) (hPre_finite_router : Cert.Pre_finite_router.Facts) (hPre_finite_sample_router : Cert.Pre_finite_sample_router.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ quiescent_Sample (hSample := hSample)
    ∧ quiescent_SampleIdeal (hSampleIdeal := hSampleIdeal)
    ∧ quiescent_SampleIdeal_pre_finite_sample_router (hSampleIdeal := hSampleIdeal) (hPre_finite_sample_router := hPre_finite_sample_router)
    ∧ quiescent_SampleReferenceIdeal (hSampleReferenceIdeal := hSampleReferenceIdeal)
    ∧ quiescent_SampleReferenceIdeal_pre_finite_sample_router (hSampleReferenceIdeal := hSampleReferenceIdeal) (hPre_finite_sample_router := hPre_finite_sample_router)
    ∧ quiescent_Rows (hRows := hRows)
    ∧ quiescent_RowsIdeal (hRowsIdeal := hRowsIdeal)
    ∧ quiescent_RowsReferenceIdeal (hRowsReferenceIdeal := hRowsReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Pages (hPages := hPages)
    ∧ quiescent_PagesIdeal (hPagesIdeal := hPagesIdeal)
    ∧ quiescent_PagesReferenceIdeal (hPagesReferenceIdeal := hPagesReferenceIdeal)
    ∧ preserves_Kernel_KernelIdeal
    ∧ algebraic_KernelIdeal_ReferenceIdeal_pre_finite_router (hKernelIdeal := hKernelIdeal) (hReferenceIdeal := hReferenceIdeal) (hPre_finite_router := hPre_finite_router)
    ∧ preserves_Sample_SampleIdeal
    ∧ algebraic_SampleIdeal_SampleReferenceIdeal_pre_finite_sample_router (hSampleIdeal := hSampleIdeal) (hSampleReferenceIdeal := hSampleReferenceIdeal) (hPre_finite_sample_router := hPre_finite_sample_router)
    ∧ preserves_Rows_RowsIdeal
    ∧ algebraic_RowsIdeal_RowsReferenceIdeal (hRowsIdeal := hRowsIdeal) (hRowsReferenceIdeal := hRowsReferenceIdeal)
    ∧ preserves_Merge_MergeIdeal
    ∧ algebraic_MergeIdeal_MergeReferenceIdeal (hMergeIdeal := hMergeIdeal) (hMergeReferenceIdeal := hMergeReferenceIdeal)
    ∧ preserves_Pages_PagesIdeal
    ∧ algebraic_PagesIdeal_PagesReferenceIdeal (hPagesIdeal := hPagesIdeal) (hPagesReferenceIdeal := hPagesReferenceIdeal)
-- ==== Pre_finite_router.lean ====
abbrev S16384x1024 : Shape := ⟨2, ![16384, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S16384x1024 .f32) (main_arg1 : FVec F S1024x4 .f32) (main_arg2 : FVec F S4 .f32) (main_arg3 : FVec F S1024x16 .f32) (main_arg4 : FVec F S16 .f32) (main_arg5 : FVec F S16x1024x256 .f32) (main_arg6 : FVec F S16x1024x256 .f32) (main_arg7 : FVec F S16x256x1024 .f32) (main_arg8 : FVec F S1024 .f32) (main_arg9 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x4 .f32 := Host.absf main_arg1
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S1024x16 .f32 := Host.absf main_arg3
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg4 main_v13 main_v16
-- ==== Pre_finite_sample_router.lean ====
abbrev S128x1024 : Shape := ⟨2, ![128, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S128x1024 .f32) (main_arg1 : FVec F S1024x4 .f32) (main_arg2 : FVec F S4 .f32) (main_arg3 : FVec F S1024x16 .f32) (main_arg4 : FVec F S16 .f32) (main_arg5 : FVec F S16x1024x256 .f32) (main_arg6 : FVec F S16x1024x256 .f32) (main_arg7 : FVec F S16x256x1024 .f32) (main_arg8 : FVec F S1024 .f32) (main_arg9 : FVec F S1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1024x4 .f32 := Host.absf main_arg1
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S1024x16 .f32 := Host.absf main_arg3
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg4 main_v13 main_v16
-- ==== Kernel.lean ====
abbrev S16384x1024 : Shape := ⟨2, ![16384, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S_ : Shape := ⟨0, ![]⟩
abbrev S1024x108 : Shape := ⟨2, ![1024, 108]⟩
abbrev S1024x128 : Shape := ⟨2, ![1024, 128]⟩
abbrev S108 : Shape := ⟨1, ![108]⟩
abbrev S128 : Shape := ⟨1, ![128]⟩
abbrev S1x128 : Shape := ⟨2, ![1, 128]⟩
abbrev S4096x1024 : Shape := ⟨2, ![4096, 1024]⟩
abbrev S1x1024 : Shape := ⟨2, ![1, 1024]⟩
abbrev S512x1024 : Shape := ⟨2, ![512, 1024]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 28
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024x4, .f32⟩
  | .hbm, ⟨2, _⟩ => ⟨S4, .f32⟩
  | .hbm, ⟨3, _⟩ => ⟨S1024x16, .f32⟩
  | .hbm, ⟨4, _⟩ => ⟨S16, .f32⟩
  | .hbm, ⟨5, _⟩ => ⟨S16x1024x256, .f32⟩
  | .hbm, ⟨6, _⟩ => ⟨S16x1024x256, .f32⟩
  | .hbm, ⟨7, _⟩ => ⟨S16x256x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S1024x108, .f32⟩
  | .hbm, ⟨12, _⟩ => ⟨S1024x128, .f32⟩
  | .hbm, ⟨13, _⟩ => ⟨S1024x128, .bf16⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S_, .f32⟩
  | .hbm, ⟨18, _⟩ => ⟨S108, .f32⟩
  | .hbm, ⟨19, _⟩ => ⟨S128, .f32⟩
  | .hbm, ⟨20, _⟩ => ⟨S1x128, .f32⟩
  | .hbm, ⟨21, _⟩ => ⟨S16x1024x256, .bf16⟩
  | .hbm, ⟨22, _⟩ => ⟨S16x1024x256, .bf16⟩
  | .hbm, ⟨23, _⟩ => ⟨S4096x1024, .f32⟩
  | .hbm, ⟨24, _⟩ => ⟨S4096x1024, .bf16⟩
  | .hbm, ⟨25, _⟩ => ⟨S1x1024, .f32⟩
  | .hbm, ⟨26, _⟩ => ⟨S1x1024, .f32⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S1024x128, .bf16⟩
  | .local _ .vmem, ⟨4, _⟩ => ⟨S1x128, .f32⟩
  | .local _ .vmem, ⟨5, _⟩ => ⟨S16x1024x256, .bf16⟩
  | .local _ .vmem, ⟨6, _⟩ => ⟨S16x1024x256, .bf16⟩
  | .local _ .vmem, ⟨7, _⟩ => ⟨S4096x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x4096, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
abbrev S16384x1024 : Shape := ⟨2, ![16384, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S_ : Shape := ⟨0, ![]⟩
abbrev S1024x108 : Shape := ⟨2, ![1024, 108]⟩
abbrev S1024x128 : Shape := ⟨2, ![1024, 128]⟩
abbrev S108 : Shape := ⟨1, ![108]⟩
abbrev S128 : Shape := ⟨1, ![128]⟩
abbrev S1x128 : Shape := ⟨2, ![1, 128]⟩
abbrev S4096x1024 : Shape := ⟨2, ![4096, 1024]⟩
abbrev S1x1024 : Shape := ⟨2, ![1, 1024]⟩
abbrev S512x1024 : Shape := ⟨2, ![512, 1024]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 28
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024x4, .f32⟩
  | .hbm, ⟨2, _⟩ => ⟨S4, .f32⟩
  | .hbm, ⟨3, _⟩ => ⟨S1024x16, .f32⟩
  | .hbm, ⟨4, _⟩ => ⟨S16, .f32⟩
  | .hbm, ⟨5, _⟩ => ⟨S16x1024x256, .f32⟩
  | .hbm, ⟨6, _⟩ => ⟨S16x1024x256, .f32⟩
  | .hbm, ⟨7, _⟩ => ⟨S16x256x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S1024x108, .f32⟩
  | .hbm, ⟨12, _⟩ => ⟨S1024x128, .f32⟩
  | .hbm, ⟨13, _⟩ => ⟨S1024x128, .bf16⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S_, .f32⟩
  | .hbm, ⟨18, _⟩ => ⟨S108, .f32⟩
  | .hbm, ⟨19, _⟩ => ⟨S128, .f32⟩
  | .hbm, ⟨20, _⟩ => ⟨S1x128, .f32⟩
  | .hbm, ⟨21, _⟩ => ⟨S16x1024x256, .bf16⟩
  | .hbm, ⟨22, _⟩ => ⟨S16x1024x256, .bf16⟩
  | .hbm, ⟨23, _⟩ => ⟨S4096x1024, .f32⟩
  | .hbm, ⟨24, _⟩ => ⟨S4096x1024, .bf16⟩
  | .hbm, ⟨25, _⟩ => ⟨S1x1024, .f32⟩
  | .hbm, ⟨26, _⟩ => ⟨S1x1024, .f32⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S1024x128, .bf16⟩
  | .local _ .vmem, ⟨4, _⟩ => ⟨S1x128, .f32⟩
  | .local _ .vmem, ⟨5, _⟩ => ⟨S16x1024x256, .bf16⟩
  | .local _ .vmem, ⟨6, _⟩ => ⟨S16x1024x256, .bf16⟩
  | .local _ .vmem, ⟨7, _⟩ => ⟨S4096x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x4096, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16384x1024 : Shape := ⟨2, ![16384, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S16384 : Shape := ⟨1, ![16384]⟩
abbrev S16384x4 : Shape := ⟨2, ![16384, 4]⟩
abbrev S1x4 : Shape := ⟨2, ![1, 4]⟩
abbrev S_ : Shape := ⟨0, ![]⟩
abbrev S16384x1 : Shape := ⟨2, ![16384, 1]⟩
abbrev S16384x2 : Shape := ⟨2, ![16384, 2]⟩
abbrev S16384x16 : Shape := ⟨2, ![16384, 16]⟩
abbrev S1x16 : Shape := ⟨2, ![1, 16]⟩
abbrev S16384x4x4 : Shape := ⟨3, ![16384, 4, 4]⟩
abbrev S16384x2x1 : Shape := ⟨3, ![16384, 2, 1]⟩
abbrev S1x1x16 : Shape := ⟨3, ![1, 1, 16]⟩
abbrev S16384x2x16 : Shape := ⟨3, ![16384, 2, 16]⟩
abbrev S16384x16x256 : Shape := ⟨3, ![16384, 16, 256]⟩
abbrev S16384x16x1 : Shape := ⟨3, ![16384, 16, 1]⟩
abbrev S1x1024 : Shape := ⟨2, ![1, 1024]⟩

abbrev nBuf : Space → Nat
  | .hbm => 158
  | .vmem => 0
  | .smem => 0
  | _ => 0

abbrev hbmTy0_0 (i : Nat) : BufTy := match i % 128 with
  | 0 => ⟨S16384x1024, .f32⟩
  | 1 => ⟨S1024x4, .f32⟩
  | 2 => ⟨S4, .f32⟩
  | 3 => ⟨S1024x16, .f32⟩
  | 4 => ⟨S16, .f32⟩
  | 5 => ⟨S16x1024x256, .f32⟩
  | 6 => ⟨S16x1024x256, .f32⟩
  | 7 => ⟨S16x256x1024, .f32⟩
  | 8 => ⟨S1024, .f32⟩
  | 9 => ⟨S1024, .f32⟩
  | 10 => ⟨S16384, .i32⟩
  | 11 => ⟨S16384x4, .f32⟩
  | 12 => ⟨S1x4, .f32⟩
  | 13 => ⟨S16384x4, .f32⟩
  | 14 => ⟨S16384x4, .f32⟩
  | 15 => ⟨S_, .f32⟩
  | 16 => ⟨S16384, .f32⟩
  | 17 => ⟨S_, .f32⟩
  | 18 => ⟨S16384, .f32⟩
  | 19 => ⟨S16384, .f32⟩
  | 20 => ⟨S16384x1, .f32⟩
  | 21 => ⟨S16384x4, .f32⟩
  | 22 => ⟨S16384x4, .f32⟩
  | 23 => ⟨S16384x4, .f32⟩
  | 24 => ⟨S_, .f32⟩
  | 25 => ⟨S16384, .f32⟩
  | 26 => ⟨S16384x1, .f32⟩
  | 27 => ⟨S16384x4, .f32⟩
  | 28 => ⟨S16384x4, .f32⟩
  | 29 => ⟨S16384x1, .f32⟩
  | 30 => ⟨S16384x1, .i32⟩
  | 31 => ⟨S16384, .i32⟩
  | 32 => ⟨S_, .i32⟩
  | 33 => ⟨S16384, .i32⟩
  | 34 => ⟨S16384, .i1⟩
  | 35 => ⟨S_, .i32⟩
  | 36 => ⟨S16384, .i32⟩
  | 37 => ⟨S16384, .i32⟩
  | 38 => ⟨S16384, .i32⟩
  | 39 => ⟨S_, .i32⟩
  | 40 => ⟨S16384, .i32⟩
  | 41 => ⟨S16384, .i1⟩
  | 42 => ⟨S_, .i32⟩
  | 43 => ⟨S16384, .i32⟩
  | 44 => ⟨S16384, .i32⟩
  | 45 => ⟨S16384, .i32⟩
  | 46 => ⟨S16384x1, .i32⟩
  | 47 => ⟨S16384x1, .i32⟩
  | 48 => ⟨S16384x2, .i32⟩
  | 49 => ⟨S16384, .f32⟩
  | 50 => ⟨S16384x1, .f32⟩
  | 51 => ⟨S16384x16, .f32⟩
  | 52 => ⟨S1x16, .f32⟩
  | 53 => ⟨S16384x16, .f32⟩
  | 54 => ⟨S16384x16, .f32⟩
  | 55 => ⟨S16384x4x4, .f32⟩
  | 56 => ⟨S_, .i32⟩
  | 57 => ⟨S16384, .i32⟩
  | 58 => ⟨S16384, .i1⟩
  | 59 => ⟨S_, .i32⟩
  | 60 => ⟨S16384, .i32⟩
  | 61 => ⟨S16384, .i32⟩
  | 62 => ⟨S16384, .i32⟩
  | 63 => ⟨S_, .i32⟩
  | 64 => ⟨S16384, .i32⟩
  | 65 => ⟨S16384, .i1⟩
  | 66 => ⟨S_, .i32⟩
  | 67 => ⟨S16384, .i32⟩
  | 68 => ⟨S16384, .i32⟩
  | 69 => ⟨S16384, .i32⟩
  | 70 => ⟨S16384x1, .i32⟩
  | 71 => ⟨S16384x1, .i32⟩
  | 72 => ⟨S16384x2, .i32⟩
  | 73 => ⟨S16384x4, .f32⟩
  | 74 => ⟨S16384x2, .f32⟩
  | 75 => ⟨S16384x2, .i32⟩
  | 76 => ⟨S_, .f32⟩
  | 77 => ⟨S16384, .f32⟩
  | 78 => ⟨S_, .f32⟩
  | 79 => ⟨S16384, .f32⟩
  | 80 => ⟨S16384, .f32⟩
  | 81 => ⟨S16384x1, .f32⟩
  | 82 => ⟨S16384x2, .f32⟩
  | 83 => ⟨S16384x2, .f32⟩
  | 84 => ⟨S16384x2, .f32⟩
  | 85 => ⟨S_, .f32⟩
  | 86 => ⟨S16384, .f32⟩
  | 87 => ⟨S16384x1, .f32⟩
  | 88 => ⟨S16384x2, .f32⟩
  | 89 => ⟨S16384x2, .f32⟩
  | 90 => ⟨S16384x2, .f32⟩
  | 91 => ⟨S16384x2, .f32⟩
  | 92 => ⟨S16384x1, .i32⟩
  | 93 => ⟨S_, .i32⟩
  | 94 => ⟨S16384x1, .i32⟩
  | 95 => ⟨S16384x1, .i32⟩
  | 96 => ⟨S16384x2, .i32⟩
  | 97 => ⟨S16384x2, .i32⟩
  | 98 => ⟨S16384x2x1, .i32⟩
  | 99 => ⟨S1x1x16, .i32⟩
  | 100 => ⟨S16384x2x16, .i32⟩
  | 101 => ⟨S16384x2x16, .i32⟩
  | 102 => ⟨S16384x2x16, .i1⟩
  | 103 => ⟨S16384x2x16, .f32⟩
  | 104 => ⟨S16384x2x1, .f32⟩
  | 105 => ⟨S16384x2x16, .f32⟩
  | 106 => ⟨S16384x2x16, .f32⟩
  | 107 => ⟨S_, .f32⟩
  | 108 => ⟨S16384x16, .f32⟩
  | 109 => ⟨S16384x16x256, .f32⟩
  | 110 => ⟨S16384x16x256, .f32⟩
  | 111 => ⟨S16384x16x256, .f32⟩
  | 112 => ⟨S16384x16x256, .f32⟩
  | 113 => ⟨S_, .f32⟩
  | 114 => ⟨S16384x16x256, .f32⟩
  | 115 => ⟨S16384x16x256, .f32⟩
  | 116 => ⟨S_, .f32⟩
  | 117 => ⟨S16384x16x256, .f32⟩
  | 118 => ⟨S16384x16x256, .f32⟩
  | 119 => ⟨S16384x16x256, .f32⟩
  | 120 => ⟨S16384x16x256, .f32⟩
  | 121 => ⟨S16384x16x1, .f32⟩
  | 122 => ⟨S16384x16x256, .f32⟩
  | 123 => ⟨S16384x16x256, .f32⟩
  | 124 => ⟨S16384x1024, .f32⟩
  | 125 => ⟨S_, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x1024, .f32⟩
  | 1 => ⟨S_, .f32⟩
  | 2 => ⟨S16384, .f32⟩
  | 3 => ⟨S16384x1, .f32⟩
  | 4 => ⟨S_, .f32⟩
  | 5 => ⟨S16384x1, .f32⟩
  | 6 => ⟨S16384x1, .f32⟩
  | 7 => ⟨S16384x1024, .f32⟩
  | 8 => ⟨S16384x1024, .f32⟩
  | 9 => ⟨S16384x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S16384x1024, .f32⟩
  | 17 => ⟨S16384x1024, .f32⟩
  | 18 => ⟨S_, .f32⟩
  | 19 => ⟨S16384x1, .f32⟩
  | 20 => ⟨S16384x1, .f32⟩
  | 21 => ⟨S16384x1, .f32⟩
  | 22 => ⟨S16384x1024, .f32⟩
  | 23 => ⟨S16384x1024, .f32⟩
  | 24 => ⟨S1x1024, .f32⟩
  | 25 => ⟨S16384x1024, .f32⟩
  | 26 => ⟨S16384x1024, .f32⟩
  | 27 => ⟨S1x1024, .f32⟩
  | 28 => ⟨S16384x1024, .f32⟩
  | 29 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_values : Ref sig .tc := ⟨.hbm, 29, rfl⟩
abbrev main_indices : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_values_9 : Ref sig .tc := ⟨.hbm, 74, rfl⟩
abbrev main_indices_10 : Ref sig .tc := ⟨.hbm, 75, rfl⟩
abbrev main_cst_11 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_15 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_call1_v0 : Ref sig .tc := ⟨.hbm, 111, rfl⟩
abbrev main_call1_v1 : Ref sig .tc := ⟨.hbm, 112, rfl⟩
abbrev main_call1_cst : Ref sig .tc := ⟨.hbm, 113, rfl⟩
abbrev main_call1_v2 : Ref sig .tc := ⟨.hbm, 114, rfl⟩
abbrev main_call1_v3 : Ref sig .tc := ⟨.hbm, 115, rfl⟩
abbrev main_call1_cst_0 : Ref sig .tc := ⟨.hbm, 116, rfl⟩
abbrev main_call1_v4 : Ref sig .tc := ⟨.hbm, 117, rfl⟩
abbrev main_call1_v5 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_16 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_17 : Ref sig .tc := ⟨.hbm, 129, rfl⟩
abbrev main_v85 : Ref sig .tc := ⟨.hbm, 130, rfl⟩
abbrev main_v86 : Ref sig .tc := ⟨.hbm, 131, rfl⟩
abbrev main_cst_18 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_19 : Ref sig .tc := ⟨.hbm, 138, rfl⟩
abbrev main_v92 : Ref sig .tc := ⟨.hbm, 139, rfl⟩
abbrev main_v93 : Ref sig .tc := ⟨.hbm, 140, rfl⟩
abbrev main_cst_20 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_21 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩

abbrev nD : Nat := 1
abbrev τ : Topo := Topo.v7x

variable {F : FTy → Type} [FloatOps F]
-- ==== Sample.lean ====
abbrev S128x1024 : Shape := ⟨2, ![128, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S_ : Shape := ⟨0, ![]⟩
abbrev S1024x108 : Shape := ⟨2, ![1024, 108]⟩
abbrev S1024x128 : Shape := ⟨2, ![1024, 128]⟩
abbrev S108 : Shape := ⟨1, ![108]⟩
abbrev S128 : Shape := ⟨1, ![128]⟩
abbrev S1x128 : Shape := ⟨2, ![1, 128]⟩
abbrev S4096x1024 : Shape := ⟨2, ![4096, 1024]⟩
abbrev S1x1024 : Shape := ⟨2, ![1, 1024]⟩
abbrev S128x4096 : Shape := ⟨2, ![128, 4096]⟩
abbrev S128x128 : Shape := ⟨2, ![128, 128]⟩
abbrev S128x1 : Shape := ⟨2, ![128, 1]⟩
abbrev S1x1024x256 : Shape := ⟨3, ![1, 1024, 256]⟩
abbrev S1024x256 : Shape := ⟨2, ![1024, 256]⟩
abbrev S128x256 : Shape := ⟨2, ![128, 256]⟩

abbrev nBuf : Space → Nat
  | .hbm => 28
  | .vmem => 11
  | .smem => 0
  | _ => 0

abbrev bufTy : (tb : Table) → Fin (tcTables nBuf tb) → BufTy
  | .hbm, ⟨0, _⟩ => ⟨S128x1024, .f32⟩
  | .hbm, ⟨1, _⟩ => ⟨S1024x4, .f32⟩
  | .hbm, ⟨2, _⟩ => ⟨S4, .f32⟩
  | .hbm, ⟨3, _⟩ => ⟨S1024x16, .f32⟩
  | .hbm, ⟨4, _⟩ => ⟨S16, .f32⟩
  | .hbm, ⟨5, _⟩ => ⟨S16x1024x256, .f32⟩
  | .hbm, ⟨6, _⟩ => ⟨S16x1024x256, .f32⟩
  | .hbm, ⟨7, _⟩ => ⟨S16x256x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S1024x108, .f32⟩
  | .hbm, ⟨12, _⟩ => ⟨S1024x128, .f32⟩
  | .hbm, ⟨13, _⟩ => ⟨S1024x128, .bf16⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S_, .f32⟩
  | .hbm, ⟨18, _⟩ => ⟨S108, .f32⟩
  | .hbm, ⟨19, _⟩ => ⟨S128, .f32⟩
  | .hbm, ⟨20, _⟩ => ⟨S1x128, .f32⟩
  | .hbm, ⟨21, _⟩ => ⟨S16x1024x256, .bf16⟩
  | .hbm, ⟨22, _⟩ => ⟨S16x1024x256, .bf16⟩
  | .hbm, ⟨23, _⟩ => ⟨S4096x1024, .f32⟩
  | .hbm, ⟨24, _⟩ => ⟨S4096x1024, .bf16⟩
  | .hbm, ⟨25, _⟩ => ⟨S1x1024, .f32⟩
  | .hbm, ⟨26, _⟩ => ⟨S1x1024, .f32⟩
  | .hbm, ⟨27, _⟩ => ⟨S128x1024, .f32⟩
  | .local _ .vmem, ⟨0, _⟩ => ⟨S128x1024, .f32⟩
  | .local _ .vmem, ⟨1, _⟩ => ⟨S1024x128, .bf16⟩
  | .local _ .vmem, ⟨2, _⟩ => ⟨S1024x128, .bf16⟩
  | .local _ .vmem, ⟨3, _⟩ => ⟨S1x128, .f32⟩
  | .local _ .vmem, ⟨4, _⟩ => ⟨S16x1024x256, .bf16⟩
  | .local _ .vmem, ⟨5, _⟩ => ⟨S16x1024x256, .bf16⟩
  | .local _ .vmem, ⟨6, _⟩ => ⟨S4096x1024, .bf16⟩
  | .local _ .vmem, ⟨7, _⟩ => ⟨S1x1024, .f32⟩
  | .local _ .vmem, ⟨8, _⟩ => ⟨S1x1024, .f32⟩
  | .local _ .vmem, ⟨9, _⟩ => ⟨S128x1024, .f32⟩
  | .local _ .vmem, ⟨10, _⟩ => ⟨S128x4096, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== SampleReferenceIdeal.lean ====
abbrev S128x1024 : Shape := ⟨2, ![128, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S128 : Shape := ⟨1, ![128]⟩
abbrev S128x4 : Shape := ⟨2, ![128, 4]⟩
abbrev S1x4 : Shape := ⟨2, ![1, 4]⟩
abbrev S_ : Shape := ⟨0, ![]⟩
abbrev S128x1 : Shape := ⟨2, ![128, 1]⟩
abbrev S128x2 : Shape := ⟨2, ![128, 2]⟩
abbrev S128x16 : Shape := ⟨2, ![128, 16]⟩
abbrev S1x16 : Shape := ⟨2, ![1, 16]⟩
abbrev S128x4x4 : Shape := ⟨3, ![128, 4, 4]⟩
abbrev S128x2x1 : Shape := ⟨3, ![128, 2, 1]⟩
abbrev S1x1x16 : Shape := ⟨3, ![1, 1, 16]⟩
abbrev S128x2x16 : Shape := ⟨3, ![128, 2, 16]⟩
abbrev S128x16x256 : Shape := ⟨3, ![128, 16, 256]⟩
abbrev S128x16x1 : Shape := ⟨3, ![128, 16, 1]⟩
abbrev S1x1024 : Shape := ⟨2, ![1, 1024]⟩

abbrev nBuf : Space → Nat
  | .hbm => 158
  | .vmem => 0
  | .smem => 0
  | _ => 0

abbrev hbmTy0_0 (i : Nat) : BufTy := match i % 128 with
  | 0 => ⟨S128x1024, .f32⟩
  | 1 => ⟨S1024x4, .f32⟩
  | 2 => ⟨S4, .f32⟩
  | 3 => ⟨S1024x16, .f32⟩
  | 4 => ⟨S16, .f32⟩
  | 5 => ⟨S16x1024x256, .f32⟩
  | 6 => ⟨S16x1024x256, .f32⟩
  | 7 => ⟨S16x256x1024, .f32⟩
  | 8 => ⟨S1024, .f32⟩
  | 9 => ⟨S1024, .f32⟩
  | 10 => ⟨S128, .i32⟩
  | 11 => ⟨S128x4, .f32⟩
  | 12 => ⟨S1x4, .f32⟩
  | 13 => ⟨S128x4, .f32⟩
  | 14 => ⟨S128x4, .f32⟩
  | 15 => ⟨S_, .f32⟩
  | 16 => ⟨S128, .f32⟩
  | 17 => ⟨S_, .f32⟩
  | 18 => ⟨S128, .f32⟩
  | 19 => ⟨S128, .f32⟩
  | 20 => ⟨S128x1, .f32⟩
  | 21 => ⟨S128x4, .f32⟩
  | 22 => ⟨S128x4, .f32⟩
  | 23 => ⟨S128x4, .f32⟩
  | 24 => ⟨S_, .f32⟩
  | 25 => ⟨S128, .f32⟩
  | 26 => ⟨S128x1, .f32⟩
  | 27 => ⟨S128x4, .f32⟩
  | 28 => ⟨S128x4, .f32⟩
  | 29 => ⟨S128x1, .f32⟩
  | 30 => ⟨S128x1, .i32⟩
  | 31 => ⟨S128, .i32⟩
  | 32 => ⟨S_, .i32⟩
  | 33 => ⟨S128, .i32⟩
  | 34 => ⟨S128, .i1⟩
  | 35 => ⟨S_, .i32⟩
  | 36 => ⟨S128, .i32⟩
  | 37 => ⟨S128, .i32⟩
  | 38 => ⟨S128, .i32⟩
  | 39 => ⟨S_, .i32⟩
  | 40 => ⟨S128, .i32⟩
  | 41 => ⟨S128, .i1⟩
  | 42 => ⟨S_, .i32⟩
  | 43 => ⟨S128, .i32⟩
  | 44 => ⟨S128, .i32⟩
  | 45 => ⟨S128, .i32⟩
  | 46 => ⟨S128x1, .i32⟩
  | 47 => ⟨S128x1, .i32⟩
  | 48 => ⟨S128x2, .i32⟩
  | 49 => ⟨S128, .f32⟩
  | 50 => ⟨S128x1, .f32⟩
  | 51 => ⟨S128x16, .f32⟩
  | 52 => ⟨S1x16, .f32⟩
  | 53 => ⟨S128x16, .f32⟩
  | 54 => ⟨S128x16, .f32⟩
  | 55 => ⟨S128x4x4, .f32⟩
  | 56 => ⟨S_, .i32⟩
  | 57 => ⟨S128, .i32⟩
  | 58 => ⟨S128, .i1⟩
  | 59 => ⟨S_, .i32⟩
  | 60 => ⟨S128, .i32⟩
  | 61 => ⟨S128, .i32⟩
  | 62 => ⟨S128, .i32⟩
  | 63 => ⟨S_, .i32⟩
  | 64 => ⟨S128, .i32⟩
  | 65 => ⟨S128, .i1⟩
  | 66 => ⟨S_, .i32⟩
  | 67 => ⟨S128, .i32⟩
  | 68 => ⟨S128, .i32⟩
  | 69 => ⟨S128, .i32⟩
  | 70 => ⟨S128x1, .i32⟩
  | 71 => ⟨S128x1, .i32⟩
  | 72 => ⟨S128x2, .i32⟩
  | 73 => ⟨S128x4, .f32⟩
  | 74 => ⟨S128x2, .f32⟩
  | 75 => ⟨S128x2, .i32⟩
  | 76 => ⟨S_, .f32⟩
  | 77 => ⟨S128, .f32⟩
  | 78 => ⟨S_, .f32⟩
  | 79 => ⟨S128, .f32⟩
  | 80 => ⟨S128, .f32⟩
  | 81 => ⟨S128x1, .f32⟩
  | 82 => ⟨S128x2, .f32⟩
  | 83 => ⟨S128x2, .f32⟩
  | 84 => ⟨S128x2, .f32⟩
  | 85 => ⟨S_, .f32⟩
  | 86 => ⟨S128, .f32⟩
  | 87 => ⟨S128x1, .f32⟩
  | 88 => ⟨S128x2, .f32⟩
  | 89 => ⟨S128x2, .f32⟩
  | 90 => ⟨S128x2, .f32⟩
  | 91 => ⟨S128x2, .f32⟩
  | 92 => ⟨S128x1, .i32⟩
  | 93 => ⟨S_, .i32⟩
  | 94 => ⟨S128x1, .i32⟩
  | 95 => ⟨S128x1, .i32⟩
  | 96 => ⟨S128x2, .i32⟩
  | 97 => ⟨S128x2, .i32⟩
  | 98 => ⟨S128x2x1, .i32⟩
  | 99 => ⟨S1x1x16, .i32⟩
  | 100 => ⟨S128x2x16, .i32⟩
  | 101 => ⟨S128x2x16, .i32⟩
  | 102 => ⟨S128x2x16, .i1⟩
  | 103 => ⟨S128x2x16, .f32⟩
  | 104 => ⟨S128x2x1, .f32⟩
  | 105 => ⟨S128x2x16, .f32⟩
  | 106 => ⟨S128x2x16, .f32⟩
  | 107 => ⟨S_, .f32⟩
  | 108 => ⟨S128x16, .f32⟩
  | 109 => ⟨S128x16x256, .f32⟩
  | 110 => ⟨S128x16x256, .f32⟩
  | 111 => ⟨S128x16x256, .f32⟩
  | 112 => ⟨S128x16x256, .f32⟩
  | 113 => ⟨S_, .f32⟩
  | 114 => ⟨S128x16x256, .f32⟩
  | 115 => ⟨S128x16x256, .f32⟩
  | 116 => ⟨S_, .f32⟩
  | 117 => ⟨S128x16x256, .f32⟩
  | 118 => ⟨S128x16x256, .f32⟩
  | 119 => ⟨S128x16x256, .f32⟩
  | 120 => ⟨S128x16x256, .f32⟩
  | 121 => ⟨S128x16x1, .f32⟩
  | 122 => ⟨S128x16x256, .f32⟩
  | 123 => ⟨S128x16x256, .f32⟩
  | 124 => ⟨S128x1024, .f32⟩
  | 125 => ⟨S_, .f32⟩
  | 126 => ⟨S128x1024, .f32⟩
  | 127 => ⟨S128x1024, .f32⟩
  | _ => ⟨S128x1024, .f32⟩

abbrev hbmTy0_1 (i : Nat) : BufTy := match i % 128 with
  | 0 => ⟨S128x1024, .f32⟩
  | 1 => ⟨S_, .f32⟩
  | 2 => ⟨S128, .f32⟩
  | 3 => ⟨S128x1, .f32⟩
  | 4 => ⟨S_, .f32⟩
  | 5 => ⟨S128x1, .f32⟩
  | 6 => ⟨S128x1, .f32⟩
  | 7 => ⟨S128x1024, .f32⟩
  | 8 => ⟨S128x1024, .f32⟩
  | 9 => ⟨S128x1024, .f32⟩
  | 10 => ⟨S_, .f32⟩
  | 11 => ⟨S128, .f32⟩
  | 12 => ⟨S128x1, .f32⟩
  | 13 => ⟨S_, .f32⟩
  | 14 => ⟨S128x1, .f32⟩
  | 15 => ⟨S128x1, .f32⟩
  | 16 => ⟨S128x1024, .f32⟩
  | 17 => ⟨S128x1024, .f32⟩
  | 18 => ⟨S_, .f32⟩
  | 19 => ⟨S128x1, .f32⟩
  | 20 => ⟨S128x1, .f32⟩
  | 21 => ⟨S128x1, .f32⟩
  | 22 => ⟨S128x1024, .f32⟩
  | 23 => ⟨S128x1024, .f32⟩
  | 24 => ⟨S1x1024, .f32⟩
  | 25 => ⟨S128x1024, .f32⟩
  | 26 => ⟨S128x1024, .f32⟩
  | 27 => ⟨S1x1024, .f32⟩
  | 28 => ⟨S128x1024, .f32⟩
  | 29 => ⟨S128x1024, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_values : Ref sig .tc := ⟨.hbm, 29, rfl⟩
abbrev main_indices : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_values_9 : Ref sig .tc := ⟨.hbm, 74, rfl⟩
abbrev main_indices_10 : Ref sig .tc := ⟨.hbm, 75, rfl⟩
abbrev main_cst_11 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_15 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_call1_v0 : Ref sig .tc := ⟨.hbm, 111, rfl⟩
abbrev main_call1_v1 : Ref sig .tc := ⟨.hbm, 112, rfl⟩
abbrev main_call1_cst : Ref sig .tc := ⟨.hbm, 113, rfl⟩
abbrev main_call1_v2 : Ref sig .tc := ⟨.hbm, 114, rfl⟩
abbrev main_call1_v3 : Ref sig .tc := ⟨.hbm, 115, rfl⟩
abbrev main_call1_cst_0 : Ref sig .tc := ⟨.hbm, 116, rfl⟩
abbrev main_call1_v4 : Ref sig .tc := ⟨.hbm, 117, rfl⟩
abbrev main_call1_v5 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_16 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_17 : Ref sig .tc := ⟨.hbm, 129, rfl⟩
abbrev main_v85 : Ref sig .tc := ⟨.hbm, 130, rfl⟩
abbrev main_v86 : Ref sig .tc := ⟨.hbm, 131, rfl⟩
abbrev main_cst_18 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_19 : Ref sig .tc := ⟨.hbm, 138, rfl⟩
abbrev main_v92 : Ref sig .tc := ⟨.hbm, 139, rfl⟩
abbrev main_v93 : Ref sig .tc := ⟨.hbm, 140, rfl⟩
abbrev main_cst_20 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_21 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩

abbrev nD : Nat := 1
abbrev τ : Topo := Topo.v7x

variable {F : FTy → Type} [FloatOps F]
-- ==== Rows.lean ====
abbrev S128x1x1024 : Shape := ⟨3, ![128, 1, 1024]⟩
abbrev S1024x6440 : Shape := ⟨2, ![1024, 6440]⟩
abbrev S512 : Shape := ⟨1, ![512]⟩
abbrev S8x128x128 : Shape := ⟨3, ![8, 128, 128]⟩
abbrev S8x128 : Shape := ⟨2, ![8, 128]⟩
abbrev S_ : Shape := ⟨0, ![]⟩
abbrev S1024x88 : Shape := ⟨2, ![1024, 88]⟩
abbrev S1024x512 : Shape := ⟨2, ![1024, 512]⟩
abbrev S1024x256 : Shape := ⟨2, ![1024, 256]⟩
abbrev S1024x32 : Shape := ⟨2, ![1024, 32]⟩
abbrev S1024x8 : Shape := ⟨2, ![1024, 8]⟩
abbrev S1024x2432 : Shape := ⟨2, ![1024, 2432]⟩
abbrev S1024x1024 : Shape := ⟨2, ![1024, 1024]⟩
abbrev S128 : Shape := ⟨1, ![128]⟩
abbrev S8 : Shape := ⟨1, ![8]⟩
abbrev S128x1 : Shape := ⟨2, ![128, 1]⟩
abbrev S1x8 : Shape := ⟨2, ![1, 8]⟩
abbrev S128x8 : Shape := ⟨2, ![128, 8]⟩
abbrev S128x48 : Shape := ⟨2, ![128, 48]⟩
abbrev S128x64 : Shape := ⟨2, ![128, 64]⟩
abbrev S128x56 : Shape := ⟨2, ![128, 56]⟩
abbrev S1x128x1x64 : Shape := ⟨4, ![1, 128, 1, 64]⟩
abbrev S1x128x2x64 : Shape := ⟨4, ![1, 128, 2, 64]⟩
abbrev S128x128 : Shape := ⟨2, ![128, 128]⟩
abbrev S1x128x128 : Shape := ⟨3, ![1, 128, 128]⟩
abbrev S3x128x128 : Shape := ⟨3, ![3, 128, 128]⟩
abbrev S4 : Shape := ⟨1, ![4]⟩
abbrev S1x4 : Shape := ⟨2, ![1, 4]⟩
abbrev S128x4 : Shape := ⟨2, ![128, 4]⟩
abbrev S128x24 : Shape := ⟨2, ![128, 24]⟩
abbrev S128x32 : Shape := ⟨2, ![128, 32]⟩
abbrev S128x28 : Shape := ⟨2, ![128, 28]⟩
abbrev S1x128x1x32 : Shape := ⟨4, ![1, 128, 1, 32]⟩
abbrev S1x128x4x32 : Shape := ⟨4, ![1, 128, 4, 32]⟩
abbrev S1x1x128 : Shape := ⟨3, ![1, 1, 128]⟩
abbrev S128x1024 : Shape := ⟨2, ![128, 1024]⟩
abbrev S1x512 : Shape := ⟨2, ![1, 512]⟩
abbrev S8x1x1 : Shape := ⟨3, ![8, 1, 1]⟩
abbrev S8x64 : Shape := ⟨2, ![8, 64]⟩
abbrev S8x1 : Shape := ⟨2, ![8, 1]⟩
abbrev S128x512 : Shape := ⟨2, ![128, 512]⟩
abbrev S128x256 : Shape := ⟨2, ![128, 256]⟩
abbrev S1024x384 : Shape := ⟨2, ![1024, 384]⟩
abbrev S128x384 : Shape := ⟨2, ![128, 384]⟩

abbrev nBuf : Space → Nat
  | .hbm => 186
  | .vmem => 18
  | .smem => 0
  | _ => 0

abbrev hbmTy0_0 (i : Nat) : BufTy := match i % 128 with
  | 0 => ⟨S128x1x1024, .f32⟩
  | 1 => ⟨S1024x6440, .f32⟩
  | 2 => ⟨S512, .f32⟩
  | 3 => ⟨S512, .f32⟩
  | 4 => ⟨S8x128x128, .f32⟩
  | 5 => ⟨S8x128, .f32⟩
  | 6 => ⟨S_, .f32⟩
  | 7 => ⟨S1024x88, .f32⟩
  | 8 => ⟨S1024x512, .f32⟩
  | 9 => ⟨S1024x512, .f32⟩
  | 10 => ⟨S1024x256, .f32⟩
  | 11 => ⟨S1024x256, .f32⟩
  | 12 => ⟨S1024x256, .f32⟩
  | 13 => ⟨S1024x256, .f32⟩
  | 14 => ⟨S1024x256, .f32⟩
  | 15 => ⟨S1024x32, .f32⟩
  | 16 => ⟨S1024x8, .f32⟩
  | 17 => ⟨S1024x2432, .f32⟩
  | 18 => ⟨S1024x2432, .bf16⟩
  | 19 => ⟨S1024x512, .f32⟩
  | 20 => ⟨S1024x512, .f32⟩
  | 21 => ⟨S1024x1024, .f32⟩
  | 22 => ⟨S1024x1024, .bf16⟩
  | 23 => ⟨S_, .i32⟩
  | 24 => ⟨S128, .i32⟩
  | 25 => ⟨S8, .f32⟩
  | 26 => ⟨S8, .f32⟩
  | 27 => ⟨S_, .f32⟩
  | 28 => ⟨S8, .f32⟩
  | 29 => ⟨S8, .f32⟩
  | 30 => ⟨S_, .f32⟩
  | 31 => ⟨S8, .f32⟩
  | 32 => ⟨S8, .f32⟩
  | 33 => ⟨S128, .f32⟩
  | 34 => ⟨S128x1, .f32⟩
  | 35 => ⟨S1x8, .f32⟩
  | 36 => ⟨S128x8, .f32⟩
  | 37 => ⟨S128x8, .f32⟩
  | 38 => ⟨S128x8, .f32⟩
  | 39 => ⟨S128x8, .f32⟩
  | 40 => ⟨S128x8, .f32⟩
  | 41 => ⟨S_, .f32⟩
  | 42 => ⟨S128x48, .f32⟩
  | 43 => ⟨S128x64, .f32⟩
  | 44 => ⟨S_, .f32⟩
  | 45 => ⟨S128x8, .f32⟩
  | 46 => ⟨S_, .f32⟩
  | 47 => ⟨S128x48, .f32⟩
  | 48 => ⟨S128x64, .f32⟩
  | 49 => ⟨S128x8, .f32⟩
  | 50 => ⟨S_, .f32⟩
  | 51 => ⟨S128x56, .f32⟩
  | 52 => ⟨S128x64, .f32⟩
  | 53 => ⟨S1x128x1x64, .f32⟩
  | 54 => ⟨S1x128x2x64, .f32⟩
  | 55 => ⟨S128x128, .f32⟩
  | 56 => ⟨S1x128x1x64, .f32⟩
  | 57 => ⟨S1x128x2x64, .f32⟩
  | 58 => ⟨S128x128, .f32⟩
  | 59 => ⟨S1x128x1x64, .f32⟩
  | 60 => ⟨S1x128x2x64, .f32⟩
  | 61 => ⟨S128x128, .f32⟩
  | 62 => ⟨S1x128x128, .f32⟩
  | 63 => ⟨S1x128x128, .f32⟩
  | 64 => ⟨S1x128x128, .f32⟩
  | 65 => ⟨S3x128x128, .f32⟩
  | 66 => ⟨S4, .f32⟩
  | 67 => ⟨S4, .f32⟩
  | 68 => ⟨S_, .f32⟩
  | 69 => ⟨S4, .f32⟩
  | 70 => ⟨S4, .f32⟩
  | 71 => ⟨S_, .f32⟩
  | 72 => ⟨S4, .f32⟩
  | 73 => ⟨S4, .f32⟩
  | 74 => ⟨S128, .f32⟩
  | 75 => ⟨S128x1, .f32⟩
  | 76 => ⟨S1x4, .f32⟩
  | 77 => ⟨S128x4, .f32⟩
  | 78 => ⟨S128x4, .f32⟩
  | 79 => ⟨S128x4, .f32⟩
  | 80 => ⟨S128x4, .f32⟩
  | 81 => ⟨S128x4, .f32⟩
  | 82 => ⟨S_, .f32⟩
  | 83 => ⟨S128x24, .f32⟩
  | 84 => ⟨S128x32, .f32⟩
  | 85 => ⟨S_, .f32⟩
  | 86 => ⟨S128x4, .f32⟩
  | 87 => ⟨S_, .f32⟩
  | 88 => ⟨S128x24, .f32⟩
  | 89 => ⟨S128x32, .f32⟩
  | 90 => ⟨S128x4, .f32⟩
  | 91 => ⟨S_, .f32⟩
  | 92 => ⟨S128x28, .f32⟩
  | 93 => ⟨S128x32, .f32⟩
  | 94 => ⟨S1x128x1x32, .f32⟩
  | 95 => ⟨S1x128x4x32, .f32⟩
  | 96 => ⟨S128x128, .f32⟩
  | 97 => ⟨S1x128x1x32, .f32⟩
  | 98 => ⟨S1x128x4x32, .f32⟩
  | 99 => ⟨S128x128, .f32⟩
  | 100 => ⟨S1x128x1x32, .f32⟩
  | 101 => ⟨S1x128x4x32, .f32⟩
  | 102 => ⟨S128x128, .f32⟩
  | 103 => ⟨S1x128x128, .f32⟩
  | 104 => ⟨S1x128x128, .f32⟩
  | 105 => ⟨S1x128x128, .f32⟩
  | 106 => ⟨S3x128x128, .f32⟩
  | 107 => ⟨S4, .f32⟩
  | 108 => ⟨S4, .f32⟩
  | 109 => ⟨S_, .f32⟩
  | 110 => ⟨S4, .f32⟩
  | 111 => ⟨S4, .f32⟩
  | 112 => ⟨S_, .f32⟩
  | 113 => ⟨S4, .f32⟩
  | 114 => ⟨S4, .f32⟩
  | 115 => ⟨S128, .f32⟩
  | 116 => ⟨S128x1, .f32⟩
  | 117 => ⟨S1x4, .f32⟩
  | 118 => ⟨S128x4, .f32⟩
  | 119 => ⟨S128x4, .f32⟩
  | 120 => ⟨S128x4, .f32⟩
  | 121 => ⟨S128x4, .f32⟩
  | 122 => ⟨S128x4, .f32⟩
  | 123 => ⟨S_, .f32⟩
  | 124 => ⟨S128x24, .f32⟩
  | 125 => ⟨S128x32, .f32⟩
  | 126 => ⟨S_, .f32⟩
  | 127 => ⟨S128x4, .f32⟩
  | _ => ⟨S128x1x1024, .f32⟩

abbrev hbmTy0_1 (i : Nat) : BufTy := match i % 128 with
  | 0 => ⟨S_, .f32⟩
  | 1 => ⟨S128x24, .f32⟩
  | 2 => ⟨S128x32, .f32⟩
  | 3 => ⟨S128x4, .f32⟩
  | 4 => ⟨S_, .f32⟩
  | 5 => ⟨S128x28, .f32⟩
  | 6 => ⟨S128x32, .f32⟩
  | 7 => ⟨S1x128x1x32, .f32⟩
  | 8 => ⟨S1x128x4x32, .f32⟩
  | 9 => ⟨S128x128, .f32⟩
  | 10 => ⟨S1x128x1x32, .f32⟩
  | 11 => ⟨S1x128x4x32, .f32⟩
  | 12 => ⟨S128x128, .f32⟩
  | 13 => ⟨S1x128x1x32, .f32⟩
  | 14 => ⟨S1x128x4x32, .f32⟩
  | 15 => ⟨S128x128, .f32⟩
  | 16 => ⟨S1x128x128, .f32⟩
  | 17 => ⟨S1x128x128, .f32⟩
  | 18 => ⟨S1x128x128, .f32⟩
  | 19 => ⟨S3x128x128, .f32⟩
  | 20 => ⟨S128, .i32⟩
  | 21 => ⟨S_, .i32⟩
  | 22 => ⟨S128, .i32⟩
  | 23 => ⟨S128, .i1⟩
  | 24 => ⟨S1x1x128, .i1⟩
  | 25 => ⟨S_, .f32⟩
  | 26 => ⟨S128x128, .f32⟩
  | 27 => ⟨S_, .f32⟩
  | 28 => ⟨S128x128, .f32⟩
  | 29 => ⟨S_, .f32⟩
  | 30 => ⟨S128x128, .f32⟩
  | 31 => ⟨S1x128x128, .f32⟩
  | 32 => ⟨S1x128x128, .f32⟩
  | 33 => ⟨S1x128x128, .f32⟩
  | 34 => ⟨S3x128x128, .f32⟩
  | 35 => ⟨S3x128x128, .i1⟩
  | 36 => ⟨S3x128x128, .f32⟩
  | 37 => ⟨S128x1024, .f32⟩
  | 38 => ⟨S1x512, .f32⟩
  | 39 => ⟨S1x512, .f32⟩
  | 40 => ⟨S8x1x1, .f32⟩
  | 41 => ⟨S8, .f32⟩
  | 42 => ⟨S8x64, .f32⟩
  | 43 => ⟨S512, .f32⟩
  | 44 => ⟨S1x512, .f32⟩
  | 45 => ⟨S8x1, .f32⟩
  | 46 => ⟨S8, .f32⟩
  | 47 => ⟨S8x64, .f32⟩
  | 48 => ⟨S512, .f32⟩
  | 49 => ⟨S1x512, .f32⟩
  | 50 => ⟨S128x512, .bf16⟩
  | 51 => ⟨S128x512, .bf16⟩
  | 52 => ⟨S128x512, .f32⟩
  | 53 => ⟨S128x512, .f32⟩
  | 54 => ⟨S128x256, .bf16⟩
  | 55 => ⟨S128x128, .f32⟩
  | 56 => ⟨S128x512, .bf16⟩
  | 57 => ⟨S128x512, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S1024x2432, .bf16⟩
  | .local _ .vmem, ⟨2, _⟩ => ⟨S1024x1024, .bf16⟩
  | .local _ .vmem, ⟨3, _⟩ => ⟨S3x128x128, .f32⟩
  | .local _ .vmem, ⟨4, _⟩ => ⟨S3x128x128, .f32⟩
  | .local _ .vmem, ⟨5, _⟩ => ⟨S3x128x128, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S128x512, .bf16⟩
  | .local _ .vmem, ⟨11, _⟩ => ⟨S128x512, .bf16⟩
  | .local _ .vmem, ⟨12, _⟩ => ⟨S128x512, .f32⟩
  | .local _ .vmem, ⟨13, _⟩ => ⟨S128x512, .f32⟩
  | .local _ .vmem, ⟨14, _⟩ => ⟨S128x256, .bf16⟩
  | .local _ .vmem, ⟨15, _⟩ => ⟨S128x128, .f32⟩
  | .local _ .vmem, ⟨16, _⟩ => ⟨S128x512, .bf16⟩
  | .local _ .vmem, ⟨17, _⟩ => ⟨S128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_8 : Ref sig .tc := ⟨.hbm, 82, rfl⟩
abbrev main_v66 : Ref sig .tc := ⟨.hbm, 83, rfl⟩
abbrev main_v67 : Ref sig .tc := ⟨.hbm, 84, rfl⟩
abbrev main_cst_9 : Ref sig .tc := ⟨.hbm, 85, rfl⟩
abbrev main_v68 : Ref sig .tc := ⟨.hbm, 86, rfl⟩
abbrev main_cst_10 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_11 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_12 : Ref sig .tc := ⟨.hbm, 109, rfl⟩
abbrev main_v89 : Ref sig .tc := ⟨.hbm, 110, rfl⟩
abbrev main_v90 : Ref sig .tc := ⟨.hbm, 111, rfl⟩
abbrev main_cst_13 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_14 : Ref sig .tc := ⟨.hbm, 123, rfl⟩
abbrev main_v101 : Ref sig .tc := ⟨.hbm, 124, rfl⟩
abbrev main_v102 : Ref sig .tc := ⟨.hbm, 125, rfl⟩
abbrev main_cst_15 : Ref sig .tc := ⟨.hbm, 126, rfl⟩
abbrev main_v103 : Ref sig .tc := ⟨.hbm, 127, rfl⟩
abbrev main_cst_16 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_17 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_c_18 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_cst_19 : Ref sig .tc := ⟨.hbm, 153, rfl⟩
abbrev main_v126 : Ref sig .tc := ⟨.hbm, 154, rfl⟩
abbrev main_cst_20 : Ref sig .tc := ⟨.hbm, 155, rfl⟩
abbrev main_v127 : Ref sig .tc := ⟨.hbm, 156, rfl⟩
abbrev main_cst_21 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_call0_v0 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147_0 : Ref sig .tc := ⟨.hbm, 178, rfl⟩
abbrev main_v147_1 : Ref sig .tc := ⟨.hbm, 179, rfl⟩
abbrev main_v147_2 : Ref sig .tc := ⟨.hbm, 180, rfl⟩
abbrev main_v147_3 : Ref sig .tc := ⟨.hbm, 181, rfl⟩
abbrev main_v147_4 : Ref sig .tc := ⟨.hbm, 182, rfl⟩
abbrev main_v147_5 : Ref sig .tc := ⟨.hbm, 183, rfl⟩
abbrev main_v147_6 : Ref sig .tc := ⟨.hbm, 184, rfl⟩
abbrev main_v147_7 : Ref sig .tc := ⟨.hbm, 185, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== RowsReferenceIdeal.lean ====
abbrev S128x1x1024 : Shape := ⟨3, ![128, 1, 1024]⟩
abbrev S1024x6440 : Shape := ⟨2, ![1024, 6440]⟩
abbrev S512 : Shape := ⟨1, ![512]⟩
abbrev S8x128x128 : Shape := ⟨3, ![8, 128, 128]⟩
abbrev S8x128 : Shape := ⟨2, ![8, 128]⟩
abbrev S1 : Shape := ⟨1, ![1]⟩
abbrev S_ : Shape := ⟨0, ![]⟩
abbrev S128x1x6440 : Shape := ⟨3, ![128, 1, 6440]⟩
abbrev S128x1x256 : Shape := ⟨3, ![128, 1, 256]⟩
abbrev S128x1x4x64 : Shape := ⟨4, ![128, 1, 4, 64]⟩
abbrev S8 : Shape := ⟨1, ![8]⟩
abbrev S1x1 : Shape := ⟨2, ![1, 1]⟩
abbrev S1x8 : Shape := ⟨2, ![1, 8]⟩
abbrev S1x1x8 : Shape := ⟨3, ![1, 1, 8]⟩
abbrev S128x1x4x8 : Shape := ⟨4, ![128, 1, 4, 8]⟩
abbrev S1x1x1x8 : Shape := ⟨4, ![1, 1, 1, 8]⟩
abbrev S128x1x4x48 : Shape := ⟨4, ![128, 1, 4, 48]⟩
abbrev S128x1x32 : Shape := ⟨3, ![128, 1, 32]⟩
abbrev S128x1x1x32 : Shape := ⟨4, ![128, 1, 1, 32]⟩
abbrev S4 : Shape := ⟨1, ![4]⟩
abbrev S1x4 : Shape := ⟨2, ![1, 4]⟩
abbrev S1x1x4 : Shape := ⟨3, ![1, 1, 4]⟩
abbrev S128x1x1x4 : Shape := ⟨4, ![128, 1, 1, 4]⟩
abbrev S1x1x1x4 : Shape := ⟨4, ![1, 1, 1, 4]⟩
abbrev S128x1x1x24 : Shape := ⟨4, ![128, 1, 1, 24]⟩
abbrev S128x1x512 : Shape := ⟨3, ![128, 1, 512]⟩
abbrev S128x1 : Shape := ⟨2, ![128, 1]⟩
abbrev S128x1x1 : Shape := ⟨3, ![128, 1, 1]⟩
abbrev S1x1x512 : Shape := ⟨3, ![1, 1, 512]⟩
abbrev S128x1x1x4x64 : Shape := ⟨5, ![128, 1, 1, 4, 64]⟩
abbrev S128x1x2x4x64 : Shape := ⟨5, ![128, 1, 2, 4, 64]⟩
abbrev S128x1x8 : Shape := ⟨3, ![128, 1, 8]⟩
abbrev S128x1x88 : Shape := ⟨3, ![128, 1, 88]⟩
abbrev S128x1x128 : Shape := ⟨3, ![128, 1, 128]⟩
abbrev S128x512 : Shape := ⟨2, ![128, 512]⟩
abbrev S128x128 : Shape := ⟨2, ![128, 128]⟩

abbrev nBuf : Space → Nat
  | .hbm => 188
  | .vmem => 0
  | .smem => 0
  | _ => 0

abbrev hbmTy0_0 (i : Nat) : BufTy := match i % 128 with
  | 0 => ⟨S128x1x1024, .f32⟩
  | 1 => ⟨S1024x6440, .f32⟩
  | 2 => ⟨S512, .f32⟩
  | 3 => ⟨S512, .f32⟩
  | 4 => ⟨S8x128x128, .f32⟩
  | 5 => ⟨S8x128, .f32⟩
  | 6 => ⟨S1, .i32⟩
  | 7 => ⟨S_, .i32⟩
  | 8 => ⟨S1, .i32⟩
  | 9 => ⟨S1, .i32⟩
  | 10 => ⟨S128x1x6440, .f32⟩
  | 11 => ⟨S128x1x256, .f32⟩
  | 12 => ⟨S128x1x4x64, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S1, .f32⟩
  | 22 => ⟨S1x1, .f32⟩
  | 23 => ⟨S1x8, .f32⟩
  | 24 => ⟨S1x8, .f32⟩
  | 25 => ⟨S1x8, .f32⟩
  | 26 => ⟨S1x8, .f32⟩
  | 27 => ⟨S1x1x8, .f32⟩
  | 28 => ⟨S1x8, .f32⟩
  | 29 => ⟨S1x1x8, .f32⟩
  | 30 => ⟨S128x1x4x8, .f32⟩
  | 31 => ⟨S128x1x4x8, .f32⟩
  | 32 => ⟨S1x1x1x8, .f32⟩
  | 33 => ⟨S128x1x4x8, .f32⟩
  | 34 => ⟨S128x1x4x8, .f32⟩
  | 35 => ⟨S1x1x1x8, .f32⟩
  | 36 => ⟨S128x1x4x8, .f32⟩
  | 37 => ⟨S128x1x4x8, .f32⟩
  | 38 => ⟨S128x1x4x8, .f32⟩
  | 39 => ⟨S1x1x1x8, .f32⟩
  | 40 => ⟨S128x1x4x8, .f32⟩
  | 41 => ⟨S128x1x4x8, .f32⟩
  | 42 => ⟨S1x1x1x8, .f32⟩
  | 43 => ⟨S128x1x4x8, .f32⟩
  | 44 => ⟨S128x1x4x8, .f32⟩
  | 45 => ⟨S128x1x4x8, .f32⟩
  | 46 => ⟨S128x1x4x48, .f32⟩
  | 47 => ⟨S128x1x4x64, .f32⟩
  | 48 => ⟨S128x1x256, .f32⟩
  | 49 => ⟨S128x1x4x64, .f32⟩
  | 50 => ⟨S128x1x256, .f32⟩
  | 51 => ⟨S128x1x4x64, .f32⟩
  | 52 => ⟨S8, .f32⟩
  | 53 => ⟨S8, .f32⟩
  | 54 => ⟨S_, .f32⟩
  | 55 => ⟨S8, .f32⟩
  | 56 => ⟨S8, .f32⟩
  | 57 => ⟨S_, .f32⟩
  | 58 => ⟨S8, .f32⟩
  | 59 => ⟨S8, .f32⟩
  | 60 => ⟨S1, .f32⟩
  | 61 => ⟨S1x1, .f32⟩
  | 62 => ⟨S1x8, .f32⟩
  | 63 => ⟨S1x8, .f32⟩
  | 64 => ⟨S1x8, .f32⟩
  | 65 => ⟨S1x8, .f32⟩
  | 66 => ⟨S1x1x8, .f32⟩
  | 67 => ⟨S1x8, .f32⟩
  | 68 => ⟨S1x1x8, .f32⟩
  | 69 => ⟨S128x1x4x8, .f32⟩
  | 70 => ⟨S128x1x4x8, .f32⟩
  | 71 => ⟨S1x1x1x8, .f32⟩
  | 72 => ⟨S128x1x4x8, .f32⟩
  | 73 => ⟨S128x1x4x8, .f32⟩
  | 74 => ⟨S1x1x1x8, .f32⟩
  | 75 => ⟨S128x1x4x8, .f32⟩
  | 76 => ⟨S128x1x4x8, .f32⟩
  | 77 => ⟨S128x1x4x8, .f32⟩
  | 78 => ⟨S1x1x1x8, .f32⟩
  | 79 => ⟨S128x1x4x8, .f32⟩
  | 80 => ⟨S128x1x4x8, .f32⟩
  | 81 => ⟨S1x1x1x8, .f32⟩
  | 82 => ⟨S128x1x4x8, .f32⟩
  | 83 => ⟨S128x1x4x8, .f32⟩
  | 84 => ⟨S128x1x4x8, .f32⟩
  | 85 => ⟨S128x1x4x48, .f32⟩
  | 86 => ⟨S128x1x4x64, .f32⟩
  | 87 => ⟨S128x1x256, .f32⟩
  | 88 => ⟨S128x1x4x64, .f32⟩
  | 89 => ⟨S128x1x32, .f32⟩
  | 90 => ⟨S128x1x1x32, .f32⟩
  | 91 => ⟨S4, .f32⟩
  | 92 => ⟨S4, .f32⟩
  | 93 => ⟨S_, .f32⟩
  | 94 => ⟨S4, .f32⟩
  | 95 => ⟨S4, .f32⟩
  | 96 => ⟨S_, .f32⟩
  | 97 => ⟨S4, .f32⟩
  | 98 => ⟨S4, .f32⟩
  | 99 => ⟨S1, .f32⟩
  | 100 => ⟨S1x1, .f32⟩
  | 101 => ⟨S1x4, .f32⟩
  | 102 => ⟨S1x4, .f32⟩
  | 103 => ⟨S1x4, .f32⟩
  | 104 => ⟨S1x4, .f32⟩
  | 105 => ⟨S1x1x4, .f32⟩
  | 106 => ⟨S1x4, .f32⟩
  | 107 => ⟨S1x1x4, .f32⟩
  | 108 => ⟨S128x1x1x4, .f32⟩
  | 109 => ⟨S128x1x1x4, .f32⟩
  | 110 => ⟨S1x1x1x4, .f32⟩
  | 111 => ⟨S128x1x1x4, .f32⟩
  | 112 => ⟨S128x1x1x4, .f32⟩
  | 113 => ⟨S1x1x1x4, .f32⟩
  | 114 => ⟨S128x1x1x4, .f32⟩
  | 115 => ⟨S128x1x1x4, .f32⟩
  | 116 => ⟨S128x1x1x4, .f32⟩
  | 117 => ⟨S1x1x1x4, .f32⟩
  | 118 => ⟨S128x1x1x4, .f32⟩
  | 119 => ⟨S128x1x1x4, .f32⟩
  | 120 => ⟨S1x1x1x4, .f32⟩
  | 121 => ⟨S128x1x1x4, .f32⟩
  | 122 => ⟨S128x1x1x4, .f32⟩
  | 123 => ⟨S128x1x1x4, .f32⟩
  | 124 => ⟨S128x1x1x24, .f32⟩
  | 125 => ⟨S128x1x1x32, .f32⟩
  | 126 => ⟨S128x1x32, .f32⟩
  | 127 => ⟨S128x1x512, .f32⟩
  | _ => ⟨S128x1x1024, .f32⟩

abbrev hbmTy0_1 (i : Nat) : BufTy := match i % 128 with
  | 0 => ⟨S128x1x512, .f32⟩
  | 1 => ⟨S128x1x512, .f32⟩
  | 2 => ⟨S_, .f32⟩
  | 3 => ⟨S128x1x512, .f32⟩
  | 4 => ⟨S128x1x512, .f32⟩
  | 5 => ⟨S128x1x512, .f32⟩
  | 6 => ⟨S_, .f32⟩
  | 7 => ⟨S128x1x512, .f32⟩
  | 8 => ⟨S128x1x512, .f32⟩
  | 9 => ⟨S128x1x512, .f32⟩
  | 10 => ⟨S_, .f32⟩
  | 11 => ⟨S128x1x512, .f32⟩
  | 12 => ⟨S128x1x512, .f32⟩
  | 13 => ⟨S_, .f32⟩
  | 14 => ⟨S128x1x512, .f32⟩
  | 15 => ⟨S128x1x512, .f32⟩
  | 16 => ⟨S128x1x512, .f32⟩
  | 17 => ⟨S_, .f32⟩
  | 18 => ⟨S128x1, .f32⟩
  | 19 => ⟨S128x1x1, .f32⟩
  | 20 => ⟨S_, .f32⟩
  | 21 => ⟨S128x1x1, .f32⟩
  | 22 => ⟨S128x1x1, .f32⟩
  | 23 => ⟨S128x1x512, .f32⟩
  | 24 => ⟨S128x1x512, .f32⟩
  | 25 => ⟨S128x1x512, .f32⟩
  | 26 => ⟨S_, .f32⟩
  | 27 => ⟨S128x1, .f32⟩
  | 28 => ⟨S128x1x1, .f32⟩
  | 29 => ⟨S_, .f32⟩
  | 30 => ⟨S128x1x1, .f32⟩
  | 31 => ⟨S128x1x1, .f32⟩
  | 32 => ⟨S128x1x512, .f32⟩
  | 33 => ⟨S128x1x512, .f32⟩
  | 34 => ⟨S_, .f32⟩
  | 35 => ⟨S128x1x1, .f32⟩
  | 36 => ⟨S128x1x1, .f32⟩
  | 37 => ⟨S128x1x1, .f32⟩
  | 38 => ⟨S128x1x512, .f32⟩
  | 39 => ⟨S128x1x512, .f32⟩
  | 40 => ⟨S1x1x512, .f32⟩
  | 41 => ⟨S128x1x512, .f32⟩
  | 42 => ⟨S128x1x512, .f32⟩
  | 43 => ⟨S1x1x512, .f32⟩
  | 44 => ⟨S128x1x512, .f32⟩
  | 45 => ⟨S128x1x512, .f32⟩
  | 46 => ⟨S128x1x1x4x64, .f32⟩
  | 47 => ⟨S128x1x1x4x64, .f32⟩
  | 48 => ⟨S128x1x2x4x64, .f32⟩
  | 49 => ⟨S128x1x1x4x64, .f32⟩
  | 50 => ⟨S128x1x1x4x64, .f32⟩
  | 51 => ⟨S128x1x2x4x64, .f32⟩
  | 52 => ⟨S128x1x8, .f32⟩
  | 53 => ⟨S_, .f32⟩
  | 54 => ⟨S128x1x88, .f32⟩
  | 55 => ⟨S128x1x128, .f32⟩
  | 56 => ⟨S128x512, .f32⟩
  | 57 => ⟨S128x512, .f32⟩
  | 58 => ⟨S128x128, .f32⟩
  | 59 => ⟨S128x512, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_1 : Ref sig .tc := ⟨.hbm, 54, rfl⟩
abbrev main_v45 : Ref sig .tc := ⟨.hbm, 55, rfl⟩
abbrev main_v46 : Ref sig .tc := ⟨.hbm, 56, rfl⟩
abbrev main_cst_2 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_cst_3 : Ref sig .tc := ⟨.hbm, 93, rfl⟩
abbrev main_v82 : Ref sig .tc := ⟨.hbm, 94, rfl⟩
abbrev main_v83 : Ref sig .tc := ⟨.hbm, 95, rfl⟩
abbrev main_cst_4 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_cst_5 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_cst_6 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_cst_7 : Ref sig .tc := ⟨.hbm, 138, rfl⟩
abbrev main_v123 : Ref sig .tc := ⟨.hbm, 139, rfl⟩
abbrev main_v124 : Ref sig .tc := ⟨.hbm, 140, rfl⟩
abbrev main_cst_8 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_cst_9 : Ref sig .tc := ⟨.hbm, 145, rfl⟩
abbrev main_v128 : Ref sig .tc := ⟨.hbm, 146, rfl⟩
abbrev main_v129 : Ref sig .tc := ⟨.hbm, 147, rfl⟩
abbrev main_cst_10 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_cst_11 : Ref sig .tc := ⟨.hbm, 154, rfl⟩
abbrev main_v135 : Ref sig .tc := ⟨.hbm, 155, rfl⟩
abbrev main_v136 : Ref sig .tc := ⟨.hbm, 156, rfl⟩
abbrev main_cst_12 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_cst_13 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_cst_14 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S1024x6440 : Shape := ⟨2, ![1024, 6440]⟩
abbrev S512x1024 : Shape := ⟨2, ![512, 1024]⟩
abbrev S1024x1024 : Shape := ⟨2, ![1024, 1024]⟩
abbrev S1024 : Shape := ⟨1, ![1024]⟩
abbrev S1024x3072 : Shape := ⟨2, ![1024, 3072]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 23
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S1024x6440, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x3072, .f32⟩
  | .hbm, ⟨15, _⟩ => ⟨S1024x3072, .bf16⟩
  | .hbm, ⟨16, _⟩ => ⟨S512x1024, .bf16⟩
  | .hbm, ⟨17, _⟩ => ⟨S512x1024, .bf16⟩
  | .hbm, ⟨18, _⟩ => ⟨S512x1024, .bf16⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x3072, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeReferenceIdeal.lean ====
abbrev S16384x1024 : Shape := ⟨2, ![16384, 1024]⟩
abbrev S16384x512 : Shape := ⟨2, ![16384, 512]⟩
abbrev S1024x6440 : Shape := ⟨2, ![1024, 6440]⟩
abbrev S512x1024 : Shape := ⟨2, ![512, 1024]⟩
abbrev S1024x1024 : Shape := ⟨2, ![1024, 1024]⟩
abbrev S1024 : Shape := ⟨1, ![1024]⟩
abbrev S16384x6440 : Shape := ⟨2, ![16384, 6440]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S1024x6440, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S16384x6440, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S1x1024, .f32⟩
  | .hbm, ⟨79, _⟩ => ⟨S16384x1024, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== Pages.lean ====
abbrev S4x4096x1024 : Shape := ⟨3, ![4, 4096, 1024]⟩
abbrev S1024x6440 : Shape := ⟨2, ![1024, 6440]⟩
abbrev S512 : Shape := ⟨1, ![512]⟩
abbrev S8x128x128 : Shape := ⟨3, ![8, 128, 128]⟩
abbrev S8x128 : Shape := ⟨2, ![8, 128]⟩
abbrev S4x128x512x128 : Shape := ⟨4, ![4, 128, 512, 128]⟩
abbrev S4x128x32x128 : Shape := ⟨4, ![4, 128, 32, 128]⟩
abbrev S_ : Shape := ⟨0, ![]⟩
abbrev S1024x88 : Shape := ⟨2, ![1024, 88]⟩
abbrev S1024x512 : Shape := ⟨2, ![1024, 512]⟩
abbrev S1024x256 : Shape := ⟨2, ![1024, 256]⟩
abbrev S1024x32 : Shape := ⟨2, ![1024, 32]⟩
abbrev S1024x8 : Shape := ⟨2, ![1024, 8]⟩
abbrev S1024x2432 : Shape := ⟨2, ![1024, 2432]⟩
abbrev S1024x1024 : Shape := ⟨2, ![1024, 1024]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x4096x128 : Shape := ⟨3, ![1, 4096, 128]⟩
abbrev S3x4096x128 : Shape := ⟨3, ![3, 4096, 128]⟩
abbrev S4 : Shape := ⟨1, ![4]⟩
abbrev S1x4 : Shape := ⟨2, ![1, 4]⟩
abbrev S4096x4 : Shape := ⟨2, ![4096, 4]⟩
abbrev S4096x24 : Shape := ⟨2, ![4096, 24]⟩
abbrev S4096x32 : Shape := ⟨2, ![4096, 32]⟩
abbrev S4096x28 : Shape := ⟨2, ![4096, 28]⟩
abbrev S1x4096x1x32 : Shape := ⟨4, ![1, 4096, 1, 32]⟩
abbrev S1x4096x4x32 : Shape := ⟨4, ![1, 4096, 4, 32]⟩
abbrev S128 : Shape := ⟨1, ![128]⟩
abbrev S1x1x128 : Shape := ⟨3, ![1, 1, 128]⟩
abbrev S128x128 : Shape := ⟨2, ![128, 128]⟩
abbrev S1x128x128 : Shape := ⟨3, ![1, 128, 128]⟩
abbrev S16384x1024 : Shape := ⟨2, ![16384, 1024]⟩
abbrev S1x512 : Shape := ⟨2, ![1, 512]⟩
abbrev S128x8 : Shape := ⟨2, ![128, 8]⟩
abbrev S128x8x64 : Shape := ⟨3, ![128, 8, 64]⟩
abbrev S128x512 : Shape := ⟨2, ![128, 512]⟩
abbrev S16384x512 : Shape := ⟨2, ![16384, 512]⟩
abbrev S16384x256 : Shape := ⟨2, ![16384, 256]⟩
abbrev S16384x128 : Shape := ⟨2, ![16384, 128]⟩
abbrev S64x256x256 : Shape := ⟨3, ![64, 256, 256]⟩
abbrev S512x1024 : Shape := ⟨2, ![512, 1024]⟩
abbrev S3x512x128 : Shape := ⟨3, ![3, 512, 128]⟩
abbrev S512x512 : Shape := ⟨2, ![512, 512]⟩
abbrev S512x256 : Shape := ⟨2, ![512, 256]⟩
abbrev S512x128 : Shape := ⟨2, ![512, 128]⟩
abbrev S2x256x256 : Shape := ⟨3, ![2, 256, 256]⟩
abbrev S1x4x512x128 : Shape := ⟨4, ![1, 4, 512, 128]⟩
abbrev S1x4x32x128 : Shape := ⟨4, ![1, 4, 32, 128]⟩
abbrev S1x512x128 : Shape := ⟨3, ![1, 512, 128]⟩
abbrev S256x128 : Shape := ⟨2, ![256, 128]⟩
abbrev S128x256 : Shape := ⟨2, ![128, 256]⟩
abbrev S1x128x256 : Shape := ⟨3, ![1, 128, 256]⟩
abbrev S1x1x128x128 : Shape := ⟨4, ![1, 1, 128, 128]⟩
abbrev S1024x384 : Shape := ⟨2, ![1024, 384]⟩
abbrev S512x384 : Shape := ⟨2, ![512, 384]⟩
abbrev S32x128 : Shape := ⟨2, ![32, 128]⟩
abbrev S1x1x32x128 : Shape := ⟨4, ![1, 1, 32, 128]⟩
abbrev S512x1 : Shape := ⟨2, ![512, 1]⟩

abbrev nBuf : Space → Nat
  | .hbm => 207
  | .vmem => 46
  | .smem => 0
  | _ => 0

abbrev hbmTy0_0 (i : Nat) : BufTy := match i % 128 with
  | 0 => ⟨S4x4096x1024, .f32⟩
  | 1 => ⟨S1024x6440, .f32⟩
  | 2 => ⟨S512, .f32⟩
  | 3 => ⟨S512, .f32⟩
  | 4 => ⟨S8x128x128, .f32⟩
  | 5 => ⟨S8x128, .f32⟩
  | 6 => ⟨S4x128x512x128, .f32⟩
  | 7 => ⟨S4x128x512x128, .f32⟩
  | 8 => ⟨S4x128x32x128, .f32⟩
  | 9 => ⟨S_, .f32⟩
  | 10 => ⟨S1024x88, .f32⟩
  | 11 => ⟨S1024x512, .f32⟩
  | 12 => ⟨S1024x512, .f32⟩
  | 13 => ⟨S1024x256, .f32⟩
  | 14 => ⟨S1024x256, .f32⟩
  | 15 => ⟨S1024x256, .f32⟩
  | 16 => ⟨S1024x256, .f32⟩
  | 17 => ⟨S1024x256, .f32⟩
  | 18 => ⟨S1024x32, .f32⟩
  | 19 => ⟨S1024x8, .f32⟩
  | 20 => ⟨S1024x2432, .f32⟩
  | 21 => ⟨S1024x2432, .bf16⟩
  | 22 => ⟨S1024x512, .f32⟩
  | 23 => ⟨S1024x512, .f32⟩
  | 24 => ⟨S1024x1024, .f32⟩
  | 25 => ⟨S1024x1024, .bf16⟩
  | 26 => ⟨S4096, .i32⟩
  | 27 => ⟨S8, .f32⟩
  | 28 => ⟨S8, .f32⟩
  | 29 => ⟨S_, .f32⟩
  | 30 => ⟨S8, .f32⟩
  | 31 => ⟨S8, .f32⟩
  | 32 => ⟨S_, .f32⟩
  | 33 => ⟨S8, .f32⟩
  | 34 => ⟨S8, .f32⟩
  | 35 => ⟨S4096, .f32⟩
  | 36 => ⟨S4096x1, .f32⟩
  | 37 => ⟨S1x8, .f32⟩
  | 38 => ⟨S4096x8, .f32⟩
  | 39 => ⟨S4096x8, .f32⟩
  | 40 => ⟨S4096x8, .f32⟩
  | 41 => ⟨S4096x8, .f32⟩
  | 42 => ⟨S4096x8, .f32⟩
  | 43 => ⟨S_, .f32⟩
  | 44 => ⟨S4096x48, .f32⟩
  | 45 => ⟨S4096x64, .f32⟩
  | 46 => ⟨S_, .f32⟩
  | 47 => ⟨S4096x8, .f32⟩
  | 48 => ⟨S_, .f32⟩
  | 49 => ⟨S4096x48, .f32⟩
  | 50 => ⟨S4096x64, .f32⟩
  | 51 => ⟨S4096x8, .f32⟩
  | 52 => ⟨S_, .f32⟩
  | 53 => ⟨S4096x56, .f32⟩
  | 54 => ⟨S4096x64, .f32⟩
  | 55 => ⟨S1x4096x1x64, .f32⟩
  | 56 => ⟨S1x4096x2x64, .f32⟩
  | 57 => ⟨S4096x128, .f32⟩
  | 58 => ⟨S1x4096x1x64, .f32⟩
  | 59 => ⟨S1x4096x2x64, .f32⟩
  | 60 => ⟨S4096x128, .f32⟩
  | 61 => ⟨S1x4096x1x64, .f32⟩
  | 62 => ⟨S1x4096x2x64, .f32⟩
  | 63 => ⟨S4096x128, .f32⟩
  | 64 => ⟨S1x4096x128, .f32⟩
  | 65 => ⟨S1x4096x128, .f32⟩
  | 66 => ⟨S1x4096x128, .f32⟩
  | 67 => ⟨S3x4096x128, .f32⟩
  | 68 => ⟨S4, .f32⟩
  | 69 => ⟨S4, .f32⟩
  | 70 => ⟨S_, .f32⟩
  | 71 => ⟨S4, .f32⟩
  | 72 => ⟨S4, .f32⟩
  | 73 => ⟨S_, .f32⟩
  | 74 => ⟨S4, .f32⟩
  | 75 => ⟨S4, .f32⟩
  | 76 => ⟨S4096, .f32⟩
  | 77 => ⟨S4096x1, .f32⟩
  | 78 => ⟨S1x4, .f32⟩
  | 79 => ⟨S4096x4, .f32⟩
  | 80 => ⟨S4096x4, .f32⟩
  | 81 => ⟨S4096x4, .f32⟩
  | 82 => ⟨S4096x4, .f32⟩
  | 83 => ⟨S4096x4, .f32⟩
  | 84 => ⟨S_, .f32⟩
  | 85 => ⟨S4096x24, .f32⟩
  | 86 => ⟨S4096x32, .f32⟩
  | 87 => ⟨S_, .f32⟩
  | 88 => ⟨S4096x4, .f32⟩
  | 89 => ⟨S_, .f32⟩
  | 90 => ⟨S4096x24, .f32⟩
  | 91 => ⟨S4096x32, .f32⟩
  | 92 => ⟨S4096x4, .f32⟩
  | 93 => ⟨S_, .f32⟩
  | 94 => ⟨S4096x28, .f32⟩
  | 95 => ⟨S4096x32, .f32⟩
  | 96 => ⟨S1x4096x1x32, .f32⟩
  | 97 => ⟨S1x4096x4x32, .f32⟩
  | 98 => ⟨S4096x128, .f32⟩
  | 99 => ⟨S1x4096x1x32, .f32⟩
  | 100 => ⟨S1x4096x4x32, .f32⟩
  | 101 => ⟨S4096x128, .f32⟩
  | 102 => ⟨S1x4096x1x32, .f32⟩
  | 103 => ⟨S1x4096x4x32, .f32⟩
  | 104 => ⟨S4096x128, .f32⟩
  | 105 => ⟨S1x4096x128, .f32⟩
  | 106 => ⟨S1x4096x128, .f32⟩
  | 107 => ⟨S1x4096x128, .f32⟩
  | 108 => ⟨S3x4096x128, .f32⟩
  | 109 => ⟨S4, .f32⟩
  | 110 => ⟨S4, .f32⟩
  | 111 => ⟨S_, .f32⟩
  | 112 => ⟨S4, .f32⟩
  | 113 => ⟨S4, .f32⟩
  | 114 => ⟨S_, .f32⟩
  | 115 => ⟨S4, .f32⟩
  | 116 => ⟨S4, .f32⟩
  | 117 => ⟨S4096, .f32⟩
  | 118 => ⟨S4096x1, .f32⟩
  | 119 => ⟨S1x4, .f32⟩
  | 120 => ⟨S4096x4, .f32⟩
  | 121 => ⟨S4096x4, .f32⟩
  | 122 => ⟨S4096x4, .f32⟩
  | 123 => ⟨S4096x4, .f32⟩
  | 124 => ⟨S4096x4, .f32⟩
  | 125 => ⟨S_, .f32⟩
  | 126 => ⟨S4096x24, .f32⟩
  | 127 => ⟨S4096x32, .f32⟩
  | _ => ⟨S4x4096x1024, .f32⟩

abbrev hbmTy0_1 (i : Nat) : BufTy := match i % 128 with
  | 0 => ⟨S_, .f32⟩
  | 1 => ⟨S4096x4, .f32⟩
  | 2 => ⟨S_, .f32⟩
  | 3 => ⟨S4096x24, .f32⟩
  | 4 => ⟨S4096x32, .f32⟩
  | 5 => ⟨S4096x4, .f32⟩
  | 6 => ⟨S_, .f32⟩
  | 7 => ⟨S4096x28, .f32⟩
  | 8 => ⟨S4096x32, .f32⟩
  | 9 => ⟨S1x4096x1x32, .f32⟩
  | 10 => ⟨S1x4096x4x32, .f32⟩
  | 11 => ⟨S4096x128, .f32⟩
  | 12 => ⟨S1x4096x1x32, .f32⟩
  | 13 => ⟨S1x4096x4x32, .f32⟩
  | 14 => ⟨S4096x128, .f32⟩
  | 15 => ⟨S1x4096x1x32, .f32⟩
  | 16 => ⟨S1x4096x4x32, .f32⟩
  | 17 => ⟨S4096x128, .f32⟩
  | 18 => ⟨S1x4096x128, .f32⟩
  | 19 => ⟨S1x4096x128, .f32⟩
  | 20 => ⟨S1x4096x128, .f32⟩
  | 21 => ⟨S3x4096x128, .f32⟩
  | 22 => ⟨S128, .i32⟩
  | 23 => ⟨S_, .i32⟩
  | 24 => ⟨S128, .i32⟩
  | 25 => ⟨S128, .i1⟩
  | 26 => ⟨S1x1x128, .i1⟩
  | 27 => ⟨S_, .f32⟩
  | 28 => ⟨S4096x128, .f32⟩
  | 29 => ⟨S_, .f32⟩
  | 30 => ⟨S4096x128, .f32⟩
  | 31 => ⟨S_, .f32⟩
  | 32 => ⟨S4096x128, .f32⟩
  | 33 => ⟨S1x4096x128, .f32⟩
  | 34 => ⟨S1x4096x128, .f32⟩
  | 35 => ⟨S1x4096x128, .f32⟩
  | 36 => ⟨S3x4096x128, .f32⟩
  | 37 => ⟨S3x4096x128, .i1⟩
  | 38 => ⟨S3x4096x128, .f32⟩
  | 39 => ⟨S_, .i1⟩
  | 40 => ⟨S128x128, .i1⟩
  | 41 => ⟨S128x128, .i32⟩
  | 42 => ⟨S_, .i32⟩
  | 43 => ⟨S128x128, .i32⟩
  | 44 => ⟨S128x128, .i32⟩
  | 45 => ⟨S128x128, .i32⟩
  | 46 => ⟨S128x128, .i1⟩
  | 47 => ⟨S_, .i1⟩
  | 48 => ⟨S128x128, .i1⟩
  | 49 => ⟨S128x128, .i1⟩
  | 50 => ⟨S1x128x128, .i1⟩
  | 51 => ⟨S_, .i32⟩
  | 52 => ⟨S_, .f32⟩
  | 53 => ⟨S8x128x128, .i1⟩
  | 54 => ⟨S8x128x128, .f32⟩
  | 55 => ⟨S8x128x128, .f32⟩
  | 56 => ⟨S16384x1024, .f32⟩
  | 57 => ⟨S1x512, .f32⟩
  | 58 => ⟨S1x512, .f32⟩
  | 59 => ⟨S8x128x128, .bf16⟩
  | 60 => ⟨S128x8, .f32⟩
  | 61 => ⟨S128x8x64, .f32⟩
  | 62 => ⟨S128x512, .f32⟩
  | 63 => ⟨S16384x512, .bf16⟩
  | 64 => ⟨S16384x512, .bf16⟩
  | 65 => ⟨S16384x512, .f32⟩
  | 66 => ⟨S16384x512, .f32⟩
  | 67 => ⟨S16384x256, .bf16⟩
  | 68 => ⟨S16384x128, .f32⟩
  | 69 => ⟨S16384x512, .bf16⟩
  | 70 => ⟨S16384x512, .f32⟩
  | 71 => ⟨S16384x256, .bf16⟩
  | 72 => ⟨S16384x256, .bf16⟩
  | 73 => ⟨S64x256x256, .bf16⟩
  | 74 => ⟨S64x256x256, .bf16⟩
  | 75 => ⟨S16384x256, .bf16⟩
  | 76 => ⟨S4x128x512x128, .f32⟩
  | 77 => ⟨S4x128x512x128, .f32⟩
  | 78 => ⟨S4x128x32x128, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x2432, .bf16⟩
  | .local _ .vmem, ⟨3, _⟩ => ⟨S1024x1024, .bf16⟩
  | .local _ .vmem, ⟨4, _⟩ => ⟨S3x512x128, .f32⟩
  | .local _ .vmem, ⟨5, _⟩ => ⟨S3x512x128, .f32⟩
  | .local _ .vmem, ⟨6, _⟩ => ⟨S3x512x128, .f32⟩
  | .local _ .vmem, ⟨7, _⟩ => ⟨S3x512x128, .f32⟩
  | .local _ .vmem, ⟨8, _⟩ => ⟨S3x512x128, .f32⟩
  | .local _ .vmem, ⟨9, _⟩ => ⟨S3x512x128, .f32⟩
  | .local _ .vmem, ⟨10, _⟩ => ⟨S1x512, .f32⟩
  | .local _ .vmem, ⟨11, _⟩ => ⟨S1x512, .f32⟩
  | .local _ .vmem, ⟨12, _⟩ => ⟨S8x128x128, .bf16⟩
  | .local _ .vmem, ⟨13, _⟩ => ⟨S128x512, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x256, .bf16⟩
  | .local _ .vmem, ⟨23, _⟩ => ⟨S512x256, .bf16⟩
  | .local _ .vmem, ⟨24, _⟩ => ⟨S512x128, .f32⟩
  | .local _ .vmem, ⟨25, _⟩ => ⟨S512x128, .f32⟩
  | .local _ .vmem, ⟨26, _⟩ => ⟨S512x512, .bf16⟩
  | .local _ .vmem, ⟨27, _⟩ => ⟨S512x512, .bf16⟩
  | .local _ .vmem, ⟨28, _⟩ => ⟨S512x512, .f32⟩
  | .local _ .vmem, ⟨29, _⟩ => ⟨S512x512, .f32⟩
  | .local _ .vmem, ⟨30, _⟩ => ⟨S512x256, .bf16⟩
  | .local _ .vmem, ⟨31, _⟩ => ⟨S512x256, .bf16⟩
  | .local _ .vmem, ⟨32, _⟩ => ⟨S512x256, .bf16⟩
  | .local _ .vmem, ⟨33, _⟩ => ⟨S512x256, .bf16⟩
  | .local _ .vmem, ⟨34, _⟩ => ⟨S2x256x256, .bf16⟩
  | .local _ .vmem, ⟨35, _⟩ => ⟨S2x256x256, .bf16⟩
  | .local _ .vmem, ⟨36, _⟩ => ⟨S2x256x256, .bf16⟩
  | .local _ .vmem, ⟨37, _⟩ => ⟨S2x256x256, .bf16⟩
  | .local _ .vmem, ⟨38, _⟩ => ⟨S512x256, .bf16⟩
  | .local _ .vmem, ⟨39, _⟩ => ⟨S512x256, .bf16⟩
  | .local _ .vmem, ⟨40, _⟩ => ⟨S1x4x512x128, .f32⟩
  | .local _ .vmem, ⟨41, _⟩ => ⟨S1x4x512x128, .f32⟩
  | .local _ .vmem, ⟨42, _⟩ => ⟨S1x4x512x128, .f32⟩
  | .local _ .vmem, ⟨43, _⟩ => ⟨S1x4x512x128, .f32⟩
  | .local _ .vmem, ⟨44, _⟩ => ⟨S1x4x32x128, .f32⟩
  | .local _ .vmem, ⟨45, _⟩ => ⟨S1x4x32x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_8 : Ref sig .tc := ⟨.hbm, 84, rfl⟩
abbrev main_v66 : Ref sig .tc := ⟨.hbm, 85, rfl⟩
abbrev main_v67 : Ref sig .tc := ⟨.hbm, 86, rfl⟩
abbrev main_cst_9 : Ref sig .tc := ⟨.hbm, 87, rfl⟩
abbrev main_v68 : Ref sig .tc := ⟨.hbm, 88, rfl⟩
abbrev main_cst_10 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_11 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_12 : Ref sig .tc := ⟨.hbm, 111, rfl⟩
abbrev main_v89 : Ref sig .tc := ⟨.hbm, 112, rfl⟩
abbrev main_v90 : Ref sig .tc := ⟨.hbm, 113, rfl⟩
abbrev main_cst_13 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_14 : Ref sig .tc := ⟨.hbm, 125, rfl⟩
abbrev main_v101 : Ref sig .tc := ⟨.hbm, 126, rfl⟩
abbrev main_v102 : Ref sig .tc := ⟨.hbm, 127, rfl⟩
abbrev main_cst_15 : Ref sig .tc := ⟨.hbm, 128, rfl⟩
abbrev main_v103 : Ref sig .tc := ⟨.hbm, 129, rfl⟩
abbrev main_cst_16 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_17 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_c : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_cst_18 : Ref sig .tc := ⟨.hbm, 155, rfl⟩
abbrev main_v126 : Ref sig .tc := ⟨.hbm, 156, rfl⟩
abbrev main_cst_19 : Ref sig .tc := ⟨.hbm, 157, rfl⟩
abbrev main_v127 : Ref sig .tc := ⟨.hbm, 158, rfl⟩
abbrev main_cst_20 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_call0_v0 : Ref sig .tc := ⟨.hbm, 165, rfl⟩
abbrev main_v133 : Ref sig .tc := ⟨.hbm, 166, rfl⟩
abbrev main_c_21 : Ref sig .tc := ⟨.hbm, 167, rfl⟩
abbrev main_v134 : Ref sig .tc := ⟨.hbm, 168, rfl⟩
abbrev main_call1_v0 : Ref sig .tc := ⟨.hbm, 169, rfl⟩
abbrev main_call1_c : Ref sig .tc := ⟨.hbm, 170, rfl⟩
abbrev main_call1_v1 : Ref sig .tc := ⟨.hbm, 171, rfl⟩
abbrev main_call1_v2 : Ref sig .tc := ⟨.hbm, 172, rfl⟩
abbrev main_call1_v3 : Ref sig .tc := ⟨.hbm, 173, rfl⟩
abbrev main_call1_v4 : Ref sig .tc := ⟨.hbm, 174, rfl⟩
abbrev main_call1_c_0 : Ref sig .tc := ⟨.hbm, 175, rfl⟩
abbrev main_call1_v5 : Ref sig .tc := ⟨.hbm, 176, rfl⟩
abbrev main_v135 : Ref sig .tc := ⟨.hbm, 177, rfl⟩
abbrev main_v136 : Ref sig .tc := ⟨.hbm, 178, rfl⟩
abbrev main_c_22 : Ref sig .tc := ⟨.hbm, 179, rfl⟩
abbrev main_call2_v0 : Ref sig .tc := ⟨.hbm, 180, rfl⟩
abbrev main_call2_v1 : Ref sig .tc := ⟨.hbm, 181, rfl⟩
abbrev main_call2_v2 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145_0 : Ref sig .tc := ⟨.hbm, 191, rfl⟩
abbrev main_v145_1 : Ref sig .tc := ⟨.hbm, 192, rfl⟩
abbrev main_v145_2 : Ref sig .tc := ⟨.hbm, 193, rfl⟩
abbrev main_v145_3 : Ref sig .tc := ⟨.hbm, 194, rfl⟩
abbrev main_v145_4 : Ref sig .tc := ⟨.hbm, 195, rfl⟩
abbrev main_v145_5 : Ref sig .tc := ⟨.hbm, 196, rfl⟩
abbrev main_v145_6 : Ref sig .tc := ⟨.hbm, 197, rfl⟩
abbrev main_v145_7 : Ref sig .tc := ⟨.hbm, 198, rfl⟩
abbrev main_v145_8 : Ref sig .tc := ⟨.hbm, 199, rfl⟩
abbrev main_v145_9 : Ref sig .tc := ⟨.hbm, 200, rfl⟩
abbrev main_v145_10 : Ref sig .tc := ⟨.hbm, 201, rfl⟩
abbrev main_v145_11 : Ref sig .tc := ⟨.hbm, 202, rfl⟩
abbrev main_v145_12 : Ref sig .tc := ⟨.hbm, 203, rfl⟩
abbrev main_v145_13 : Ref sig .tc := ⟨.hbm, 204, rfl⟩
abbrev main_v145_14 : Ref sig .tc := ⟨.hbm, 205, rfl⟩
abbrev main_v145_15 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg24_1 : Ref sig .tc := ⟨.vmem, 43, rfl⟩
abbrev cc0_stg25_0 : Ref sig .tc := ⟨.vmem, 44, rfl⟩
abbrev cc0_stg25_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41
abbrev cc0_sem24_0 : DmaSem sig := 42
abbrev cc0_sem24_1 : DmaSem sig := 43
abbrev cc0_sem25_0 : DmaSem sig := 44
abbrev cc0_sem25_1 : DmaSem sig := 45

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_4 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_5 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_27 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_28 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x256x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x4x512x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x4x512x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x4x32x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== PagesReferenceIdeal.lean ====
abbrev S4x4096x1024 : Shape := ⟨3, ![4, 4096, 1024]⟩
abbrev S1024x6440 : Shape := ⟨2, ![1024, 6440]⟩
abbrev S512 : Shape := ⟨1, ![512]⟩
abbrev S8x128x128 : Shape := ⟨3, ![8, 128, 128]⟩
abbrev S8x128 : Shape := ⟨2, ![8, 128]⟩
abbrev S4x128x512x128 : Shape := ⟨4, ![4, 128, 512, 128]⟩
abbrev S4x128x32x128 : Shape := ⟨4, ![4, 128, 32, 128]⟩
abbrev S4096 : Shape := ⟨1, ![4096]⟩
abbrev S4x4096x6440 : Shape := ⟨3, ![4, 4096, 6440]⟩
abbrev S4x4096x256 : Shape := ⟨3, ![4, 4096, 256]⟩
abbrev S4x4096x4x64 : Shape := ⟨4, ![4, 4096, 4, 64]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4x4096x4x8 : Shape := ⟨4, ![4, 4096, 4, 8]⟩
abbrev S1x4096x1x8 : Shape := ⟨4, ![1, 4096, 1, 8]⟩
abbrev S4x4096x4x48 : Shape := ⟨4, ![4, 4096, 4, 48]⟩
abbrev S4x4096x32 : Shape := ⟨3, ![4, 4096, 32]⟩
abbrev S4x4096x1x32 : Shape := ⟨4, ![4, 4096, 1, 32]⟩
abbrev S4 : Shape := ⟨1, ![4]⟩
abbrev S1x4 : Shape := ⟨2, ![1, 4]⟩
abbrev S4096x4 : Shape := ⟨2, ![4096, 4]⟩
abbrev S4096x1x4 : Shape := ⟨3, ![4096, 1, 4]⟩
abbrev S4x4096x1x4 : Shape := ⟨4, ![4, 4096, 1, 4]⟩
abbrev S1x4096x1x4 : Shape := ⟨4, ![1, 4096, 1, 4]⟩
abbrev S4x4096x1x24 : Shape := ⟨4, ![4, 4096, 1, 24]⟩
abbrev S4x4096x512 : Shape := ⟨3, ![4, 4096, 512]⟩
abbrev S4x4096 : Shape := ⟨2, ![4, 4096]⟩
abbrev S4x4096x1 : Shape := ⟨3, ![4, 4096, 1]⟩
abbrev S1x1x512 : Shape := ⟨3, ![1, 1, 512]⟩
abbrev S4x4096x1x4x64 : Shape := ⟨5, ![4, 4096, 1, 4, 64]⟩
abbrev S4x4096x2x4x64 : Shape := ⟨5, ![4, 4096, 2, 4, 64]⟩
abbrev S4x4096x8 : Shape := ⟨3, ![4, 4096, 8]⟩
abbrev S3x128x512x128 : Shape := ⟨4, ![3, 128, 512, 128]⟩
abbrev S128x128x512 : Shape := ⟨3, ![128, 128, 512]⟩
abbrev S128x512x128 : Shape := ⟨3, ![128, 512, 128]⟩
abbrev S1x128x512x128 : Shape := ⟨4, ![1, 128, 512, 128]⟩
abbrev S3x128x32x128 : Shape := ⟨4, ![3, 128, 32, 128]⟩
abbrev S128x128x32 : Shape := ⟨3, ![128, 128, 32]⟩
abbrev S128x32x128 : Shape := ⟨3, ![128, 32, 128]⟩
abbrev S1x128x32x128 : Shape := ⟨4, ![1, 128, 32, 128]⟩
abbrev S4x4096x8x64 : Shape := ⟨4, ![4, 4096, 8, 64]⟩
abbrev S4x4096x8x8 : Shape := ⟨4, ![4, 4096, 8, 8]⟩
abbrev S4x4096x8x48 : Shape := ⟨4, ![4, 4096, 8, 48]⟩
abbrev S16384x512 : Shape := ⟨2, ![16384, 512]⟩

abbrev nBuf : Space → Nat
  | .hbm => 286
  | .vmem => 0
  | .smem => 0
  | _ => 0

abbrev hbmTy0_0 (i : Nat) : BufTy := match i % 128 with
  | 0 => ⟨S4x4096x1024, .f32⟩
  | 1 => ⟨S1024x6440, .f32⟩
  | 2 => ⟨S512, .f32⟩
  | 3 => ⟨S512, .f32⟩
  | 4 => ⟨S8x128x128, .f32⟩
  | 5 => ⟨S8x128, .f32⟩
  | 6 => ⟨S4x128x512x128, .f32⟩
  | 7 => ⟨S4x128x512x128, .f32⟩
  | 8 => ⟨S4x128x32x128, .f32⟩
  | 9 => ⟨S4096, .i32⟩
  | 10 => ⟨S4x4096x6440, .f32⟩
  | 11 => ⟨S4x4096x256, .f32⟩
  | 12 => ⟨S4x4096x4x64, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S4096, .f32⟩
  | 22 => ⟨S4096x1, .f32⟩
  | 23 => ⟨S1x8, .f32⟩
  | 24 => ⟨S4096x8, .f32⟩
  | 25 => ⟨S4096x8, .f32⟩
  | 26 => ⟨S4096x8, .f32⟩
  | 27 => ⟨S4096x8, .f32⟩
  | 28 => ⟨S4096x1x8, .f32⟩
  | 29 => ⟨S4096x8, .f32⟩
  | 30 => ⟨S4096x1x8, .f32⟩
  | 31 => ⟨S4x4096x4x8, .f32⟩
  | 32 => ⟨S4x4096x4x8, .f32⟩
  | 33 => ⟨S1x4096x1x8, .f32⟩
  | 34 => ⟨S4x4096x4x8, .f32⟩
  | 35 => ⟨S4x4096x4x8, .f32⟩
  | 36 => ⟨S1x4096x1x8, .f32⟩
  | 37 => ⟨S4x4096x4x8, .f32⟩
  | 38 => ⟨S4x4096x4x8, .f32⟩
  | 39 => ⟨S4x4096x4x8, .f32⟩
  | 40 => ⟨S1x4096x1x8, .f32⟩
  | 41 => ⟨S4x4096x4x8, .f32⟩
  | 42 => ⟨S4x4096x4x8, .f32⟩
  | 43 => ⟨S1x4096x1x8, .f32⟩
  | 44 => ⟨S4x4096x4x8, .f32⟩
  | 45 => ⟨S4x4096x4x8, .f32⟩
  | 46 => ⟨S4x4096x4x8, .f32⟩
  | 47 => ⟨S4x4096x4x48, .f32⟩
  | 48 => ⟨S4x4096x4x64, .f32⟩
  | 49 => ⟨S4x4096x256, .f32⟩
  | 50 => ⟨S4x4096x4x64, .f32⟩
  | 51 => ⟨S4x4096x256, .f32⟩
  | 52 => ⟨S4x4096x4x64, .f32⟩
  | 53 => ⟨S8, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S4096, .f32⟩
  | 62 => ⟨S4096x1, .f32⟩
  | 63 => ⟨S1x8, .f32⟩
  | 64 => ⟨S4096x8, .f32⟩
  | 65 => ⟨S4096x8, .f32⟩
  | 66 => ⟨S4096x8, .f32⟩
  | 67 => ⟨S4096x8, .f32⟩
  | 68 => ⟨S4096x1x8, .f32⟩
  | 69 => ⟨S4096x8, .f32⟩
  | 70 => ⟨S4096x1x8, .f32⟩
  | 71 => ⟨S4x4096x4x8, .f32⟩
  | 72 => ⟨S4x4096x4x8, .f32⟩
  | 73 => ⟨S1x4096x1x8, .f32⟩
  | 74 => ⟨S4x4096x4x8, .f32⟩
  | 75 => ⟨S4x4096x4x8, .f32⟩
  | 76 => ⟨S1x4096x1x8, .f32⟩
  | 77 => ⟨S4x4096x4x8, .f32⟩
  | 78 => ⟨S4x4096x4x8, .f32⟩
  | 79 => ⟨S4x4096x4x8, .f32⟩
  | 80 => ⟨S1x4096x1x8, .f32⟩
  | 81 => ⟨S4x4096x4x8, .f32⟩
  | 82 => ⟨S4x4096x4x8, .f32⟩
  | 83 => ⟨S1x4096x1x8, .f32⟩
  | 84 => ⟨S4x4096x4x8, .f32⟩
  | 85 => ⟨S4x4096x4x8, .f32⟩
  | 86 => ⟨S4x4096x4x8, .f32⟩
  | 87 => ⟨S4x4096x4x48, .f32⟩
  | 88 => ⟨S4x4096x4x64, .f32⟩
  | 89 => ⟨S4x4096x256, .f32⟩
  | 90 => ⟨S4x4096x4x64, .f32⟩
  | 91 => ⟨S4x4096x32, .f32⟩
  | 92 => ⟨S4x4096x1x32, .f32⟩
  | 93 => ⟨S4, .f32⟩
  | 94 => ⟨S4, .f32⟩
  | 95 => ⟨S_, .f32⟩
  | 96 => ⟨S4, .f32⟩
  | 97 => ⟨S4, .f32⟩
  | 98 => ⟨S_, .f32⟩
  | 99 => ⟨S4, .f32⟩
  | 100 => ⟨S4, .f32⟩
  | 101 => ⟨S4096, .f32⟩
  | 102 => ⟨S4096x1, .f32⟩
  | 103 => ⟨S1x4, .f32⟩
  | 104 => ⟨S4096x4, .f32⟩
  | 105 => ⟨S4096x4, .f32⟩
  | 106 => ⟨S4096x4, .f32⟩
  | 107 => ⟨S4096x4, .f32⟩
  | 108 => ⟨S4096x1x4, .f32⟩
  | 109 => ⟨S4096x4, .f32⟩
  | 110 => ⟨S4096x1x4, .f32⟩
  | 111 => ⟨S4x4096x1x4, .f32⟩
  | 112 => ⟨S4x4096x1x4, .f32⟩
  | 113 => ⟨S1x4096x1x4, .f32⟩
  | 114 => ⟨S4x4096x1x4, .f32⟩
  | 115 => ⟨S4x4096x1x4, .f32⟩
  | 116 => ⟨S1x4096x1x4, .f32⟩
  | 117 => ⟨S4x4096x1x4, .f32⟩
  | 118 => ⟨S4x4096x1x4, .f32⟩
  | 119 => ⟨S4x4096x1x4, .f32⟩
  | 120 => ⟨S1x4096x1x4, .f32⟩
  | 121 => ⟨S4x4096x1x4, .f32⟩
  | 122 => ⟨S4x4096x1x4, .f32⟩
  | 123 => ⟨S1x4096x1x4, .f32⟩
  | 124 => ⟨S4x4096x1x4, .f32⟩
  | 125 => ⟨S4x4096x1x4, .f32⟩
  | 126 => ⟨S4x4096x1x4, .f32⟩
  | 127 => ⟨S4x4096x1x24, .f32⟩
  | _ => ⟨S4x4096x1024, .f32⟩

abbrev hbmTy0_1 (i : Nat) : BufTy := match i % 128 with
  | 0 => ⟨S4x4096x1x32, .f32⟩
  | 1 => ⟨S4x4096x32, .f32⟩
  | 2 => ⟨S4x4096x512, .f32⟩
  | 3 => ⟨S4x4096x512, .f32⟩
  | 4 => ⟨S4x4096x512, .f32⟩
  | 5 => ⟨S_, .f32⟩
  | 6 => ⟨S4x4096x512, .f32⟩
  | 7 => ⟨S4x4096x512, .f32⟩
  | 8 => ⟨S4x4096x512, .f32⟩
  | 9 => ⟨S_, .f32⟩
  | 10 => ⟨S4x4096x512, .f32⟩
  | 11 => ⟨S4x4096x512, .f32⟩
  | 12 => ⟨S4x4096x512, .f32⟩
  | 13 => ⟨S_, .f32⟩
  | 14 => ⟨S4x4096x512, .f32⟩
  | 15 => ⟨S4x4096x512, .f32⟩
  | 16 => ⟨S_, .f32⟩
  | 17 => ⟨S4x4096x512, .f32⟩
  | 18 => ⟨S4x4096x512, .f32⟩
  | 19 => ⟨S4x4096x512, .f32⟩
  | 20 => ⟨S_, .f32⟩
  | 21 => ⟨S4x4096, .f32⟩
  | 22 => ⟨S4x4096x1, .f32⟩
  | 23 => ⟨S_, .f32⟩
  | 24 => ⟨S4x4096x1, .f32⟩
  | 25 => ⟨S4x4096x1, .f32⟩
  | 26 => ⟨S4x4096x512, .f32⟩
  | 27 => ⟨S4x4096x512, .f32⟩
  | 28 => ⟨S4x4096x512, .f32⟩
  | 29 => ⟨S_, .f32⟩
  | 30 => ⟨S4x4096, .f32⟩
  | 31 => ⟨S4x4096x1, .f32⟩
  | 32 => ⟨S_, .f32⟩
  | 33 => ⟨S4x4096x1, .f32⟩
  | 34 => ⟨S4x4096x1, .f32⟩
  | 35 => ⟨S4x4096x512, .f32⟩
  | 36 => ⟨S4x4096x512, .f32⟩
  | 37 => ⟨S_, .f32⟩
  | 38 => ⟨S4x4096x1, .f32⟩
  | 39 => ⟨S4x4096x1, .f32⟩
  | 40 => ⟨S4x4096x1, .f32⟩
  | 41 => ⟨S4x4096x512, .f32⟩
  | 42 => ⟨S4x4096x512, .f32⟩
  | 43 => ⟨S1x1x512, .f32⟩
  | 44 => ⟨S4x4096x512, .f32⟩
  | 45 => ⟨S4x4096x512, .f32⟩
  | 46 => ⟨S1x1x512, .f32⟩
  | 47 => ⟨S4x4096x512, .f32⟩
  | 48 => ⟨S4x4096x512, .f32⟩
  | 49 => ⟨S4x4096x1x4x64, .f32⟩
  | 50 => ⟨S4x4096x1x4x64, .f32⟩
  | 51 => ⟨S4x4096x2x4x64, .f32⟩
  | 52 => ⟨S4x4096x1x4x64, .f32⟩
  | 53 => ⟨S4x4096x1x4x64, .f32⟩
  | 54 => ⟨S4x4096x2x4x64, .f32⟩
  | 55 => ⟨S4x4096x8, .f32⟩
  | 56 => ⟨S3x128x512x128, .f32⟩
  | 57 => ⟨S128x128x512, .f32⟩
  | 58 => ⟨S128x512x128, .f32⟩
  | 59 => ⟨S1x128x512x128, .f32⟩
  | 60 => ⟨S4x128x512x128, .f32⟩
  | 61 => ⟨S3x128x512x128, .f32⟩
  | 62 => ⟨S128x128x512, .f32⟩
  | 63 => ⟨S128x512x128, .f32⟩
  | 64 => ⟨S1x128x512x128, .f32⟩
  | 65 => ⟨S4x128x512x128, .f32⟩
  | 66 => ⟨S3x128x32x128, .f32⟩
  | 67 => ⟨S128x128x32, .f32⟩
  | 68 => ⟨S128x32x128, .f32⟩
  | 69 => ⟨S1x128x32x128, .f32⟩
  | 70 => ⟨S4x128x32x128, .f32⟩
  | 71 => ⟨S4x4096x6440, .f32⟩
  | 72 => ⟨S4x4096x512, .f32⟩
  | 73 => ⟨S4x4096x8x64, .f32⟩
  | 74 => ⟨S8, .f32⟩
  | 75 => ⟨S8, .f32⟩
  | 76 => ⟨S_, .f32⟩
  | 77 => ⟨S8, .f32⟩
  | 78 => ⟨S8, .f32⟩
  | 79 => ⟨S_, .f32⟩
  | 80 => ⟨S8, .f32⟩
  | 81 => ⟨S8, .f32⟩
  | 82 => ⟨S4096, .f32⟩
  | 83 => ⟨S4096x1, .f32⟩
  | 84 => ⟨S1x8, .f32⟩
  | 85 => ⟨S4096x8, .f32⟩
  | 86 => ⟨S4096x8, .f32⟩
  | 87 => ⟨S4096x8, .f32⟩
  | 88 => ⟨S4096x8, .f32⟩
  | 89 => ⟨S4096x1x8, .f32⟩
  | 90 => ⟨S4096x8, .f32⟩
  | 91 => ⟨S4096x1x8, .f32⟩
  | 92 => ⟨S4x4096x8x8, .f32⟩
  | 93 => ⟨S4x4096x8x8, .f32⟩
  | 94 => ⟨S1x4096x1x8, .f32⟩
  | 95 => ⟨S4x4096x8x8, .f32⟩
  | 96 => ⟨S4x4096x8x8, .f32⟩
  | 97 => ⟨S1x4096x1x8, .f32⟩
  | 98 => ⟨S4x4096x8x8, .f32⟩
  | 99 => ⟨S4x4096x8x8, .f32⟩
  | 100 => ⟨S4x4096x8x8, .f32⟩
  | 101 => ⟨S1x4096x1x8, .f32⟩
  | 102 => ⟨S4x4096x8x8, .f32⟩
  | 103 => ⟨S4x4096x8x8, .f32⟩
  | 104 => ⟨S1x4096x1x8, .f32⟩
  | 105 => ⟨S4x4096x8x8, .f32⟩
  | 106 => ⟨S4x4096x8x8, .f32⟩
  | 107 => ⟨S4x4096x8x8, .f32⟩
  | 108 => ⟨S4x4096x8x48, .f32⟩
  | 109 => ⟨S4x4096x8x64, .f32⟩
  | 110 => ⟨S_, .f32⟩
  | 111 => ⟨S4x4096x8x64, .f32⟩
  | 112 => ⟨S4x4096x8x64, .f32⟩
  | 113 => ⟨S16384x512, .f32⟩
  | 114 => ⟨S4x4096x512, .f32⟩
  | 115 => ⟨S4x4096x8x64, .f32⟩
  | 116 => ⟨S8, .f32⟩
  | 117 => ⟨S8, .f32⟩
  | 118 => ⟨S_, .f32⟩
  | 119 => ⟨S8, .f32⟩
  | 120 => ⟨S8, .f32⟩
  | 121 => ⟨S_, .f32⟩
  | 122 => ⟨S8, .f32⟩
  | 123 => ⟨S8, .f32⟩
  | 124 => ⟨S4096, .f32⟩
  | 125 => ⟨S4096x1, .f32⟩
  | 126 => ⟨S1x8, .f32⟩
  | 127 => ⟨S4096x8, .f32⟩
  | _ => ⟨S4x4096x1024, .f32⟩

abbrev hbmTy0_2 (i : Nat) : BufTy := match i % 128 with
  | 0 => ⟨S4096x8, .f32⟩
  | 1 => ⟨S4096x8, .f32⟩
  | 2 => ⟨S4096x8, .f32⟩
  | 3 => ⟨S4096x1x8, .f32⟩
  | 4 => ⟨S4096x8, .f32⟩
  | 5 => ⟨S4096x1x8, .f32⟩
  | 6 => ⟨S4x4096x8x8, .f32⟩
  | 7 => ⟨S4x4096x8x8, .f32⟩
  | 8 => ⟨S1x4096x1x8, .f32⟩
  | 9 => ⟨S4x4096x8x8, .f32⟩
  | 10 => ⟨S4x4096x8x8, .f32⟩
  | 11 => ⟨S1x4096x1x8, .f32⟩
  | 12 => ⟨S4x4096x8x8, .f32⟩
  | 13 => ⟨S4x4096x8x8, .f32⟩
  | 14 => ⟨S4x4096x8x8, .f32⟩
  | 15 => ⟨S1x4096x1x8, .f32⟩
  | 16 => ⟨S4x4096x8x8, .f32⟩
  | 17 => ⟨S4x4096x8x8, .f32⟩
  | 18 => ⟨S1x4096x1x8, .f32⟩
  | 19 => ⟨S4x4096x8x8, .f32⟩
  | 20 => ⟨S4x4096x8x8, .f32⟩
  | 21 => ⟨S4x4096x8x8, .f32⟩
  | 22 => ⟨S4x4096x8x48, .f32⟩
  | 23 => ⟨S4x4096x8x64, .f32⟩
  | 24 => ⟨S_, .f32⟩
  | 25 => ⟨S4x4096x8x64, .f32⟩
  | 26 => ⟨S4x4096x8x64, .f32⟩
  | 27 => ⟨S16384x512, .f32⟩
  | 28 => ⟨S16384x512, .bf16⟩
  | 29 => ⟨S16384x512, .bf16⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_1 : Ref sig .tc := ⟨.hbm, 55, rfl⟩
abbrev main_v44 : Ref sig .tc := ⟨.hbm, 56, rfl⟩
abbrev main_v45 : Ref sig .tc := ⟨.hbm, 57, rfl⟩
abbrev main_cst_2 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_cst_3 : Ref sig .tc := ⟨.hbm, 95, rfl⟩
abbrev main_v82 : Ref sig .tc := ⟨.hbm, 96, rfl⟩
abbrev main_v83 : Ref sig .tc := ⟨.hbm, 97, rfl⟩
abbrev main_cst_4 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_cst_5 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_cst_6 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_cst_7 : Ref sig .tc := ⟨.hbm, 141, rfl⟩
abbrev main_v124 : Ref sig .tc := ⟨.hbm, 142, rfl⟩
abbrev main_v125 : Ref sig .tc := ⟨.hbm, 143, rfl⟩
abbrev main_cst_8 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_cst_9 : Ref sig .tc := ⟨.hbm, 148, rfl⟩
abbrev main_v129 : Ref sig .tc := ⟨.hbm, 149, rfl⟩
abbrev main_v130 : Ref sig .tc := ⟨.hbm, 150, rfl⟩
abbrev main_cst_10 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_cst_11 : Ref sig .tc := ⟨.hbm, 157, rfl⟩
abbrev main_v136 : Ref sig .tc := ⟨.hbm, 158, rfl⟩
abbrev main_v137 : Ref sig .tc := ⟨.hbm, 159, rfl⟩
abbrev main_cst_12 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_cst_13 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_cst_14 : Ref sig .tc := ⟨.hbm, 204, rfl⟩
abbrev main_v180 : Ref sig .tc := ⟨.hbm, 205, rfl⟩
abbrev main_v181 : Ref sig .tc := ⟨.hbm, 206, rfl⟩
abbrev main_cst_15 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_cst_16 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_cst_17 : Ref sig .tc := ⟨.hbm, 246, rfl⟩
abbrev main_v219 : Ref sig .tc := ⟨.hbm, 247, rfl⟩
abbrev main_v220 : Ref sig .tc := ⟨.hbm, 248, rfl⟩
abbrev main_cst_18 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩
abbrev main_v237 : Ref sig .tc := ⟨.hbm, 266, rfl⟩
abbrev main_v238 : Ref sig .tc := ⟨.hbm, 267, rfl⟩
abbrev main_v239 : Ref sig .tc := ⟨.hbm, 268, rfl⟩
abbrev main_v240 : Ref sig .tc := ⟨.hbm, 269, rfl⟩
abbrev main_v241 : Ref sig .tc := ⟨.hbm, 270, rfl⟩
abbrev main_v242 : Ref sig .tc := ⟨.hbm, 271, rfl⟩
abbrev main_v243 : Ref sig .tc := ⟨.hbm, 272, rfl⟩
abbrev main_v244 : Ref sig .tc := ⟨.hbm, 273, rfl⟩
abbrev main_v245 : Ref sig .tc := ⟨.hbm, 274, rfl⟩
abbrev main_v246 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_cst_19 : Ref sig .tc := ⟨.hbm, 280, rfl⟩
abbrev main_v251 : Ref sig .tc := ⟨.hbm, 281, rfl⟩
abbrev main_v252 : Ref sig .tc := ⟨.hbm, 282, rfl⟩
abbrev main_v253 : Ref sig .tc := ⟨.hbm, 283, rfl⟩
abbrev main_v254 : Ref sig .tc := ⟨.hbm, 284, rfl⟩
abbrev main_v255 : Ref sig .tc := ⟨.hbm, 285, rfl⟩

abbrev nD : Nat := 1
abbrev τ : Topo := Topo.v7x

variable {F : FTy → Type} [FloatOps F]
-- ==== Proof.Moe.Order.lean ====
module
public import Idealize.ShloMosaic.Lib.Pointwise
public import Idealize.ShloMosaic.Lib.SortFacts
public import Idealize.ShloMosaic.Lib.SortNet.Extract

/-! Greatest entries of a row of extended reals, lowest position first among equals: the predicates, their
    uniqueness, what a stable descending sort puts first and second, and what "the greatest lane" and "the first lane
    that equals it" compute by two folds. -/

@[expose] public section
set_option maxRecDepth 16384
noncomputable section
namespace Cert.Moe
open Idealize.ShloMosaic

/-- Position `i` holds the greatest entry of `f`, and no earlier position holds an equal one. -/
def FirstMax {n : Nat} (f : Fin n → EReal) (i : Fin n) : Prop := (∀ j, f j ≤ f i) ∧ ∀ j, j < i → f j < f i

/-- Position `k` holds the greatest entry of `f` away from position `i`, the earliest such. -/
def SecondMax {n : Nat} (f : Fin n → EReal) (i k : Fin n) : Prop :=
  k ≠ i ∧ (∀ j, j ≠ i → f j ≤ f k) ∧ ∀ j, j ≠ i → j < k → f j < f k

/-- There is one first greatest position. -/
theorem FirstMax.unique {n : Nat} {f : Fin n → EReal} {i k : Fin n} (hi : FirstMax f i) (hk : FirstMax f k) : i = k := by
  rcases lt_trichotomy i k with h | h | h
  · exact absurd (hk.2 i h) (not_lt.mpr (hi.1 k))
  · exact h
  · exact absurd (hi.2 k h) (not_lt.mpr (hk.1 i))

/-- There is one second greatest position. -/
theorem SecondMax.unique {n : Nat} {f : Fin n → EReal} {i j k : Fin n} (hj : SecondMax f i j) (hk : SecondMax f i k) : j = k := by
  rcases lt_trichotomy j k with h | h | h
  · exact absurd (hk.2.2 j hj.1 h) (not_lt.mpr (hj.2.1 k hk.1))
  · exact h
  · exact absurd (hj.2.2 k hk.1 h) (not_lt.mpr (hk.2.1 j hj.1))

/-- A nonempty row has a first greatest position. -/
theorem exists_firstMax {n : Nat} (hn : 0 < n) (f : Fin n → EReal) : ∃ i, FirstMax f i := by
  haveI : Nonempty (Fin n) := ⟨⟨0, hn⟩⟩
  obtain ⟨m, -, hm⟩ := Finset.exists_max_image Finset.univ f ⟨⟨0, hn⟩, Finset.mem_univ _⟩
  have hne : (Finset.univ.filter fun i => f i = f m).Nonempty := ⟨m, by simp⟩
  refine ⟨(Finset.univ.filter fun i => f i = f m).min' hne, ?_, ?_⟩
  · have := Finset.min'_mem _ hne
    rw [Finset.mem_filter] at this
    intro j; rw [this.2]; exact hm j (Finset.mem_univ j)
  · have := Finset.min'_mem _ hne
    rw [Finset.mem_filter] at this
    intro j hj; rw [this.2]
    refine lt_of_le_of_ne (hm j (Finset.mem_univ j)) fun h => ?_
    exact absurd (Finset.min'_le _ j (by simp [h])) (not_le.mpr hj)

/-! ## The stable descending sort -/

/-- `a` stands before `b`: a greater entry, or an equal one at a lower position. -/
def Prec {n : Nat} (f : Fin n → EReal) (a b : Fin n) : Prop := f b < f a ∨ (f a = f b ∧ a < b)

/-- Inserting a position lower than all of an ordered list keeps the list ordered. -/
theorem pairwise_insertBefore_prec {n : Nat} (f : Fin n → EReal) (a : Fin n) (l : List (Fin n)) (hl : l.Pairwise (Prec f))
    (ha : ∀ b ∈ l, a < b) : (insertBefore (fun x y => decide (f y < f x)) a l).Pairwise (Prec f) := by
  induction l with
  | nil => simp [insertBefore]
  | cons b l ih =>
    rw [List.pairwise_cons] at hl
    unfold insertBefore
    split
    · rename_i h
      have h : f a < f b := of_decide_eq_true h
      rw [List.pairwise_cons]
      refine ⟨fun c hc => ?_, ih hl.2 fun c hc => ha c (List.mem_cons_of_mem _ hc)⟩
      have hc' : c ∈ a :: l := (perm_insertBefore _ a l).mem_iff.mp hc
      rcases List.mem_cons.mp hc' with rfl | hc'
      · exact .inl h
      · exact hl.1 c hc'
    · rename_i h
      have h : f b ≤ f a := not_lt.mp fun h' => h (decide_eq_true h')
      rw [List.pairwise_cons]
      refine ⟨fun c hc => ?_, List.pairwise_cons.mpr hl⟩
      have hac := ha c hc
      have hcb : f c ≤ f b := by
        rcases List.mem_cons.mp hc with rfl | hc'
        · exact le_rfl
        · rcases hl.1 c hc' with h1 | h1
          · exact h1.le
          · exact h1.1.ge
      rcases (hcb.trans h).lt_or_eq with h1 | h1
      · exact .inl h1
      · exact .inr ⟨h1.symm, hac⟩

/-- The stable descending sort of an increasing list of positions is ordered. -/
theorem pairwise_stableSort_prec {n : Nat} (f : Fin n → EReal) (l : List (Fin n)) (hl : l.Pairwise (· < ·)) :
    (stableSort (fun x y => decide (f y < f x)) l).Pairwise (Prec f) := by
  induction l with
  | nil => exact List.Pairwise.nil
  | cons a l ih =>
    rw [List.pairwise_cons] at hl
    exact pairwise_insertBefore_prec f a _ (ih hl.2) fun b hb => hl.1 b ((perm_stableSort _ l).mem_iff.mp hb)

/-- Of two positions in a stable descending sort, the one that stands earlier precedes. -/
theorem prec_sortedFrom {n : Nat} (f : Fin n → EReal) {p q : Fin n} (h : p < q) :
    Prec f (sortedFrom (fun x y => decide (f y < f x)) p) (sortedFrom (fun x y => decide (f y < f x)) q) := by
  have := pairwise_stableSort_prec f (List.finRange n) (List.pairwise_lt_finRange n)
  rw [List.pairwise_iff_get] at this
  exact this _ _ h

/-- What a stable descending sort puts first is the first greatest position. -/
theorem firstMax_sortedFrom {n : Nat} (f : Fin n → EReal) (p : Fin n) (hp : p.val = 0) :
    FirstMax f (sortedFrom (fun x y => decide (f y < f x)) p) := by
  have key : ∀ j, j ≠ sortedFrom (fun x y => decide (f y < f x)) p → Prec f (sortedFrom (fun x y => decide (f y < f x)) p) j := by
    intro j hj
    obtain ⟨q, rfl⟩ := sortedFrom_surjective (fun x y => decide (f y < f x)) j
    refine prec_sortedFrom f (Fin.lt_def.mpr ?_)
    have : q ≠ p := fun h => hj (by rw [h])
    have := Fin.val_ne_of_ne this
    omega
  constructor
  · intro j
    by_cases hj : j = sortedFrom (fun x y => decide (f y < f x)) p
    · rw [← hj]
    · rcases key j hj with h | h
      · exact h.le
      · exact h.1.ge
  · intro j hlt
    rcases key j hlt.ne with h | h
    · exact h
    · exact absurd h.2 (not_lt.mpr hlt.le)

/-- What it puts second is the second greatest position. -/
theorem secondMax_sortedFrom {n : Nat} (f : Fin n → EReal) (p q : Fin n) (hp : p.val = 0) (hq : q.val = 1) :
    SecondMax f (sortedFrom (fun x y => decide (f y < f x)) p) (sortedFrom (fun x y => decide (f y < f x)) q) := by
  have key : ∀ j, j ≠ sortedFrom (fun x y => decide (f y < f x)) p → j ≠ sortedFrom (fun x y => decide (f y < f x)) q →
      Prec f (sortedFrom (fun x y => decide (f y < f x)) q) j := by
    intro j hj hj'
    obtain ⟨k, rfl⟩ := sortedFrom_surjective (fun x y => decide (f y < f x)) j
    refine prec_sortedFrom f (Fin.lt_def.mpr ?_)
    have h1 : k ≠ p := fun h => hj (by rw [h])
    have h2 : k ≠ q := fun h => hj' (by rw [h])
    have := Fin.val_ne_of_ne h1
    have := Fin.val_ne_of_ne h2
    omega
  refine ⟨fun h => ?_, ?_, ?_⟩
  · have := sortedFrom_injective _ h
    subst this; omega
  · intro j hj
    by_cases hj' : j = sortedFrom (fun x y => decide (f y < f x)) q
    · rw [← hj']
    · rcases key j hj hj' with h | h
      · exact h.le
      · exact h.1.ge
  · intro j hj hlt
    rcases key j hj hlt.ne with h | h
    · exact h
    · exact absurd h.2 (not_lt.mpr hlt.le)

/-! ## The greatest lane and the first lane equal to it, by folds -/

/-- The fold of `max` from the bottom is the entry at the first greatest position. -/
theorem fold_max_eq {n : Nat} (f : Fin n → EReal) {i : Fin n} (hi : ∀ j, f j ≤ f i) :
    Finset.univ.fold max ⊥ f = f i := by
  refine le_antisymm (Finset.fold_max_le (f i) |>.mpr ⟨bot_le, fun j _ => hi j⟩) ?_
  exact (Finset.le_fold_max (f i)).mpr (.inr ⟨i, Finset.mem_univ _, le_rfl⟩)

/-- The signed minimum of the lane numbers at which `f` equals `M = f i`, `i` the first such lane, is lane `i`'s number. -/
theorem fold_minsi_eq {n : Nat} (hn : n ≤ 1048576) (f : Fin n → EReal) {i : Fin n} (hi : FirstMax f i) :
    Finset.univ.fold IntOp.minsi 2147483647#32 (fun l : Fin n => if f l = f i then BitVec.ofNat 32 l.val else 1048576#32)
      = BitVec.ofNat 32 i.val := by
  have hin := i.isLt
  have hto : ∀ k : Nat, k < 2 ^ 31 → (BitVec.ofNat 32 k).toInt = (k : Int) := by
    intro k hk
    rw [BitVec.toInt_ofNat']
    have : ((k : Int)).bmod (2 ^ 32) = k := by
      apply Int.bmod_eq_of_le <;> omega
    simpa using this
  refine BitVec.eq_of_toInt_eq ?_
  rw [← Finset.fold_hom (op := IntOp.minsi) (op' := min) (m := BitVec.toInt) (SortNet.toInt_minsi), hto i.val (by omega)]
  refine le_antisymm ?_ ?_
  · refine (Finset.fold_min_le _).mpr (.inr ⟨i, Finset.mem_univ _, ?_⟩)
    rw [if_pos rfl, hto i.val (by omega)]
  · refine (Finset.le_fold_min _).mpr ⟨?_, fun l _ => ?_⟩
    · have : (2147483647#32).toInt = 2147483647 := by decide
      rw [this]; omega
    · have hln := l.isLt
      split
      · rename_i h
        rw [hto l.val (by omega)]
        have : ¬ l < i := fun hl => absurd h (hi.2 l hl).ne
        have := Fin.not_lt.mp this
        exact_mod_cast Fin.le_def.mp this
      · have : (1048576#32).toInt = 1048576 := by decide
        rw [this]; omega

end Cert.Moe
-- ==== Proof.Moe.Route.lean ====
module
public import proofs.«01_k».proof.Proof.Moe.Order

/-! The two-level choice of experts of one token, as a relation on its logits: the greatest group, the two greatest
    experts of that group, and the weight of each of the 16 experts. -/

@[expose] public section
set_option maxRecDepth 16384
noncomputable section
namespace Cert.Moe
open Idealize.ShloMosaic

/-- Expert `k` of group `gs`, among all 16. -/
def expertOf (gs k : Fin 4) : Fin 16 := ⟨4 * gs.val + k.val, by omega⟩

/-- The share of the second expert relative to the first: `exp` of the difference of their logits. -/
def ratio (E : Fin 16 → EReal) (gs i0 i1 : Fin 4) : EReal := Ideal.exp (E (expertOf gs i1) - E (expertOf gs i0))

/-- The weight of the chosen group: its softmax probability, its own logit being the greatest. -/
def groupWeight (g : Fin 4 → EReal) (gs : Fin 4) : EReal := Ideal.div 1 (∑ j, Ideal.exp (g j - g gs))

/-- The weight of expert `e` when group `gs` and its experts `i0`, `i1` are chosen. -/
def combWeight (g : Fin 4 → EReal) (E : Fin 16 → EReal) (gs i0 i1 : Fin 4) (e : Fin 16) : EReal :=
  (if e = expertOf gs i0 then Ideal.div (groupWeight g gs) (1 + ratio E gs i0 i1) else 0)
    + if e = expertOf gs i1 then Ideal.div (groupWeight g gs * ratio E gs i0 i1) (1 + ratio E gs i0 i1) else 0

/-- `c` holds the weights of the 16 experts of a token whose group logits are `g` and expert logits are `E`. -/
def IsComb (g : Fin 4 → EReal) (E : Fin 16 → EReal) (c : Fin 16 → EReal) : Prop :=
  ∃ gs i0 i1, FirstMax g gs ∧ FirstMax (fun k => E (expertOf gs k)) i0 ∧ SecondMax (fun k => E (expertOf gs k)) i0 i1
    ∧ ∀ e, c e = combWeight g E gs i0 i1 e

/-- The logits determine the weights. -/
theorem IsComb.unique {g : Fin 4 → EReal} {E : Fin 16 → EReal} {c d : Fin 16 → EReal} (hc : IsComb g E c) (hd : IsComb g E d) :
    c = d := by
  obtain ⟨gs, i0, i1, h1, h2, h3, h4⟩ := hc
  obtain ⟨gs', i0', i1', k1, k2, k3, k4⟩ := hd
  obtain rfl := h1.unique k1
  obtain rfl := h2.unique k2
  obtain rfl := h3.unique k3
  funext e; rw [h4, k4]

/-- A row of four has a first and a second greatest position. -/
theorem exists_two (h : Fin 4 → EReal) : ∃ i0 i1, FirstMax h i0 ∧ SecondMax h i0 i1 :=
  ⟨_, _, firstMax_sortedFrom h 0 rfl, secondMax_sortedFrom h 0 1 rfl rfl⟩

/-! ## A group of four lanes among 128 -/

/-- The row of 128 lanes that holds `h` at lanes `lo … lo + 3` and the bottom elsewhere. -/
def lanes (lo : Nat) (h : Fin 4 → EReal) (l : Fin 128) : EReal :=
  if hl : lo ≤ l.val ∧ l.val < lo + 4 then h ⟨l.val - lo, by omega⟩ else ⊥

theorem lanes_at (lo : Nat) (h : Fin 4 → EReal) (k : Fin 4) (hlo : lo + 4 ≤ 128) :
    lanes lo h ⟨lo + k.val, by omega⟩ = h k := by
  unfold lanes
  rw [dif_pos ⟨by simp, by simp⟩]
  congr 1; exact Fin.ext (by simp)

/-- The first greatest lane is the first greatest of the four. -/
theorem lanes_firstMax (lo : Nat) (h : Fin 4 → EReal) (hlo : lo + 4 ≤ 128) (hb : ∀ k, ⊥ < h k) (i : Fin 4) (hi : FirstMax h i) :
    FirstMax (lanes lo h) ⟨lo + i.val, by omega⟩ := by
  constructor
  · intro l
    rw [lanes_at lo h i hlo]
    unfold lanes
    split
    · exact hi.1 _
    · exact bot_le
  · intro l hl
    rw [lanes_at lo h i hlo]
    have hl : l.val < lo + i.val := hl
    unfold lanes
    split
    · refine hi.2 _ (Fin.lt_def.mpr ?_)
      show l.val - lo < i.val
      omega
    · exact hb i

/-- The same row with the lane of `h i` struck out. -/
def struck (lo : Nat) (h : Fin 4 → EReal) (i : Fin 4) (l : Fin 128) : EReal := if l.val = lo + i.val then ⊥ else lanes lo h l

/-- With the first greatest lane struck out, the first greatest is the second greatest of the four. -/
theorem lanes_secondMax (lo : Nat) (h : Fin 4 → EReal) (hlo : lo + 4 ≤ 128) (hb : ∀ k, ⊥ < h k) (i k : Fin 4) (hk : SecondMax h i k) :
    FirstMax (struck lo h i) ⟨lo + k.val, by omega⟩ := by
  have hne : ¬ lo + k.val = lo + i.val := fun h => hk.1 (Fin.ext (by omega))
  constructor
  · intro l
    simp only [struck, if_neg hne]
    rw [lanes_at lo h k hlo]
    split
    · exact bot_le
    rename_i hli
    unfold lanes
    split
    · refine hk.2.1 _ fun heq => hli ?_
      have := congrArg Fin.val heq
      simp only at this
      omega
    · exact bot_le
  · intro l hl
    have hl : l.val < lo + k.val := hl
    simp only [struck, if_neg hne]
    rw [lanes_at lo h k hlo]
    split
    · exact hb k
    rename_i hli
    unfold lanes
    split
    · refine hk.2.2 _ (fun heq => hli ?_) (Fin.lt_def.mpr ?_)
      · have := congrArg Fin.val heq
        simp only at this
        omega
      · show l.val - lo < k.val
        omega
    · exact hb k

/-- A sum over the 128 lanes whose terms vanish from lane 4 on is the sum over the first four. -/
theorem sum_first_four (f : Fin 128 → EReal) (hf : ∀ l : Fin 128, 4 ≤ l.val → f l = 0) :
    ∑ l, f l = ∑ j : Fin 4, f ⟨j.val, by omega⟩ := by
  have := Fin.sum_univ_add (a := 4) (b := 124) (f := (f : Fin (4 + 124) → EReal))
  rw [show (∑ l, f l) = _ from this]
  rw [Finset.sum_eq_zero (s := Finset.univ) (f := fun i : Fin 124 => f (Fin.natAdd 4 i)) fun i _ => hf _ (by simp), add_zero]
  rfl

/-! ## The reference's form of the weights: two softmaxes -/

/-- Multiplying by a one-hot factor is choosing. -/
theorem softmax_weights (g : Fin 4 → EReal) (E : Fin 16 → EReal) (hg : ∀ j, ⊥ < g j ∧ g j < ⊤) (hE : ∀ e, ⊥ < E e ∧ E e < ⊤)
    (gs i0 i1 : Fin 4) (v0 v1 : EReal) (hv0 : v0 = E (expertOf gs i0)) (hv1 : v1 = E (expertOf gs i1)) (S : EReal)
    (hS : S = Ideal.exp (v0 - v0) + Ideal.exp (v1 - v0)) (T : EReal) (hT : T = ∑ j, Ideal.exp (g j - g gs)) :
    Ideal.div (Ideal.exp (v0 - v0)) S * Ideal.div (Ideal.exp (g gs - g gs)) T
        = Ideal.div (groupWeight g gs) (1 + ratio E gs i0 i1)
    ∧ Ideal.div (Ideal.exp (v1 - v0)) S * Ideal.div (Ideal.exp (g gs - g gs)) T
        = Ideal.div (groupWeight g gs * ratio E gs i0 i1) (1 + ratio E gs i0 i1) := by
  obtain ⟨a, ha⟩ : ∃ a : Fin 4 → ℝ, ∀ j, g j = (a j : EReal) :=
    ⟨fun j => (g j).toReal, fun j => (EReal.coe_toReal (hg j).2.ne (hg j).1.ne').symm⟩
  obtain ⟨b, hb⟩ : ∃ b : Fin 16 → ℝ, ∀ j, E j = (b j : EReal) :=
    ⟨fun j => (E j).toReal, fun j => (EReal.coe_toReal (hE j).2.ne (hE j).1.ne').symm⟩
  have hTr : T = ((∑ j, Real.exp (a j - a gs) : ℝ) : EReal) := by
    rw [hT, Fin.sum_univ_four, Fin.sum_univ_four]
    simp only [ha, ← EReal.coe_sub, Ideal.exp_coe, ← EReal.coe_add]
  have hTp : (0 : ℝ) < ∑ j, Real.exp (a j - a gs) :=
    Finset.sum_pos (fun j _ => Real.exp_pos _) ⟨0, Finset.mem_univ _⟩
  subst hv0 hv1
  rw [hS]
  unfold groupWeight ratio
  rw [← hT, hTr]
  generalize (∑ j, Real.exp (a j - a gs)) = t at hTp
  simp only [ha, hb, ← EReal.coe_sub, Ideal.exp_coe, sub_self, Real.exp_zero]
  have hep : 0 < Real.exp (b (expertOf gs i1) - b (expertOf gs i0)) := Real.exp_pos _
  generalize Real.exp (b (expertOf gs i1) - b (expertOf gs i0)) = q at hep
  rw [show (1 : EReal) = ((1 : ℝ) : EReal) from rfl, ← EReal.coe_add,
    Ideal.div_coe hTp.ne']
  simp only [Ideal.div_coe (show (1 : ℝ) + q ≠ 0 by positivity), ← EReal.coe_mul]
  constructor <;> exact congrArg _ (by ring)

end Cert.Moe
-- ==== Proof.Moe.KernelRoute.lean ====
module
public import proofs.«01_k».proof.Proof.Gen.KernelIdeal.Skeleton
public import proofs.«01_k».proof.Proof.Moe.Route
public import Idealize.ShloMosaic.Lib.Pointwise

/-! The kernel's router on one block, read at a row: from the row's 128 logits to the weights of the experts. -/

@[expose] public section
set_option maxRecDepth 16384
noncomputable section
namespace Cert.Moe
open Cert.KernelIdeal Cert.KernelIdeal.Gen Idealize.ShloMosaic

/-- The word of minus infinity. -/
theorem ofBits_neg_inf : Ideal.ofBits .f32 4286578688#32 = ⊥ := by simp [Ideal.ofBits, Ideal.ieee]

/-- Selecting on a condition's bit is choosing on the condition. -/
theorem select_ite {α : Type} (p : Prop) [Decidable p] (a b : α) :
    Scalar.select (if p then 1#1 else 0#1) a b = if p then a else b := by
  unfold Scalar.select; split <;> simp

theorem slt_four : ∀ l : Fin 128, IntOp.cmpi .slt (BitVec.ofNat 32 l.val) 4#32 = if l.val < 4 then 1#1 else 0#1 := by
  decide +kernel

/-- The lanes of group `g`'s experts. -/
theorem group_lanes : ∀ g : Fin 4, ∀ l : Fin 128,
    IntOp.andi (IntOp.cmpi .sge (BitVec.ofNat 32 l.val) (IntOp.addi 4#32 (IntOp.muli 4#32 (BitVec.ofNat 32 g.val))))
      (IntOp.cmpi .slt (BitVec.ofNat 32 l.val) (IntOp.addi (IntOp.addi 4#32 (IntOp.muli 4#32 (BitVec.ofNat 32 g.val))) 4#32))
    = if 4 + 4 * g.val ≤ l.val ∧ l.val < 4 + 4 * g.val + 4 then 1#1 else 0#1 := by
  decide +kernel

/-- Lane numbers below 128 are equal words exactly if they are equal. -/
theorem eq_lanes : ∀ l k : Fin 128,
    IntOp.cmpi .eq (BitVec.ofNat 32 l.val) (BitVec.ofNat 32 k.val) = if l.val = k.val then 1#1 else 0#1 := by
  decide +kernel

section
variable (v19 : FVec Ideal S512x128 .f32) (v32 : IVec S512x1 32) (v37 v38 : FVec Ideal S512x1 .f32) (r : Fin 512)
  (L : Fin 128 → EReal) (hL : ∀ l, v19 (ix2 r l) = L l)
  (hfin : ∀ l : Fin 128, l.val < 20 → ⊥ < L l) (gs : Fin 4) (hgs : v32 (ix2 r 0) = BitVec.ofNat 32 gs.val)

/-- The logits of the group's four experts. -/
abbrev groupLogits (L : Fin 128 → EReal) (gs : Fin 4) (k : Fin 4) : EReal := L ⟨4 + 4 * gs.val + k.val, by omega⟩

include hL hgs in
/-- The masked row: the chosen group's logits, the bottom elsewhere. -/
theorem pay10_apply (l : Fin 128) :
    k0_pay10 (F := Ideal) v19 (iota .tc S512x128 32 [1] iota_S512x128_d1_w32) v32 (ix2 r l)
      = lanes (4 + 4 * gs.val) (groupLogits L gs) l := by
  pointwise [k0_pay10]
  rw [hgs, group_lanes, select_ite, ofBits_neg_inf, hL]
  unfold lanes
  by_cases h : 4 + 4 * gs.val ≤ l.val ∧ l.val < 4 + 4 * gs.val + 4
  · rw [if_pos h, dif_pos h]
    refine congrArg L (Fin.ext ?_)
    show l.val = _
    simp only; omega
  · rw [if_neg h, dif_neg h]

include hL hgs hfin in
/-- The greatest logit of the group and the lane that holds it. -/
theorem pay11_12_apply (i0 : Fin 4) (h0 : FirstMax (groupLogits L gs) i0) :
    k0_pay11 (F := Ideal) v19 (iota .tc S512x128 32 [1] iota_S512x128_d1_w32) v32 (ix2 r 0) = groupLogits L gs i0
    ∧ k0_pay12 (F := Ideal) v19 (iota .tc S512x128 32 [1] iota_S512x128_d1_w32) v32 (ix2 r 0)
      = BitVec.ofNat 32 (4 + 4 * gs.val + i0.val) := by
  have hm := lanes_firstMax (4 + 4 * gs.val) (groupLogits L gs) (by omega) (fun k => hfin _ (by simp only; omega)) i0 h0
  have h11 : k0_pay11 (F := Ideal) v19 (iota .tc S512x128 32 [1] iota_S512x128_d1_w32) v32 (ix2 r 0)
      = lanes (4 + 4 * gs.val) (groupLogits L gs) ⟨4 + 4 * gs.val + i0.val, by omega⟩ := by
    pointwise [k0_pay11]
    rw [ofBits_neg_inf]
    simp only [pay10_apply v19 v32 r L hL gs hgs]
    exact fold_max_eq (lanes (4 + 4 * gs.val) (groupLogits L gs)) hm.1
  refine ⟨h11.trans (lanes_at _ _ _ (by omega)), ?_⟩
  pointwise [k0_pay12]
  rw [h11]
  simp only [pay10_apply v19 v32 r L hL gs hgs]
  exact fold_minsi_eq (by omega) (lanes (4 + 4 * gs.val) (groupLogits L gs)) hm

include hL hgs hfin in
/-- The second greatest logit of the group and the lane that holds it. -/
theorem pay14_15_apply (i0 i1 : Fin 4) (h0 : FirstMax (groupLogits L gs) i0) (h1 : SecondMax (groupLogits L gs) i0 i1) :
    k0_pay14 (F := Ideal) v19 (iota .tc S512x128 32 [1] iota_S512x128_d1_w32) v32 (ix2 r 0) = groupLogits L gs i1
    ∧ k0_pay15 (F := Ideal) v19 (iota .tc S512x128 32 [1] iota_S512x128_d1_w32) v32 (ix2 r 0)
      = BitVec.ofNat 32 (4 + 4 * gs.val + i1.val) := by
  have hm := lanes_secondMax (4 + 4 * gs.val) (groupLogits L gs) (by omega) (fun k => hfin _ (by simp only; omega)) i0 i1 h1
  have h13 : ∀ l : Fin 128, k0_pay13 (F := Ideal) v19 (iota .tc S512x128 32 [1] iota_S512x128_d1_w32) v32 (ix2 r l)
      = struck (4 + 4 * gs.val) (groupLogits L gs) i0 l := by
    intro l
    pointwise [k0_pay13]
    rw [(pay11_12_apply v19 v32 r L hL hfin gs hgs i0 h0).2, pay10_apply v19 v32 r L hL gs hgs, ofBits_neg_inf,
      show BitVec.ofNat 32 (4 + 4 * gs.val + i0.val) = BitVec.ofNat 32 (⟨4 + 4 * gs.val + i0.val, by omega⟩ : Fin 128).val from rfl,
      eq_lanes, select_ite]
    rfl
  have h14 : k0_pay14 (F := Ideal) v19 (iota .tc S512x128 32 [1] iota_S512x128_d1_w32) v32 (ix2 r 0)
      = struck (4 + 4 * gs.val) (groupLogits L gs) i0 ⟨4 + 4 * gs.val + i1.val, by omega⟩ := by
    pointwise [k0_pay14]
    rw [ofBits_neg_inf]
    simp only [h13]
    exact fold_max_eq (struck (4 + 4 * gs.val) (groupLogits L gs) i0) hm.1
  refine ⟨h14.trans ?_, ?_⟩
  · have hne : ¬ 4 + 4 * gs.val + i1.val = 4 + 4 * gs.val + i0.val := fun h => h1.1 (Fin.ext (by omega))
    unfold struck
    rw [if_neg hne]
    exact lanes_at _ _ _ (by omega)
  pointwise [k0_pay15]
  rw [h14]
  simp only [h13]
  exact fold_minsi_eq (by omega) (struck (4 + 4 * gs.val) (groupLogits L gs) i0) hm

end

/-- The weights: with the row's first twenty logits above minus infinity, the kernel's row of weights is the relation's. -/
theorem pay20_isComb (x : Vec Ideal S512x1024 .f32) (wh wl wh' : Vec Ideal S1024x128 .bf16) (br : Vec Ideal S1x128 .f32)
    (r : Fin 512) (L : Fin 128 → EReal) (hL : ∀ l, k0_pay3 (F := Ideal) x wh wl wh' br (ix2 r l) = L l)
    (hfin : ∀ l : Fin 128, l.val < 20 → ⊥ < L l) :
    IsComb (fun j => L ⟨j.val, by omega⟩) (fun e => L ⟨4 + e.val, by omega⟩) (fun e =>
      k0_pay20 (F := Ideal) (iota .tc S512x128 32 [1] iota_S512x128_d1_w32)
        (k0_pay15 (k0_pay3 x wh wl wh' br) (iota .tc S512x128 32 [1] iota_S512x128_d1_w32) (k0_pay6 x wh wl wh' br))
        (k0_pay17 (k0_pay3 x wh wl wh' br) (iota .tc S512x128 32 [1] iota_S512x128_d1_w32) (k0_pay6 x wh wl wh' br) (k0_pay7 x wh wl wh' br) k0_pay8)
        (k0_pay18 (k0_pay3 x wh wl wh' br) (iota .tc S512x128 32 [1] iota_S512x128_d1_w32) (k0_pay6 x wh wl wh' br))
        (FloatOps.ofBits .f32 0#32)
        (k0_pay19 (k0_pay3 x wh wl wh' br) (iota .tc S512x128 32 [1] iota_S512x128_d1_w32) (k0_pay6 x wh wl wh' br) (k0_pay7 x wh wl wh' br) k0_pay8)
        (ix2 r ⟨4 + e.val, by omega⟩)) := by
  obtain ⟨gs, -, hg, -⟩ := exists_two (fun j : Fin 4 => L ⟨j.val, by omega⟩)
  have hm := lanes_firstMax 0 (fun j : Fin 4 => L ⟨j.val, by omega⟩) (by omega) (fun k => hfin _ (by simp only; omega)) gs hg
  rw [show (⟨0 + gs.val, by omega⟩ : Fin 128) = ⟨gs.val, by omega⟩ from Fin.ext (Nat.zero_add _)] at hm
  have h4 : ∀ l : Fin 128, k0_pay4 (F := Ideal) x wh wl wh' br (ix2 r l) = lanes 0 (fun j : Fin 4 => L ⟨j.val, by omega⟩) l := by
    intro l
    pointwise [k0_pay4]
    rw [slt_four, select_ite, ofBits_neg_inf, hL]
    unfold lanes
    by_cases h : l.val < 4
    · rw [if_pos h, dif_pos ⟨Nat.zero_le _, by omega⟩]; rfl
    · rw [if_neg h, dif_neg (by omega)]
  have h5 : k0_pay5 (F := Ideal) x wh wl wh' br (ix2 r 0) = lanes 0 (fun j : Fin 4 => L ⟨j.val, by omega⟩) ⟨gs.val, by omega⟩ := by
    pointwise [k0_pay5]
    rw [ofBits_neg_inf]
    simp only [h4]
    exact fold_max_eq (lanes 0 fun j : Fin 4 => L ⟨j.val, by omega⟩) hm.1
  have h6 : k0_pay6 (F := Ideal) x wh wl wh' br (ix2 r 0) = BitVec.ofNat 32 gs.val := by
    pointwise [k0_pay6]
    rw [h5]
    simp only [h4]
    refine fold_minsi_eq (by omega) (lanes 0 fun j : Fin 4 => L ⟨j.val, by omega⟩) hm
  have low : ∀ j : Fin 4, lanes 0 (fun j : Fin 4 => L ⟨j.val, by omega⟩) ⟨j.val, by omega⟩ = L ⟨j.val, by omega⟩ := by
    intro j
    unfold lanes
    rw [dif_pos ⟨Nat.zero_le _, by simp only; omega⟩]
    rfl
  have h5' := h5.trans (low gs)
  have h7 : k0_pay7 (F := Ideal) x wh wl wh' br (ix2 r 0) = ∑ j : Fin 4, Ideal.exp (L ⟨j.val, by omega⟩ - L ⟨gs.val, by omega⟩) := by
    pointwise [k0_pay7]
    rw [h5']
    simp only [h4]
    refine (sum_first_four _ fun l hl => ?_).trans ?_
    · have : lanes 0 (fun j : Fin 4 => L ⟨j.val, by omega⟩) l = ⊥ := by
        unfold lanes
        rw [dif_neg (by omega)]
      rw [this, EReal.bot_sub, Ideal.exp_bot]
    · simp only [low]
  have h8 : k0_pay8 (F := Ideal) (ix2 r 0) = 1 := by pointwise [k0_pay8]
  obtain ⟨i0, i1, h0, h1⟩ := exists_two (groupLogits L gs)
  have hEq : ∀ k : Fin 4, (⟨4 + (expertOf gs k).val, by omega⟩ : Fin 128) = ⟨4 + 4 * gs.val + k.val, by omega⟩ :=
    fun k => Fin.ext (by unfold expertOf; simp only; omega)
  have hEl : (fun k => (fun e : Fin 16 => L ⟨4 + e.val, by omega⟩) (expertOf gs k)) = groupLogits L gs := by
    funext k; exact congrArg L (hEq k)
  refine ⟨gs, i0, i1, hg, by rw [hEl]; exact h0, by rw [hEl]; exact h1, fun e => ?_⟩
  obtain ⟨h11, h12⟩ := pay11_12_apply (k0_pay3 x wh wl wh' br) (k0_pay6 x wh wl wh' br) r L hL hfin gs h6 i0 h0
  obtain ⟨h14, h15⟩ := pay14_15_apply (k0_pay3 x wh wl wh' br) (k0_pay6 x wh wl wh' br) r L hL hfin gs h6 i0 i1 h0 h1
  have h16 : k0_pay16 (F := Ideal) (k0_pay3 x wh wl wh' br) (iota .tc S512x128 32 [1] iota_S512x128_d1_w32) (k0_pay6 x wh wl wh' br) (ix2 r 0)
      = ratio (fun e : Fin 16 => L ⟨4 + e.val, by omega⟩) gs i0 i1 := by
    pointwise [k0_pay16]
    rw [h11, h14]
    unfold ratio
    simp only [hEq]
  have h9 : k0_pay9 (F := Ideal) (k0_pay7 x wh wl wh' br) k0_pay8 (ix2 r 0) = groupWeight (fun j : Fin 4 => L ⟨j.val, by omega⟩) gs := by
    pointwise [k0_pay9]
    rw [h7, h8]; rfl
  have cond : ∀ k : Fin 4, IntOp.cmpi .eq (BitVec.ofNat 32 (4 + e.val)) (BitVec.ofNat 32 (4 + 4 * gs.val + k.val))
      = if e = expertOf gs k then 1#1 else 0#1 := by
    intro k
    have := eq_lanes ⟨4 + e.val, by omega⟩ ⟨4 + 4 * gs.val + k.val, by omega⟩
    simp only at this
    rw [this]
    refine if_congr ?_ rfl rfl
    rw [Fin.ext_iff]; unfold expertOf; simp only; omega
  unfold combWeight
  pointwise [k0_pay20, k0_pay18, k0_pay17, k0_pay19]
  rw [h12, h15, h16, h9, cond, cond, select_ite, select_ite]

end Cert.Moe
-- ==== Proof.Moe.KernelBlock.lean ====
module
public import proofs.«01_k».proof.Proof.Gen.KernelIdeal.Value
public import proofs.«01_k».proof.Proof.Moe.KernelRoute
public import Idealize.ShloMosaic.Lib.Pipeline.ValueKit

/-! What one grid point writes, as a function of the block's token rows and the weights. -/

@[expose] public section
set_option maxRecDepth 16384
noncomputable section
namespace Cert.Moe
open Cert.KernelIdeal Cert.KernelIdeal.Gen Idealize.ShloMosaic Idealize.ShloMosaic.Pipeline

/-- A load of a whole array reads the array. -/
theorem load_whole {S : Shape} {e : EltTy} {arg : Memref sig .tc .vmem S e} (harg : arg.IsWhole) (X : Vec Ideal S e)
    (off : Fin S.rank → Nat) (hoff : off = fun _ => 0) (inb : ∀ a, off a + S.size a ≤ S.size a) :
    View.readAt (Elt Ideal) arg.view (Rect.unit off S.size inb).toLoadRect (harg.unread X) = X :=
  ((congrArg (fun Y => View.ld Y (Rect.unit off S.size inb)) (harg.read_unread X))).trans (View.ld_unit_zero hoff inb X)

/-- A load of one expert's slab reads that expert's matrix. -/
theorem load_slab {arg : Memref sig .tc .vmem S16x1024x256 .bf16} (harg : arg.IsWhole) (X : Vec Ideal S16x1024x256 .bf16)
    (e : Nat) (he : e < 16) (inb : ∀ a, (![e, 0, 0] : Fin 3 → Nat) a + S1x1024x256.size a ≤ S16x1024x256.size a) :
    View.readAt (Elt Ideal) arg.view (Rect.unit (s := S16x1024x256) ![e, 0, 0] S1x1024x256.size inb).toLoadRect (harg.unread X)
      = fun y => X (ix3 ⟨e, he⟩ (y 1) (y 2)) := by
  funext y
  refine (congrArg (fun Y => View.ld Y (Rect.unit (s := S16x1024x256) ![e, 0, 0] S1x1024x256.size inb) y) (harg.read_unread X)).trans ?_
  refine View.ld_unit_apply_of X _ _ inb y _ fun a => ?_
  match a with
  | ⟨0, _⟩ => have : (y 0).val < 1 := (y 0).isLt; show e = e + (y 0).val; omega
  | ⟨1, _⟩ => exact (Nat.zero_add _).symm
  | ⟨2, _⟩ => exact (Nat.zero_add _).symm

/-- The weights of the block's rows, as the kernel computes them. -/
def blockComb (x : Vec Ideal S512x1024 .f32) (wh wl : Vec Ideal S1024x128 .bf16) (br : Vec Ideal S1x128 .f32) : FVec Ideal S512x128 .f32 :=
  k0_pay20 (F := Ideal) (iota .tc S512x128 32 [1] iota_S512x128_d1_w32)
        (k0_pay15 (k0_pay3 x wh wl wh br) (iota .tc S512x128 32 [1] iota_S512x128_d1_w32) (k0_pay6 x wh wl wh br))
        (k0_pay17 (k0_pay3 x wh wl wh br) (iota .tc S512x128 32 [1] iota_S512x128_d1_w32) (k0_pay6 x wh wl wh br) (k0_pay7 x wh wl wh br) k0_pay8)
        (k0_pay18 (k0_pay3 x wh wl wh br) (iota .tc S512x128 32 [1] iota_S512x128_d1_w32) (k0_pay6 x wh wl wh br))
        (FloatOps.ofBits .f32 0#32)
        (k0_pay19 (k0_pay3 x wh wl wh br) (iota .tc S512x128 32 [1] iota_S512x128_d1_w32) (k0_pay6 x wh wl wh br) (k0_pay7 x wh wl wh br) k0_pay8)

/-- One entry of a token's hidden layer: expert `e`'s gated unit `f`, weighted by `c e`. -/
def hiddenOf (x : Fin 1024 → EReal) (w1 w3 : FVec Ideal S16x1024x256 .bf16) (c : Fin 16 → EReal) (e : Fin 16) (f : Fin 256) : EReal :=
  (∑ k : Fin 1024, x k * w1 (ix3 e k f)) * Ideal.div 1 (1 + Ideal.exp (0 - ∑ k : Fin 1024, x k * w1 (ix3 e k f)))
    * (∑ k : Fin 1024, x k * w3 (ix3 e k f)) * c e

/-- The same for row `r` of a block of rows. -/
def hiddenAt (x : Vec Ideal S512x1024 .f32) (w1 w3 : Vec Ideal S16x1024x256 .bf16) (C : FVec Ideal S512x128 .f32)
    (r : Fin 512) (e : Fin 16) (f : Fin 256) : EReal :=
  hiddenOf (fun k => x (ix2 r k)) w1 w3 (fun e => C (ix2 r ⟨4 + e.val, by omega⟩)) e f

theorem zero_zero : (![0, 0] : Fin 2 → Nat) = fun _ => 0 := by
  funext a
  match a with
  | ⟨0, _⟩ => rfl
  | ⟨1, _⟩ => rfl

variable (c : Dev nD) (arg1 : Memref sig .tc .vmem S512x1024 .f32) (harg1 : arg1.IsWhole)
  (arg2 : Memref sig .tc .vmem S1024x128 .bf16) (harg2 : arg2.IsWhole) (arg3 : Memref sig .tc .vmem S1024x128 .bf16) (harg3 : arg3.IsWhole)
  (arg4 : Memref sig .tc .vmem S1x128 .f32) (harg4 : arg4.IsWhole)
  (arg5 : Memref sig .tc .vmem S16x1024x256 .bf16) (harg5 : arg5.IsWhole)
  (arg6 : Memref sig .tc .vmem S16x1024x256 .bf16) (harg6 : arg6.IsWhole)
  (arg11 : Memref sig .tc .vmem S512x4096 .bf16)
  (x : Vec Ideal S512x1024 .f32) (wh wl : Vec Ideal S1024x128 .bf16) (br : Vec Ideal S1x128 .f32)
  (w1 w3 : Vec Ideal S16x1024x256 .bf16)

/-- The weights the run computes are `blockComb` of its loads. -/
theorem run_comb : kernelRun0_A.sl.r_9 c arg1 harg1 arg2 harg2 arg3 harg3 arg4 harg4 x wh wl br = blockComb x wh wl br := by
  simp only [kernelRun0_A.sl.r_9, kernelRun0_A.sl.r_2, kernelRun0_A.sl.r_3, kernelRun0_A.sl.r_4, kernelRun0_A.sl.r_5, kernelRun0_A.sl.r_6, kernelRun0_A.sl.r_7,
    kernelRun0_A.sl.r_8, kernelRun0_A.sl.v20]
  rw [load_whole harg1 x _ zero_zero, load_whole harg2 wh _ zero_zero, load_whole harg3 wl _ zero_zero, load_whole harg4 br _ zero_zero]
  rfl

/-- The rows the run computes with. -/
theorem run_rows : kernelRun0_A.sl.r_1 c arg1 harg1 x = k0_pay2 x := by
  simp only [kernelRun0_A.sl.r_1]
  rw [load_whole harg1 x _ zero_zero]

/-- The hidden layer's entry at column `256 e + f`. -/
theorem hiddenAt_split (C : FVec Ideal S512x128 .f32) (r r' : Fin 512) (q : Fin 4096) (e : Fin 16) (f : Fin 256) (hr : r.val = r'.val)
    (hq : q.val = 256 * e.val + f.val) :
    hiddenAt x w1 w3 C r ⟨q.val / 256, by omega⟩ ⟨q.val % 256, by omega⟩ = hiddenAt x w1 w3 C r' e f := by
  obtain rfl : r = r' := Fin.ext hr
  congr 1
  · exact Fin.ext (by simp only; omega)
  · exact Fin.ext (by simp only; omega)

/-- The hidden layer the run leaves in its scratch. -/
theorem run_hidden (r : Fin 512) (q : Fin 4096) :
    kernelRun0_A.sl.v449 c arg1 harg1 arg2 harg2 arg3 harg3 arg4 harg4 arg5 harg5 arg6 harg6 arg11 x wh wl br w1 w3 (ix2 r q)
      = hiddenAt x w1 w3 (blockComb x wh wl br) r ⟨q.val / 256, by omega⟩ ⟨q.val % 256, by omega⟩ := by
  unfold kernelRun0_A.sl.v449
  rw [View.readCov_eq_canon']
  simp only [kernelRun0_A.sl.HS0_16]
  canon_tiles y h
  all_goals
    obtain ⟨r', f, rfl⟩ : ∃ r' f, y = ix2 r' f := ⟨y 0, y 1, by funext a; match a with | ⟨0, _⟩ => rfl | ⟨1, _⟩ => rfl⟩
    rw [Rect.idx_unit_val] at h0 h1
    simp only [ix2, Matrix.cons_val_zero, Matrix.cons_val_one, Nat.zero_add] at h0 h1
  · refine Eq.trans ?_ (hiddenAt_split x w1 w3 (blockComb x wh wl br) r r' q 15 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 15 (by decide), load_slab harg6 w3 15 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 14 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 14 (by decide), load_slab harg6 w3 14 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 13 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 13 (by decide), load_slab harg6 w3 13 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 12 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 12 (by decide), load_slab harg6 w3 12 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 11 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 11 (by decide), load_slab harg6 w3 11 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 10 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 10 (by decide), load_slab harg6 w3 10 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 9 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 9 (by decide), load_slab harg6 w3 9 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 8 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 8 (by decide), load_slab harg6 w3 8 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 7 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 7 (by decide), load_slab harg6 w3 7 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 6 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 6 (by decide), load_slab harg6 w3 6 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 5 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 5 (by decide), load_slab harg6 w3 5 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 4 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 4 (by decide), load_slab harg6 w3 4 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 3 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 3 (by decide), load_slab harg6 w3 3 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 2 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 2 (by decide), load_slab harg6 w3 2 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 1 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 1 (by decide), load_slab harg6 w3 1 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 0 f h0 (by simpa using h1)).symm
    have hc : k0_pay20 kernelRun0_A.sl.v20 (kernelRun0_A.sl.r_5 c arg1 harg1 arg2 harg2 arg3 harg3 arg4 harg4 x wh wl br)
        (kernelRun0_A.sl.r_6 c arg1 harg1 arg2 harg2 arg3 harg3 arg4 harg4 x wh wl br)
        (kernelRun0_A.sl.r_7 c arg1 harg1 arg2 harg2 arg3 harg3 arg4 harg4 x wh wl br) kernelRun0_A.sl.cst_29
        (kernelRun0_A.sl.r_8 c arg1 harg1 arg2 harg2 arg3 harg3 arg4 harg4 x wh wl br) = blockComb x wh wl br :=
      run_comb c arg1 harg1 arg2 harg2 arg3 harg3 arg4 harg4 x wh wl br
    rw [run_rows, load_slab harg5 w1 0 (by decide), load_slab harg6 w3 0 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
    rw [hc]

/-- The layer norm of one row `y` at column `d`. -/
def normAt (y : Fin 1024 → EReal) (g b : EReal) (d : Fin 1024) : EReal :=
  (y d - Ideal.div (∑ k, y k) (Ideal.ofBits .f32 1149239296#32))
    * Ideal.rsqrt (Ideal.div (∑ k, (y k - Ideal.div (∑ k, y k) (Ideal.ofBits .f32 1149239296#32))
        * (y k - Ideal.div (∑ k, y k) (Ideal.ofBits .f32 1149239296#32))) (Ideal.ofBits .f32 1149239296#32)
      + Ideal.ofBits .f32 925353388#32) * g + b

/-- A token's row before the layer norm: the scaled residual plus the experts' output. -/
def rowOf (x : Fin 1024 → EReal) (w1 w3 : FVec Ideal S16x1024x256 .bf16) (w2 : FVec Ideal S4096x1024 .bf16)
    (c : Fin 16 → EReal) (d : Fin 1024) : EReal :=
  Ideal.ofBits .f32 0x3FD744FD#32 * x d
    + ∑ q : Fin 4096, hiddenOf x w1 w3 c ⟨q.val / 256, by omega⟩ ⟨q.val % 256, by omega⟩ * w2 (ix2 q d)

/-- The same for row `r` of a block of rows. -/
def rowAt (x : Vec Ideal S512x1024 .f32) (w1 w3 : Vec Ideal S16x1024x256 .bf16) (w2 : Vec Ideal S4096x1024 .bf16)
    (C : FVec Ideal S512x128 .f32) (r : Fin 512) (d : Fin 1024) : EReal :=
  Ideal.ofBits .f32 0x3FD744FD#32 * x (ix2 r d)
    + ∑ q : Fin 4096, hiddenAt x w1 w3 C r ⟨q.val / 256, by omega⟩ ⟨q.val % 256, by omega⟩ * w2 (ix2 q d)

variable (i : grid0.Coords) (arg7 : Memref sig .tc .vmem S4096x1024 .bf16) (harg7 : arg7.IsWhole)
  (arg8 : Memref sig .tc .vmem S1x1024 .f32) (harg8 : arg8.IsWhole) (arg9 : Memref sig .tc .vmem S1x1024 .f32) (harg9 : arg9.IsWhole)
  (arg10 : Memref sig .tc .vmem S512x1024 .f32) (harg10 : arg10.IsWhole) (harg11 : arg11.IsWhole)
  (w2 : Vec Ideal S4096x1024 .bf16) (g b : Vec Ideal S1x1024 .f32)

/-- The body's output block at `(r, d)`. -/
theorem out_apply (r : Fin 512) (d : Fin 1024) :
    out0_A_9 c i arg1 harg1 arg2 harg2 arg3 harg3 arg4 harg4 arg5 harg5 arg6 harg6 arg7 harg7 arg8 harg8 arg9 harg9 arg10 harg10
        arg11 harg11 x wh wl br w1 w3 w2 g b (ix2 r d)
      = normAt (rowAt x w1 w3 w2 (blockComb x wh wl br) r) (g (ix2 0 d)) (b (ix2 0 d)) d := by
  unfold out0_A_9 kernelRun0_A
  dsimp only
  refine (View.read_writes_junk_apply_eq_canon _ _ _).trans ((congrFun (View.canon_cons_unit_zero zero_zero _ _ []) _).trans ?_)
  simp only [kernelRun0_A.sl.r_28, kernelRun0_A.sl.r]
  rw [load_whole harg1 x _ zero_zero, load_whole harg7 w2 _ zero_zero, load_whole harg8 g _ zero_zero, load_whole harg9 b _ zero_zero]
  unfold normAt rowAt
  simp only [← run_hidden c arg1 harg1 arg2 harg2 arg3 harg3 arg4 harg4 arg5 harg5 arg6 harg6 arg11]
  pointwise [k0_pay1, k0_pay55]

/-- What a grid point writes at `(r, d)` of its block. -/
theorem block_apply (m : (ℓ : Loc nD τ sig) → Buf (Elt Ideal) ℓ) (c : Dev nD) (t : Fin cfg0.N) (r : Fin 512) (d : Fin 1024) :
    outsAt0 (F := Ideal) m c t (ix2 r d)
      = normAt (rowAt (iblk m c 0 t) (iblk m c 4 t) (iblk m c 5 t) (iblk m c 6 t)
          (blockComb (iblk m c 0 t) (iblk m c 1 t) (iblk m c 2 t) (iblk m c 3 t)) r)
        (iblk m c 7 t (ix2 0 d)) (iblk m c 8 t (ix2 0 d)) d := by
  unfold outsAt0
  exact out_apply ..
end Cert.Moe
-- ==== Proof.Moe.Entry.lean ====
module
public import proofs.«01_k».proof.Proof.Moe.KernelBlock
public import Idealize.ShloMosaic.Lib.Pipeline.ValueKit

/-! What the host prepares for the kernel: the packed router weights and biases, the experts' weights. -/

@[expose] public section
set_option maxRecDepth 16384
noncomputable section
namespace Cert.Moe
open Cert.KernelIdeal Cert.KernelIdeal.Gen Idealize.ShloMosaic Idealize.ShloMosaic.Pipeline Idealize.ShloMosaic.TcCoe Idealize.SL.Sem

/-- The packed router weights: the groups' columns, the experts' columns, zeros. -/
def packW (A : FVec Ideal S1024x4 .f32) (B : FVec Ideal S1024x16 .f32) : FVec Ideal S1024x128 .f32 :=
  concatenate S1024x128 1 [⟨S1024x4, A⟩, ⟨S1024x16, B⟩,
      ⟨S1024x108, broadcastInDim S1024x108 ![] bcast_S_S1024x108 (constant S_ .f32 0x00000000#32 : FVec Ideal S_ .f32)⟩] concatenates_S1024x4_S1024x16_S1024x108_S1024x128_d1

/-- The packed router biases. -/
def packB (a : FVec Ideal S4 .f32) (b : FVec Ideal S16 .f32) : FVec Ideal S128 .f32 :=
  concatenate S128 0 [⟨S4, a⟩, ⟨S16, b⟩,
      ⟨S108, broadcastInDim S108 ![] bcast_S_S108 (constant S_ .f32 0x00000000#32 : FVec Ideal S_ .f32)⟩] concatenates_S4_S16_S108_S128_d0

/-- The router's weight at lane `l`: the groups' columns, the experts' columns, and zeros. -/
def laneWeight (A : FVec Ideal S1024x4 .f32) (B : FVec Ideal S1024x16 .f32) (k : Fin 1024) (l : Fin 128) : EReal :=
  if h : l.val < 4 then A (ix2 k ⟨l.val, h⟩) else if h' : l.val < 20 then B (ix2 k ⟨l.val - 4, by omega⟩) else 0

/-- The router's bias at lane `l`. -/
def laneBias (a : FVec Ideal S4 .f32) (b : FVec Ideal S16 .f32) (l : Fin 128) : EReal :=
  if h : l.val < 4 then a (ix1 ⟨l.val, h⟩) else if h' : l.val < 20 then b (ix1 ⟨l.val - 4, by omega⟩) else 0

theorem packW_apply (A : FVec Ideal S1024x4 .f32) (B : FVec Ideal S1024x16 .f32) (k : Fin 1024) (l : Fin 128) :
    packW A B (ix2 k l) = laneWeight A B k l := by
  pointwise [packW]
  unfold laneWeight
  by_cases h : l.val < 4
  · rw [dif_pos h, dif_pos h]
  · rw [dif_neg h, dif_neg h]
    by_cases h' : l.val < 20
    · rw [dif_pos h', dif_pos (by omega)]
    · rw [dif_neg h', dif_neg (by omega)]
theorem packB_apply (a : FVec Ideal S4 .f32) (b : FVec Ideal S16 .f32) (l : Fin 128) :
    packB a b (ix1 l) = laneBias a b l := by
  pointwise [packB]
  unfold laneBias
  by_cases h : l.val < 4
  · rw [dif_pos h, dif_pos h]
  · rw [dif_neg h, dif_neg h]
    by_cases h' : l.val < 20
    · rw [dif_pos h', dif_pos (by omega)]
    · rw [dif_neg h', dif_neg (by omega)]

variable (m : (ℓ : Loc nD τ sig) → Buf (Elt Ideal) ℓ) (c : Dev nD)
theorem entry_v2 (k : Fin 1024) (l : Fin 128) : V m c main_v2 (ix2 k l)
    = laneWeight (m ((c : Thread nD τ).loc main_arg1)) (m ((c : Thread nD τ).loc main_arg3)) k l := by
  have h : V m c main_v2 = truncf .bf16 (packW (m ((c : Thread nD τ).loc main_arg1)) (m ((c : Thread nD τ).loc main_arg3))) bitsLt_bf16_f32 := rfl
  rw [h]
  exact packW_apply ..
theorem entry_v5 (k : Fin 1024) (l : Fin 128) : V m c main_v5 (ix2 k l)
    = laneWeight (m ((c : Thread nD τ).loc main_arg1)) (m ((c : Thread nD τ).loc main_arg3)) k l
      - laneWeight (m ((c : Thread nD τ).loc main_arg1)) (m ((c : Thread nD τ).loc main_arg3)) k l := by
  have h : V m c main_v5 = truncf .bf16 (subf (packW (m ((c : Thread nD τ).loc main_arg1)) (m ((c : Thread nD τ).loc main_arg3)))
    (extf .f32 (truncf .bf16 (packW (m ((c : Thread nD τ).loc main_arg1)) (m ((c : Thread nD τ).loc main_arg3))) bitsLt_bf16_f32) bitsLt_bf16_f32)) bitsLt_bf16_f32 := rfl
  rw [h, ← packW_apply]
  rfl
theorem entry_v8 (l : Fin 128) : V m c main_v8 (ix2 0 l)
    = laneBias (m ((c : Thread nD τ).loc main_arg2)) (m ((c : Thread nD τ).loc main_arg4)) l := by
  have h : V m c main_v8 = shapeCast S1x128 (packB (m ((c : Thread nD τ).loc main_arg2)) (m ((c : Thread nD τ).loc main_arg4))) shapeCasts_S128_S1x128 := rfl
  rw [h, ← packB_apply]
  pointwise []
theorem entry_v9 (e : Fin 16) (k : Fin 1024) (f : Fin 256) : V m c main_v9 (ix3 e k f) = m ((c : Thread nD τ).loc main_arg5) (ix3 e k f) := rfl
theorem entry_v10 (e : Fin 16) (k : Fin 1024) (f : Fin 256) : V m c main_v10 (ix3 e k f) = m ((c : Thread nD τ).loc main_arg6) (ix3 e k f) := rfl
theorem entry_v12 (q : Fin 4096) (d : Fin 1024) : V m c main_v12 (ix2 q d)
    = m ((c : Thread nD τ).loc main_arg7) (ix3 ⟨q.val / 256, by omega⟩ ⟨q.val % 256, by omega⟩ d) := by
  entry_read
  pointwise []
  try rfl
theorem entry_v13 (d : Fin 1024) : V m c main_v13 (ix2 0 d) = m ((c : Thread nD τ).loc main_arg8) (ix1 d) := by
  have h : V m c main_v13 = shapeCast S1x1024 (m ((c : Thread nD τ).loc main_arg8) : FVec Ideal S1024 .f32) shapeCasts_S1024_S1x1024 := rfl
  rw [h]
  pointwise []
theorem entry_v14 (d : Fin 1024) : V m c main_v14 (ix2 0 d) = m ((c : Thread nD τ).loc main_arg9) (ix1 d) := by
  have h : V m c main_v14 = shapeCast S1x1024 (m ((c : Thread nD τ).loc main_arg9) : FVec Ideal S1024 .f32) shapeCasts_S1024_S1x1024 := rfl
  rw [h]
  pointwise []
end Cert.Moe
-- ==== Proof.Moe.Array.lean ====
module
public import proofs.«01_k».proof.Proof.Moe.Entry
public import Idealize.ShloMosaic.Lib.Pipeline.ValueKit
public import Idealize.ShloMosaic.Lib.Claim

/-! The kernel's whole result array, read at a token and a column. -/

@[expose] public section
set_option maxRecDepth 16384
noncomputable section
namespace Cert.Moe
open Cert.KernelIdeal Cert.KernelIdeal.Gen Idealize.ShloMosaic Idealize.ShloMosaic.Pipeline Idealize.ShloMosaic.TcCoe Idealize.SL.Sem

variable (m : (ℓ : Loc nD τ sig) → Buf (Elt Ideal) ℓ) (c : Dev nD)

theorem index0 : ∀ t : Fin cfg0.N, win0_0.index t 0 = t.val ∧ win0_0.index t 1 = 0 :=
  (by decide +kernel : ∀ t : Fin grid0.N, win0_0.index t 0 = t.val ∧ win0_0.index t 1 = 0)

/-- The windows other than the tokens' hold whole arrays. -/
theorem index_whole : ∀ t : Fin cfg0.N, (∀ a, win0_1.index t a = 0) ∧ (∀ a, win0_2.index t a = 0) ∧ (∀ a, win0_3.index t a = 0) ∧ (∀ a, win0_4.index t a = 0)
    ∧ (∀ a, win0_5.index t a = 0) ∧ (∀ a, win0_6.index t a = 0) ∧ (∀ a, win0_7.index t a = 0) ∧ (∀ a, win0_8.index t a = 0) :=
  (by decide +kernel : ∀ t : Fin grid0.N, (∀ a, win0_1.index t a = 0) ∧ (∀ a, win0_2.index t a = 0) ∧ (∀ a, win0_3.index t a = 0) ∧ (∀ a, win0_4.index t a = 0)
    ∧ (∀ a, win0_5.index t a = 0) ∧ (∀ a, win0_6.index t a = 0) ∧ (∀ a, win0_7.index t a = 0) ∧ (∀ a, win0_8.index t a = 0))

/-- Row `r` of point `t`'s block of tokens is row `512 t + r` of the tokens. -/
theorem block0 (t : Fin cfg0.N) (r : Fin 512) (k : Fin 1024) (R : Fin 16384) (hR : R.val = 512 * t.val + r.val) :
    iblk m c 0 t (ix2 r k) = m ((c : Thread nD τ).loc main_arg0) (ix2 R k) := by
  blk_ext [iblk, V, index0 t, hR]

theorem block1 (t : Fin cfg0.N) (k : Fin 1024) (l : Fin 128) : iblk m c 1 t (ix2 k l) = V m c main_v2 (ix2 k l) := by
  blk_ext [iblk, index_whole t]
theorem block2 (t : Fin cfg0.N) (k : Fin 1024) (l : Fin 128) : iblk m c 2 t (ix2 k l) = V m c main_v5 (ix2 k l) := by
  blk_ext [iblk, index_whole t]
theorem block3 (t : Fin cfg0.N) (l : Fin 128) : iblk m c 3 t (ix2 0 l) = V m c main_v8 (ix2 0 l) := by
  blk_ext [iblk, index_whole t]
theorem block4 (t : Fin cfg0.N) (e : Fin 16) (k : Fin 1024) (f : Fin 256) : iblk m c 4 t (ix3 e k f) = V m c main_v9 (ix3 e k f) := by
  blk_ext [iblk, index_whole t]
theorem block5 (t : Fin cfg0.N) (e : Fin 16) (k : Fin 1024) (f : Fin 256) : iblk m c 5 t (ix3 e k f) = V m c main_v10 (ix3 e k f) := by
  blk_ext [iblk, index_whole t]
theorem block6 (t : Fin cfg0.N) (q : Fin 4096) (d : Fin 1024) : iblk m c 6 t (ix2 q d) = V m c main_v12 (ix2 q d) := by
  blk_ext [iblk, index_whole t]
theorem block7 (t : Fin cfg0.N) (d : Fin 1024) : iblk m c 7 t (ix2 0 d) = V m c main_v13 (ix2 0 d) := by
  blk_ext [iblk, index_whole t]
theorem block8 (t : Fin cfg0.N) (d : Fin 1024) : iblk m c 8 t (ix2 0 d) = V m c main_v14 (ix2 0 d) := by
  blk_ext [iblk, index_whole t]

theorem read4 (t : Fin cfg0.N) : (iblk m c 4 t : FVec Ideal S16x1024x256 .bf16) = (m ((c : Thread nD τ).loc main_arg5) : FVec Ideal S16x1024x256 .f32) := by
  funext i
  rw [eq_ix3 i]
  exact (block4 m c t ..).trans (entry_v9 ..)
theorem read5 (t : Fin cfg0.N) : (iblk m c 5 t : FVec Ideal S16x1024x256 .bf16) = (m ((c : Thread nD τ).loc main_arg6) : FVec Ideal S16x1024x256 .f32) := by
  funext i
  rw [eq_ix3 i]
  exact (block5 m c t ..).trans (entry_v10 ..)
/-- The experts' second weights with expert and hidden axes made one. -/
def flatW2 (W : FVec Ideal S16x256x1024 .f32) : FVec Ideal S4096x1024 .bf16 := fun i =>
  W (ix3 ⟨(i 0).val / 256, by have : (i 0).val < 4096 := (i 0).isLt; omega⟩ ⟨(i 0).val % 256, by omega⟩ (i 1))
theorem read6 (t : Fin cfg0.N) : (iblk m c 6 t : FVec Ideal S4096x1024 .bf16) = flatW2 (m ((c : Thread nD τ).loc main_arg7)) := by
  funext i
  rw [eq_ix2 i]
  exact (block6 m c t ..).trans (entry_v12 ..)
theorem read0 (t : Fin cfg0.N) (r : Fin 512) (R : Fin 16384) (hR : R.val = 512 * t.val + r.val) :
    (fun k => (iblk m c 0 t : FVec Ideal S512x1024 .f32) (ix2 r k)) = fun k => (m ((c : Thread nD τ).loc main_arg0) : FVec Ideal S16384x1024 .f32) (ix2 R k) :=
  funext fun k => block0 m c t r k R hR

end Cert.Moe
-- ==== Proof.Moe.Finite.lean ====
module
public import proofs.«01_k».proof.Proof.Moe.Array

/-! With finite tokens, router weights and router biases, the kernel's split product is the plain one. -/

@[expose] public section
set_option maxRecDepth 16384
noncomputable section
namespace Cert.Moe
open Cert.KernelIdeal Cert.KernelIdeal.Gen Idealize.ShloMosaic Idealize.ShloMosaic.Pipeline Idealize.ShloMosaic.TcCoe Idealize.SL.Sem

/-- The value is a real number. -/
def IsReal (v : EReal) : Prop := ⊥ < v ∧ v < ⊤

theorem IsReal.lift {v : EReal} (h : IsReal v) : ∃ r : ℝ, v = r :=
  ⟨v.toReal, (EReal.coe_toReal (ne_of_lt h.2) (ne_of_gt h.1)).symm⟩
theorem isReal_coe (r : ℝ) : IsReal (r : EReal) := ⟨EReal.bot_lt_coe r, EReal.coe_lt_top r⟩
theorem isReal_zero : IsReal 0 := isReal_coe 0
theorem IsReal.mul {a b : EReal} (ha : IsReal a) (hb : IsReal b) : IsReal (a * b) := by
  obtain ⟨r, rfl⟩ := ha.lift
  obtain ⟨s, rfl⟩ := hb.lift
  rw [← EReal.coe_mul]
  exact isReal_coe _
theorem IsReal.add {a b : EReal} (ha : IsReal a) (hb : IsReal b) : IsReal (a + b) := by
  obtain ⟨r, rfl⟩ := ha.lift
  obtain ⟨s, rfl⟩ := hb.lift
  rw [← EReal.coe_add]
  exact isReal_coe _
theorem IsReal.sub_self {a : EReal} (ha : IsReal a) : a - a = 0 := by
  obtain ⟨r, rfl⟩ := ha.lift
  rw [← EReal.coe_sub, _root_.sub_self, EReal.coe_zero]
theorem isReal_sum {n : ℕ} (f : Fin n → EReal) (h : ∀ k, IsReal (f k)) : IsReal (∑ k, f k) :=
  Finset.sum_induction f IsReal (fun _ _ => IsReal.add) isReal_zero fun k _ => h k

/-- A router logit of a row: its product with a column, plus the bias. -/
def logitOf (x w : Fin 1024 → EReal) (b : EReal) : EReal := (∑ k, x k * w k) + b

theorem isReal_logitOf (x w : Fin 1024 → EReal) (b : EReal) (hx : ∀ k, IsReal (x k)) (hw : ∀ k, IsReal (w k)) (hb : IsReal b) :
    IsReal (logitOf x w b) := (isReal_sum _ fun k => (hx k).mul (hw k)).add hb

theorem isReal_laneWeight (A : FVec Ideal S1024x4 .f32) (B : FVec Ideal S1024x16 .f32) (hA : ∀ k j, IsReal (A (ix2 k j)))
    (hB : ∀ k j, IsReal (B (ix2 k j))) (k : Fin 1024) (l : Fin 128) : IsReal (laneWeight A B k l) := by
  unfold laneWeight
  split
  · exact hA ..
  split
  · exact hB ..
  · exact isReal_zero

theorem isReal_laneBias (a : FVec Ideal S4 .f32) (b : FVec Ideal S16 .f32) (ha : ∀ j, IsReal (a (ix1 j)))
    (hb : ∀ j, IsReal (b (ix1 j))) (l : Fin 128) : IsReal (laneBias a b l) := by
  unfold laneBias
  split
  · exact ha ..
  split
  · exact hb ..
  · exact isReal_zero

/-- The block's logits: with finite rows and finite weights the products with the rounding's remainders vanish. -/
theorem logits_apply (x : Vec Ideal S512x1024 .f32) (wh wl : Vec Ideal S1024x128 .bf16) (br : Vec Ideal S1x128 .f32)
    (X : Fin 1024 → EReal) (W : Fin 1024 → Fin 128 → EReal) (B : Fin 128 → EReal) (r : Fin 512)
    (hx : ∀ k, x (ix2 r k) = X k) (hX : ∀ k, IsReal (X k)) (hwh : ∀ k l, wh (ix2 k l) = W k l) (hW : ∀ k l, IsReal (W k l))
    (hwl : ∀ k l, wl (ix2 k l) = W k l - W k l) (hbr : ∀ l, br (ix2 0 l) = B l) (l : Fin 128) :
    k0_pay3 (F := Ideal) x wh wl wh br (ix2 r l) = logitOf X (fun k => W k l) (B l) := by
  pointwise [k0_pay3, k0_pay2]
  simp only [hx, hwh, hwl, hbr, (hX _).sub_self, (hW _ _).sub_self, mul_zero, zero_mul, Finset.sum_const_zero, add_zero, logitOf]

/-- One entry of the layer's result: the router's weights applied to the experts, the scaled residual and the norm. -/
def moeOut (X : FVec Ideal S16384x1024 .f32) (W1 W3 : FVec Ideal S16x1024x256 .f32) (W2 : FVec Ideal S16x256x1024 .f32)
    (G H : FVec Ideal S1024 .f32) (C : Fin 16384 → Fin 16 → EReal) (R : Fin 16384) (d : Fin 1024) : EReal :=
  normAt (rowOf (fun k => X (ix2 R k)) W1 W3 (flatW2 W2) (C R)) (G (ix1 d)) (H (ix1 d)) d

/-- The router's weights of every row, by its logits. -/
def Routed (X : FVec Ideal S16384x1024 .f32) (A : FVec Ideal S1024x4 .f32) (a : FVec Ideal S4 .f32) (B : FVec Ideal S1024x16 .f32)
    (b : FVec Ideal S16 .f32) (C : Fin 16384 → Fin 16 → EReal) : Prop :=
  ∀ R, IsComb (fun j : Fin 4 => logitOf (fun k => X (ix2 R k)) (fun k => A (ix2 k j)) (a (ix1 j)))
    (fun e : Fin 16 => logitOf (fun k => X (ix2 R k)) (fun k => B (ix2 k e)) (b (ix1 e))) (C R)

variable (m : (ℓ : Loc nD τ sig) → Buf (Elt Ideal) ℓ) (c : Dev nD)

/-- The router's inputs are finite. -/
structure FiniteRouter (X : FVec Ideal S16384x1024 .f32) (A : FVec Ideal S1024x4 .f32) (a : FVec Ideal S4 .f32)
    (B : FVec Ideal S1024x16 .f32) (b : FVec Ideal S16 .f32) : Prop where
  x : ∀ R k, IsReal (X (ix2 R k))
  wg : ∀ k j, IsReal (A (ix2 k j))
  bg : ∀ j, IsReal (a (ix1 j))
  we : ∀ k j, IsReal (B (ix2 k j))
  be : ∀ j, IsReal (b (ix1 j))

/-- The weights a block computes for its row are the router's weights of that row's logits. -/
theorem blockComb_isComb (t : Fin cfg0.N) (r : Fin 512) (R : Fin 16384) (hR : R.val = 512 * t.val + r.val)
    (h : FiniteRouter (m ((c : Thread nD τ).loc main_arg0)) (m ((c : Thread nD τ).loc main_arg1)) (m ((c : Thread nD τ).loc main_arg2))
      (m ((c : Thread nD τ).loc main_arg3)) (m ((c : Thread nD τ).loc main_arg4))) :
    IsComb (fun j : Fin 4 => logitOf (fun k => (m ((c : Thread nD τ).loc main_arg0) : FVec Ideal S16384x1024 .f32) (ix2 R k))
        (fun k => (m ((c : Thread nD τ).loc main_arg1) : FVec Ideal S1024x4 .f32) (ix2 k j)) ((m ((c : Thread nD τ).loc main_arg2) : FVec Ideal S4 .f32) (ix1 j)))
      (fun e : Fin 16 => logitOf (fun k => (m ((c : Thread nD τ).loc main_arg0) : FVec Ideal S16384x1024 .f32) (ix2 R k))
        (fun k => (m ((c : Thread nD τ).loc main_arg3) : FVec Ideal S1024x16 .f32) (ix2 k e)) ((m ((c : Thread nD τ).loc main_arg4) : FVec Ideal S16 .f32) (ix1 e)))
      (fun e => blockComb (iblk m c 0 t) (iblk m c 1 t) (iblk m c 2 t) (iblk m c 3 t) (ix2 r ⟨4 + e.val, by omega⟩)) := by
  have hW := isReal_laneWeight _ _ h.wg h.we
  have hB := isReal_laneBias _ _ h.bg h.be
  have key := pay20_isComb (iblk m c 0 t) (iblk m c 1 t) (iblk m c 2 t) (iblk m c 1 t) (iblk m c 3 t) r
    (fun l => logitOf _ _ _)
    (logits_apply (iblk m c 0 t) (iblk m c 1 t) (iblk m c 2 t) (iblk m c 3 t) _ _ _ r
      (fun k => block0 m c t r k R hR) (fun k => h.x R k) (fun k l => (block1 m c t k l).trans (entry_v2 m c k l)) hW
      (fun k l => (block2 m c t k l).trans (entry_v5 m c k l)) (fun l => (block3 m c t l).trans (entry_v8 m c l)))
    (fun l _ => (isReal_logitOf _ _ _ (fun k => h.x R k) (fun k => hW k l) (hB l)).1)
  have hg : ∀ j : Fin 4, ∀ k, laneWeight (m ((c : Thread nD τ).loc main_arg1)) (m ((c : Thread nD τ).loc main_arg3)) k ⟨j.val, by omega⟩
      = (m ((c : Thread nD τ).loc main_arg1) : FVec Ideal S1024x4 .f32) (ix2 k j) := fun j k => dif_pos j.isLt
  have hgb : ∀ j : Fin 4, laneBias (m ((c : Thread nD τ).loc main_arg2)) (m ((c : Thread nD τ).loc main_arg4)) ⟨j.val, by omega⟩
      = (m ((c : Thread nD τ).loc main_arg2) : FVec Ideal S4 .f32) (ix1 j) := fun j => dif_pos j.isLt
  have he : ∀ j : Fin 16, ∀ k, laneWeight (m ((c : Thread nD τ).loc main_arg1)) (m ((c : Thread nD τ).loc main_arg3)) k ⟨4 + j.val, by omega⟩
      = (m ((c : Thread nD τ).loc main_arg3) : FVec Ideal S1024x16 .f32) (ix2 k j) := fun j k => by
    unfold laneWeight
    rw [dif_neg (by simp), dif_pos (by simp; omega)]
    congr 2
    exact Fin.ext (by simp)
  have heb : ∀ j : Fin 16, laneBias (m ((c : Thread nD τ).loc main_arg2)) (m ((c : Thread nD τ).loc main_arg4)) ⟨4 + j.val, by omega⟩
      = (m ((c : Thread nD τ).loc main_arg4) : FVec Ideal S16 .f32) (ix1 j) := fun j => by
    unfold laneBias
    rw [dif_neg (by simp), dif_pos (by simp; omega)]
    congr 2
    exact Fin.ext (by simp)
  simp only [hg, hgb, he, heb] at key
  exact key

theorem index9 : ∀ t : Fin cfg0.N, win0_9.index t 0 = t.val ∧ win0_9.index t 1 = 0 :=
  (by decide +kernel : ∀ t : Fin grid0.N, win0_9.index t 0 = t.val ∧ win0_9.index t 1 = 0)
/-- Row `r` of point `t`'s result block is row `512 t + r` of the result. -/
theorem emb9 (t : Fin cfg0.N) (r : Fin 512) (d : Fin 1024) :
    ((win0_9.blk t).view.emb (ix2 r d) 0).val = 512 * t.val + r.val ∧ ((win0_9.blk t).view.emb (ix2 r d) 1).val = d.val := by
  constructor
  · blk_simp [index9 t]
    omega
  · blk_simp [index9 t]
    try omega

/-- The kernel's result array, at every token and column. -/
theorem kernel_array (C : Fin 16384 → Fin 16 → EReal)
    (h : FiniteRouter (m ((c : Thread nD τ).loc main_arg0)) (m ((c : Thread nD τ).loc main_arg1)) (m ((c : Thread nD τ).loc main_arg2))
      (m ((c : Thread nD τ).loc main_arg3)) (m ((c : Thread nD τ).loc main_arg4)))
    (hC : Routed (m ((c : Thread nD τ).loc main_arg0)) (m ((c : Thread nD τ).loc main_arg1)) (m ((c : Thread nD τ).loc main_arg2))
      (m ((c : Thread nD τ).loc main_arg3)) (m ((c : Thread nD τ).loc main_arg4)) C) :
    (dats m 0 c).arrAt 9 cfg0.N = (fun i => moeOut (m ((c : Thread nD τ).loc main_arg0)) (m ((c : Thread nD τ).loc main_arg5))
      (m ((c : Thread nD τ).loc main_arg6)) (m ((c : Thread nD τ).loc main_arg7)) (m ((c : Thread nD τ).loc main_arg8))
      (m ((c : Thread nD τ).loc main_arg9)) C (i 0) (i 1) : FVec Ideal S16384x1024 .f32) := by
  refine (dats m 0 c).arrAt_eq_of_covers 9 _ (by decide +kernel) fun t hf y => ?_
  blk_simp
  rw [after0_9]
  obtain ⟨r, d, rfl⟩ : ∃ (r : Fin 512) (d : Fin 1024), y = ix2 r d := ⟨y 0, y 1, eq_ix2 (n0 := 512) (n1 := 1024) y⟩
  obtain ⟨h0, h1⟩ := emb9 t r d
  have e1 : (win0_9.blk t).view.emb (ix2 r d) 1 = d := Fin.ext h1
  rw [e1]
  generalize (win0_9.blk t).view.emb (ix2 r d) 0 = R at h0 ⊢
  have hcomb := IsComb.unique (blockComb_isComb m c t r R h0 h) (hC R)
  refine (block_apply m c t r d).trans ?_
  refine (congrArg₂ (fun g b => normAt _ g b d) ((block7 m c t d).trans (entry_v13 m c d)) ((block8 m c t d).trans (entry_v14 m c d))).trans ?_
  unfold moeOut
  congr 1
  funext k
  show rowOf (fun k => (iblk m c 0 t : FVec Ideal S512x1024 .f32) (ix2 r k)) (iblk m c 4 t) (iblk m c 5 t) (iblk m c 6 t) _ k = _
  rw [read0 m c t r R h0, read4 m c t, read5 m c t, read6 m c t, hcomb]
end Cert.Moe
-- ==== Proof.Moe.Pre.lean ====
module
public import proofs.«01_k».proof.Proof.Moe.Finite
public import proofs.«01_k».proof.Pre_finite_router
public import Idealize.ShloMosaic.Lib.ReduceAll

/-! What the precondition says: the tokens, the router's weights and its biases are finite. -/

@[expose] public section
set_option maxRecDepth 16384
noncomputable section
namespace Cert.Moe
open Cert.Pre_finite_router Idealize.ShloMosaic

/-- The shapes the precondition's operations take fit. -/
theorem preFacts : Cert.Pre_finite_router.Facts where
  bcast_S_S16384x1024 := by decide
  reducesTo_S16384x1024_S_d0_1 := by decide
  h_S_ := by decide
  bcast_S_S1024x4 := by decide
  reducesTo_S1024x4_S_d0_1 := by decide
  bcast_S_S4 := by decide
  reducesTo_S4_S_d0 := by decide
  bcast_S_S1024x16 := by decide
  reducesTo_S1024x16_S_d0_1 := by decide
  bcast_S_S16 := by decide
  reducesTo_S16_S_d0 := by decide

instance : Subsingleton S_.Idx := ⟨fun a b => funext fun i => i.elim0⟩

theorem inf_word : Ideal.ofBits .f32 0x7F800000#32 = ⊤ := by simp [Ideal.ofBits, Ideal.ieee]

/-- A value whose magnitude is below infinity is a real number. -/
theorem isReal_of_abs (v : EReal) (h : BitVec.ofBool (decide (FloatOps.hostAbsf (F := Ideal) (φ := .f32) v < Ideal.ofBits .f32 0x7F800000#32)) = 1#1) : IsReal v := by
  rw [inf_word] at h
  have h' : max v (-v) < ⊤ := by
    by_contra hn
    rw [show decide (FloatOps.hostAbsf (F := Ideal) (φ := .f32) v < ⊤) = false from decide_eq_false hn] at h
    exact absurd h (by decide)
  rw [max_lt_iff] at h'
  exact ⟨by
    rw [bot_lt_iff_ne_bot]
    rintro rfl
    exact absurd h'.2 (by simp), h'.1⟩

theorem and_one (c d : BitVec 1) (h : IntOp.andi c d = 1#1) : c = 1#1 ∧ d = 1#1 := by revert c d; decide

/-- The conjunction over an array of "this entry's magnitude is below infinity" says that every entry is a real number. -/
theorem real_of_all {s : Shape} {axes : List (Fin s.rank)} (x : FVec Ideal s .f32) (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant S_ .f32 0x7F800000#32 : FVec Ideal S_ .f32))) (constantI S_ 1 1#1) hr hu j = 1#1) (i : s.Idx) :
    IsReal (x i) :=
  isReal_of_abs (x i) (Host.reduce_andi_all _ _ hr hu j h i)

theorem finite_of_pre [Cert.Pre_finite_router.Facts] (x0 : FVec Ideal S16384x1024 .f32) (x1 : FVec Ideal S1024x4 .f32) (x2 : FVec Ideal S4 .f32) (x3 : FVec Ideal S1024x16 .f32) (x4 : FVec Ideal S16 .f32)
  (x5 x6 : FVec Ideal S16x1024x256 .f32) (x7 : FVec Ideal S16x256x1024 .f32) (x8 x9 : FVec Ideal S1024 .f32)
  (h : Cert.Pre_finite_router.fn (F := Ideal) x0 x1 x2 x3 x4 x5 x6 x7 x8 x9 = fun _ => 1#1) : FiniteRouter x0 x1 x2 x3 x4 := by
  have h0 := congrFun h (fun i => i.elim0)
  unfold Cert.Pre_finite_router.fn Cert.Pre_finite_router.fn_part1 at h0
  obtain ⟨h0, h4⟩ := and_one _ _ h0
  obtain ⟨h0, h3⟩ := and_one _ _ h0
  obtain ⟨h0, h2⟩ := and_one _ _ h0
  obtain ⟨h0, h1⟩ := and_one _ _ h0
  exact ⟨fun _ _ => real_of_all x0 _ _ _ _ h0 _, fun _ _ => real_of_all x1 _ _ _ _ h1 _, fun _ => real_of_all x2 _ _ _ _ h2 _, fun _ _ => real_of_all x3 _ _ _ _ h3 _, fun _ => real_of_all x4 _ _ _ _ h4 _⟩
end Cert.Moe
-- ==== Proof.Moe.RefPick.lean ====
module
public import proofs.«01_k».proof.Proof.Gen.ReferenceIdeal.Read
public import proofs.«01_k».proof.Proof.Moe.Order
public import Idealize.ShloMosaic.Lib.Pointwise

/-! The reference's picks: the greatest entries of a row by their positions, and the gathers that read at them. -/

@[expose] public section
set_option maxRecDepth 16384
noncomputable section
namespace Cert.Moe
open Cert.ReferenceIdeal Cert.ReferenceIdeal.Gen Idealize.ShloMosaic

theorem greater_eq (a b : EReal) : (FloatOps.cmpfTotal (F := Ideal) (φ := .f32) .gt a b == 1#1) = decide (b < a) := by
  show (BitVec.ofBool (decide (b < a)) == 1#1) = _
  by_cases h : b < a <;> simp [h]

/-- The position of the `j`-th greatest of four values, equal ones in their order. -/
def pick (f : Fin 4 → EReal) (j : Fin 4) : Fin 4 := sortedFrom (fun x y => decide (f y < f x)) j

theorem along_ix2 (r : Fin 16384) (j k : Fin 4) : Shape.Idx.along (s := S16384x4) (ix2 r j) (1 : Fin 2) k = ix2 r k := by
  funext a
  match a with
  | ⟨0, _⟩ => rfl
  | ⟨1, _⟩ => rfl

theorem sort_rows (x : FVec Ideal S16384x4 .f32) (y : IVec S16384x4 32) (r : Fin 16384) (j : Fin 4) :
    (Host.sort2 S16384x4 1 (fun l r => FloatOps.cmpfTotal (F := Ideal) (φ := .f32) .gt l.1 r.1) x y).1 (ix2 r j) = x (ix2 r (pick (fun k => x (ix2 r k)) j))
    ∧ (Host.sort2 S16384x4 1 (fun l r => FloatOps.cmpfTotal (F := Ideal) (φ := .f32) .gt l.1 r.1) x y).2 (ix2 r j) = y (ix2 r (pick (fun k => x (ix2 r k)) j)) := by
  have hπ : ∀ p : Fin 4, sortedFrom (fun k k' : Fin 4 => FloatOps.cmpfTotal (F := Ideal) (φ := .f32) .gt
      (x (Shape.Idx.along (s := S16384x4) (ix2 r j) (1 : Fin 2) k)) (x (Shape.Idx.along (s := S16384x4) (ix2 r j) (1 : Fin 2) k')) == 1#1) p
        = pick (fun k => x (ix2 r k)) p := by
    intro p
    unfold pick
    congr 1
    funext k k'
    rw [greater_eq, along_ix2, along_ix2]
  unfold Host.sort2
  rw [dif_pos (by decide)]
  refine ⟨congrArg x ?_, congrArg y ?_⟩
  · exact (congrArg _ (hπ j)).trans (along_ix2 r j _)
  · exact (congrArg _ (hπ j)).trans (along_ix2 r j _)

/-- Each entry's position in its row. -/
def positions : IVec S16384x4 32 := fun i => if hd : 1 < S16384x4.rank then iotaInDim S16384x4 32 ⟨1, hd⟩ i else 0#32

theorem topK_two (x : FVec Ideal S16384x4 .f32) (r : Fin 16384) (j : Fin 2) :
    (Host.topK S16384x2 1 (FloatOps.cmpfTotal (F := Ideal) (φ := .f32) .gt) x sliceFits_S16384x4_S16384x2).1 (ix2 r j)
      = x (ix2 r (pick (fun k => x (ix2 r k)) ⟨j.val, by omega⟩))
    ∧ (Host.topK S16384x2 1 (FloatOps.cmpfTotal (F := Ideal) (φ := .f32) .gt) x sliceFits_S16384x4_S16384x2).2 (ix2 r j)
      = BitVec.ofNat 32 (pick (fun k => x (ix2 r k)) ⟨j.val, by omega⟩).val := by
  have hj : (fun a => ⟨0 + (ix2 r j (Fin.cast (by decide : (2:Nat) = 2) a)).val, by
      match a with
      | ⟨0, _⟩ => exact (Nat.zero_add _).trans_lt r.isLt
      | ⟨1, _⟩ => exact (Nat.zero_add _).trans_lt (j.isLt.trans (show (2:Nat) < 4 by decide))⟩ : S16384x4.Idx) = ix2 r ⟨j.val, by omega⟩ := by
    funext a
    match a with
    | ⟨0, _⟩ => exact Fin.ext (Nat.zero_add _)
    | ⟨1, _⟩ => exact Fin.ext (Nat.zero_add _)
  constructor
  · exact (congrArg (Host.sort2 S16384x4 1 (fun l r => FloatOps.cmpfTotal (F := Ideal) (φ := .f32) .gt l.1 r.1) x positions).1 hj).trans (sort_rows x positions r ⟨j.val, by omega⟩).1
  · exact (congrArg (Host.sort2 S16384x4 1 (fun l r => FloatOps.cmpfTotal (F := Ideal) (φ := .f32) .gt l.1 r.1) x positions).2 hj).trans (sort_rows x positions r ⟨j.val, by omega⟩).2

theorem topK_one (x : FVec Ideal S16384x4 .f32) (r : Fin 16384) (j : Fin 1) :
    (Host.topK S16384x1 1 (FloatOps.cmpfTotal (F := Ideal) (φ := .f32) .gt) x sliceFits_S16384x4_S16384x1).2 (ix2 r j)
      = BitVec.ofNat 32 (pick (fun k => x (ix2 r k)) 0).val := by
  have hj : (fun a => ⟨0 + (ix2 r j (Fin.cast (by decide : (2:Nat) = 2) a)).val, by
      match a with
      | ⟨0, _⟩ => exact (Nat.zero_add _).trans_lt r.isLt
      | ⟨1, _⟩ => exact (Nat.zero_add _).trans_lt (j.isLt.trans (show (1:Nat) < 4 by decide))⟩ : S16384x4.Idx) = ix2 r 0 := by
    funext a
    match a with
    | ⟨0, _⟩ => exact Fin.ext (Nat.zero_add _)
    | ⟨1, _⟩ => exact Fin.ext (by have := j.isLt; show 0 + j.val = 0; omega)
  exact (congrArg (Host.sort2 S16384x4 1 (fun l r => FloatOps.cmpfTotal (F := Ideal) (φ := .f32) .gt l.1 r.1) x positions).2 hj).trans (sort_rows x positions r 0).2

/-- The gather that reads one entry per row: at the row and column the index array names. -/
theorem gather_entry (x : FVec Ideal S16384x4 .f32) (idx : IVec S16384x2 32) (r R : Fin 16384) (j : Fin 4)
    (h0 : (idx (ix2 r 0)).toInt.toNat = R.val) (h1 : (idx (ix2 r 1)).toInt.toNat = j.val) :
    Host.gather gather_S16384x4_S16384x2_S16384_n_01_n_n_01_1_11 x idx (ix1 r) = x (ix2 R j) := by
  unfold Host.gather
  congr 1
  funext a
  refine Fin.ext ?_
  have hcol : a ∈ gather_S16384x4_S16384x2_S16384_n_01_n_n_01_1_11.collapsedSliceDims := by revert a; decide
  have hmap : a ∈ gather_S16384x4_S16384x2_S16384_n_01_n_n_01_1_11.startIndexMap := by revert a; decide
  show gather_S16384x4_S16384x2_S16384_n_01_n_n_01_1_11.start (ix1 r) idx a + gather_S16384x4_S16384x2_S16384_n_01_n_n_01_1_11.batchCoord (ix1 r) a
    + gather_S16384x4_S16384x2_S16384_n_01_n_n_01_1_11.offCoord (ix1 r) a = _
  rw [GatherDims.batchCoord_eq_zero _ _ _ List.not_mem_nil,
    GatherDims.offCoord_eq_zero _ _ _ (fun h => ((GatherDims.mem_sKept _ _).mp h).1 hcol)]
  simp only [Nat.add_zero]
  unfold GatherDims.start
  rw [dif_pos hmap]
  match a with
  | ⟨0, _⟩ =>
    have hsi : gather_S16384x4_S16384x2_S16384_n_01_n_n_01_1_11.siIdx (ix1 r) ⟨List.idxOf (0 : Fin 2) gather_S16384x4_S16384x2_S16384_n_01_n_n_01_1_11.startIndexMap,
        List.idxOf_lt_length_iff.2 hmap⟩ = ix2 r 0 := by
      funext b; refine Fin.ext ?_
      match b with
      | ⟨0, _⟩ => rfl
      | ⟨1, _⟩ => rfl
    show min (idx (gather_S16384x4_S16384x2_S16384_n_01_n_n_01_1_11.siIdx (ix1 r) ⟨List.idxOf (0 : Fin 2) gather_S16384x4_S16384x2_S16384_n_01_n_n_01_1_11.startIndexMap,
        List.idxOf_lt_length_iff.2 hmap⟩)).toInt.toNat (16384 - 1) = R.val
    rw [hsi, h0]
    omega
  | ⟨1, _⟩ =>
    have hsi : gather_S16384x4_S16384x2_S16384_n_01_n_n_01_1_11.siIdx (ix1 r) ⟨List.idxOf (1 : Fin 2) gather_S16384x4_S16384x2_S16384_n_01_n_n_01_1_11.startIndexMap,
        List.idxOf_lt_length_iff.2 hmap⟩ = ix2 r 1 := by
      funext b; refine Fin.ext ?_
      match b with
      | ⟨0, _⟩ => rfl
      | ⟨1, _⟩ => rfl
    show min (idx (gather_S16384x4_S16384x2_S16384_n_01_n_n_01_1_11.siIdx (ix1 r) ⟨List.idxOf (1 : Fin 2) gather_S16384x4_S16384x2_S16384_n_01_n_n_01_1_11.startIndexMap,
        List.idxOf_lt_length_iff.2 hmap⟩)).toInt.toNat (4 - 1) = j.val
    rw [hsi, h1]
    omega

/-- The gather that reads four entries per row: the group of experts the index array names. -/
theorem gather_group (x : FVec Ideal S16384x4x4 .f32) (idx : IVec S16384x2 32) (r R : Fin 16384) (j k : Fin 4)
    (h0 : (idx (ix2 r 0)).toInt.toNat = R.val) (h1 : (idx (ix2 r 1)).toInt.toNat = j.val) :
    Host.gather gather_S16384x4x4_S16384x2_S16384x4_1_01_n_n_01_1_114 x idx (ix2 r k) = x (ix3 R j k) := by
  unfold Host.gather
  congr 1
  funext a
  refine Fin.ext ?_
  show gather_S16384x4x4_S16384x2_S16384x4_1_01_n_n_01_1_114.start (ix2 r k) idx a + gather_S16384x4x4_S16384x2_S16384x4_1_01_n_n_01_1_114.batchCoord (ix2 r k) a
    + gather_S16384x4x4_S16384x2_S16384x4_1_01_n_n_01_1_114.offCoord (ix2 r k) a = _
  rw [GatherDims.batchCoord_eq_zero _ _ _ List.not_mem_nil]
  unfold GatherDims.start
  match a with
  | ⟨0, hl⟩ =>
    have hcol : (0 : Fin 3) ∈ gather_S16384x4x4_S16384x2_S16384x4_1_01_n_n_01_1_114.collapsedSliceDims := by decide
    have hmap : (0 : Fin 3) ∈ gather_S16384x4x4_S16384x2_S16384x4_1_01_n_n_01_1_114.startIndexMap := by decide
    have hsi : gather_S16384x4x4_S16384x2_S16384x4_1_01_n_n_01_1_114.siIdx (ix2 r k) ⟨List.idxOf (0 : Fin 3) gather_S16384x4x4_S16384x2_S16384x4_1_01_n_n_01_1_114.startIndexMap,
        List.idxOf_lt_length_iff.2 hmap⟩ = ix2 r 0 := by
      funext b; refine Fin.ext ?_
      match b with
      | ⟨0, _⟩ => rfl
      | ⟨1, _⟩ => rfl
    rw [dif_pos (show (⟨0, hl⟩ : Fin S16384x4x4.rank) ∈ _ from hmap), GatherDims.offCoord_eq_zero _ _ (⟨0, hl⟩ : Fin S16384x4x4.rank) (fun h => ((GatherDims.mem_sKept _ _).mp h).1 (show _ from hcol))]
    show min (idx (gather_S16384x4x4_S16384x2_S16384x4_1_01_n_n_01_1_114.siIdx (ix2 r k) ⟨List.idxOf (0 : Fin 3) gather_S16384x4x4_S16384x2_S16384x4_1_01_n_n_01_1_114.startIndexMap,
        List.idxOf_lt_length_iff.2 hmap⟩)).toInt.toNat (16384 - 1) + 0 + 0 = R.val
    rw [hsi, h0]
    omega
  | ⟨1, hl⟩ =>
    have hcol : (1 : Fin 3) ∈ gather_S16384x4x4_S16384x2_S16384x4_1_01_n_n_01_1_114.collapsedSliceDims := by decide
    have hmap : (1 : Fin 3) ∈ gather_S16384x4x4_S16384x2_S16384x4_1_01_n_n_01_1_114.startIndexMap := by decide
    have hsi : gather_S16384x4x4_S16384x2_S16384x4_1_01_n_n_01_1_114.siIdx (ix2 r k) ⟨List.idxOf (1 : Fin 3) gather_S16384x4x4_S16384x2_S16384x4_1_01_n_n_01_1_114.startIndexMap,
        List.idxOf_lt_length_iff.2 hmap⟩ = ix2 r 1 := by
      funext b; refine Fin.ext ?_
      match b with
      | ⟨0, _⟩ => rfl
      | ⟨1, _⟩ => rfl
    rw [dif_pos (show (⟨1, hl⟩ : Fin S16384x4x4.rank) ∈ _ from hmap), GatherDims.offCoord_eq_zero _ _ (⟨1, hl⟩ : Fin S16384x4x4.rank) (fun h => ((GatherDims.mem_sKept _ _).mp h).1 (show _ from hcol))]
    show min (idx (gather_S16384x4x4_S16384x2_S16384x4_1_01_n_n_01_1_114.siIdx (ix2 r k) ⟨List.idxOf (1 : Fin 3) gather_S16384x4x4_S16384x2_S16384x4_1_01_n_n_01_1_114.startIndexMap,
        List.idxOf_lt_length_iff.2 hmap⟩)).toInt.toNat (4 - 1) + 0 + 0 = j.val
    rw [hsi, h1]
    omega
  | ⟨2, hl⟩ =>
    have hmap : (2 : Fin 3) ∉ gather_S16384x4x4_S16384x2_S16384x4_1_01_n_n_01_1_114.startIndexMap := by decide
    rw [dif_neg (show (⟨2, hl⟩ : Fin S16384x4x4.rank) ∉ _ from hmap)]
    simp only [Nat.zero_add]
    rfl

end Cert.Moe
-- ==== Proof.Moe.RefRoute.lean ====
module
public import proofs.«01_k».proof.Proof.Moe.RefPick
public import proofs.«01_k».proof.Proof.Moe.Finite

/-! The reference's router, read at a token. -/

@[expose] public section
set_option maxRecDepth 16384
noncomputable section
namespace Cert.Moe
open Cert.ReferenceIdeal Cert.ReferenceIdeal.Gen Cert.ReferenceIdeal.Read Idealize.ShloMosaic

variable (x0 : FVec Ideal S16384x1024 .f32) (x1 : FVec Ideal S1024x4 .f32) (x2 : FVec Ideal S4 .f32) (x3 : FVec Ideal S1024x16 .f32) (x4 : FVec Ideal S16 .f32)

/-- The group logits of token `R`. -/
def groupLogit (R : Fin 16384) (j : Fin 4) : EReal := logitOf (fun k => x0 (ix2 R k)) (fun k => x1 (ix2 k j)) (x2 (ix1 j))
/-- The expert logits of token `R`. -/
def expertLogit (R : Fin 16384) (e : Fin 16) : EReal := logitOf (fun k => x0 (ix2 R k)) (fun k => x3 (ix2 k e)) (x4 (ix1 e))
/-- The group token `R` is sent to. -/
def groupOf (R : Fin 16384) : Fin 4 := pick (groupLogit x0 x1 x2 R) 0

theorem v4_apply (R : Fin 16384) (j : Fin 4) : val_main_v4 (F := Ideal) x0 x1 x2 (ix2 R j) = groupLogit x0 x1 x2 R j := by
  pointwise [val_main_v4, val_main_v1, val_main_v2, val_main_v3]
  rfl
theorem v36_apply (R : Fin 16384) (g k : Fin 4) : val_main_v36 (F := Ideal) x0 x3 x4 (ix3 R g k) = expertLogit x0 x3 x4 R (expertOf g k) := by
  have hk : (⟨g.val * 4 + k.val, by omega⟩ : Fin 16) = expertOf g k := Fin.ext (by simp [expertOf]; omega)
  rw [← hk]
  pointwise [val_main_v36, val_main_v35, val_main_v32, val_main_v33, val_main_v34]
  rfl
theorem v16_apply (R : Fin 16384) : val_main_v16 (F := Ideal) x0 x1 x2 (ix1 R) = BitVec.ofNat 32 (groupOf x0 x1 x2 R).val := by
  pointwise [val_main_v16, val_main_indices]
  rw [topK_one]
  simp only [v4_apply]
  rfl

/-- A position that is not negative is not wrapped. -/
theorem wrap_apply (n : Nat) (hn : n < 2147483648) (c : BitVec 32) :
    (Scalar.select (IntOp.cmpi .slt (BitVec.ofNat 32 n) 0#32) (IntOp.addi (BitVec.ofNat 32 n) c) (BitVec.ofNat 32 n)).toInt.toNat = n := by
  have h0 : (BitVec.ofNat 32 n).toInt = (n : Int) := by
    rw [BitVec.toInt_eq_toNat_of_lt] <;> rw [BitVec.toNat_ofNat, Nat.mod_eq_of_lt (by omega)]
    omega
  have h : IntOp.cmpi .slt (BitVec.ofNat 32 n) 0#32 = 0#1 := by
    show BitVec.ofBool ((BitVec.ofNat 32 n).slt 0#32) = 0#1
    have : (BitVec.ofNat 32 n).slt 0#32 = false := by
      rw [BitVec.slt, h0]
      simp
    rw [this]
    rfl
  rw [h]
  show (BitVec.ofNat 32 n).toInt.toNat = n
  rw [h0]
  rfl

theorem v29_row (R : Fin 16384) : (val_main_v29 (F := Ideal) x0 x1 x2 (ix2 R 0)).toInt.toNat = R.val := by
  pointwise [val_main_v29, val_main_v27, val_main_v21, val_main_v18, val_main_v20, val_main_v19, val_main_v17, val_main_c, val_main_c_2, val_main_v0]
  exact wrap_apply _ (by omega) _
theorem v29_col (R : Fin 16384) : (val_main_v29 (F := Ideal) x0 x1 x2 (ix2 R 1)).toInt.toNat = (groupOf x0 x1 x2 R).val := by
  pointwise [val_main_v29, val_main_v28, val_main_v26, val_main_v23, val_main_v25, val_main_v24, val_main_v22, val_main_c_3, val_main_c_4]
  rw [v16_apply]
  exact wrap_apply _ (by omega) _
theorem v49_row (R : Fin 16384) : (val_main_v49 (F := Ideal) x0 x1 x2 (ix2 R 0)).toInt.toNat = R.val := by
  pointwise [val_main_v49, val_main_v47, val_main_v41, val_main_v38, val_main_v40, val_main_v39, val_main_v37, val_main_c_5, val_main_c_6, val_main_v0]
  exact wrap_apply _ (by omega) _
theorem v49_col (R : Fin 16384) : (val_main_v49 (F := Ideal) x0 x1 x2 (ix2 R 1)).toInt.toNat = (groupOf x0 x1 x2 R).val := by
  pointwise [val_main_v49, val_main_v48, val_main_v46, val_main_v43, val_main_v45, val_main_v44, val_main_v42, val_main_c_7, val_main_c_8]
  rw [v16_apply]
  exact wrap_apply _ (by omega) _

theorem firstMax_group (R : Fin 16384) : FirstMax (groupLogit x0 x1 x2 R) (groupOf x0 x1 x2 R) := firstMax_sortedFrom _ 0 rfl

/-- The chosen group's expert logits. -/
def chosen (R : Fin 16384) (k : Fin 4) : EReal := expertLogit x0 x3 x4 R (expertOf (groupOf x0 x1 x2 R) k)

theorem v7_apply (R : Fin 16384) : val_main_v7 (F := Ideal) x0 x1 x2 (ix1 R) = groupLogit x0 x1 x2 R (groupOf x0 x1 x2 R) := by
  pointwise [val_main_v5, val_main_v7, val_main_v6, val_main_cst, val_main_cst_0]
  simp only [v4_apply, ofBits_neg_inf]
  rw [show Finset.univ.fold max ⊥ (fun j => groupLogit x0 x1 x2 R j) = _ from fold_max_eq (groupLogit x0 x1 x2 R) (firstMax_group x0 x1 x2 R).1]
  exact max_eq_right bot_le

theorem v15_apply (R : Fin 16384) (j : Fin 4) : val_main_v15 (F := Ideal) x0 x1 x2 (ix2 R j)
    = Ideal.div (Ideal.exp (groupLogit x0 x1 x2 R j - groupLogit x0 x1 x2 R (groupOf x0 x1 x2 R)))
      (∑ i, Ideal.exp (groupLogit x0 x1 x2 R i - groupLogit x0 x1 x2 R (groupOf x0 x1 x2 R))) := by
  pointwise [val_main_v15, val_main_v14, val_main_v13, val_main_v12, val_main_cst_1, val_main_v11, val_main_v10, val_main_v9, val_main_v8]
  simp only [v4_apply, v7_apply]

theorem v30_apply (R : Fin 16384) : val_main_v30 (F := Ideal) x0 x1 x2 (ix1 R) = val_main_v15 (F := Ideal) x0 x1 x2 (ix2 R (groupOf x0 x1 x2 R)) :=
  gather_entry _ _ R R _ (v29_row ..) (v29_col ..)
theorem v50_apply (R : Fin 16384) (k : Fin 4) : val_main_v50 (F := Ideal) x0 x1 x2 x3 x4 (ix2 R k) = chosen x0 x1 x2 x3 x4 R k :=
  (gather_group _ _ R R _ k (v49_row ..) (v49_col ..)).trans (v36_apply ..)

/-- The two experts token `R` is sent to, by their places in the chosen group. -/
def place (R : Fin 16384) (j : Fin 2) : Fin 4 := pick (chosen x0 x1 x2 x3 x4 R) ⟨j.val, by omega⟩

theorem values_apply (R : Fin 16384) (j : Fin 2) : val_main_values_9 (F := Ideal) x0 x1 x2 x3 x4 (ix2 R j) = chosen x0 x1 x2 x3 x4 R (place x0 x1 x2 x3 x4 R j) := by
  refine (topK_two _ R j).1.trans ?_
  simp only [v50_apply]
  rfl
theorem indices_apply (R : Fin 16384) (j : Fin 2) : val_main_indices_10 (F := Ideal) x0 x1 x2 x3 x4 (ix2 R j) = BitVec.ofNat 32 (place x0 x1 x2 x3 x4 R j).val := by
  refine (topK_two _ R j).2.trans ?_
  simp only [v50_apply]
  rfl
theorem firstMax_place (R : Fin 16384) : FirstMax (chosen x0 x1 x2 x3 x4 R) (place x0 x1 x2 x3 x4 R 0) := firstMax_sortedFrom _ _ rfl
theorem secondMax_place (R : Fin 16384) : SecondMax (chosen x0 x1 x2 x3 x4 R) (place x0 x1 x2 x3 x4 R 0) (place x0 x1 x2 x3 x4 R 1) :=
  secondMax_sortedFrom _ _ _ rfl rfl

theorem v53_apply (R : Fin 16384) : val_main_v53 (F := Ideal) x0 x1 x2 x3 x4 (ix1 R) = chosen x0 x1 x2 x3 x4 R (place x0 x1 x2 x3 x4 R 0) := by
  pointwise [val_main_v53, val_main_v51, val_main_v52, val_main_cst_11, val_main_cst_12]
  simp only [values_apply, ofBits_neg_inf]
  rw [show Finset.univ.fold max ⊥ (fun j => chosen x0 x1 x2 x3 x4 R (place x0 x1 x2 x3 x4 R j)) = _ from
    fold_max_eq (fun j => chosen x0 x1 x2 x3 x4 R (place x0 x1 x2 x3 x4 R j)) (i := 0) fun j => (firstMax_place x0 x1 x2 x3 x4 R).1 _]
  exact max_eq_right bot_le

/-- The two weights of token `R`: the softmax of the two greatest logits times the group's softmax probability. -/
theorem v63_apply (R : Fin 16384) (hg : ∀ j, IsReal (groupLogit x0 x1 x2 R j)) (he : ∀ e, IsReal (expertLogit x0 x3 x4 R e)) :
    val_main_v63 (F := Ideal) x0 x1 x2 x3 x4 (ix2 R 0) = Ideal.div (groupWeight (groupLogit x0 x1 x2 R) (groupOf x0 x1 x2 R))
      (1 + ratio (expertLogit x0 x3 x4 R) (groupOf x0 x1 x2 R) (place x0 x1 x2 x3 x4 R 0) (place x0 x1 x2 x3 x4 R 1))
    ∧ val_main_v63 (F := Ideal) x0 x1 x2 x3 x4 (ix2 R 1) = Ideal.div (groupWeight (groupLogit x0 x1 x2 R) (groupOf x0 x1 x2 R)
        * ratio (expertLogit x0 x3 x4 R) (groupOf x0 x1 x2 R) (place x0 x1 x2 x3 x4 R 0) (place x0 x1 x2 x3 x4 R 1))
      (1 + ratio (expertLogit x0 x3 x4 R) (groupOf x0 x1 x2 R) (place x0 x1 x2 x3 x4 R 0) (place x0 x1 x2 x3 x4 R 1)) := by
  have key : ∀ j : Fin 2, val_main_v63 (F := Ideal) x0 x1 x2 x3 x4 (ix2 R j)
      = Ideal.div (Ideal.exp (chosen x0 x1 x2 x3 x4 R (place x0 x1 x2 x3 x4 R j) - chosen x0 x1 x2 x3 x4 R (place x0 x1 x2 x3 x4 R 0)))
        (∑ i : Fin 2, Ideal.exp (chosen x0 x1 x2 x3 x4 R (place x0 x1 x2 x3 x4 R i) - chosen x0 x1 x2 x3 x4 R (place x0 x1 x2 x3 x4 R 0)))
      * Ideal.div (Ideal.exp (groupLogit x0 x1 x2 R (groupOf x0 x1 x2 R) - groupLogit x0 x1 x2 R (groupOf x0 x1 x2 R)))
        (∑ i, Ideal.exp (groupLogit x0 x1 x2 R i - groupLogit x0 x1 x2 R (groupOf x0 x1 x2 R))) := by
    intro j
    pointwise [val_main_v63, val_main_v62, val_main_v61, val_main_v60, val_main_v59, val_main_v58, val_main_cst_13, val_main_v57, val_main_v56, val_main_v55, val_main_v54, val_main_v31]
    simp only [v53_apply, values_apply, v30_apply, v15_apply]
  have two := softmax_weights (groupLogit x0 x1 x2 R) (expertLogit x0 x3 x4 R) hg he (groupOf x0 x1 x2 R) (place x0 x1 x2 x3 x4 R 0) (place x0 x1 x2 x3 x4 R 1)
    _ _ rfl rfl _ (Fin.sum_univ_two (fun i : Fin 2 => Ideal.exp (chosen x0 x1 x2 x3 x4 R (place x0 x1 x2 x3 x4 R i) - chosen x0 x1 x2 x3 x4 R (place x0 x1 x2 x3 x4 R 0)))) _ rfl
  exact ⟨(key 0).trans two.1, (key 1).trans two.2⟩

/-- The one-hot row of an expert: one at that expert, zero elsewhere. -/
theorem oneHot_apply (g k : Fin 4) (e : Fin 16) :
    FloatOps.uitofp (F := Ideal) FTy.f32 (IntOp.cmpi .eq (IntOp.addi (IntOp.muli (BitVec.ofNat 32 g.val) 4#32) (BitVec.ofNat 32 k.val)) (BitVec.ofNat 32 e.val))
      = if e = expertOf g k then (1 : EReal) else 0 := by
  have h : IntOp.cmpi .eq (IntOp.addi (IntOp.muli (BitVec.ofNat 32 g.val) 4#32) (BitVec.ofNat 32 k.val)) (BitVec.ofNat 32 e.val)
      = if e = expertOf g k then 1#1 else 0#1 := by
    revert g k e
    decide
  rw [h]
  by_cases he : e = expertOf g k
  · rw [if_pos he, if_pos he]
    show ((((1#1 : BitVec 1).toNat : ℕ) : ℝ) : EReal) = 1
    norm_num
  · rw [if_neg he, if_neg he]
    show ((((0#1 : BitVec 1).toNat : ℕ) : ℝ) : EReal) = 0
    norm_num

/-- The weights the reference gives the sixteen experts are the router's weights of the token's logits. -/
theorem comb_isComb (R : Fin 16384) (hg : ∀ j, IsReal (groupLogit x0 x1 x2 R j)) (he : ∀ e, IsReal (expertLogit x0 x3 x4 R e)) :
    IsComb (groupLogit x0 x1 x2 R) (expertLogit x0 x3 x4 R) (fun e => val_main_v73 (F := Ideal) x0 x1 x2 x3 x4 (ix2 R e)) := by
  refine ⟨groupOf x0 x1 x2 R, place x0 x1 x2 x3 x4 R 0, place x0 x1 x2 x3 x4 R 1, firstMax_group x0 x1 x2 R, firstMax_place x0 x1 x2 x3 x4 R,
    secondMax_place x0 x1 x2 x3 x4 R, fun e => ?_⟩
  have key : val_main_v73 (F := Ideal) x0 x1 x2 x3 x4 (ix2 R e) = ∑ j : Fin 2, (if e = expertOf (groupOf x0 x1 x2 R) (place x0 x1 x2 x3 x4 R j) then (1 : EReal) else 0)
      * val_main_v63 (F := Ideal) x0 x1 x2 x3 x4 (ix2 R j) := by
    pointwise [val_main_v73, val_main_v72, val_main_v71, val_main_v70, val_main_v69, val_main_cst_15, val_main_call0_v4, val_main_call0_v3, val_main_call0_v2, val_main_call0_v1,
      val_main_call0_v0, val_main_v68, val_main_v67, val_main_v66, val_main_v65, val_main_v64, val_main_c_14]
    simp only [v16_apply, indices_apply]
    refine Finset.sum_congr rfl fun j _ => ?_
    rw [oneHot_apply]
  refine key.trans ?_
  rw [Fin.sum_univ_two, (v63_apply x0 x1 x2 x3 x4 R hg he).1, (v63_apply x0 x1 x2 x3 x4 R hg he).2]
  unfold combWeight
  simp only [ite_mul, one_mul, zero_mul]
end Cert.Moe
-- ==== Proof.Moe.RefRow.lean ====
module
public import proofs.«01_k».proof.Proof.Moe.RefRoute

/-! The reference's result, read at a token and a column. -/

@[expose] public section
set_option maxRecDepth 16384
noncomputable section
namespace Cert.Moe
open Cert.ReferenceIdeal Cert.ReferenceIdeal.Gen Cert.ReferenceIdeal.Read Idealize.ShloMosaic

variable (x0 : FVec Ideal S16384x1024 .f32) (x1 : FVec Ideal S1024x4 .f32) (x2 : FVec Ideal S4 .f32) (x3 : FVec Ideal S1024x16 .f32) (x4 : FVec Ideal S16 .f32)
  (x5 x6 : FVec Ideal S16x1024x256 .f32) (x7 : FVec Ideal S16x256x1024 .f32) (x8 x9 : FVec Ideal S1024 .f32)

/-- One hidden unit of one expert, weighted. -/
theorem v80_apply (R : Fin 16384) (e : Fin 16) (f : Fin 256) : val_main_v80 (F := Ideal) x0 x1 x2 x3 x4 x5 x6 (ix3 R e f)
    = hiddenOf (fun k => x0 (ix2 R k)) x5 x6 (fun e => val_main_v73 (F := Ideal) x0 x1 x2 x3 x4 (ix2 R e)) e f := by
  pointwise [val_main_v80, val_main_v79, val_main_v78, val_main_v77, val_main_v76, val_main_v75, val_main_v74, val_main_call1_v5, val_main_call1_v4, val_main_call1_v3,
    val_main_call1_v2, val_main_call1_v1, val_main_call1_v0, val_main_call1_cst, val_main_call1_cst_0]
  unfold hiddenOf
  rw [sub_eq_add_neg, zero_add]
theorem v81_apply (R : Fin 16384) (d : Fin 1024) : val_main_v81 (F := Ideal) x0 x1 x2 x3 x4 x5 x6 x7 (ix2 R d)
    = ∑ q : Fin 4096, val_main_v80 (F := Ideal) x0 x1 x2 x3 x4 x5 x6 (ix3 R ⟨q.val / 256, by omega⟩ ⟨q.val % 256, by omega⟩) * flatW2 x7 (ix2 q d) := by
  pointwise [val_main_v81]
  rw [← Equiv.sum_comp (finProdFinEquiv (m := 16) (n := 256)), Fintype.sum_prod_type]
  refine Finset.sum_congr rfl fun e _ => Finset.sum_congr rfl fun f _ => ?_
  have h1 : (⟨(finProdFinEquiv (m := 16) (n := 256) (e, f)).val / 256, by omega⟩ : Fin 16) = e := Fin.ext (by simp [finProdFinEquiv]; omega)
  have h2 : (⟨(finProdFinEquiv (m := 16) (n := 256) (e, f)).val % 256, by omega⟩ : Fin 256) = f := Fin.ext (by simp [finProdFinEquiv])
  show _ = val_main_v80 (F := Ideal) x0 x1 x2 x3 x4 x5 x6 (ix3 R ⟨(finProdFinEquiv (m := 16) (n := 256) (e, f)).val / 256, _⟩
    ⟨(finProdFinEquiv (m := 16) (n := 256) (e, f)).val % 256, _⟩) * x7 (ix3 ⟨(finProdFinEquiv (m := 16) (n := 256) (e, f)).val / 256, _⟩
    ⟨(finProdFinEquiv (m := 16) (n := 256) (e, f)).val % 256, _⟩ d)
  rw [h1, h2]
theorem v108_apply (R : Fin 16384) (d : Fin 1024) : val_main_v108 (F := Ideal) x0 x1 x2 x3 x4 x5 x6 x7 x8 x9 (ix2 R d)
    = normAt (fun k => val_main_v84 (F := Ideal) x0 x1 x2 x3 x4 x5 x6 x7 (ix2 R k)) (x8 (ix1 d)) (x9 (ix1 d)) d := by
  pointwise [val_main_v108, val_main_v107, val_main_v106, val_main_v105, val_main_v104, val_main_v103, val_main_v102, val_main_v101, val_main_v100, val_main_v99,
    val_main_v98, val_main_v97, val_main_v96, val_main_v95, val_main_v94, val_main_v93, val_main_v92, val_main_v91, val_main_v90, val_main_v89, val_main_v88,
    val_main_v87, val_main_v86, val_main_v85, val_main_cst_17, val_main_cst_18, val_main_cst_19, val_main_cst_20, val_main_cst_21]
  rfl
theorem v84_apply (R : Fin 16384) (d : Fin 1024) : val_main_v84 (F := Ideal) x0 x1 x2 x3 x4 x5 x6 x7 (ix2 R d)
    = rowOf (fun k => x0 (ix2 R k)) x5 x6 (flatW2 x7) (fun e => val_main_v73 (F := Ideal) x0 x1 x2 x3 x4 (ix2 R e)) d := by
  pointwise [val_main_v84, val_main_v83, val_main_v82, val_main_cst_16]
  rw [v81_apply]
  simp only [v80_apply]
  rfl
end Cert.Moe
-- ==== Proof.Moe.Equation.lean ====
module
public import proofs.«01_k».proof.Proof.Moe.Pre
public import proofs.«01_k».proof.Proof.Moe.RefRow
public import proofs.«01_k».proof.Proof.Gen.KernelIdeal.Value

/-! The kernel's array is the reference's array when the router's inputs are finite. -/

@[expose] public section
set_option maxRecDepth 16384
noncomputable section
namespace Cert.Moe
open Cert.KernelIdeal Cert.KernelIdeal.Gen Cert.ReferenceIdeal.Read Idealize.ShloMosaic Idealize.ShloMosaic.Pipeline Idealize.ShloMosaic.TcCoe Idealize.SL.Sem

variable (m : (ℓ : Loc nD τ sig) → Buf (Elt Ideal) ℓ) (c : Dev nD)

/-- The reference's result on the kernel's arguments. -/
def expected : FVec Ideal S16384x1024 .f32 :=
  val_main_v108 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- The kernel leaves the reference's result. -/
theorem kernel_eq_expected
    (h : FiniteRouter (m ((c : Thread nD τ).loc main_arg0)) (m ((c : Thread nD τ).loc main_arg1)) (m ((c : Thread nD τ).loc main_arg2))
      (m ((c : Thread nD τ).loc main_arg3)) (m ((c : Thread nD τ).loc main_arg4))) :
    (dats m 0 c).arrAt 9 cfg0.N = expected m c := by
  have hC : Routed (m ((c : Thread nD τ).loc main_arg0)) (m ((c : Thread nD τ).loc main_arg1)) (m ((c : Thread nD τ).loc main_arg2))
      (m ((c : Thread nD τ).loc main_arg3)) (m ((c : Thread nD τ).loc main_arg4)) (fun R e => val_main_v73 (F := Ideal) (m ((c : Thread nD τ).loc main_arg0))
        (m ((c : Thread nD τ).loc main_arg1)) (m ((c : Thread nD τ).loc main_arg2)) (m ((c : Thread nD τ).loc main_arg3)) (m ((c : Thread nD τ).loc main_arg4)) (ix2 R e)) :=
    fun R => comb_isComb _ _ _ _ _ R (fun j => isReal_logitOf _ _ _ (h.x R) (fun k => h.wg k j) (h.bg j))
      (fun e => isReal_logitOf _ _ _ (h.x R) (fun k => h.we k e) (h.be e))
  refine (kernel_array m c _ h hC).trans ?_
  funext i
  unfold expected
  conv_rhs => rw [eq_ix2 i]
  refine Eq.trans ?_ (v108_apply _ _ _ _ _ _ _ _ _ _ (i 0) (i 1)).symm
  refine congrArg (fun y => normAt y _ _ _) (funext fun k => ?_)
  exact (v84_apply _ _ _ _ _ _ _ _ (i 0) k).symm

end Cert.Moe
-- ==== Proof.Sample.KernelRoute.lean ====
module
public import proofs.«01_k».proof.Proof.Gen.SampleIdeal.Skeleton
public import proofs.«01_k».proof.Proof.Moe.Route
public import Idealize.ShloMosaic.Lib.Pointwise

/-! The kernel's router on one block, read at a row: from the row's 128 logits to the weights of the experts. -/

@[expose] public section
set_option maxRecDepth 16384
noncomputable section
namespace Cert.Moe.Sample
open Cert.SampleIdeal Cert.SampleIdeal.Gen Idealize.ShloMosaic

/-- The word of minus infinity. -/
theorem ofBits_neg_inf : Ideal.ofBits .f32 4286578688#32 = ⊥ := by simp [Ideal.ofBits, Ideal.ieee]

/-- Selecting on a condition's bit is choosing on the condition. -/
theorem select_ite {α : Type} (p : Prop) [Decidable p] (a b : α) :
    Scalar.select (if p then 1#1 else 0#1) a b = if p then a else b := by
  unfold Scalar.select; split <;> simp

theorem slt_four : ∀ l : Fin 128, IntOp.cmpi .slt (BitVec.ofNat 32 l.val) 4#32 = if l.val < 4 then 1#1 else 0#1 := by
  decide +kernel

/-- The lanes of group `g`'s experts. -/
theorem group_lanes : ∀ g : Fin 4, ∀ l : Fin 128,
    IntOp.andi (IntOp.cmpi .sge (BitVec.ofNat 32 l.val) (IntOp.addi 4#32 (IntOp.muli 4#32 (BitVec.ofNat 32 g.val))))
      (IntOp.cmpi .slt (BitVec.ofNat 32 l.val) (IntOp.addi (IntOp.addi 4#32 (IntOp.muli 4#32 (BitVec.ofNat 32 g.val))) 4#32))
    = if 4 + 4 * g.val ≤ l.val ∧ l.val < 4 + 4 * g.val + 4 then 1#1 else 0#1 := by
  decide +kernel

/-- Lane numbers below 128 are equal words exactly if they are equal. -/
theorem eq_lanes : ∀ l k : Fin 128,
    IntOp.cmpi .eq (BitVec.ofNat 32 l.val) (BitVec.ofNat 32 k.val) = if l.val = k.val then 1#1 else 0#1 := by
  decide +kernel

section
variable (v19 : FVec Ideal S128x128 .f32) (v32 : IVec S128x1 32) (v37 v38 : FVec Ideal S128x1 .f32) (r : Fin 128)
  (L : Fin 128 → EReal) (hL : ∀ l, v19 (ix2 r l) = L l)
  (hfin : ∀ l : Fin 128, l.val < 20 → ⊥ < L l) (gs : Fin 4) (hgs : v32 (ix2 r 0) = BitVec.ofNat 32 gs.val)

/-- The logits of the group's four experts. -/
abbrev groupLogits (L : Fin 128 → EReal) (gs : Fin 4) (k : Fin 4) : EReal := L ⟨4 + 4 * gs.val + k.val, by omega⟩

include hL hgs in
/-- The masked row: the chosen group's logits, the bottom elsewhere. -/
theorem pay10_apply (l : Fin 128) :
    k0_pay10 (F := Ideal) v19 (iota .tc S128x128 32 [1] iota_S128x128_d1_w32) v32 (ix2 r l)
      = lanes (4 + 4 * gs.val) (groupLogits L gs) l := by
  pointwise [k0_pay10]
  rw [hgs, group_lanes, select_ite, ofBits_neg_inf, hL]
  unfold lanes
  by_cases h : 4 + 4 * gs.val ≤ l.val ∧ l.val < 4 + 4 * gs.val + 4
  · rw [if_pos h, dif_pos h]
    refine congrArg L (Fin.ext ?_)
    show l.val = _
    simp only; omega
  · rw [if_neg h, dif_neg h]

include hL hgs hfin in
/-- The greatest logit of the group and the lane that holds it. -/
theorem pay11_12_apply (i0 : Fin 4) (h0 : FirstMax (groupLogits L gs) i0) :
    k0_pay11 (F := Ideal) v19 (iota .tc S128x128 32 [1] iota_S128x128_d1_w32) v32 (ix2 r 0) = groupLogits L gs i0
    ∧ k0_pay12 (F := Ideal) v19 (iota .tc S128x128 32 [1] iota_S128x128_d1_w32) v32 (ix2 r 0)
      = BitVec.ofNat 32 (4 + 4 * gs.val + i0.val) := by
  have hm := lanes_firstMax (4 + 4 * gs.val) (groupLogits L gs) (by omega) (fun k => hfin _ (by simp only; omega)) i0 h0
  have h11 : k0_pay11 (F := Ideal) v19 (iota .tc S128x128 32 [1] iota_S128x128_d1_w32) v32 (ix2 r 0)
      = lanes (4 + 4 * gs.val) (groupLogits L gs) ⟨4 + 4 * gs.val + i0.val, by omega⟩ := by
    pointwise [k0_pay11]
    rw [ofBits_neg_inf]
    simp only [pay10_apply v19 v32 r L hL gs hgs]
    exact fold_max_eq (lanes (4 + 4 * gs.val) (groupLogits L gs)) hm.1
  refine ⟨h11.trans (lanes_at _ _ _ (by omega)), ?_⟩
  pointwise [k0_pay12]
  rw [h11]
  simp only [pay10_apply v19 v32 r L hL gs hgs]
  exact fold_minsi_eq (by omega) (lanes (4 + 4 * gs.val) (groupLogits L gs)) hm

include hL hgs hfin in
/-- The second greatest logit of the group and the lane that holds it. -/
theorem pay14_15_apply (i0 i1 : Fin 4) (h0 : FirstMax (groupLogits L gs) i0) (h1 : SecondMax (groupLogits L gs) i0 i1) :
    k0_pay14 (F := Ideal) v19 (iota .tc S128x128 32 [1] iota_S128x128_d1_w32) v32 (ix2 r 0) = groupLogits L gs i1
    ∧ k0_pay15 (F := Ideal) v19 (iota .tc S128x128 32 [1] iota_S128x128_d1_w32) v32 (ix2 r 0)
      = BitVec.ofNat 32 (4 + 4 * gs.val + i1.val) := by
  have hm := lanes_secondMax (4 + 4 * gs.val) (groupLogits L gs) (by omega) (fun k => hfin _ (by simp only; omega)) i0 i1 h1
  have h13 : ∀ l : Fin 128, k0_pay13 (F := Ideal) v19 (iota .tc S128x128 32 [1] iota_S128x128_d1_w32) v32 (ix2 r l)
      = struck (4 + 4 * gs.val) (groupLogits L gs) i0 l := by
    intro l
    pointwise [k0_pay13]
    rw [(pay11_12_apply v19 v32 r L hL hfin gs hgs i0 h0).2, pay10_apply v19 v32 r L hL gs hgs, ofBits_neg_inf,
      show BitVec.ofNat 32 (4 + 4 * gs.val + i0.val) = BitVec.ofNat 32 (⟨4 + 4 * gs.val + i0.val, by omega⟩ : Fin 128).val from rfl,
      eq_lanes, select_ite]
    rfl
  have h14 : k0_pay14 (F := Ideal) v19 (iota .tc S128x128 32 [1] iota_S128x128_d1_w32) v32 (ix2 r 0)
      = struck (4 + 4 * gs.val) (groupLogits L gs) i0 ⟨4 + 4 * gs.val + i1.val, by omega⟩ := by
    pointwise [k0_pay14]
    rw [ofBits_neg_inf]
    simp only [h13]
    exact fold_max_eq (struck (4 + 4 * gs.val) (groupLogits L gs) i0) hm.1
  refine ⟨h14.trans ?_, ?_⟩
  · have hne : ¬ 4 + 4 * gs.val + i1.val = 4 + 4 * gs.val + i0.val := fun h => h1.1 (Fin.ext (by omega))
    unfold struck
    rw [if_neg hne]
    exact lanes_at _ _ _ (by omega)
  pointwise [k0_pay15]
  rw [h14]
  simp only [h13]
  exact fold_minsi_eq (by omega) (struck (4 + 4 * gs.val) (groupLogits L gs) i0) hm

end

/-- The weights: with the row's first twenty logits above minus infinity, the kernel's row of weights is the relation's. -/
theorem pay20_isComb (x : Vec Ideal S128x1024 .f32) (wh wl wh' : Vec Ideal S1024x128 .bf16) (br : Vec Ideal S1x128 .f32)
    (r : Fin 128) (L : Fin 128 → EReal) (hL : ∀ l, k0_pay3 (F := Ideal) x wh wl wh' br (ix2 r l) = L l)
    (hfin : ∀ l : Fin 128, l.val < 20 → ⊥ < L l) :
    IsComb (fun j => L ⟨j.val, by omega⟩) (fun e => L ⟨4 + e.val, by omega⟩) (fun e =>
      k0_pay20 (F := Ideal) (iota .tc S128x128 32 [1] iota_S128x128_d1_w32)
        (k0_pay15 (k0_pay3 x wh wl wh' br) (iota .tc S128x128 32 [1] iota_S128x128_d1_w32) (k0_pay6 x wh wl wh' br))
        (k0_pay17 (k0_pay3 x wh wl wh' br) (iota .tc S128x128 32 [1] iota_S128x128_d1_w32) (k0_pay6 x wh wl wh' br) (k0_pay7 x wh wl wh' br) k0_pay8)
        (k0_pay18 (k0_pay3 x wh wl wh' br) (iota .tc S128x128 32 [1] iota_S128x128_d1_w32) (k0_pay6 x wh wl wh' br))
        (FloatOps.ofBits .f32 0#32)
        (k0_pay19 (k0_pay3 x wh wl wh' br) (iota .tc S128x128 32 [1] iota_S128x128_d1_w32) (k0_pay6 x wh wl wh' br) (k0_pay7 x wh wl wh' br) k0_pay8)
        (ix2 r ⟨4 + e.val, by omega⟩)) := by
  obtain ⟨gs, -, hg, -⟩ := exists_two (fun j : Fin 4 => L ⟨j.val, by omega⟩)
  have hm := lanes_firstMax 0 (fun j : Fin 4 => L ⟨j.val, by omega⟩) (by omega) (fun k => hfin _ (by simp only; omega)) gs hg
  rw [show (⟨0 + gs.val, by omega⟩ : Fin 128) = ⟨gs.val, by omega⟩ from Fin.ext (Nat.zero_add _)] at hm
  have h4 : ∀ l : Fin 128, k0_pay4 (F := Ideal) x wh wl wh' br (ix2 r l) = lanes 0 (fun j : Fin 4 => L ⟨j.val, by omega⟩) l := by
    intro l
    pointwise [k0_pay4]
    rw [slt_four, select_ite, ofBits_neg_inf, hL]
    unfold lanes
    by_cases h : l.val < 4
    · rw [if_pos h, dif_pos ⟨Nat.zero_le _, by omega⟩]; rfl
    · rw [if_neg h, dif_neg (by omega)]
  have h5 : k0_pay5 (F := Ideal) x wh wl wh' br (ix2 r 0) = lanes 0 (fun j : Fin 4 => L ⟨j.val, by omega⟩) ⟨gs.val, by omega⟩ := by
    pointwise [k0_pay5]
    rw [ofBits_neg_inf]
    simp only [h4]
    exact fold_max_eq (lanes 0 fun j : Fin 4 => L ⟨j.val, by omega⟩) hm.1
  have h6 : k0_pay6 (F := Ideal) x wh wl wh' br (ix2 r 0) = BitVec.ofNat 32 gs.val := by
    pointwise [k0_pay6]
    rw [h5]
    simp only [h4]
    refine fold_minsi_eq (by omega) (lanes 0 fun j : Fin 4 => L ⟨j.val, by omega⟩) hm
  have low : ∀ j : Fin 4, lanes 0 (fun j : Fin 4 => L ⟨j.val, by omega⟩) ⟨j.val, by omega⟩ = L ⟨j.val, by omega⟩ := by
    intro j
    unfold lanes
    rw [dif_pos ⟨Nat.zero_le _, by simp only; omega⟩]
    rfl
  have h5' := h5.trans (low gs)
  have h7 : k0_pay7 (F := Ideal) x wh wl wh' br (ix2 r 0) = ∑ j : Fin 4, Ideal.exp (L ⟨j.val, by omega⟩ - L ⟨gs.val, by omega⟩) := by
    pointwise [k0_pay7]
    rw [h5']
    simp only [h4]
    refine (sum_first_four _ fun l hl => ?_).trans ?_
    · have : lanes 0 (fun j : Fin 4 => L ⟨j.val, by omega⟩) l = ⊥ := by
        unfold lanes
        rw [dif_neg (by omega)]
      rw [this, EReal.bot_sub, Ideal.exp_bot]
    · simp only [low]
  have h8 : k0_pay8 (F := Ideal) (ix2 r 0) = 1 := by pointwise [k0_pay8]
  obtain ⟨i0, i1, h0, h1⟩ := exists_two (groupLogits L gs)
  have hEq : ∀ k : Fin 4, (⟨4 + (expertOf gs k).val, by omega⟩ : Fin 128) = ⟨4 + 4 * gs.val + k.val, by omega⟩ :=
    fun k => Fin.ext (by unfold expertOf; simp only; omega)
  have hEl : (fun k => (fun e : Fin 16 => L ⟨4 + e.val, by omega⟩) (expertOf gs k)) = groupLogits L gs := by
    funext k; exact congrArg L (hEq k)
  refine ⟨gs, i0, i1, hg, by rw [hEl]; exact h0, by rw [hEl]; exact h1, fun e => ?_⟩
  obtain ⟨h11, h12⟩ := pay11_12_apply (k0_pay3 x wh wl wh' br) (k0_pay6 x wh wl wh' br) r L hL hfin gs h6 i0 h0
  obtain ⟨h14, h15⟩ := pay14_15_apply (k0_pay3 x wh wl wh' br) (k0_pay6 x wh wl wh' br) r L hL hfin gs h6 i0 i1 h0 h1
  have h16 : k0_pay16 (F := Ideal) (k0_pay3 x wh wl wh' br) (iota .tc S128x128 32 [1] iota_S128x128_d1_w32) (k0_pay6 x wh wl wh' br) (ix2 r 0)
      = ratio (fun e : Fin 16 => L ⟨4 + e.val, by omega⟩) gs i0 i1 := by
    pointwise [k0_pay16]
    rw [h11, h14]
    unfold ratio
    simp only [hEq]
  have h9 : k0_pay9 (F := Ideal) (k0_pay7 x wh wl wh' br) k0_pay8 (ix2 r 0) = groupWeight (fun j : Fin 4 => L ⟨j.val, by omega⟩) gs := by
    pointwise [k0_pay9]
    rw [h7, h8]; rfl
  have cond : ∀ k : Fin 4, IntOp.cmpi .eq (BitVec.ofNat 32 (4 + e.val)) (BitVec.ofNat 32 (4 + 4 * gs.val + k.val))
      = if e = expertOf gs k then 1#1 else 0#1 := by
    intro k
    have := eq_lanes ⟨4 + e.val, by omega⟩ ⟨4 + 4 * gs.val + k.val, by omega⟩
    simp only at this
    rw [this]
    refine if_congr ?_ rfl rfl
    rw [Fin.ext_iff]; unfold expertOf; simp only; omega
  unfold combWeight
  pointwise [k0_pay20, k0_pay18, k0_pay17, k0_pay19]
  rw [h12, h15, h16, h9, cond, cond, select_ite, select_ite]

end Cert.Moe.Sample
-- ==== Proof.Sample.KernelBlock.lean ====
module
public import proofs.«01_k».proof.Proof.Gen.SampleIdeal.Value
public import proofs.«01_k».proof.Proof.Sample.KernelRoute
public import Idealize.ShloMosaic.Lib.Pipeline.ValueKit

/-! What one grid point writes, as a function of the block's token rows and the weights. -/

@[expose] public section
set_option maxRecDepth 16384
noncomputable section
namespace Cert.Moe.Sample
open Cert.SampleIdeal Cert.SampleIdeal.Gen Idealize.ShloMosaic Idealize.ShloMosaic.Pipeline

/-- A load of a whole array reads the array. -/
theorem load_whole {S : Shape} {e : EltTy} {arg : Memref sig .tc .vmem S e} (harg : arg.IsWhole) (X : Vec Ideal S e)
    (off : Fin S.rank → Nat) (hoff : off = fun _ => 0) (inb : ∀ a, off a + S.size a ≤ S.size a) :
    View.readAt (Elt Ideal) arg.view (Rect.unit off S.size inb).toLoadRect (harg.unread X) = X :=
  ((congrArg (fun Y => View.ld Y (Rect.unit off S.size inb)) (harg.read_unread X))).trans (View.ld_unit_zero hoff inb X)

/-- A load of one expert's slab reads that expert's matrix. -/
theorem load_slab {arg : Memref sig .tc .vmem S16x1024x256 .bf16} (harg : arg.IsWhole) (X : Vec Ideal S16x1024x256 .bf16)
    (e : Nat) (he : e < 16) (inb : ∀ a, (![e, 0, 0] : Fin 3 → Nat) a + S1x1024x256.size a ≤ S16x1024x256.size a) :
    View.readAt (Elt Ideal) arg.view (Rect.unit (s := S16x1024x256) ![e, 0, 0] S1x1024x256.size inb).toLoadRect (harg.unread X)
      = fun y => X (ix3 ⟨e, he⟩ (y 1) (y 2)) := by
  funext y
  refine (congrArg (fun Y => View.ld Y (Rect.unit (s := S16x1024x256) ![e, 0, 0] S1x1024x256.size inb) y) (harg.read_unread X)).trans ?_
  refine View.ld_unit_apply_of X _ _ inb y _ fun a => ?_
  match a with
  | ⟨0, _⟩ => have : (y 0).val < 1 := (y 0).isLt; show e = e + (y 0).val; omega
  | ⟨1, _⟩ => exact (Nat.zero_add _).symm
  | ⟨2, _⟩ => exact (Nat.zero_add _).symm

/-- The weights of the block's rows, as the kernel computes them. -/
def blockComb (x : Vec Ideal S128x1024 .f32) (wh wl : Vec Ideal S1024x128 .bf16) (br : Vec Ideal S1x128 .f32) : FVec Ideal S128x128 .f32 :=
  k0_pay20 (F := Ideal) (iota .tc S128x128 32 [1] iota_S128x128_d1_w32)
        (k0_pay15 (k0_pay3 x wh wl wh br) (iota .tc S128x128 32 [1] iota_S128x128_d1_w32) (k0_pay6 x wh wl wh br))
        (k0_pay17 (k0_pay3 x wh wl wh br) (iota .tc S128x128 32 [1] iota_S128x128_d1_w32) (k0_pay6 x wh wl wh br) (k0_pay7 x wh wl wh br) k0_pay8)
        (k0_pay18 (k0_pay3 x wh wl wh br) (iota .tc S128x128 32 [1] iota_S128x128_d1_w32) (k0_pay6 x wh wl wh br))
        (FloatOps.ofBits .f32 0#32)
        (k0_pay19 (k0_pay3 x wh wl wh br) (iota .tc S128x128 32 [1] iota_S128x128_d1_w32) (k0_pay6 x wh wl wh br) (k0_pay7 x wh wl wh br) k0_pay8)

/-- One entry of a token's hidden layer: expert `e`'s gated unit `f`, weighted by `c e`. -/
def hiddenOf (x : Fin 1024 → EReal) (w1 w3 : FVec Ideal S16x1024x256 .bf16) (c : Fin 16 → EReal) (e : Fin 16) (f : Fin 256) : EReal :=
  (∑ k : Fin 1024, x k * w1 (ix3 e k f)) * Ideal.div 1 (1 + Ideal.exp (0 - ∑ k : Fin 1024, x k * w1 (ix3 e k f)))
    * (∑ k : Fin 1024, x k * w3 (ix3 e k f)) * c e

/-- The same for row `r` of a block of rows. -/
def hiddenAt (x : Vec Ideal S128x1024 .f32) (w1 w3 : Vec Ideal S16x1024x256 .bf16) (C : FVec Ideal S128x128 .f32)
    (r : Fin 128) (e : Fin 16) (f : Fin 256) : EReal :=
  hiddenOf (fun k => x (ix2 r k)) w1 w3 (fun e => C (ix2 r ⟨4 + e.val, by omega⟩)) e f

theorem zero_zero : (![0, 0] : Fin 2 → Nat) = fun _ => 0 := by
  funext a
  match a with
  | ⟨0, _⟩ => rfl
  | ⟨1, _⟩ => rfl

variable (c : Dev nD) (arg1 : Memref sig .tc .vmem S128x1024 .f32) (harg1 : arg1.IsWhole)
  (arg2 : Memref sig .tc .vmem S1024x128 .bf16) (harg2 : arg2.IsWhole) (arg3 : Memref sig .tc .vmem S1024x128 .bf16) (harg3 : arg3.IsWhole)
  (arg4 : Memref sig .tc .vmem S1x128 .f32) (harg4 : arg4.IsWhole)
  (arg5 : Memref sig .tc .vmem S16x1024x256 .bf16) (harg5 : arg5.IsWhole)
  (arg6 : Memref sig .tc .vmem S16x1024x256 .bf16) (harg6 : arg6.IsWhole)
  (arg11 : Memref sig .tc .vmem S128x4096 .bf16)
  (x : Vec Ideal S128x1024 .f32) (wh wl : Vec Ideal S1024x128 .bf16) (br : Vec Ideal S1x128 .f32)
  (w1 w3 : Vec Ideal S16x1024x256 .bf16)

/-- The weights the run computes are `blockComb` of its loads. -/
theorem run_comb : kernelRun0_A.sl.r_9 c arg1 harg1 arg2 harg2 arg3 harg3 arg4 harg4 x wh wl br = blockComb x wh wl br := by
  simp only [kernelRun0_A.sl.r_9, kernelRun0_A.sl.r_2, kernelRun0_A.sl.r_3, kernelRun0_A.sl.r_4, kernelRun0_A.sl.r_5, kernelRun0_A.sl.r_6, kernelRun0_A.sl.r_7,
    kernelRun0_A.sl.r_8, kernelRun0_A.sl.v20]
  rw [load_whole harg1 x _ zero_zero, load_whole harg2 wh _ zero_zero, load_whole harg3 wl _ zero_zero, load_whole harg4 br _ zero_zero]
  rfl

/-- The rows the run computes with. -/
theorem run_rows : kernelRun0_A.sl.r_1 c arg1 harg1 x = k0_pay2 x := by
  simp only [kernelRun0_A.sl.r_1]
  rw [load_whole harg1 x _ zero_zero]

/-- The hidden layer's entry at column `256 e + f`. -/
theorem hiddenAt_split (C : FVec Ideal S128x128 .f32) (r r' : Fin 128) (q : Fin 4096) (e : Fin 16) (f : Fin 256) (hr : r.val = r'.val)
    (hq : q.val = 256 * e.val + f.val) :
    hiddenAt x w1 w3 C r ⟨q.val / 256, by omega⟩ ⟨q.val % 256, by omega⟩ = hiddenAt x w1 w3 C r' e f := by
  obtain rfl : r = r' := Fin.ext hr
  congr 1
  · exact Fin.ext (by simp only; omega)
  · exact Fin.ext (by simp only; omega)

/-- The hidden layer the run leaves in its scratch. -/
theorem run_hidden (r : Fin 128) (q : Fin 4096) :
    kernelRun0_A.sl.v449 c arg1 harg1 arg2 harg2 arg3 harg3 arg4 harg4 arg5 harg5 arg6 harg6 arg11 x wh wl br w1 w3 (ix2 r q)
      = hiddenAt x w1 w3 (blockComb x wh wl br) r ⟨q.val / 256, by omega⟩ ⟨q.val % 256, by omega⟩ := by
  unfold kernelRun0_A.sl.v449
  rw [View.readCov_eq_canon']
  simp only [kernelRun0_A.sl.HS0_16]
  canon_tiles y h
  all_goals
    obtain ⟨r', f, rfl⟩ : ∃ r' f, y = ix2 r' f := ⟨y 0, y 1, by funext a; match a with | ⟨0, _⟩ => rfl | ⟨1, _⟩ => rfl⟩
    rw [Rect.idx_unit_val] at h0 h1
    simp only [ix2, Matrix.cons_val_zero, Matrix.cons_val_one, Nat.zero_add] at h0 h1
  · refine Eq.trans ?_ (hiddenAt_split x w1 w3 (blockComb x wh wl br) r r' q 15 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 15 (by decide), load_slab harg6 w3 15 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 14 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 14 (by decide), load_slab harg6 w3 14 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 13 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 13 (by decide), load_slab harg6 w3 13 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 12 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 12 (by decide), load_slab harg6 w3 12 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 11 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 11 (by decide), load_slab harg6 w3 11 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 10 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 10 (by decide), load_slab harg6 w3 10 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 9 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 9 (by decide), load_slab harg6 w3 9 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 8 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 8 (by decide), load_slab harg6 w3 8 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 7 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 7 (by decide), load_slab harg6 w3 7 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 6 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 6 (by decide), load_slab harg6 w3 6 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 5 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 5 (by decide), load_slab harg6 w3 5 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 4 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 4 (by decide), load_slab harg6 w3 4 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 3 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 3 (by decide), load_slab harg6 w3 3 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 2 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 2 (by decide), load_slab harg6 w3 2 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 1 f h0 (by simpa using h1)).symm
    try simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_50]
    rw [run_rows, run_comb, load_slab harg5 w1 1 (by decide), load_slab harg6 w3 1 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  · refine Eq.trans ?_ (hiddenAt_split x w1 w3 (blockComb x wh wl br) r r' q 0 f h0 (by simpa using h1)).symm
    have hc : k0_pay20 kernelRun0_A.sl.v20 (kernelRun0_A.sl.r_5 c arg1 harg1 arg2 harg2 arg3 harg3 arg4 harg4 x wh wl br)
        (kernelRun0_A.sl.r_6 c arg1 harg1 arg2 harg2 arg3 harg3 arg4 harg4 x wh wl br)
        (kernelRun0_A.sl.r_7 c arg1 harg1 arg2 harg2 arg3 harg3 arg4 harg4 x wh wl br) kernelRun0_A.sl.cst_29
        (kernelRun0_A.sl.r_8 c arg1 harg1 arg2 harg2 arg3 harg3 arg4 harg4 x wh wl br) = blockComb x wh wl br :=
      run_comb c arg1 harg1 arg2 harg2 arg3 harg3 arg4 harg4 x wh wl br
    rw [run_rows, load_slab harg5 w1 0 (by decide), load_slab harg6 w3 0 (by decide)]
    unfold hiddenAt hiddenOf
    pointwise [k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
    rw [hc]

/-- The layer norm of one row `y` at column `d`. -/
def normAt (y : Fin 1024 → EReal) (g b : EReal) (d : Fin 1024) : EReal :=
  (y d - Ideal.div (∑ k, y k) (Ideal.ofBits .f32 1149239296#32))
    * Ideal.rsqrt (Ideal.div (∑ k, (y k - Ideal.div (∑ k, y k) (Ideal.ofBits .f32 1149239296#32))
        * (y k - Ideal.div (∑ k, y k) (Ideal.ofBits .f32 1149239296#32))) (Ideal.ofBits .f32 1149239296#32)
      + Ideal.ofBits .f32 925353388#32) * g + b

/-- A token's row before the layer norm: the scaled residual plus the experts' output. -/
def rowOf (x : Fin 1024 → EReal) (w1 w3 : FVec Ideal S16x1024x256 .bf16) (w2 : FVec Ideal S4096x1024 .bf16)
    (c : Fin 16 → EReal) (d : Fin 1024) : EReal :=
  Ideal.ofBits .f32 0x3FD744FD#32 * x d
    + ∑ q : Fin 4096, hiddenOf x w1 w3 c ⟨q.val / 256, by omega⟩ ⟨q.val % 256, by omega⟩ * w2 (ix2 q d)

/-- The same for row `r` of a block of rows. -/
def rowAt (x : Vec Ideal S128x1024 .f32) (w1 w3 : Vec Ideal S16x1024x256 .bf16) (w2 : Vec Ideal S4096x1024 .bf16)
    (C : FVec Ideal S128x128 .f32) (r : Fin 128) (d : Fin 1024) : EReal :=
  Ideal.ofBits .f32 0x3FD744FD#32 * x (ix2 r d)
    + ∑ q : Fin 4096, hiddenAt x w1 w3 C r ⟨q.val / 256, by omega⟩ ⟨q.val % 256, by omega⟩ * w2 (ix2 q d)

variable (i : grid0.Coords) (arg7 : Memref sig .tc .vmem S4096x1024 .bf16) (harg7 : arg7.IsWhole)
  (arg8 : Memref sig .tc .vmem S1x1024 .f32) (harg8 : arg8.IsWhole) (arg9 : Memref sig .tc .vmem S1x1024 .f32) (harg9 : arg9.IsWhole)
  (arg10 : Memref sig .tc .vmem S128x1024 .f32) (harg10 : arg10.IsWhole) (harg11 : arg11.IsWhole)
  (w2 : Vec Ideal S4096x1024 .bf16) (g b : Vec Ideal S1x1024 .f32)

/-- The body's output block at `(r, d)`. -/
theorem out_apply (r : Fin 128) (d : Fin 1024) :
    out0_A_9 c i arg1 harg1 arg2 harg2 arg3 harg3 arg4 harg4 arg5 harg5 arg6 harg6 arg7 harg7 arg8 harg8 arg9 harg9 arg10 harg10
        arg11 harg11 x wh wl br w1 w3 w2 g b (ix2 r d)
      = normAt (rowAt x w1 w3 w2 (blockComb x wh wl br) r) (g (ix2 0 d)) (b (ix2 0 d)) d := by
  unfold out0_A_9 kernelRun0_A
  dsimp only
  refine (View.read_writes_junk_apply_eq_canon _ _ _).trans ((congrFun (View.canon_cons_unit_zero zero_zero _ _ []) _).trans ?_)
  simp only [kernelRun0_A.sl.r_28, kernelRun0_A.sl.r]
  rw [load_whole harg1 x _ zero_zero, load_whole harg7 w2 _ zero_zero, load_whole harg8 g _ zero_zero, load_whole harg9 b _ zero_zero]
  unfold normAt rowAt
  simp only [← run_hidden c arg1 harg1 arg2 harg2 arg3 harg3 arg4 harg4 arg5 harg5 arg6 harg6 arg11]
  pointwise [k0_pay1, k0_pay55]

/-- What a grid point writes at `(r, d)` of its block. -/
theorem block_apply (m : (ℓ : Loc nD τ sig) → Buf (Elt Ideal) ℓ) (c : Dev nD) (t : Fin cfg0.N) (r : Fin 128) (d : Fin 1024) :
    outsAt0 (F := Ideal) m c t (ix2 r d)
      = normAt (rowAt (iblk m c 0 t) (iblk m c 4 t) (iblk m c 5 t) (iblk m c 6 t)
          (blockComb (iblk m c 0 t) (iblk m c 1 t) (iblk m c 2 t) (iblk m c 3 t)) r)
        (iblk m c 7 t (ix2 0 d)) (iblk m c 8 t (ix2 0 d)) d := by
  unfold outsAt0
  exact out_apply ..
end Cert.Moe.Sample
-- ==== Proof.Sample.Entry.lean ====
module
public import proofs.«01_k».proof.Proof.Sample.KernelBlock
public import Idealize.ShloMosaic.Lib.Pipeline.ValueKit

/-! What the host prepares for the kernel: the packed router weights and biases, the experts' weights. -/

@[expose] public section
set_option maxRecDepth 16384
noncomputable section
namespace Cert.Moe.Sample
open Cert.SampleIdeal Cert.SampleIdeal.Gen Idealize.ShloMosaic Idealize.ShloMosaic.Pipeline Idealize.ShloMosaic.TcCoe Idealize.SL.Sem

/-- The packed router weights: the groups' columns, the experts' columns, zeros. -/
def packW (A : FVec Ideal S1024x4 .f32) (B : FVec Ideal S1024x16 .f32) : FVec Ideal S1024x128 .f32 :=
  concatenate S1024x128 1 [⟨S1024x4, A⟩, ⟨S1024x16, B⟩,
      ⟨S1024x108, broadcastInDim S1024x108 ![] bcast_S_S1024x108 (constant S_ .f32 0x00000000#32 : FVec Ideal S_ .f32)⟩] concatenates_S1024x4_S1024x16_S1024x108_S1024x128_d1

/-- The packed router biases. -/
def packB (a : FVec Ideal S4 .f32) (b : FVec Ideal S16 .f32) : FVec Ideal S128 .f32 :=
  concatenate S128 0 [⟨S4, a⟩, ⟨S16, b⟩,
      ⟨S108, broadcastInDim S108 ![] bcast_S_S108 (constant S_ .f32 0x00000000#32 : FVec Ideal S_ .f32)⟩] concatenates_S4_S16_S108_S128_d0

/-- The router's weight at lane `l`: the groups' columns, the experts' columns, and zeros. -/
def laneWeight (A : FVec Ideal S1024x4 .f32) (B : FVec Ideal S1024x16 .f32) (k : Fin 1024) (l : Fin 128) : EReal :=
  if h : l.val < 4 then A (ix2 k ⟨l.val, h⟩) else if h' : l.val < 20 then B (ix2 k ⟨l.val - 4, by omega⟩) else 0

/-- The router's bias at lane `l`. -/
def laneBias (a : FVec Ideal S4 .f32) (b : FVec Ideal S16 .f32) (l : Fin 128) : EReal :=
  if h : l.val < 4 then a (ix1 ⟨l.val, h⟩) else if h' : l.val < 20 then b (ix1 ⟨l.val - 4, by omega⟩) else 0

theorem packW_apply (A : FVec Ideal S1024x4 .f32) (B : FVec Ideal S1024x16 .f32) (k : Fin 1024) (l : Fin 128) :
    packW A B (ix2 k l) = laneWeight A B k l := by
  pointwise [packW]
  unfold laneWeight
  by_cases h : l.val < 4
  · rw [dif_pos h, dif_pos h]
  · rw [dif_neg h, dif_neg h]
    by_cases h' : l.val < 20
    · rw [dif_pos h', dif_pos (by omega)]
    · rw [dif_neg h', dif_neg (by omega)]
theorem packB_apply (a : FVec Ideal S4 .f32) (b : FVec Ideal S16 .f32) (l : Fin 128) :
    packB a b (ix1 l) = laneBias a b l := by
  pointwise [packB]
  unfold laneBias
  by_cases h : l.val < 4
  · rw [dif_pos h, dif_pos h]
  · rw [dif_neg h, dif_neg h]
    by_cases h' : l.val < 20
    · rw [dif_pos h', dif_pos (by omega)]
    · rw [dif_neg h', dif_neg (by omega)]

variable (m : (ℓ : Loc nD τ sig) → Buf (Elt Ideal) ℓ) (c : Dev nD)
theorem entry_v2 (k : Fin 1024) (l : Fin 128) : V m c main_v2 (ix2 k l)
    = laneWeight (m ((c : Thread nD τ).loc main_arg1)) (m ((c : Thread nD τ).loc main_arg3)) k l := by
  have h : V m c main_v2 = truncf .bf16 (packW (m ((c : Thread nD τ).loc main_arg1)) (m ((c : Thread nD τ).loc main_arg3))) bitsLt_bf16_f32 := rfl
  rw [h]
  exact packW_apply ..
theorem entry_v5 (k : Fin 1024) (l : Fin 128) : V m c main_v5 (ix2 k l)
    = laneWeight (m ((c : Thread nD τ).loc main_arg1)) (m ((c : Thread nD τ).loc main_arg3)) k l
      - laneWeight (m ((c : Thread nD τ).loc main_arg1)) (m ((c : Thread nD τ).loc main_arg3)) k l := by
  have h : V m c main_v5 = truncf .bf16 (subf (packW (m ((c : Thread nD τ).loc main_arg1)) (m ((c : Thread nD τ).loc main_arg3)))
    (extf .f32 (truncf .bf16 (packW (m ((c : Thread nD τ).loc main_arg1)) (m ((c : Thread nD τ).loc main_arg3))) bitsLt_bf16_f32) bitsLt_bf16_f32)) bitsLt_bf16_f32 := rfl
  rw [h, ← packW_apply]
  rfl
theorem entry_v8 (l : Fin 128) : V m c main_v8 (ix2 0 l)
    = laneBias (m ((c : Thread nD τ).loc main_arg2)) (m ((c : Thread nD τ).loc main_arg4)) l := by
  have h : V m c main_v8 = shapeCast S1x128 (packB (m ((c : Thread nD τ).loc main_arg2)) (m ((c : Thread nD τ).loc main_arg4))) shapeCasts_S128_S1x128 := rfl
  rw [h, ← packB_apply]
  pointwise []
theorem entry_v9 (e : Fin 16) (k : Fin 1024) (f : Fin 256) : V m c main_v9 (ix3 e k f) = m ((c : Thread nD τ).loc main_arg5) (ix3 e k f) := rfl
theorem entry_v10 (e : Fin 16) (k : Fin 1024) (f : Fin 256) : V m c main_v10 (ix3 e k f) = m ((c : Thread nD τ).loc main_arg6) (ix3 e k f) := rfl
theorem entry_v12 (q : Fin 4096) (d : Fin 1024) : V m c main_v12 (ix2 q d)
    = m ((c : Thread nD τ).loc main_arg7) (ix3 ⟨q.val / 256, by omega⟩ ⟨q.val % 256, by omega⟩ d) := by
  entry_read
  pointwise []
  try rfl
theorem entry_v13 (d : Fin 1024) : V m c main_v13 (ix2 0 d) = m ((c : Thread nD τ).loc main_arg8) (ix1 d) := by
  have h : V m c main_v13 = shapeCast S1x1024 (m ((c : Thread nD τ).loc main_arg8) : FVec Ideal S1024 .f32) shapeCasts_S1024_S1x1024 := rfl
  rw [h]
  pointwise []
theorem entry_v14 (d : Fin 1024) : V m c main_v14 (ix2 0 d) = m ((c : Thread nD τ).loc main_arg9) (ix1 d) := by
  have h : V m c main_v14 = shapeCast S1x1024 (m ((c : Thread nD τ).loc main_arg9) : FVec Ideal S1024 .f32) shapeCasts_S1024_S1x1024 := rfl
  rw [h]
  pointwise []
end Cert.Moe.Sample
-- ==== Proof.Sample.Array.lean ====
module
public import proofs.«01_k».proof.Proof.Sample.Entry
public import Idealize.ShloMosaic.Lib.Pipeline.ValueKit
public import Idealize.ShloMosaic.Lib.Claim

/-! The kernel's whole result array, read at a token and a column. -/

@[expose] public section
set_option maxRecDepth 16384
noncomputable section
namespace Cert.Moe.Sample
open Cert.SampleIdeal Cert.SampleIdeal.Gen Idealize.ShloMosaic Idealize.ShloMosaic.Pipeline Idealize.ShloMosaic.TcCoe Idealize.SL.Sem

variable (m : (ℓ : Loc nD τ sig) → Buf (Elt Ideal) ℓ) (c : Dev nD)

theorem index0 : ∀ t : Fin cfg0.N, win0_0.index t 0 = t.val ∧ win0_0.index t 1 = 0 :=
  (by decide +kernel : ∀ t : Fin grid0.N, win0_0.index t 0 = t.val ∧ win0_0.index t 1 = 0)

/-- The windows other than the tokens' hold whole arrays. -/
theorem index_whole : ∀ t : Fin cfg0.N, (∀ a, win0_1.index t a = 0) ∧ (∀ a, win0_2.index t a = 0) ∧ (∀ a, win0_3.index t a = 0) ∧ (∀ a, win0_4.index t a = 0)
    ∧ (∀ a, win0_5.index t a = 0) ∧ (∀ a, win0_6.index t a = 0) ∧ (∀ a, win0_7.index t a = 0) ∧ (∀ a, win0_8.index t a = 0) :=
  (by decide +kernel : ∀ t : Fin grid0.N, (∀ a, win0_1.index t a = 0) ∧ (∀ a, win0_2.index t a = 0) ∧ (∀ a, win0_3.index t a = 0) ∧ (∀ a, win0_4.index t a = 0)
    ∧ (∀ a, win0_5.index t a = 0) ∧ (∀ a, win0_6.index t a = 0) ∧ (∀ a, win0_7.index t a = 0) ∧ (∀ a, win0_8.index t a = 0))

/-- Row `r` of point `t`'s block of tokens is row `128 t + r` of the tokens. -/
theorem block0 (t : Fin cfg0.N) (r : Fin 128) (k : Fin 1024) (R : Fin 128) (hR : R.val = 128 * t.val + r.val) :
    iblk m c 0 t (ix2 r k) = m ((c : Thread nD τ).loc main_arg0) (ix2 R k) := by
  blk_ext [iblk, V, index0 t, hR]

theorem block1 (t : Fin cfg0.N) (k : Fin 1024) (l : Fin 128) : iblk m c 1 t (ix2 k l) = V m c main_v2 (ix2 k l) := by
  blk_ext [iblk, index_whole t]
theorem block2 (t : Fin cfg0.N) (k : Fin 1024) (l : Fin 128) : iblk m c 2 t (ix2 k l) = V m c main_v5 (ix2 k l) := by
  blk_ext [iblk, index_whole t]
theorem block3 (t : Fin cfg0.N) (l : Fin 128) : iblk m c 3 t (ix2 0 l) = V m c main_v8 (ix2 0 l) := by
  blk_ext [iblk, index_whole t]
theorem block4 (t : Fin cfg0.N) (e : Fin 16) (k : Fin 1024) (f : Fin 256) : iblk m c 4 t (ix3 e k f) = V m c main_v9 (ix3 e k f) := by
  blk_ext [iblk, index_whole t]
theorem block5 (t : Fin cfg0.N) (e : Fin 16) (k : Fin 1024) (f : Fin 256) : iblk m c 5 t (ix3 e k f) = V m c main_v10 (ix3 e k f) := by
  blk_ext [iblk, index_whole t]
theorem block6 (t : Fin cfg0.N) (q : Fin 4096) (d : Fin 1024) : iblk m c 6 t (ix2 q d) = V m c main_v12 (ix2 q d) := by
  blk_ext [iblk, index_whole t]
theorem block7 (t : Fin cfg0.N) (d : Fin 1024) : iblk m c 7 t (ix2 0 d) = V m c main_v13 (ix2 0 d) := by
  blk_ext [iblk, index_whole t]
theorem block8 (t : Fin cfg0.N) (d : Fin 1024) : iblk m c 8 t (ix2 0 d) = V m c main_v14 (ix2 0 d) := by
  blk_ext [iblk, index_whole t]

theorem read4 (t : Fin cfg0.N) : (iblk m c 4 t : FVec Ideal S16x1024x256 .bf16) = (m ((c : Thread nD τ).loc main_arg5) : FVec Ideal S16x1024x256 .f32) := by
  funext i
  rw [eq_ix3 i]
  exact (block4 m c t ..).trans (entry_v9 ..)
theorem read5 (t : Fin cfg0.N) : (iblk m c 5 t : FVec Ideal S16x1024x256 .bf16) = (m ((c : Thread nD τ).loc main_arg6) : FVec Ideal S16x1024x256 .f32) := by
  funext i
  rw [eq_ix3 i]
  exact (block5 m c t ..).trans (entry_v10 ..)
/-- The experts' second weights with expert and hidden axes made one. -/
def flatW2 (W : FVec Ideal S16x256x1024 .f32) : FVec Ideal S4096x1024 .bf16 := fun i =>
  W (ix3 ⟨(i 0).val / 256, by have : (i 0).val < 4096 := (i 0).isLt; omega⟩ ⟨(i 0).val % 256, by omega⟩ (i 1))
theorem read6 (t : Fin cfg0.N) : (iblk m c 6 t : FVec Ideal S4096x1024 .bf16) = flatW2 (m ((c : Thread nD τ).loc main_arg7)) := by
  funext i
  rw [eq_ix2 i]
  exact (block6 m c t ..).trans (entry_v12 ..)
theorem read0 (t : Fin cfg0.N) (r : Fin 128) (R : Fin 128) (hR : R.val = 128 * t.val + r.val) :
    (fun k => (iblk m c 0 t : FVec Ideal S128x1024 .f32) (ix2 r k)) = fun k => (m ((c : Thread nD τ).loc main_arg0) : FVec Ideal S128x1024 .f32) (ix2 R k) :=
  funext fun k => block0 m c t r k R hR

end Cert.Moe.Sample
-- ==== Proof.Sample.Finite.lean ====
module
public import proofs.«01_k».proof.Proof.Sample.Array

/-! With finite tokens, router weights and router biases, the kernel's split product is the plain one. -/

@[expose] public section
set_option maxRecDepth 16384
noncomputable section
namespace Cert.Moe.Sample
open Cert.SampleIdeal Cert.SampleIdeal.Gen Idealize.ShloMosaic Idealize.ShloMosaic.Pipeline Idealize.ShloMosaic.TcCoe Idealize.SL.Sem

/-- The value is a real number. -/
def IsReal (v : EReal) : Prop := ⊥ < v ∧ v < ⊤

theorem IsReal.lift {v : EReal} (h : IsReal v) : ∃ r : ℝ, v = r :=
  ⟨v.toReal, (EReal.coe_toReal (ne_of_lt h.2) (ne_of_gt h.1)).symm⟩
theorem isReal_coe (r : ℝ) : IsReal (r : EReal) := ⟨EReal.bot_lt_coe r, EReal.coe_lt_top r⟩
theorem isReal_zero : IsReal 0 := isReal_coe 0
theorem IsReal.mul {a b : EReal} (ha : IsReal a) (hb : IsReal b) : IsReal (a * b) := by
  obtain ⟨r, rfl⟩ := ha.lift
  obtain ⟨s, rfl⟩ := hb.lift
  rw [← EReal.coe_mul]
  exact isReal_coe _
theorem IsReal.add {a b : EReal} (ha : IsReal a) (hb : IsReal b) : IsReal (a + b) := by
  obtain ⟨r, rfl⟩ := ha.lift
  obtain ⟨s, rfl⟩ := hb.lift
  rw [← EReal.coe_add]
  exact isReal_coe _
theorem IsReal.sub_self {a : EReal} (ha : IsReal a) : a - a = 0 := by
  obtain ⟨r, rfl⟩ := ha.lift
  rw [← EReal.coe_sub, _root_.sub_self, EReal.coe_zero]
theorem isReal_sum {n : ℕ} (f : Fin n → EReal) (h : ∀ k, IsReal (f k)) : IsReal (∑ k, f k) :=
  Finset.sum_induction f IsReal (fun _ _ => IsReal.add) isReal_zero fun k _ => h k

/-- A router logit of a row: its product with a column, plus the bias. -/
def logitOf (x w : Fin 1024 → EReal) (b : EReal) : EReal := (∑ k, x k * w k) + b

theorem isReal_logitOf (x w : Fin 1024 → EReal) (b : EReal) (hx : ∀ k, IsReal (x k)) (hw : ∀ k, IsReal (w k)) (hb : IsReal b) :
    IsReal (logitOf x w b) := (isReal_sum _ fun k => (hx k).mul (hw k)).add hb

theorem isReal_laneWeight (A : FVec Ideal S1024x4 .f32) (B : FVec Ideal S1024x16 .f32) (hA : ∀ k j, IsReal (A (ix2 k j)))
    (hB : ∀ k j, IsReal (B (ix2 k j))) (k : Fin 1024) (l : Fin 128) : IsReal (laneWeight A B k l) := by
  unfold laneWeight
  split
  · exact hA ..
  split
  · exact hB ..
  · exact isReal_zero

theorem isReal_laneBias (a : FVec Ideal S4 .f32) (b : FVec Ideal S16 .f32) (ha : ∀ j, IsReal (a (ix1 j)))
    (hb : ∀ j, IsReal (b (ix1 j))) (l : Fin 128) : IsReal (laneBias a b l) := by
  unfold laneBias
  split
  · exact ha ..
  split
  · exact hb ..
  · exact isReal_zero

/-- The block's logits: with finite rows and finite weights the products with the rounding's remainders vanish. -/
theorem logits_apply (x : Vec Ideal S128x1024 .f32) (wh wl : Vec Ideal S1024x128 .bf16) (br : Vec Ideal S1x128 .f32)
    (X : Fin 1024 → EReal) (W : Fin 1024 → Fin 128 → EReal) (B : Fin 128 → EReal) (r : Fin 128)
    (hx : ∀ k, x (ix2 r k) = X k) (hX : ∀ k, IsReal (X k)) (hwh : ∀ k l, wh (ix2 k l) = W k l) (hW : ∀ k l, IsReal (W k l))
    (hwl : ∀ k l, wl (ix2 k l) = W k l - W k l) (hbr : ∀ l, br (ix2 0 l) = B l) (l : Fin 128) :
    k0_pay3 (F := Ideal) x wh wl wh br (ix2 r l) = logitOf X (fun k => W k l) (B l) := by
  pointwise [k0_pay3, k0_pay2]
  simp only [hx, hwh, hwl, hbr, (hX _).sub_self, (hW _ _).sub_self, mul_zero, zero_mul, Finset.sum_const_zero, add_zero, logitOf]

/-- One entry of the layer's result: the router's weights applied to the experts, the scaled residual and the norm. -/
def moeOut (X : FVec Ideal S128x1024 .f32) (W1 W3 : FVec Ideal S16x1024x256 .f32) (W2 : FVec Ideal S16x256x1024 .f32)
    (G H : FVec Ideal S1024 .f32) (C : Fin 128 → Fin 16 → EReal) (R : Fin 128) (d : Fin 1024) : EReal :=
  normAt (rowOf (fun k => X (ix2 R k)) W1 W3 (flatW2 W2) (C R)) (G (ix1 d)) (H (ix1 d)) d

/-- The router's weights of every row, by its logits. -/
def Routed (X : FVec Ideal S128x1024 .f32) (A : FVec Ideal S1024x4 .f32) (a : FVec Ideal S4 .f32) (B : FVec Ideal S1024x16 .f32)
    (b : FVec Ideal S16 .f32) (C : Fin 128 → Fin 16 → EReal) : Prop :=
  ∀ R, IsComb (fun j : Fin 4 => logitOf (fun k => X (ix2 R k)) (fun k => A (ix2 k j)) (a (ix1 j)))
    (fun e : Fin 16 => logitOf (fun k => X (ix2 R k)) (fun k => B (ix2 k e)) (b (ix1 e))) (C R)

variable (m : (ℓ : Loc nD τ sig) → Buf (Elt Ideal) ℓ) (c : Dev nD)

/-- The router's inputs are finite. -/
structure FiniteRouter (X : FVec Ideal S128x1024 .f32) (A : FVec Ideal S1024x4 .f32) (a : FVec Ideal S4 .f32)
    (B : FVec Ideal S1024x16 .f32) (b : FVec Ideal S16 .f32) : Prop where
  x : ∀ R k, IsReal (X (ix2 R k))
  wg : ∀ k j, IsReal (A (ix2 k j))
  bg : ∀ j, IsReal (a (ix1 j))
  we : ∀ k j, IsReal (B (ix2 k j))
  be : ∀ j, IsReal (b (ix1 j))

/-- The weights a block computes for its row are the router's weights of that row's logits. -/
theorem blockComb_isComb (t : Fin cfg0.N) (r : Fin 128) (R : Fin 128) (hR : R.val = 128 * t.val + r.val)
    (h : FiniteRouter (m ((c : Thread nD τ).loc main_arg0)) (m ((c : Thread nD τ).loc main_arg1)) (m ((c : Thread nD τ).loc main_arg2))
      (m ((c : Thread nD τ).loc main_arg3)) (m ((c : Thread nD τ).loc main_arg4))) :
    IsComb (fun j : Fin 4 => logitOf (fun k => (m ((c : Thread nD τ).loc main_arg0) : FVec Ideal S128x1024 .f32) (ix2 R k))
        (fun k => (m ((c : Thread nD τ).loc main_arg1) : FVec Ideal S1024x4 .f32) (ix2 k j)) ((m ((c : Thread nD τ).loc main_arg2) : FVec Ideal S4 .f32) (ix1 j)))
      (fun e : Fin 16 => logitOf (fun k => (m ((c : Thread nD τ).loc main_arg0) : FVec Ideal S128x1024 .f32) (ix2 R k))
        (fun k => (m ((c : Thread nD τ).loc main_arg3) : FVec Ideal S1024x16 .f32) (ix2 k e)) ((m ((c : Thread nD τ).loc main_arg4) : FVec Ideal S16 .f32) (ix1 e)))
      (fun e => blockComb (iblk m c 0 t) (iblk m c 1 t) (iblk m c 2 t) (iblk m c 3 t) (ix2 r ⟨4 + e.val, by omega⟩)) := by
  have hW := isReal_laneWeight _ _ h.wg h.we
  have hB := isReal_laneBias _ _ h.bg h.be
  have key := pay20_isComb (iblk m c 0 t) (iblk m c 1 t) (iblk m c 2 t) (iblk m c 1 t) (iblk m c 3 t) r
    (fun l => logitOf _ _ _)
    (logits_apply (iblk m c 0 t) (iblk m c 1 t) (iblk m c 2 t) (iblk m c 3 t) _ _ _ r
      (fun k => block0 m c t r k R hR) (fun k => h.x R k) (fun k l => (block1 m c t k l).trans (entry_v2 m c k l)) hW
      (fun k l => (block2 m c t k l).trans (entry_v5 m c k l)) (fun l => (block3 m c t l).trans (entry_v8 m c l)))
    (fun l _ => (isReal_logitOf _ _ _ (fun k => h.x R k) (fun k => hW k l) (hB l)).1)
  have hg : ∀ j : Fin 4, ∀ k, laneWeight (m ((c : Thread nD τ).loc main_arg1)) (m ((c : Thread nD τ).loc main_arg3)) k ⟨j.val, by omega⟩
      = (m ((c : Thread nD τ).loc main_arg1) : FVec Ideal S1024x4 .f32) (ix2 k j) := fun j k => dif_pos j.isLt
  have hgb : ∀ j : Fin 4, laneBias (m ((c : Thread nD τ).loc main_arg2)) (m ((c : Thread nD τ).loc main_arg4)) ⟨j.val, by omega⟩
      = (m ((c : Thread nD τ).loc main_arg2) : FVec Ideal S4 .f32) (ix1 j) := fun j => dif_pos j.isLt
  have he : ∀ j : Fin 16, ∀ k, laneWeight (m ((c : Thread nD τ).loc main_arg1)) (m ((c : Thread nD τ).loc main_arg3)) k ⟨4 + j.val, by omega⟩
      = (m ((c : Thread nD τ).loc main_arg3) : FVec Ideal S1024x16 .f32) (ix2 k j) := fun j k => by
    unfold laneWeight
    rw [dif_neg (by simp), dif_pos (by simp; omega)]
    congr 2
    exact Fin.ext (by simp)
  have heb : ∀ j : Fin 16, laneBias (m ((c : Thread nD τ).loc main_arg2)) (m ((c : Thread nD τ).loc main_arg4)) ⟨4 + j.val, by omega⟩
      = (m ((c : Thread nD τ).loc main_arg4) : FVec Ideal S16 .f32) (ix1 j) := fun j => by
    unfold laneBias
    rw [dif_neg (by simp), dif_pos (by simp; omega)]
    congr 2
    exact Fin.ext (by simp)
  simp only [hg, hgb, he, heb] at key
  exact key

theorem index9 : ∀ t : Fin cfg0.N, win0_9.index t 0 = t.val ∧ win0_9.index t 1 = 0 :=
  (by decide +kernel : ∀ t : Fin grid0.N, win0_9.index t 0 = t.val ∧ win0_9.index t 1 = 0)
/-- Row `r` of point `t`'s result block is row `128 t + r` of the result. -/
theorem emb9 (t : Fin cfg0.N) (r : Fin 128) (d : Fin 1024) :
    ((win0_9.blk t).view.emb (ix2 r d) 0).val = 128 * t.val + r.val ∧ ((win0_9.blk t).view.emb (ix2 r d) 1).val = d.val := by
  constructor
  · blk_simp [index9 t]
    omega
  · blk_simp [index9 t]
    try omega

/-- The kernel's result array, at every token and column. -/
theorem kernel_array (C : Fin 128 → Fin 16 → EReal)
    (h : FiniteRouter (m ((c : Thread nD τ).loc main_arg0)) (m ((c : Thread nD τ).loc main_arg1)) (m ((c : Thread nD τ).loc main_arg2))
      (m ((c : Thread nD τ).loc main_arg3)) (m ((c : Thread nD τ).loc main_arg4)))
    (hC : Routed (m ((c : Thread nD τ).loc main_arg0)) (m ((c : Thread nD τ).loc main_arg1)) (m ((c : Thread nD τ).loc main_arg2))
      (m ((c : Thread nD τ).loc main_arg3)) (m ((c : Thread nD τ).loc main_arg4)) C) :
    (dats m 0 c).arrAt 9 cfg0.N = (fun i => moeOut (m ((c : Thread nD τ).loc main_arg0)) (m ((c : Thread nD τ).loc main_arg5))
      (m ((c : Thread nD τ).loc main_arg6)) (m ((c : Thread nD τ).loc main_arg7)) (m ((c : Thread nD τ).loc main_arg8))
      (m ((c : Thread nD τ).loc main_arg9)) C (i 0) (i 1) : FVec Ideal S128x1024 .f32) := by
  refine (dats m 0 c).arrAt_eq_of_covers 9 _ (by decide +kernel) fun t hf y => ?_
  blk_simp
  rw [after0_9]
  obtain ⟨r, d, rfl⟩ : ∃ (r : Fin 128) (d : Fin 1024), y = ix2 r d := ⟨y 0, y 1, eq_ix2 (n0 := 128) (n1 := 1024) y⟩
  obtain ⟨h0, h1⟩ := emb9 t r d
  have e1 : (win0_9.blk t).view.emb (ix2 r d) 1 = d := Fin.ext h1
  rw [e1]
  generalize (win0_9.blk t).view.emb (ix2 r d) 0 = R at h0 ⊢
  have hcomb := IsComb.unique (blockComb_isComb m c t r R h0 h) (hC R)
  refine (block_apply m c t r d).trans ?_
  refine (congrArg₂ (fun g b => normAt _ g b d) ((block7 m c t d).trans (entry_v13 m c d)) ((block8 m c t d).trans (entry_v14 m c d))).trans ?_
  unfold moeOut
  congr 1
  funext k
  show rowOf (fun k => (iblk m c 0 t : FVec Ideal S128x1024 .f32) (ix2 r k)) (iblk m c 4 t) (iblk m c 5 t) (iblk m c 6 t) _ k = _
  rw [read0 m c t r R h0, read4 m c t, read5 m c t, read6 m c t, hcomb]
end Cert.Moe.Sample
-- ==== Proof.Sample.Pre.lean ====
module
public import proofs.«01_k».proof.Proof.Sample.Finite
public import proofs.«01_k».proof.Pre_finite_sample_router
public import Idealize.ShloMosaic.Lib.ReduceAll

/-! What the precondition says: the tokens, the router's weights and its biases are finite. -/

@[expose] public section
set_option maxRecDepth 16384
noncomputable section
namespace Cert.Moe.Sample
open Cert.Pre_finite_sample_router Idealize.ShloMosaic

/-- The shapes the precondition's operations take fit. -/
theorem preFacts : Cert.Pre_finite_sample_router.Facts where
  bcast_S_S128x1024 := by decide
  reducesTo_S128x1024_S_d0_1 := by decide
  h_S_ := by decide
  bcast_S_S1024x4 := by decide
  reducesTo_S1024x4_S_d0_1 := by decide
  bcast_S_S4 := by decide
  reducesTo_S4_S_d0 := by decide
  bcast_S_S1024x16 := by decide
  reducesTo_S1024x16_S_d0_1 := by decide
  bcast_S_S16 := by decide
  reducesTo_S16_S_d0 := by decide

instance : Subsingleton S_.Idx := ⟨fun a b => funext fun i => i.elim0⟩

theorem inf_word : Ideal.ofBits .f32 0x7F800000#32 = ⊤ := by simp [Ideal.ofBits, Ideal.ieee]

/-- A value whose magnitude is below infinity is a real number. -/
theorem isReal_of_abs (v : EReal) (h : BitVec.ofBool (decide (FloatOps.hostAbsf (F := Ideal) (φ := .f32) v < Ideal.ofBits .f32 0x7F800000#32)) = 1#1) : IsReal v := by
  rw [inf_word] at h
  have h' : max v (-v) < ⊤ := by
    by_contra hn
    rw [show decide (FloatOps.hostAbsf (F := Ideal) (φ := .f32) v < ⊤) = false from decide_eq_false hn] at h
    exact absurd h (by decide)
  rw [max_lt_iff] at h'
  exact ⟨by
    rw [bot_lt_iff_ne_bot]
    rintro rfl
    exact absurd h'.2 (by simp), h'.1⟩

theorem and_one (c d : BitVec 1) (h : IntOp.andi c d = 1#1) : c = 1#1 ∧ d = 1#1 := by revert c d; decide

/-- The conjunction over an array of "this entry's magnitude is below infinity" says that every entry is a real number. -/
theorem real_of_all {s : Shape} {axes : List (Fin s.rank)} (x : FVec Ideal s .f32) (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant S_ .f32 0x7F800000#32 : FVec Ideal S_ .f32))) (constantI S_ 1 1#1) hr hu j = 1#1) (i : s.Idx) :
    IsReal (x i) :=
  isReal_of_abs (x i) (Host.reduce_andi_all _ _ hr hu j h i)

theorem finite_of_pre [Cert.Pre_finite_sample_router.Facts] (x0 : FVec Ideal S128x1024 .f32) (x1 : FVec Ideal S1024x4 .f32) (x2 : FVec Ideal S4 .f32) (x3 : FVec Ideal S1024x16 .f32) (x4 : FVec Ideal S16 .f32)
  (x5 x6 : FVec Ideal S16x1024x256 .f32) (x7 : FVec Ideal S16x256x1024 .f32) (x8 x9 : FVec Ideal S1024 .f32)
  (h : Cert.Pre_finite_sample_router.fn (F := Ideal) x0 x1 x2 x3 x4 x5 x6 x7 x8 x9 = fun _ => 1#1) : FiniteRouter x0 x1 x2 x3 x4 := by
  have h0 := congrFun h (fun i => i.elim0)
  unfold Cert.Pre_finite_sample_router.fn Cert.Pre_finite_sample_router.fn_part1 at h0
  obtain ⟨h0, h4⟩ := and_one _ _ h0
  obtain ⟨h0, h3⟩ := and_one _ _ h0
  obtain ⟨h0, h2⟩ := and_one _ _ h0
  obtain ⟨h0, h1⟩ := and_one _ _ h0
  exact ⟨fun _ _ => real_of_all x0 _ _ _ _ h0 _, fun _ _ => real_of_all x1 _ _ _ _ h1 _, fun _ => real_of_all x2 _ _ _ _ h2 _, fun _ _ => real_of_all x3 _ _ _ _ h3 _, fun _ => real_of_all x4 _ _ _ _ h4 _⟩
end Cert.Moe.Sample
-- ==== Proof.Sample.RefPick.lean ====
module
public import proofs.«01_k».proof.Proof.Gen.SampleReferenceIdeal.Read
public import proofs.«01_k».proof.Proof.Moe.Order
public import Idealize.ShloMosaic.Lib.Pointwise

/-! The reference's picks: the greatest entries of a row by their positions, and the gathers that read at them. -/

@[expose] public section
set_option maxRecDepth 16384
noncomputable section
namespace Cert.Moe.Sample
open Cert.SampleReferenceIdeal Cert.SampleReferenceIdeal.Gen Idealize.ShloMosaic

theorem greater_eq (a b : EReal) : (FloatOps.cmpfTotal (F := Ideal) (φ := .f32) .gt a b == 1#1) = decide (b < a) := by
  show (BitVec.ofBool (decide (b < a)) == 1#1) = _
  by_cases h : b < a <;> simp [h]

/-- The position of the `j`-th greatest of four values, equal ones in their order. -/
def pick (f : Fin 4 → EReal) (j : Fin 4) : Fin 4 := sortedFrom (fun x y => decide (f y < f x)) j

theorem along_ix2 (r : Fin 128) (j k : Fin 4) : Shape.Idx.along (s := S128x4) (ix2 r j) (1 : Fin 2) k = ix2 r k := by
  funext a
  match a with
  | ⟨0, _⟩ => rfl
  | ⟨1, _⟩ => rfl

theorem sort_rows (x : FVec Ideal S128x4 .f32) (y : IVec S128x4 32) (r : Fin 128) (j : Fin 4) :
    (Host.sort2 S128x4 1 (fun l r => FloatOps.cmpfTotal (F := Ideal) (φ := .f32) .gt l.1 r.1) x y).1 (ix2 r j) = x (ix2 r (pick (fun k => x (ix2 r k)) j))
    ∧ (Host.sort2 S128x4 1 (fun l r => FloatOps.cmpfTotal (F := Ideal) (φ := .f32) .gt l.1 r.1) x y).2 (ix2 r j) = y (ix2 r (pick (fun k => x (ix2 r k)) j)) := by
  have hπ : ∀ p : Fin 4, sortedFrom (fun k k' : Fin 4 => FloatOps.cmpfTotal (F := Ideal) (φ := .f32) .gt
      (x (Shape.Idx.along (s := S128x4) (ix2 r j) (1 : Fin 2) k)) (x (Shape.Idx.along (s := S128x4) (ix2 r j) (1 : Fin 2) k')) == 1#1) p
        = pick (fun k => x (ix2 r k)) p := by
    intro p
    unfold pick
    congr 1
    funext k k'
    rw [greater_eq, along_ix2, along_ix2]
  unfold Host.sort2
  rw [dif_pos (by decide)]
  refine ⟨congrArg x ?_, congrArg y ?_⟩
  · exact (congrArg _ (hπ j)).trans (along_ix2 r j _)
  · exact (congrArg _ (hπ j)).trans (along_ix2 r j _)

/-- Each entry's position in its row. -/
def positions : IVec S128x4 32 := fun i => if hd : 1 < S128x4.rank then iotaInDim S128x4 32 ⟨1, hd⟩ i else 0#32

theorem topK_two (x : FVec Ideal S128x4 .f32) (r : Fin 128) (j : Fin 2) :
    (Host.topK S128x2 1 (FloatOps.cmpfTotal (F := Ideal) (φ := .f32) .gt) x sliceFits_S128x4_S128x2).1 (ix2 r j)
      = x (ix2 r (pick (fun k => x (ix2 r k)) ⟨j.val, by omega⟩))
    ∧ (Host.topK S128x2 1 (FloatOps.cmpfTotal (F := Ideal) (φ := .f32) .gt) x sliceFits_S128x4_S128x2).2 (ix2 r j)
      = BitVec.ofNat 32 (pick (fun k => x (ix2 r k)) ⟨j.val, by omega⟩).val := by
  have hj : (fun a => ⟨0 + (ix2 r j (Fin.cast (by decide : (2:Nat) = 2) a)).val, by
      match a with
      | ⟨0, _⟩ => exact (Nat.zero_add _).trans_lt r.isLt
      | ⟨1, _⟩ => exact (Nat.zero_add _).trans_lt (j.isLt.trans (show (2:Nat) < 4 by decide))⟩ : S128x4.Idx) = ix2 r ⟨j.val, by omega⟩ := by
    funext a
    match a with
    | ⟨0, _⟩ => exact Fin.ext (Nat.zero_add _)
    | ⟨1, _⟩ => exact Fin.ext (Nat.zero_add _)
  constructor
  · exact (congrArg (Host.sort2 S128x4 1 (fun l r => FloatOps.cmpfTotal (F := Ideal) (φ := .f32) .gt l.1 r.1) x positions).1 hj).trans (sort_rows x positions r ⟨j.val, by omega⟩).1
  · exact (congrArg (Host.sort2 S128x4 1 (fun l r => FloatOps.cmpfTotal (F := Ideal) (φ := .f32) .gt l.1 r.1) x positions).2 hj).trans (sort_rows x positions r ⟨j.val, by omega⟩).2

theorem topK_one (x : FVec Ideal S128x4 .f32) (r : Fin 128) (j : Fin 1) :
    (Host.topK S128x1 1 (FloatOps.cmpfTotal (F := Ideal) (φ := .f32) .gt) x sliceFits_S128x4_S128x1).2 (ix2 r j)
      = BitVec.ofNat 32 (pick (fun k => x (ix2 r k)) 0).val := by
  have hj : (fun a => ⟨0 + (ix2 r j (Fin.cast (by decide : (2:Nat) = 2) a)).val, by
      match a with
      | ⟨0, _⟩ => exact (Nat.zero_add _).trans_lt r.isLt
      | ⟨1, _⟩ => exact (Nat.zero_add _).trans_lt (j.isLt.trans (show (1:Nat) < 4 by decide))⟩ : S128x4.Idx) = ix2 r 0 := by
    funext a
    match a with
    | ⟨0, _⟩ => exact Fin.ext (Nat.zero_add _)
    | ⟨1, _⟩ => exact Fin.ext (by have := j.isLt; show 0 + j.val = 0; omega)
  exact (congrArg (Host.sort2 S128x4 1 (fun l r => FloatOps.cmpfTotal (F := Ideal) (φ := .f32) .gt l.1 r.1) x positions).2 hj).trans (sort_rows x positions r 0).2

/-- The gather that reads one entry per row: at the row and column the index array names. -/
theorem gather_entry (x : FVec Ideal S128x4 .f32) (idx : IVec S128x2 32) (r R : Fin 128) (j : Fin 4)
    (h0 : (idx (ix2 r 0)).toInt.toNat = R.val) (h1 : (idx (ix2 r 1)).toInt.toNat = j.val) :
    Host.gather gather_S128x4_S128x2_S128_n_01_n_n_01_1_11 x idx (ix1 r) = x (ix2 R j) := by
  unfold Host.gather
  congr 1
  funext a
  refine Fin.ext ?_
  have hcol : a ∈ gather_S128x4_S128x2_S128_n_01_n_n_01_1_11.collapsedSliceDims := by revert a; decide
  have hmap : a ∈ gather_S128x4_S128x2_S128_n_01_n_n_01_1_11.startIndexMap := by revert a; decide
  show gather_S128x4_S128x2_S128_n_01_n_n_01_1_11.start (ix1 r) idx a + gather_S128x4_S128x2_S128_n_01_n_n_01_1_11.batchCoord (ix1 r) a
    + gather_S128x4_S128x2_S128_n_01_n_n_01_1_11.offCoord (ix1 r) a = _
  rw [GatherDims.batchCoord_eq_zero _ _ _ List.not_mem_nil,
    GatherDims.offCoord_eq_zero _ _ _ (fun h => ((GatherDims.mem_sKept _ _).mp h).1 hcol)]
  simp only [Nat.add_zero]
  unfold GatherDims.start
  rw [dif_pos hmap]
  match a with
  | ⟨0, _⟩ =>
    have hsi : gather_S128x4_S128x2_S128_n_01_n_n_01_1_11.siIdx (ix1 r) ⟨List.idxOf (0 : Fin 2) gather_S128x4_S128x2_S128_n_01_n_n_01_1_11.startIndexMap,
        List.idxOf_lt_length_iff.2 hmap⟩ = ix2 r 0 := by
      funext b; refine Fin.ext ?_
      match b with
      | ⟨0, _⟩ => rfl
      | ⟨1, _⟩ => rfl
    show min (idx (gather_S128x4_S128x2_S128_n_01_n_n_01_1_11.siIdx (ix1 r) ⟨List.idxOf (0 : Fin 2) gather_S128x4_S128x2_S128_n_01_n_n_01_1_11.startIndexMap,
        List.idxOf_lt_length_iff.2 hmap⟩)).toInt.toNat (128 - 1) = R.val
    rw [hsi, h0]
    omega
  | ⟨1, _⟩ =>
    have hsi : gather_S128x4_S128x2_S128_n_01_n_n_01_1_11.siIdx (ix1 r) ⟨List.idxOf (1 : Fin 2) gather_S128x4_S128x2_S128_n_01_n_n_01_1_11.startIndexMap,
        List.idxOf_lt_length_iff.2 hmap⟩ = ix2 r 1 := by
      funext b; refine Fin.ext ?_
      match b with
      | ⟨0, _⟩ => rfl
      | ⟨1, _⟩ => rfl
    show min (idx (gather_S128x4_S128x2_S128_n_01_n_n_01_1_11.siIdx (ix1 r) ⟨List.idxOf (1 : Fin 2) gather_S128x4_S128x2_S128_n_01_n_n_01_1_11.startIndexMap,
        List.idxOf_lt_length_iff.2 hmap⟩)).toInt.toNat (4 - 1) = j.val
    rw [hsi, h1]
    omega

/-- The gather that reads four entries per row: the group of experts the index array names. -/
theorem gather_group (x : FVec Ideal S128x4x4 .f32) (idx : IVec S128x2 32) (r R : Fin 128) (j k : Fin 4)
    (h0 : (idx (ix2 r 0)).toInt.toNat = R.val) (h1 : (idx (ix2 r 1)).toInt.toNat = j.val) :
    Host.gather gather_S128x4x4_S128x2_S128x4_1_01_n_n_01_1_114 x idx (ix2 r k) = x (ix3 R j k) := by
  unfold Host.gather
  congr 1
  funext a
  refine Fin.ext ?_
  show gather_S128x4x4_S128x2_S128x4_1_01_n_n_01_1_114.start (ix2 r k) idx a + gather_S128x4x4_S128x2_S128x4_1_01_n_n_01_1_114.batchCoord (ix2 r k) a
    + gather_S128x4x4_S128x2_S128x4_1_01_n_n_01_1_114.offCoord (ix2 r k) a = _
  rw [GatherDims.batchCoord_eq_zero _ _ _ List.not_mem_nil]
  unfold GatherDims.start
  match a with
  | ⟨0, hl⟩ =>
    have hcol : (0 : Fin 3) ∈ gather_S128x4x4_S128x2_S128x4_1_01_n_n_01_1_114.collapsedSliceDims := by decide
    have hmap : (0 : Fin 3) ∈ gather_S128x4x4_S128x2_S128x4_1_01_n_n_01_1_114.startIndexMap := by decide
    have hsi : gather_S128x4x4_S128x2_S128x4_1_01_n_n_01_1_114.siIdx (ix2 r k) ⟨List.idxOf (0 : Fin 3) gather_S128x4x4_S128x2_S128x4_1_01_n_n_01_1_114.startIndexMap,
        List.idxOf_lt_length_iff.2 hmap⟩ = ix2 r 0 := by
      funext b; refine Fin.ext ?_
      match b with
      | ⟨0, _⟩ => rfl
      | ⟨1, _⟩ => rfl
    rw [dif_pos (show (⟨0, hl⟩ : Fin S128x4x4.rank) ∈ _ from hmap), GatherDims.offCoord_eq_zero _ _ (⟨0, hl⟩ : Fin S128x4x4.rank) (fun h => ((GatherDims.mem_sKept _ _).mp h).1 (show _ from hcol))]
    show min (idx (gather_S128x4x4_S128x2_S128x4_1_01_n_n_01_1_114.siIdx (ix2 r k) ⟨List.idxOf (0 : Fin 3) gather_S128x4x4_S128x2_S128x4_1_01_n_n_01_1_114.startIndexMap,
        List.idxOf_lt_length_iff.2 hmap⟩)).toInt.toNat (128 - 1) + 0 + 0 = R.val
    rw [hsi, h0]
    omega
  | ⟨1, hl⟩ =>
    have hcol : (1 : Fin 3) ∈ gather_S128x4x4_S128x2_S128x4_1_01_n_n_01_1_114.collapsedSliceDims := by decide
    have hmap : (1 : Fin 3) ∈ gather_S128x4x4_S128x2_S128x4_1_01_n_n_01_1_114.startIndexMap := by decide
    have hsi : gather_S128x4x4_S128x2_S128x4_1_01_n_n_01_1_114.siIdx (ix2 r k) ⟨List.idxOf (1 : Fin 3) gather_S128x4x4_S128x2_S128x4_1_01_n_n_01_1_114.startIndexMap,
        List.idxOf_lt_length_iff.2 hmap⟩ = ix2 r 1 := by
      funext b; refine Fin.ext ?_
      match b with
      | ⟨0, _⟩ => rfl
      | ⟨1, _⟩ => rfl
    rw [dif_pos (show (⟨1, hl⟩ : Fin S128x4x4.rank) ∈ _ from hmap), GatherDims.offCoord_eq_zero _ _ (⟨1, hl⟩ : Fin S128x4x4.rank) (fun h => ((GatherDims.mem_sKept _ _).mp h).1 (show _ from hcol))]
    show min (idx (gather_S128x4x4_S128x2_S128x4_1_01_n_n_01_1_114.siIdx (ix2 r k) ⟨List.idxOf (1 : Fin 3) gather_S128x4x4_S128x2_S128x4_1_01_n_n_01_1_114.startIndexMap,
        List.idxOf_lt_length_iff.2 hmap⟩)).toInt.toNat (4 - 1) + 0 + 0 = j.val
    rw [hsi, h1]
    omega
  | ⟨2, hl⟩ =>
    have hmap : (2 : Fin 3) ∉ gather_S128x4x4_S128x2_S128x4_1_01_n_n_01_1_114.startIndexMap := by decide
    rw [dif_neg (show (⟨2, hl⟩ : Fin S128x4x4.rank) ∉ _ from hmap)]
    simp only [Nat.zero_add]
    rfl

end Cert.Moe.Sample
-- ==== Proof.Sample.RefRoute.lean ====
module
public import proofs.«01_k».proof.Proof.Sample.RefPick
public import proofs.«01_k».proof.Proof.Sample.Finite

/-! The reference's router, read at a token. -/

@[expose] public section
set_option maxRecDepth 16384
noncomputable section
namespace Cert.Moe.Sample
open Cert.SampleReferenceIdeal Cert.SampleReferenceIdeal.Gen Cert.SampleReferenceIdeal.Read Idealize.ShloMosaic

variable (x0 : FVec Ideal S128x1024 .f32) (x1 : FVec Ideal S1024x4 .f32) (x2 : FVec Ideal S4 .f32) (x3 : FVec Ideal S1024x16 .f32) (x4 : FVec Ideal S16 .f32)

/-- The group logits of token `R`. -/
def groupLogit (R : Fin 128) (j : Fin 4) : EReal := logitOf (fun k => x0 (ix2 R k)) (fun k => x1 (ix2 k j)) (x2 (ix1 j))
/-- The expert logits of token `R`. -/
def expertLogit (R : Fin 128) (e : Fin 16) : EReal := logitOf (fun k => x0 (ix2 R k)) (fun k => x3 (ix2 k e)) (x4 (ix1 e))
/-- The group token `R` is sent to. -/
def groupOf (R : Fin 128) : Fin 4 := pick (groupLogit x0 x1 x2 R) 0

theorem v4_apply (R : Fin 128) (j : Fin 4) : val_main_v4 (F := Ideal) x0 x1 x2 (ix2 R j) = groupLogit x0 x1 x2 R j := by
  pointwise [val_main_v4, val_main_v1, val_main_v2, val_main_v3]
  rfl
theorem v36_apply (R : Fin 128) (g k : Fin 4) : val_main_v36 (F := Ideal) x0 x3 x4 (ix3 R g k) = expertLogit x0 x3 x4 R (expertOf g k) := by
  have hk : (⟨g.val * 4 + k.val, by omega⟩ : Fin 16) = expertOf g k := Fin.ext (by simp [expertOf]; omega)
  rw [← hk]
  pointwise [val_main_v36, val_main_v35, val_main_v32, val_main_v33, val_main_v34]
  rfl
theorem v16_apply (R : Fin 128) : val_main_v16 (F := Ideal) x0 x1 x2 (ix1 R) = BitVec.ofNat 32 (groupOf x0 x1 x2 R).val := by
  pointwise [val_main_v16, val_main_indices]
  rw [topK_one]
  simp only [v4_apply]
  rfl

/-- A position that is not negative is not wrapped. -/
theorem wrap_apply (n : Nat) (hn : n < 2147483648) (c : BitVec 32) :
    (Scalar.select (IntOp.cmpi .slt (BitVec.ofNat 32 n) 0#32) (IntOp.addi (BitVec.ofNat 32 n) c) (BitVec.ofNat 32 n)).toInt.toNat = n := by
  have h0 : (BitVec.ofNat 32 n).toInt = (n : Int) := by
    rw [BitVec.toInt_eq_toNat_of_lt] <;> rw [BitVec.toNat_ofNat, Nat.mod_eq_of_lt (by omega)]
    omega
  have h : IntOp.cmpi .slt (BitVec.ofNat 32 n) 0#32 = 0#1 := by
    show BitVec.ofBool ((BitVec.ofNat 32 n).slt 0#32) = 0#1
    have : (BitVec.ofNat 32 n).slt 0#32 = false := by
      rw [BitVec.slt, h0]
      simp
    rw [this]
    rfl
  rw [h]
  show (BitVec.ofNat 32 n).toInt.toNat = n
  rw [h0]
  rfl

theorem v29_row (R : Fin 128) : (val_main_v29 (F := Ideal) x0 x1 x2 (ix2 R 0)).toInt.toNat = R.val := by
  pointwise [val_main_v29, val_main_v27, val_main_v21, val_main_v18, val_main_v20, val_main_v19, val_main_v17, val_main_c, val_main_c_2, val_main_v0]
  exact wrap_apply _ (by omega) _
theorem v29_col (R : Fin 128) : (val_main_v29 (F := Ideal) x0 x1 x2 (ix2 R 1)).toInt.toNat = (groupOf x0 x1 x2 R).val := by
  pointwise [val_main_v29, val_main_v28, val_main_v26, val_main_v23, val_main_v25, val_main_v24, val_main_v22, val_main_c_3, val_main_c_4]
  rw [v16_apply]
  exact wrap_apply _ (by omega) _
theorem v49_row (R : Fin 128) : (val_main_v49 (F := Ideal) x0 x1 x2 (ix2 R 0)).toInt.toNat = R.val := by
  pointwise [val_main_v49, val_main_v47, val_main_v41, val_main_v38, val_main_v40, val_main_v39, val_main_v37, val_main_c_5, val_main_c_6, val_main_v0]
  exact wrap_apply _ (by omega) _
theorem v49_col (R : Fin 128) : (val_main_v49 (F := Ideal) x0 x1 x2 (ix2 R 1)).toInt.toNat = (groupOf x0 x1 x2 R).val := by
  pointwise [val_main_v49, val_main_v48, val_main_v46, val_main_v43, val_main_v45, val_main_v44, val_main_v42, val_main_c_7, val_main_c_8]
  rw [v16_apply]
  exact wrap_apply _ (by omega) _

theorem firstMax_group (R : Fin 128) : FirstMax (groupLogit x0 x1 x2 R) (groupOf x0 x1 x2 R) := firstMax_sortedFrom _ 0 rfl

/-- The chosen group's expert logits. -/
def chosen (R : Fin 128) (k : Fin 4) : EReal := expertLogit x0 x3 x4 R (expertOf (groupOf x0 x1 x2 R) k)

theorem v7_apply (R : Fin 128) : val_main_v7 (F := Ideal) x0 x1 x2 (ix1 R) = groupLogit x0 x1 x2 R (groupOf x0 x1 x2 R) := by
  pointwise [val_main_v5, val_main_v7, val_main_v6, val_main_cst, val_main_cst_0]
  simp only [v4_apply, ofBits_neg_inf]
  rw [show Finset.univ.fold max ⊥ (fun j => groupLogit x0 x1 x2 R j) = _ from fold_max_eq (groupLogit x0 x1 x2 R) (firstMax_group x0 x1 x2 R).1]
  exact max_eq_right bot_le

theorem v15_apply (R : Fin 128) (j : Fin 4) : val_main_v15 (F := Ideal) x0 x1 x2 (ix2 R j)
    = Ideal.div (Ideal.exp (groupLogit x0 x1 x2 R j - groupLogit x0 x1 x2 R (groupOf x0 x1 x2 R)))
      (∑ i, Ideal.exp (groupLogit x0 x1 x2 R i - groupLogit x0 x1 x2 R (groupOf x0 x1 x2 R))) := by
  pointwise [val_main_v15, val_main_v14, val_main_v13, val_main_v12, val_main_cst_1, val_main_v11, val_main_v10, val_main_v9, val_main_v8]
  simp only [v4_apply, v7_apply]

theorem v30_apply (R : Fin 128) : val_main_v30 (F := Ideal) x0 x1 x2 (ix1 R) = val_main_v15 (F := Ideal) x0 x1 x2 (ix2 R (groupOf x0 x1 x2 R)) :=
  gather_entry _ _ R R _ (v29_row ..) (v29_col ..)
theorem v50_apply (R : Fin 128) (k : Fin 4) : val_main_v50 (F := Ideal) x0 x1 x2 x3 x4 (ix2 R k) = chosen x0 x1 x2 x3 x4 R k :=
  (gather_group _ _ R R _ k (v49_row ..) (v49_col ..)).trans (v36_apply ..)

/-- The two experts token `R` is sent to, by their places in the chosen group. -/
def place (R : Fin 128) (j : Fin 2) : Fin 4 := pick (chosen x0 x1 x2 x3 x4 R) ⟨j.val, by omega⟩

theorem values_apply (R : Fin 128) (j : Fin 2) : val_main_values_9 (F := Ideal) x0 x1 x2 x3 x4 (ix2 R j) = chosen x0 x1 x2 x3 x4 R (place x0 x1 x2 x3 x4 R j) := by
  refine (topK_two _ R j).1.trans ?_
  simp only [v50_apply]
  rfl
theorem indices_apply (R : Fin 128) (j : Fin 2) : val_main_indices_10 (F := Ideal) x0 x1 x2 x3 x4 (ix2 R j) = BitVec.ofNat 32 (place x0 x1 x2 x3 x4 R j).val := by
  refine (topK_two _ R j).2.trans ?_
  simp only [v50_apply]
  rfl
theorem firstMax_place (R : Fin 128) : FirstMax (chosen x0 x1 x2 x3 x4 R) (place x0 x1 x2 x3 x4 R 0) := firstMax_sortedFrom _ _ rfl
theorem secondMax_place (R : Fin 128) : SecondMax (chosen x0 x1 x2 x3 x4 R) (place x0 x1 x2 x3 x4 R 0) (place x0 x1 x2 x3 x4 R 1) :=
  secondMax_sortedFrom _ _ _ rfl rfl

theorem v53_apply (R : Fin 128) : val_main_v53 (F := Ideal) x0 x1 x2 x3 x4 (ix1 R) = chosen x0 x1 x2 x3 x4 R (place x0 x1 x2 x3 x4 R 0) := by
  pointwise [val_main_v53, val_main_v51, val_main_v52, val_main_cst_11, val_main_cst_12]
  simp only [values_apply, ofBits_neg_inf]
  rw [show Finset.univ.fold max ⊥ (fun j => chosen x0 x1 x2 x3 x4 R (place x0 x1 x2 x3 x4 R j)) = _ from
    fold_max_eq (fun j => chosen x0 x1 x2 x3 x4 R (place x0 x1 x2 x3 x4 R j)) (i := 0) fun j => (firstMax_place x0 x1 x2 x3 x4 R).1 _]
  exact max_eq_right bot_le

/-- The two weights of token `R`: the softmax of the two greatest logits times the group's softmax probability. -/
theorem v63_apply (R : Fin 128) (hg : ∀ j, IsReal (groupLogit x0 x1 x2 R j)) (he : ∀ e, IsReal (expertLogit x0 x3 x4 R e)) :
    val_main_v63 (F := Ideal) x0 x1 x2 x3 x4 (ix2 R 0) = Ideal.div (groupWeight (groupLogit x0 x1 x2 R) (groupOf x0 x1 x2 R))
      (1 + ratio (expertLogit x0 x3 x4 R) (groupOf x0 x1 x2 R) (place x0 x1 x2 x3 x4 R 0) (place x0 x1 x2 x3 x4 R 1))
    ∧ val_main_v63 (F := Ideal) x0 x1 x2 x3 x4 (ix2 R 1) = Ideal.div (groupWeight (groupLogit x0 x1 x2 R) (groupOf x0 x1 x2 R)
        * ratio (expertLogit x0 x3 x4 R) (groupOf x0 x1 x2 R) (place x0 x1 x2 x3 x4 R 0) (place x0 x1 x2 x3 x4 R 1))
      (1 + ratio (expertLogit x0 x3 x4 R) (groupOf x0 x1 x2 R) (place x0 x1 x2 x3 x4 R 0) (place x0 x1 x2 x3 x4 R 1)) := by
  have key : ∀ j : Fin 2, val_main_v63 (F := Ideal) x0 x1 x2 x3 x4 (ix2 R j)
      = Ideal.div (Ideal.exp (chosen x0 x1 x2 x3 x4 R (place x0 x1 x2 x3 x4 R j) - chosen x0 x1 x2 x3 x4 R (place x0 x1 x2 x3 x4 R 0)))
        (∑ i : Fin 2, Ideal.exp (chosen x0 x1 x2 x3 x4 R (place x0 x1 x2 x3 x4 R i) - chosen x0 x1 x2 x3 x4 R (place x0 x1 x2 x3 x4 R 0)))
      * Ideal.div (Ideal.exp (groupLogit x0 x1 x2 R (groupOf x0 x1 x2 R) - groupLogit x0 x1 x2 R (groupOf x0 x1 x2 R)))
        (∑ i, Ideal.exp (groupLogit x0 x1 x2 R i - groupLogit x0 x1 x2 R (groupOf x0 x1 x2 R))) := by
    intro j
    pointwise [val_main_v63, val_main_v62, val_main_v61, val_main_v60, val_main_v59, val_main_v58, val_main_cst_13, val_main_v57, val_main_v56, val_main_v55, val_main_v54, val_main_v31]
    simp only [v53_apply, values_apply, v30_apply, v15_apply]
  have two := softmax_weights (groupLogit x0 x1 x2 R) (expertLogit x0 x3 x4 R) hg he (groupOf x0 x1 x2 R) (place x0 x1 x2 x3 x4 R 0) (place x0 x1 x2 x3 x4 R 1)
    _ _ rfl rfl _ (Fin.sum_univ_two (fun i : Fin 2 => Ideal.exp (chosen x0 x1 x2 x3 x4 R (place x0 x1 x2 x3 x4 R i) - chosen x0 x1 x2 x3 x4 R (place x0 x1 x2 x3 x4 R 0)))) _ rfl
  exact ⟨(key 0).trans two.1, (key 1).trans two.2⟩

/-- The one-hot row of an expert: one at that expert, zero elsewhere. -/
theorem oneHot_apply (g k : Fin 4) (e : Fin 16) :
    FloatOps.uitofp (F := Ideal) FTy.f32 (IntOp.cmpi .eq (IntOp.addi (IntOp.muli (BitVec.ofNat 32 g.val) 4#32) (BitVec.ofNat 32 k.val)) (BitVec.ofNat 32 e.val))
      = if e = expertOf g k then (1 : EReal) else 0 := by
  have h : IntOp.cmpi .eq (IntOp.addi (IntOp.muli (BitVec.ofNat 32 g.val) 4#32) (BitVec.ofNat 32 k.val)) (BitVec.ofNat 32 e.val)
      = if e = expertOf g k then 1#1 else 0#1 := by
    revert g k e
    decide
  rw [h]
  by_cases he : e = expertOf g k
  · rw [if_pos he, if_pos he]
    show ((((1#1 : BitVec 1).toNat : ℕ) : ℝ) : EReal) = 1
    norm_num
  · rw [if_neg he, if_neg he]
    show ((((0#1 : BitVec 1).toNat : ℕ) : ℝ) : EReal) = 0
    norm_num

/-- The weights the reference gives the sixteen experts are the router's weights of the token's logits. -/
theorem comb_isComb (R : Fin 128) (hg : ∀ j, IsReal (groupLogit x0 x1 x2 R j)) (he : ∀ e, IsReal (expertLogit x0 x3 x4 R e)) :
    IsComb (groupLogit x0 x1 x2 R) (expertLogit x0 x3 x4 R) (fun e => val_main_v73 (F := Ideal) x0 x1 x2 x3 x4 (ix2 R e)) := by
  refine ⟨groupOf x0 x1 x2 R, place x0 x1 x2 x3 x4 R 0, place x0 x1 x2 x3 x4 R 1, firstMax_group x0 x1 x2 R, firstMax_place x0 x1 x2 x3 x4 R,
    secondMax_place x0 x1 x2 x3 x4 R, fun e => ?_⟩
  have key : val_main_v73 (F := Ideal) x0 x1 x2 x3 x4 (ix2 R e) = ∑ j : Fin 2, (if e = expertOf (groupOf x0 x1 x2 R) (place x0 x1 x2 x3 x4 R j) then (1 : EReal) else 0)
      * val_main_v63 (F := Ideal) x0 x1 x2 x3 x4 (ix2 R j) := by
    pointwise [val_main_v73, val_main_v72, val_main_v71, val_main_v70, val_main_v69, val_main_cst_15, val_main_call0_v4, val_main_call0_v3, val_main_call0_v2, val_main_call0_v1,
      val_main_call0_v0, val_main_v68, val_main_v67, val_main_v66, val_main_v65, val_main_v64, val_main_c_14]
    simp only [v16_apply, indices_apply]
    refine Finset.sum_congr rfl fun j _ => ?_
    rw [oneHot_apply]
  refine key.trans ?_
  rw [Fin.sum_univ_two, (v63_apply x0 x1 x2 x3 x4 R hg he).1, (v63_apply x0 x1 x2 x3 x4 R hg he).2]
  unfold combWeight
  simp only [ite_mul, one_mul, zero_mul]
end Cert.Moe.Sample
-- ==== Proof.Sample.RefRow.lean ====
module
public import proofs.«01_k».proof.Proof.Sample.RefRoute

/-! The reference's result, read at a token and a column. -/

@[expose] public section
set_option maxRecDepth 16384
noncomputable section
namespace Cert.Moe.Sample
open Cert.SampleReferenceIdeal Cert.SampleReferenceIdeal.Gen Cert.SampleReferenceIdeal.Read Idealize.ShloMosaic

variable (x0 : FVec Ideal S128x1024 .f32) (x1 : FVec Ideal S1024x4 .f32) (x2 : FVec Ideal S4 .f32) (x3 : FVec Ideal S1024x16 .f32) (x4 : FVec Ideal S16 .f32)
  (x5 x6 : FVec Ideal S16x1024x256 .f32) (x7 : FVec Ideal S16x256x1024 .f32) (x8 x9 : FVec Ideal S1024 .f32)

/-- One hidden unit of one expert, weighted. -/
theorem v80_apply (R : Fin 128) (e : Fin 16) (f : Fin 256) : val_main_v80 (F := Ideal) x0 x1 x2 x3 x4 x5 x6 (ix3 R e f)
    = hiddenOf (fun k => x0 (ix2 R k)) x5 x6 (fun e => val_main_v73 (F := Ideal) x0 x1 x2 x3 x4 (ix2 R e)) e f := by
  pointwise [val_main_v80, val_main_v79, val_main_v78, val_main_v77, val_main_v76, val_main_v75, val_main_v74, val_main_call1_v5, val_main_call1_v4, val_main_call1_v3,
    val_main_call1_v2, val_main_call1_v1, val_main_call1_v0, val_main_call1_cst, val_main_call1_cst_0]
  unfold hiddenOf
  rw [sub_eq_add_neg, zero_add]
theorem v81_apply (R : Fin 128) (d : Fin 1024) : val_main_v81 (F := Ideal) x0 x1 x2 x3 x4 x5 x6 x7 (ix2 R d)
    = ∑ q : Fin 4096, val_main_v80 (F := Ideal) x0 x1 x2 x3 x4 x5 x6 (ix3 R ⟨q.val / 256, by omega⟩ ⟨q.val % 256, by omega⟩) * flatW2 x7 (ix2 q d) := by
  pointwise [val_main_v81]
  rw [← Equiv.sum_comp (finProdFinEquiv (m := 16) (n := 256)), Fintype.sum_prod_type]
  refine Finset.sum_congr rfl fun e _ => Finset.sum_congr rfl fun f _ => ?_
  have h1 : (⟨(finProdFinEquiv (m := 16) (n := 256) (e, f)).val / 256, by omega⟩ : Fin 16) = e := Fin.ext (by simp [finProdFinEquiv]; omega)
  have h2 : (⟨(finProdFinEquiv (m := 16) (n := 256) (e, f)).val % 256, by omega⟩ : Fin 256) = f := Fin.ext (by simp [finProdFinEquiv])
  show _ = val_main_v80 (F := Ideal) x0 x1 x2 x3 x4 x5 x6 (ix3 R ⟨(finProdFinEquiv (m := 16) (n := 256) (e, f)).val / 256, _⟩
    ⟨(finProdFinEquiv (m := 16) (n := 256) (e, f)).val % 256, _⟩) * x7 (ix3 ⟨(finProdFinEquiv (m := 16) (n := 256) (e, f)).val / 256, _⟩
    ⟨(finProdFinEquiv (m := 16) (n := 256) (e, f)).val % 256, _⟩ d)
  rw [h1, h2]
theorem v108_apply (R : Fin 128) (d : Fin 1024) : val_main_v108 (F := Ideal) x0 x1 x2 x3 x4 x5 x6 x7 x8 x9 (ix2 R d)
    = normAt (fun k => val_main_v84 (F := Ideal) x0 x1 x2 x3 x4 x5 x6 x7 (ix2 R k)) (x8 (ix1 d)) (x9 (ix1 d)) d := by
  pointwise [val_main_v108, val_main_v107, val_main_v106, val_main_v105, val_main_v104, val_main_v103, val_main_v102, val_main_v101, val_main_v100, val_main_v99,
    val_main_v98, val_main_v97, val_main_v96, val_main_v95, val_main_v94, val_main_v93, val_main_v92, val_main_v91, val_main_v90, val_main_v89, val_main_v88,
    val_main_v87, val_main_v86, val_main_v85, val_main_cst_17, val_main_cst_18, val_main_cst_19, val_main_cst_20, val_main_cst_21]
  rfl
theorem v84_apply (R : Fin 128) (d : Fin 1024) : val_main_v84 (F := Ideal) x0 x1 x2 x3 x4 x5 x6 x7 (ix2 R d)
    = rowOf (fun k => x0 (ix2 R k)) x5 x6 (flatW2 x7) (fun e => val_main_v73 (F := Ideal) x0 x1 x2 x3 x4 (ix2 R e)) d := by
  pointwise [val_main_v84, val_main_v83, val_main_v82, val_main_cst_16]
  rw [v81_apply]
  simp only [v80_apply]
  rfl
end Cert.Moe.Sample
-- ==== Proof.Sample.Equation.lean ====
module
public import proofs.«01_k».proof.Proof.Sample.Pre
public import proofs.«01_k».proof.Proof.Sample.RefRow
public import proofs.«01_k».proof.Proof.Gen.SampleIdeal.Value

/-! The kernel's array is the reference's array when the router's inputs are finite. -/

@[expose] public section
set_option maxRecDepth 16384
noncomputable section
namespace Cert.Moe.Sample
open Cert.SampleIdeal Cert.SampleIdeal.Gen Cert.SampleReferenceIdeal.Read Idealize.ShloMosaic Idealize.ShloMosaic.Pipeline Idealize.ShloMosaic.TcCoe Idealize.SL.Sem

variable (m : (ℓ : Loc nD τ sig) → Buf (Elt Ideal) ℓ) (c : Dev nD)

/-- The reference's result on the kernel's arguments. -/
def expected : FVec Ideal S128x1024 .f32 :=
  val_main_v108 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- The kernel leaves the reference's result. -/
theorem kernel_eq_expected
    (h : FiniteRouter (m ((c : Thread nD τ).loc main_arg0)) (m ((c : Thread nD τ).loc main_arg1)) (m ((c : Thread nD τ).loc main_arg2))
      (m ((c : Thread nD τ).loc main_arg3)) (m ((c : Thread nD τ).loc main_arg4))) :
    (dats m 0 c).arrAt 9 cfg0.N = expected m c := by
  have hC : Routed (m ((c : Thread nD τ).loc main_arg0)) (m ((c : Thread nD τ).loc main_arg1)) (m ((c : Thread nD τ).loc main_arg2))
      (m ((c : Thread nD τ).loc main_arg3)) (m ((c : Thread nD τ).loc main_arg4)) (fun R e => val_main_v73 (F := Ideal) (m ((c : Thread nD τ).loc main_arg0))
        (m ((c : Thread nD τ).loc main_arg1)) (m ((c : Thread nD τ).loc main_arg2)) (m ((c : Thread nD τ).loc main_arg3)) (m ((c : Thread nD τ).loc main_arg4)) (ix2 R e)) :=
    fun R => comb_isComb _ _ _ _ _ R (fun j => isReal_logitOf _ _ _ (h.x R) (fun k => h.wg k j) (h.bg j))
      (fun e => isReal_logitOf _ _ _ (h.x R) (fun k => h.we k e) (h.be e))
  refine (kernel_array m c _ h hC).trans ?_
  funext i
  unfold expected
  conv_rhs => rw [eq_ix2 i]
  refine Eq.trans ?_ (v108_apply _ _ _ _ _ _ _ _ _ _ (i 0) (i 1)).symm
  refine congrArg (fun y => normAt y _ _ _) (funext fun k => ?_)
  exact (v84_apply _ _ _ _ _ _ _ _ (i 0) k).symm

end Cert.Moe.Sample
-- ==== Proof.Sample.Claims.lean ====
module
public import proofs.«01_k».proof.Defs
public import proofs.«01_k».proof.Proof.Gen.SampleIdeal.Value
public import proofs.«01_k».proof.Proof.Gen.SampleReferenceIdeal.Run
public import proofs.«01_k».proof.Proof.Gen.SampleReferenceIdeal.Read
public import proofs.«01_k».proof.Proof.Sample.Equation
public import Idealize.ShloMosaic.Adequacy
public import Idealize.ShloMosaic.Init

/-! The claims of the experts on the sample rows. -/

@[expose] public section
noncomputable section
namespace Cert.Moe.Sample
open Idealize.ShloMosaic Idealize.SL.Sem

/-- The reference runs, its arguments end unchanged, and every semaphore reads zero. -/
theorem reference_frame : Cert.quiescent_SampleReferenceIdeal (hSampleReferenceIdeal := Cert.SampleReferenceIdeal.Gen.facts) := by
  intro m ρ _
  exact (θ_run Cert.SampleReferenceIdeal.defs _ _).mono
    (fun r h => ⟨fun c => (h c).2, Idealize.ShloMosaic.sem_eq_zero_of_no_sems (by decide) r.2⟩)
    (Cert.SampleReferenceIdeal.Value.run (F := Ideal) m ρ)

open Cert.SampleReferenceIdeal Cert.SampleReferenceIdeal.Read in
/-- Equal arguments give the reference's one result. -/
theorem result_congr {x0 y0 : (⟨S128x1024, .f32⟩ : BufTy).Contents (Elt Ideal)} {x1 y1 : (⟨S1024x4, .f32⟩ : BufTy).Contents (Elt Ideal)}
    {x2 y2 : (⟨S4, .f32⟩ : BufTy).Contents (Elt Ideal)} {x3 y3 : (⟨S1024x16, .f32⟩ : BufTy).Contents (Elt Ideal)}
    {x4 y4 : (⟨S16, .f32⟩ : BufTy).Contents (Elt Ideal)} {x5 y5 x6 y6 : (⟨S16x1024x256, .f32⟩ : BufTy).Contents (Elt Ideal)}
    {x7 y7 : (⟨S16x256x1024, .f32⟩ : BufTy).Contents (Elt Ideal)} {x8 y8 x9 y9 : (⟨S1024, .f32⟩ : BufTy).Contents (Elt Ideal)}
    (h0 : x0 = y0) (h1 : x1 = y1) (h2 : x2 = y2) (h3 : x3 = y3) (h4 : x4 = y4) (h5 : x5 = y5) (h6 : x6 = y6) (h7 : x7 = y7)
    (h8 : x8 = y8) (h9 : x9 = y9) :
    val_main_v108 (F := Ideal) x0 x1 x2 x3 x4 x5 x6 x7 x8 x9 = val_main_v108 (F := Ideal) y0 y1 y2 y3 y4 y5 y6 y7 y8 y9 := by
  subst h0 h1 h2 h3 h4 h5 h6 h7 h8 h9; rfl

/-- Kernel and reference leave equal arrays when the router's inputs are finite. -/
theorem equal_results : Cert.algebraic_SampleIdeal_SampleReferenceIdeal_pre_finite_sample_router (hSampleIdeal := Cert.SampleIdeal.Gen.facts)
    (hSampleReferenceIdeal := Cert.SampleReferenceIdeal.Gen.facts) (hPre_finite_sample_router := Cert.Moe.Sample.preFacts) := by
  intro m g m' g' hpre hargs
  haveI := Cert.Moe.Sample.preFacts
  have hfin := fun c => Cert.Moe.Sample.finite_of_pre _ _ _ _ _ _ _ _ _ _ (hpre c)
  refine ⟨fun c => Cert.Moe.Sample.expected m c, (θ_run _ _ _).mono (fun r h c => ?_) (Cert.SampleIdeal.Value.run_blocks m g),
    (θ_run _ _ _).mono (fun r h c => ?_) (Cert.SampleReferenceIdeal.Value.run (F := Ideal) m' g')⟩
  · obtain ⟨h0, h1⟩ := h c
    exact ⟨h0.trans (Cert.Moe.Sample.kernel_eq_expected m c (hfin c)), h1⟩
  · obtain ⟨h0, h1⟩ := h c
    obtain ⟨a0, a1, a2, a3, a4, a5, a6, a7, a8, a9⟩ := hargs c
    exact ⟨h0.trans ((Cert.SampleReferenceIdeal.Read.val_main_v108_eq (F := Ideal) (StableHlo.launchContents m' c)).trans
      (result_congr a0 a1 a2 a3 a4 a5 a6 a7 a8 a9)), h1⟩

end Cert.Moe.Sample
-- ==== Proof.Merge.Kernel.lean ====
module
public import proofs.«01_k».proof.Proof.Gen.MergeIdeal.Value
public import proofs.«01_k».proof.Proof.Moe.KernelBlock

/-! The merge kernel's block: three gated projections, summed, projected, added to the scaled input, normalised. -/

@[expose] public section
set_option maxRecDepth 16384
noncomputable section
namespace Cert.MergeProof
open Cert.MergeIdeal Cert.MergeIdeal.Gen Idealize.ShloMosaic Idealize.ShloMosaic.Pipeline Idealize.ShloMosaic.TcCoe Idealize.SL.Sem

/-- One branch's contribution at a column: the logistic gate of the token's row times the branch's projected row. -/
def gated (x w : Fin 1024 → EReal) (o p : Fin 512 → EReal) : EReal :=
  Ideal.div 1 (1 + Ideal.exp (0 - ∑ k, x k * w k)) * ∑ j, o j * p j

/-- The merged row before the layer norm; `gw a k d` is branch `a`'s gate weight. -/
def mergedRow (x : Fin 1024 → EReal) (oa ob oc : Fin 512 → EReal) (ga gb gc : Fin 1024 → Fin 1024 → EReal)
    (pa pb pc : Fin 512 → Fin 1024 → EReal) (wo : Fin 1024 → Fin 1024 → EReal) (d : Fin 1024) : EReal :=
  Ideal.ofBits .f32 0x3FD744FD#32 * x d
    + ∑ n, (gated x (fun k => ga k n) oa (fun j => pa j n) + gated x (fun k => gb k n) ob (fun j => pb j n)
        + gated x (fun k => gc k n) oc (fun j => pc j n)) * wo n d

variable (x : Vec Ideal S512x1024 .f32) (oa ob oc : Vec Ideal S512x512 .bf16) (ga gb gc : Vec Ideal S1024x1024 .bf16)
  (pa pb pc : Vec Ideal S512x1024 .bf16) (wo : Vec Ideal S1024x1024 .bf16)

/-- The first two branches. -/
theorem pay3_apply (r : Fin 512) (n : Fin 1024) : k0_pay3 x ga oa pa gb ob pb (ix2 r n)
    = gated (fun k => x (ix2 r k)) (fun k => ga (ix2 k n)) (fun j => oa (ix2 r j)) (fun j => pa (ix2 j n))
      + gated (fun k => x (ix2 r k)) (fun k => gb (ix2 k n)) (fun j => ob (ix2 r j)) (fun j => pb (ix2 j n)) := by
  pointwise [k0_pay3, k0_pay2]
  rfl

/-- The row of a block before the norm. -/
def rowM (r : Fin 512) (d : Fin 1024) : EReal :=
  mergedRow (fun k => x (ix2 r k)) (fun j => oa (ix2 r j)) (fun j => ob (ix2 r j)) (fun j => oc (ix2 r j)) (fun k n => ga (ix2 k n))
    (fun k n => gb (ix2 k n)) (fun k n => gc (ix2 k n)) (fun j n => pa (ix2 j n)) (fun j n => pb (ix2 j n)) (fun j n => pc (ix2 j n))
    (fun n d => wo (ix2 n d)) d

/-- The centred row. -/
theorem pay6_apply (r : Fin 512) (d : Fin 1024) : k0_pay6 x (k0_pay2 x) (k0_pay3 x ga oa pa gb ob pb) gc oc pc wo (ix2 r d)
    = rowM x oa ob oc ga gb gc pa pb pc wo r d
      - Ideal.div (∑ k, rowM x oa ob oc ga gb gc pa pb pc wo r k) (Ideal.ofBits .f32 1149239296#32) := by
  unfold rowM mergedRow
  simp only [← pay3_apply]
  pointwise [k0_pay6, k0_pay2]
  rfl

/-- The normalised row. -/
theorem norm_apply (g b : Vec Ideal S1x1024 .f32) (r : Fin 512) (d : Fin 1024) :
    k0_pay1 (k0_pay4 g) (k0_pay5 b) (k0_pay6 x (k0_pay2 x) (k0_pay3 x ga oa pa gb ob pb) gc oc pc wo)
        (k0_pay7 x (k0_pay2 x) (k0_pay3 x ga oa pa gb ob pb) gc oc pc wo) (Scalar.ofBits .f32 0x3727C5AC#32) (ix2 r d)
      = Moe.normAt (rowM x oa ob oc ga gb gc pa pb pc wo r) (g (ix2 0 d)) (b (ix2 0 d)) d := by
  pointwise [k0_pay1, k0_pay4, k0_pay5, k0_pay7]
  simp only [pay6_apply]
  rfl

theorem zeros : (![0, 0] : Fin 2 → Nat) = fun _ => 0 := by
  funext a
  match a with
  | ⟨0, _⟩ => rfl
  | ⟨1, _⟩ => rfl

/-- The gate weights' columns from `o`. -/
def gateCols (w : Vec Ideal S1024x3072 .bf16) (o : Nat) (ho : o + 1024 ≤ 3072) : Vec Ideal S1024x1024 .bf16 :=
  fun y => w (ix2 (y 0) ⟨o + (y 1).val, by have : (y 1).val < 1024 := (y 1).isLt; omega⟩)

theorem ld_cols (w : Vec Ideal S1024x3072 .bf16) (o : Nat) (ho : o + 1024 ≤ 3072)
    (inb : ∀ a, (![0, o] : Fin 2 → Nat) a + S1024x1024.size a ≤ S1024x3072.size a) :
    View.ld w (Rect.unit (s := S1024x3072) ![0, o] S1024x1024.size inb) = gateCols w o ho := by
  funext y
  refine View.ld_unit_apply_of w _ _ inb y _ fun a => ?_
  match a with
  | ⟨0, _⟩ => show (y 0).val = 0 + (y 0).val; omega
  | ⟨1, _⟩ => rfl

/-- What the body leaves in its output block. -/
theorem out_apply (wg : Vec Ideal S1024x3072 .bf16) (g b : Vec Ideal S1x1024 .f32) (r : Fin 512) (d : Fin 1024) :
    out0_11 x oa ob oc wg pa pb pc wo g b (ix2 r d)
      = Moe.normAt (rowM x oa ob oc (gateCols wg 0 (by omega)) (gateCols wg 1024 (by omega)) (gateCols wg 2048 (by omega)) pa pb pc wo r)
          (g (ix2 0 d)) (b (ix2 0 d)) d := by
  rw [← norm_apply]
  unfold_out out0_11
  rw [View.canon_cons_unit_zero zeros _ _ []]
  simp only [View.ld_unit_zero (S := S512x1024) zeros, View.ld_unit_zero (S := S512x512) zeros, View.ld_unit_zero (S := S1024x1024) zeros,
    View.ld_unit_zero (S := S1x1024) zeros, ld_cols wg 0 (by omega), ld_cols wg 1024 (by omega), ld_cols wg 2048 (by omega)]
end Cert.MergeProof
-- ==== Proof.Merge.Array.lean ====
module
public import proofs.«01_k».proof.Proof.Merge.Kernel

/-! The merge kernel's result array, read from its arguments. -/

@[expose] public section
set_option maxRecDepth 16384
noncomputable section
namespace Cert.MergeProof
open Cert.MergeIdeal Cert.MergeIdeal.Gen Idealize.ShloMosaic Idealize.ShloMosaic.Pipeline Idealize.ShloMosaic.TcCoe Idealize.SL.Sem

/-- The three branches' gate columns of the input projection, one after the other. -/
def packG (W : FVec Ideal S1024x6440 .f32) : FVec Ideal S1024x3072 .f32 :=
  concatenate S1024x3072 1 [⟨S1024x1024, extractStridedSlice S1024x1024 ![0, 3368] W slices_S1024x6440_S1024x1024_0_3368⟩,
    ⟨S1024x1024, extractStridedSlice S1024x1024 ![0, 4392] W slices_S1024x6440_S1024x1024_0_4392⟩,
    ⟨S1024x1024, extractStridedSlice S1024x1024 ![0, 5416] W slices_S1024x6440_S1024x1024_0_5416⟩] concatenates_S1024x1024_S1024x1024_S1024x1024_S1024x3072_d1

/-- The packed gate columns are the projection's columns from 3368. -/
theorem packG_apply (W : FVec Ideal S1024x6440 .f32) (k : Fin 1024) (l : Fin 3072) :
    packG W (ix2 k l) = W (ix2 k ⟨3368 + l.val, by omega⟩) := by
  pointwise [packG]
  split
  · rfl
  · split
    · refine congrArg W (congrArg (ix2 k) (Fin.ext ?_))
      simp
      omega
    · refine congrArg W (congrArg (ix2 k) (Fin.ext ?_))
      simp
      omega

variable (m : (ℓ : Loc nD τ sig) → Buf (Elt Ideal) ℓ) (c : Dev nD)

theorem entry_v4 (k : Fin 1024) (l : Fin 3072) : V m c main_v4 (ix2 k l)
    = m ((c : Thread nD τ).loc main_arg4) (ix2 k ⟨3368 + l.val, by omega⟩) := by
  have h : V m c main_v4 = truncf .bf16 (packG (m ((c : Thread nD τ).loc main_arg4))) bitsLt_bf16_f32 := rfl
  rw [h]
  exact packG_apply ..
theorem entry_v9 (d : Fin 1024) : V m c main_v9 (ix2 0 d) = m ((c : Thread nD τ).loc main_arg9) (ix1 d) := by
  have h : V m c main_v9 = shapeCast S1x1024 (m ((c : Thread nD τ).loc main_arg9) : FVec Ideal S1024 .f32) shapeCasts_S1024_S1x1024 := rfl
  rw [h]
  pointwise []
theorem entry_v10 (d : Fin 1024) : V m c main_v10 (ix2 0 d) = m ((c : Thread nD τ).loc main_arg10) (ix1 d) := by
  have h : V m c main_v10 = shapeCast S1x1024 (m ((c : Thread nD τ).loc main_arg10) : FVec Ideal S1024 .f32) shapeCasts_S1024_S1x1024 := rfl
  rw [h]
  pointwise []

/-- Grid point `t` reads the rows' blocks `t`, and writes the result's block `t`. -/
theorem index_rows : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_11.index t 0 = t.val ∧ win0_11.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_11.index t 0 = t.val ∧ win0_11.index t 1 = 0))
/-- The weights' windows hold whole arrays. -/
theorem index_whole : ∀ t : Fin cfg0.N, (∀ a, win0_4.index t a = 0) ∧ (∀ a, win0_5.index t a = 0) ∧ (∀ a, win0_6.index t a = 0) ∧ (∀ a, win0_7.index t a = 0)
    ∧ (∀ a, win0_8.index t a = 0) ∧ (∀ a, win0_9.index t a = 0) ∧ (∀ a, win0_10.index t a = 0) :=
  (by decide +kernel : ∀ t : Fin grid0.N, (∀ a, win0_4.index t a = 0) ∧ (∀ a, win0_5.index t a = 0) ∧ (∀ a, win0_6.index t a = 0) ∧ (∀ a, win0_7.index t a = 0)
    ∧ (∀ a, win0_8.index t a = 0) ∧ (∀ a, win0_9.index t a = 0) ∧ (∀ a, win0_10.index t a = 0))

theorem block0 (t : Fin cfg0.N) (r : Fin 512) (k : Fin 1024) (R : Fin 16384) (hR : R.val = 512 * t.val + r.val) :
    iblk m c 0 t (ix2 r k) = m ((c : Thread nD τ).loc main_arg0) (ix2 R k) := by
  blk_ext [iblk, V, index_rows t, hR]
theorem block1 (t : Fin cfg0.N) (r : Fin 512) (k : Fin 512) (R : Fin 16384) (hR : R.val = 512 * t.val + r.val) :
    iblk m c 1 t (ix2 r k) = m ((c : Thread nD τ).loc main_arg1) (ix2 R k) := by
  blk_ext [iblk, V, index_rows t, hR]
theorem block2 (t : Fin cfg0.N) (r : Fin 512) (k : Fin 512) (R : Fin 16384) (hR : R.val = 512 * t.val + r.val) :
    iblk m c 2 t (ix2 r k) = m ((c : Thread nD τ).loc main_arg2) (ix2 R k) := by
  blk_ext [iblk, V, index_rows t, hR]
theorem block3 (t : Fin cfg0.N) (r : Fin 512) (k : Fin 512) (R : Fin 16384) (hR : R.val = 512 * t.val + r.val) :
    iblk m c 3 t (ix2 r k) = m ((c : Thread nD τ).loc main_arg3) (ix2 R k) := by
  blk_ext [iblk, V, index_rows t, hR]
theorem block4 (t : Fin cfg0.N) (k : Fin 1024) (l : Fin 3072) : iblk m c 4 t (ix2 k l) = V m c main_v4 (ix2 k l) := by
  blk_ext [iblk, index_whole t]
theorem block5 (t : Fin cfg0.N) (j : Fin 512) (n : Fin 1024) : iblk m c 5 t (ix2 j n) = V m c main_v5 (ix2 j n) := by
  blk_ext [iblk, index_whole t]
theorem block6 (t : Fin cfg0.N) (j : Fin 512) (n : Fin 1024) : iblk m c 6 t (ix2 j n) = V m c main_v6 (ix2 j n) := by
  blk_ext [iblk, index_whole t]
theorem block7 (t : Fin cfg0.N) (j : Fin 512) (n : Fin 1024) : iblk m c 7 t (ix2 j n) = V m c main_v7 (ix2 j n) := by
  blk_ext [iblk, index_whole t]
theorem block8 (t : Fin cfg0.N) (n d : Fin 1024) : iblk m c 8 t (ix2 n d) = V m c main_v8 (ix2 n d) := by
  blk_ext [iblk, index_whole t]
theorem block9 (t : Fin cfg0.N) (d : Fin 1024) : iblk m c 9 t (ix2 0 d) = V m c main_v9 (ix2 0 d) := by
  blk_ext [iblk, index_whole t]
theorem block10 (t : Fin cfg0.N) (d : Fin 1024) : iblk m c 10 t (ix2 0 d) = V m c main_v10 (ix2 0 d) := by
  blk_ext [iblk, index_whole t]

/-- Row `r` of point `t`'s result block is row `512 t + r` of the result. -/
theorem emb11 (t : Fin cfg0.N) (r : Fin 512) (d : Fin 1024) :
    ((win0_11.blk t).view.emb (ix2 r d) 0).val = 512 * t.val + r.val ∧ ((win0_11.blk t).view.emb (ix2 r d) 1).val = d.val := by
  constructor
  · blk_simp [index_rows t]
    omega
  · blk_simp [index_rows t]
    try omega

/-- One token's merged and normalised row, from the arguments. -/
def mergeOut (x : FVec Ideal S16384x1024 .f32) (oa ob oc : FVec Ideal S16384x512 .bf16) (W : FVec Ideal S1024x6440 .f32)
    (pa pb pc : FVec Ideal S512x1024 .f32) (wo : FVec Ideal S1024x1024 .f32) (g b : FVec Ideal S1024 .f32) (R : Fin 16384) (d : Fin 1024) : EReal :=
  Moe.normAt (mergedRow (fun k => x (ix2 R k)) (fun j => oa (ix2 R j)) (fun j => ob (ix2 R j)) (fun j => oc (ix2 R j))
    (fun k n => W (ix2 k ⟨3368 + n.val, by omega⟩)) (fun k n => W (ix2 k ⟨4392 + n.val, by omega⟩)) (fun k n => W (ix2 k ⟨5416 + n.val, by omega⟩))
    (fun j n => pa (ix2 j n)) (fun j n => pb (ix2 j n)) (fun j n => pc (ix2 j n)) (fun n d => wo (ix2 n d))) (g (ix1 d)) (b (ix1 d)) d

/-- The gate weights' block, read as the input projection's columns. -/
theorem gate_block (t : Fin cfg0.N) (o o' : Nat) (ho : o + 1024 ≤ 3072) (h : 3368 + o = o') (h' : o' + 1024 ≤ 6440) (k n : Fin 1024) :
    gateCols (iblk m c 4 t) o ho (ix2 k n) = (m ((c : Thread nD τ).loc main_arg4) : FVec Ideal S1024x6440 .f32) (ix2 k ⟨o' + n.val, by omega⟩) := by
  subst h
  refine ((block4 m c t k ⟨o + n.val, by omega⟩).trans (entry_v4 m c k _)).trans ?_
  exact congrArg (fun j => (m ((c : Thread nD τ).loc main_arg4) : FVec Ideal S1024x6440 .f32) (ix2 k j)) (Fin.ext (Nat.add_assoc ..).symm)

/-- A row of a grid point's block before the norm, from the arguments. -/
theorem row_block (t : Fin cfg0.N) (r : Fin 512) (R : Fin 16384) (h0 : R.val = 512 * t.val + r.val) (d : Fin 1024)
    (x : FVec Ideal S16384x1024 .f32) (oa ob oc : FVec Ideal S16384x512 .bf16) (W : FVec Ideal S1024x6440 .f32)
    (pa pb pc : FVec Ideal S512x1024 .f32) (wo : FVec Ideal S1024x1024 .f32)
    (e0 : m ((c : Thread nD τ).loc main_arg0) = x) (e1 : m ((c : Thread nD τ).loc main_arg1) = oa) (e2 : m ((c : Thread nD τ).loc main_arg2) = ob)
    (e3 : m ((c : Thread nD τ).loc main_arg3) = oc) (e4 : m ((c : Thread nD τ).loc main_arg4) = W) (e5 : m ((c : Thread nD τ).loc main_arg5) = pa)
    (e6 : m ((c : Thread nD τ).loc main_arg6) = pb) (e7 : m ((c : Thread nD τ).loc main_arg7) = pc) (e8 : m ((c : Thread nD τ).loc main_arg8) = wo) :
    rowM (iblk m c 0 t) (iblk m c 1 t) (iblk m c 2 t) (iblk m c 3 t) (gateCols (iblk m c 4 t) 0 (by omega)) (gateCols (iblk m c 4 t) 1024 (by omega))
        (gateCols (iblk m c 4 t) 2048 (by omega)) (iblk m c 5 t) (iblk m c 6 t) (iblk m c 7 t) (iblk m c 8 t) r d
      = mergedRow (fun k => x (ix2 R k)) (fun j => oa (ix2 R j)) (fun j => ob (ix2 R j)) (fun j => oc (ix2 R j))
        (fun k n => W (ix2 k ⟨3368 + n.val, by omega⟩)) (fun k n => W (ix2 k ⟨4392 + n.val, by omega⟩)) (fun k n => W (ix2 k ⟨5416 + n.val, by omega⟩))
        (fun j n => pa (ix2 j n)) (fun j n => pb (ix2 j n)) (fun j n => pc (ix2 j n)) (fun n d => wo (ix2 n d)) d := by
  have hx : ∀ k, iblk m c 0 t (ix2 r k) = x (ix2 R k) := fun k => (block0 m c t r k R h0).trans (congrFun e0 _)
  have h1 : ∀ k, iblk m c 1 t (ix2 r k) = oa (ix2 R k) := fun k => (block1 m c t r k R h0).trans (congrFun e1 _)
  have h2 : ∀ k, iblk m c 2 t (ix2 r k) = ob (ix2 R k) := fun k => (block2 m c t r k R h0).trans (congrFun e2 _)
  have h3 : ∀ k, iblk m c 3 t (ix2 r k) = oc (ix2 R k) := fun k => (block3 m c t r k R h0).trans (congrFun e3 _)
  have ga : ∀ k n, gateCols (iblk m c 4 t) 0 (by omega) (ix2 k n) = W (ix2 k ⟨3368 + n.val, by omega⟩) := fun k n =>
    (gate_block m c t 0 3368 (by omega) rfl (by omega) k n).trans (congrFun e4 _)
  have gb : ∀ k n, gateCols (iblk m c 4 t) 1024 (by omega) (ix2 k n) = W (ix2 k ⟨4392 + n.val, by omega⟩) := fun k n =>
    (gate_block m c t 1024 4392 (by omega) rfl (by omega) k n).trans (congrFun e4 _)
  have gc : ∀ k n, gateCols (iblk m c 4 t) 2048 (by omega) (ix2 k n) = W (ix2 k ⟨5416 + n.val, by omega⟩) := fun k n =>
    (gate_block m c t 2048 5416 (by omega) rfl (by omega) k n).trans (congrFun e4 _)
  have ha : ∀ (j : Fin 512) (n : Fin 1024), iblk m c 5 t (ix2 j n) = pa (ix2 j n) := fun j n => (block5 m c t j n).trans (congrFun e5 _)
  have hb : ∀ (j : Fin 512) (n : Fin 1024), iblk m c 6 t (ix2 j n) = pb (ix2 j n) := fun j n => (block6 m c t j n).trans (congrFun e6 _)
  have hc : ∀ (j : Fin 512) (n : Fin 1024), iblk m c 7 t (ix2 j n) = pc (ix2 j n) := fun j n => (block7 m c t j n).trans (congrFun e7 _)
  have hw : ∀ (n d : Fin 1024), iblk m c 8 t (ix2 n d) = wo (ix2 n d) := fun n d => (block8 m c t n d).trans (congrFun e8 _)
  unfold rowM
  simp only [hx, h1, h2, h3, ga, gb, gc, ha, hb, hc, hw]

/-- The merged and normalised rows of the kernel's arguments. -/
def expected : FVec Ideal S16384x1024 .f32 := fun i => mergeOut (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10)) (i 0) (i 1)

/-- The kernel's result array, at every token and column. -/
theorem kernel_array :
    (dats m 0 c).arrAt 11 cfg0.N = expected m c := by
  unfold expected
  refine (dats m 0 c).arrAt_eq_of_covers 11 _ (by decide +kernel) fun t hf y => ?_
  blk_simp
  rw [after0_11]
  obtain ⟨r, d, rfl⟩ : ∃ (r : Fin 512) (d : Fin 1024), y = ix2 r d := ⟨y 0, y 1, eq_ix2 (n0 := 512) (n1 := 1024) y⟩
  obtain ⟨h0, h1⟩ := emb11 t r d
  have e1 : (win0_11.blk t).view.emb (ix2 r d) 1 = d := Fin.ext h1
  rw [e1]
  generalize (win0_11.blk t).view.emb (ix2 r d) 0 = R at h0 ⊢
  refine (out_apply ..).trans ?_
  unfold mergeOut
  refine (congrArg₂ (fun g b => Moe.normAt _ g b d) ((block9 m c t d).trans (entry_v9 m c d)) ((block10 m c t d).trans (entry_v10 m c d))).trans ?_
  exact congrArg (fun y => Moe.normAt y _ _ d) (funext fun k => row_block m c t r R h0 k _ _ _ _ _ _ _ _ _ rfl rfl rfl rfl rfl rfl rfl rfl rfl)
end Cert.MergeProof
-- ==== Proof.Merge.Reference.lean ====
module
public import proofs.«01_k».proof.Proof.Merge.Array
public import proofs.«01_k».proof.Proof.Gen.MergeReferenceIdeal.Read

/-! The merge reference's result, read at a token and a column. -/

@[expose] public section
set_option maxRecDepth 16384
noncomputable section
namespace Cert.MergeProof
open Cert.MergeReferenceIdeal Cert.MergeReferenceIdeal.Gen Cert.MergeReferenceIdeal.Read Idealize.ShloMosaic

variable (x0 : FVec Ideal S16384x1024 .f32) (x1 x2 x3 : FVec Ideal S16384x512 .bf16) (x4 : FVec Ideal S1024x6440 .f32)
  (x5 x6 x7 : FVec Ideal S512x1024 .f32) (x8 : FVec Ideal S1024x1024 .f32) (x9 x10 : FVec Ideal S1024 .f32)

theorem v14_apply (R : Fin 16384) (n : Fin 1024) : val_main_v14 (F := Ideal) x0 x1 x4 x5 (ix2 R n)
    = gated (fun k => x0 (ix2 R k)) (fun k => x4 (ix2 k ⟨3368 + n.val, by omega⟩)) (fun j => x1 (ix2 R j)) (fun j => x5 (ix2 j n)) := by
  pointwise [val_main_v14, val_main_v13, val_main_v12, val_main_v11, val_main_v10, val_main_v9, val_main_v8, val_main_v7, val_main_v4, val_main_v1, val_main_v0,
    val_main_cst, val_main_cst_0]
  unfold gated
  rw [sub_eq_add_neg, zero_add]
theorem v22_apply (R : Fin 16384) (n : Fin 1024) : val_main_v22 (F := Ideal) x0 x2 x4 x6 (ix2 R n)
    = gated (fun k => x0 (ix2 R k)) (fun k => x4 (ix2 k ⟨4392 + n.val, by omega⟩)) (fun j => x2 (ix2 R j)) (fun j => x6 (ix2 j n)) := by
  pointwise [val_main_v22, val_main_v21, val_main_v20, val_main_v19, val_main_v18, val_main_v17, val_main_v16, val_main_v15, val_main_v5, val_main_v2, val_main_v0,
    val_main_cst_1, val_main_cst_2]
  unfold gated
  rw [sub_eq_add_neg, zero_add]
theorem v31_apply (R : Fin 16384) (n : Fin 1024) : val_main_v31 (F := Ideal) x0 x3 x4 x7 (ix2 R n)
    = gated (fun k => x0 (ix2 R k)) (fun k => x4 (ix2 k ⟨5416 + n.val, by omega⟩)) (fun j => x3 (ix2 R j)) (fun j => x7 (ix2 j n)) := by
  pointwise [val_main_v31, val_main_v30, val_main_v29, val_main_v28, val_main_v27, val_main_v26, val_main_v25, val_main_v24, val_main_v6, val_main_v3, val_main_v0,
    val_main_cst_3, val_main_cst_4]
  unfold gated
  rw [sub_eq_add_neg, zero_add]
theorem v36_apply (R : Fin 16384) (d : Fin 1024) : val_main_v36 (F := Ideal) x0 x1 x2 x3 x4 x5 x6 x7 x8 (ix2 R d)
    = mergedRow (fun k => x0 (ix2 R k)) (fun j => x1 (ix2 R j)) (fun j => x2 (ix2 R j)) (fun j => x3 (ix2 R j))
    (fun k n => x4 (ix2 k ⟨3368 + n.val, by omega⟩)) (fun k n => x4 (ix2 k ⟨4392 + n.val, by omega⟩)) (fun k n => x4 (ix2 k ⟨5416 + n.val, by omega⟩))
    (fun j n => x5 (ix2 j n)) (fun j n => x6 (ix2 j n)) (fun j n => x7 (ix2 j n)) (fun n d => x8 (ix2 n d)) d := by
  unfold mergedRow
  simp only [← v14_apply x0 x1 x4 x5, ← v22_apply x0 x2 x4 x6, ← v31_apply x0 x3 x4 x7]
  pointwise [val_main_v36, val_main_v35, val_main_v34, val_main_v33, val_main_v32, val_main_v23, val_main_cst_5]
theorem v60_apply (R : Fin 16384) (d : Fin 1024) : val_main_v60 (F := Ideal) x0 x1 x2 x3 x4 x5 x6 x7 x8 x9 x10 (ix2 R d)
    = mergeOut x0 x1 x2 x3 x4 x5 x6 x7 x8 x9 x10 R d := by
  unfold mergeOut
  have h := fun d => v36_apply x0 x1 x2 x3 x4 x5 x6 x7 x8 R d
  refine Eq.trans ?_ (congrArg (fun y => Moe.normAt y (x9 (ix1 d)) (x10 (ix1 d)) d) (funext h))
  pointwise [val_main_v60, val_main_v59, val_main_v58, val_main_v57, val_main_v56, val_main_v55, val_main_v54, val_main_v53, val_main_v52, val_main_v51,
    val_main_v50, val_main_v49, val_main_v48, val_main_v47, val_main_v46, val_main_v45, val_main_v44, val_main_v43, val_main_v42, val_main_v41, val_main_v40,
    val_main_v39, val_main_v38, val_main_v37, val_main_cst_6, val_main_cst_7, val_main_cst_8, val_main_cst_9, val_main_cst_10]
  rfl
end Cert.MergeProof
-- ==== Proof.Merge.Claims.lean ====
module
public import proofs.«01_k».proof.Defs
public import proofs.«01_k».proof.Proof.Gen.MergeIdeal.Value
public import proofs.«01_k».proof.Proof.Gen.MergeReferenceIdeal.Run
public import proofs.«01_k».proof.Proof.Gen.MergeReferenceIdeal.Read
public import proofs.«01_k».proof.Proof.Merge.Reference
public import Idealize.ShloMosaic.Adequacy
public import Idealize.ShloMosaic.Init

/-! The claims of the merge. -/

@[expose] public section
noncomputable section
namespace Cert.MergeProof
open Idealize.ShloMosaic Idealize.SL.Sem

/-- The reference runs, its arguments end unchanged, and every semaphore reads zero. -/
theorem reference_frame : Cert.quiescent_MergeReferenceIdeal (hMergeReferenceIdeal := Cert.MergeReferenceIdeal.Gen.facts) := by
  intro m ρ _
  exact (θ_run Cert.MergeReferenceIdeal.defs _ _).mono
    (fun r h => ⟨fun c => (h c).2, Idealize.ShloMosaic.sem_eq_zero_of_no_sems (by decide) r.2⟩)
    (Cert.MergeReferenceIdeal.Value.run (F := Ideal) m ρ)

open Cert.MergeReferenceIdeal Cert.MergeReferenceIdeal.Read in
/-- The reference's result on arguments equal to these is the merged and normalised row at every token. -/
theorem result_congr {x0 y0 : FVec Ideal S16384x1024 .f32} {x1 y1 x2 y2 x3 y3 : FVec Ideal S16384x512 .bf16} {x4 y4 : FVec Ideal S1024x6440 .f32}
    {x5 y5 x6 y6 x7 y7 : FVec Ideal S512x1024 .f32} {x8 y8 : FVec Ideal S1024x1024 .f32} {x9 y9 x10 y10 : FVec Ideal S1024 .f32}
    (h0 : x0 = y0) (h1 : x1 = y1) (h2 : x2 = y2) (h3 : x3 = y3) (h4 : x4 = y4) (h5 : x5 = y5) (h6 : x6 = y6) (h7 : x7 = y7)
    (h8 : x8 = y8) (h9 : x9 = y9) (h10 : x10 = y10) :
    val_main_v60 (F := Ideal) x0 x1 x2 x3 x4 x5 x6 x7 x8 x9 x10 = fun i => mergeOut y0 y1 y2 y3 y4 y5 y6 y7 y8 y9 y10 (i 0) (i 1) := by
  subst h0 h1 h2 h3 h4 h5 h6 h7 h8 h9 h10
  funext i
  conv_lhs => rw [eq_ix2 i]
  exact v60_apply ..

/-- Kernel and reference leave equal arrays. -/
theorem equal_results : Cert.algebraic_MergeIdeal_MergeReferenceIdeal (hMergeIdeal := Cert.MergeIdeal.Gen.facts)
    (hMergeReferenceIdeal := Cert.MergeReferenceIdeal.Gen.facts) := by
  intro m g m' g' hpre hargs
  refine ⟨fun c => expected m c, (θ_run _ _ _).mono (fun r h c => ?_) (Cert.MergeIdeal.Value.run_blocks m g),
    (θ_run _ _ _).mono (fun r h c => ?_) (Cert.MergeReferenceIdeal.Value.run (F := Ideal) m' g')⟩
  · obtain ⟨h0, h1⟩ := h c
    exact ⟨h0.trans (kernel_array m c), h1⟩
  · obtain ⟨h0, h1⟩ := h c
    obtain ⟨a0, a1, a2, a3, a4, a5, a6, a7, a8, a9, a10⟩ := hargs c
    exact ⟨h0.trans ((Cert.MergeReferenceIdeal.Read.val_main_v60_eq (F := Ideal) m' c).trans
      (result_congr a0 a1 a2 a3 a4 a5 a6 a7 a8 a9 a10)), h1⟩
end Cert.MergeProof
-- ==== Proof.Rows.Spec.lean ====
module
public import Idealize.ShloMosaic.Lib.Pipeline.ValueKit

/-! The projections' mathematics: columns of a row's projection, the rotary turn of a head, the activation and its norm. -/

@[expose] public section
set_option maxRecDepth 16384
noncomputable section
namespace Cert.RowsProof
open Idealize.ShloMosaic

/-- A row times column `n` of a matrix of `N` columns (0 past its end). -/
def column {N : Nat} (x : Fin 1024 → EReal) (w : Fin 1024 → Fin N → EReal) (n : Nat) : EReal :=
  if h : n < N then ∑ k, x k * w k ⟨n, h⟩ else 0

/-- The sum over a column in range is that column. -/
theorem column_of {N : Nat} (x : Fin 1024 → EReal) (w : Fin 1024 → Fin N → EReal) (n : Nat) (h : n < N) :
    ∑ k, x k * w k ⟨n, h⟩ = column x w n := by
  unfold column
  rw [dif_pos h]

/-- The angle of pair `j` at position `p`: `p · θ ^ (-j / half)`, `hb` the bits of the number of pairs. -/
def turn (p hb : BitVec 32) (j : Nat) : EReal :=
  FloatOps.sitofp (F := Ideal) .f32 p
    * Ideal.pow (Ideal.ofBits .f32 0x48F42400#32) (Ideal.div (-FloatOps.sitofp (F := Ideal) .f32 (BitVec.ofNat 32 j)) (Ideal.ofBits .f32 hb))

/-- A head's entry `j` after the rotary turn of its first `2 half` entries. -/
def roped (p hb : BitVec 32) (half : Nat) (h : Nat → EReal) (j : Nat) : EReal :=
  if j < half then h j * Ideal.cos (turn p hb j) - h (half + j) * Ideal.sin (turn p hb j)
  else if j - half < half then h j * Ideal.cos (turn p hb (j - half)) + h (j - half) * Ideal.sin (turn p hb (j - half))
  else h j

/-- Lane `l` of a 128-lane chunk turned by lane rotations: `c`, `a`, `b` weigh the lane, the one `s` before, the one `s` after. -/
def chunk (s : Nat) (h : Nat → EReal) (c a b : EReal) (l : Nat) : EReal :=
  h l * c + h ((l + 128 - s) % 128) * a + h ((l + 128 - (128 - s)) % 128) * b

/-- The cosine table's entry at a head's lane `j`. -/
def cosAt (p hb : BitVec 32) (half j : Nat) : EReal :=
  if j < half then Ideal.cos (turn p hb j) else if j - half < half then Ideal.cos (turn p hb (j - half)) else 1
/-- The table that weighs the lane before. -/
def sinBefore (p hb : BitVec 32) (half j : Nat) : EReal :=
  if j < half then 0 else if j - half < half then Ideal.sin (turn p hb (j - half)) else 0
/-- The table that weighs the lane after. -/
def sinAfter (p hb : BitVec 32) (half j : Nat) : EReal := if j < half then -Ideal.sin (turn p hb j) else 0

/-- The chunk with the tables' entries is the rotary turn of the lane's head; heads of 64 lanes. -/
theorem chunk_roped64 (p hb : BitVec 32) (h : Nat → EReal) (l : Nat) (hl : l < 128) :
    chunk 8 h (cosAt p hb 8 (l % 64)) (sinBefore p hb 8 (l % 64)) (sinAfter p hb 8 (l % 64)) l
      = roped p hb 8 (fun j => h (l / 64 * 64 + j)) (l % 64) := by
  unfold chunk cosAt sinBefore sinAfter roped
  have e0 : l / 64 * 64 + l % 64 = l := by omega
  by_cases h1 : l % 64 < 8
  · have e1 : (l + 128 - (128 - 8)) % 128 = l / 64 * 64 + (8 + l % 64) := by omega
    simp only [if_pos h1, e0, e1, mul_zero, add_zero, mul_neg, sub_eq_add_neg]
  · by_cases h2 : l % 64 - 8 < 8
    · have e2 : (l + 128 - 8) % 128 = l / 64 * 64 + (l % 64 - 8) := by omega
      simp only [if_neg h1, if_pos h2, e0, e2, mul_zero, add_zero]
    · simp only [if_neg h1, if_neg h2, e0, mul_zero, add_zero, mul_one]

/-- The same for the first 32 lanes of a chunk, one head of 32 lanes. -/
theorem chunk_roped32 (p hb : BitVec 32) (h : Nat → EReal) (l : Nat) (hl : l < 32) :
    chunk 4 h (cosAt p hb 4 (l % 32)) (sinBefore p hb 4 (l % 32)) (sinAfter p hb 4 (l % 32)) l = roped p hb 4 h l := by
  unfold chunk cosAt sinBefore sinAfter roped
  have e0 : l % 32 = l := by omega
  rw [e0]
  by_cases h1 : l < 4
  · have e1 : (l + 128 - (128 - 4)) % 128 = 4 + l := by omega
    simp only [if_pos h1, e1, mul_zero, add_zero, mul_neg, sub_eq_add_neg]
  · by_cases h2 : l - 4 < 4
    · have e2 : (l + 128 - 4) % 128 = l - 4 := by omega
      simp only [if_neg h1, if_pos h2, e2, mul_zero, add_zero]
    · simp only [if_neg h1, if_neg h2, mul_zero, add_zero, mul_one]

/-- A lane weighed one, with its neighbours weighed zero, stays. -/
theorem chunk_id (s : Nat) (h : Nat → EReal) (l : Nat) : chunk s h 1 0 0 l = h l := by
  unfold chunk
  simp only [mul_zero, add_zero, mul_one]

/-- One row of the key-value results: four turned key heads, then four value heads; `ko`, `vo` their columns of the projection. -/
def kvRow (p : BitVec 32) (ko vo : Nat) (f : Nat → EReal) (q : Nat) : EReal :=
  if q < 256 then roped p 0x41000000#32 8 (fun j => f (ko + (q / 64 * 64 + j))) (q % 64) else f (vo + (q - 256))

/-- One row of the indexer's result: the turned indexer key, its eight weights, zeros. -/
def ixRow (p : BitVec 32) (f : Nat → EReal) (q : Nat) : EReal :=
  if q < 32 then roped p 0x40800000#32 4 (fun j => f (2304 + j)) q else if q - 32 < 8 then f (2336 + (q - 32)) else 0

/-- The smooth activation of one value. -/
def gelu (y : EReal) : EReal :=
  y * (Ideal.ofBits .f32 0x3F000000#32 * (1 + Ideal.tanh (Ideal.ofBits .f32 0x3F4C422A#32 * (y + Ideal.ofBits .f32 0x3D372713#32 * (y * y * y)))))

/-- The layer norm of a row of 512 at one entry. -/
def norm512 (v : Fin 512 → EReal) (g b : EReal) (l : Fin 512) : EReal :=
  (v l - Ideal.div (∑ k, v k) (Ideal.ofBits .f32 0x44000000#32))
    * Ideal.rsqrt (Ideal.div (∑ k, (v k - Ideal.div (∑ k, v k) (Ideal.ofBits .f32 0x44000000#32)) * (v k - Ideal.div (∑ k, v k) (Ideal.ofBits .f32 0x44000000#32)))
        (Ideal.ofBits .f32 0x44000000#32) + Ideal.ofBits .f32 0x3727C5AC#32) * g + b

/-- One row of the gated unit's value result. -/
def valueRow (f : Nat → EReal) (g b : EReal) (l : Fin 512) : EReal := norm512 (fun k => gelu (f (2856 + k.val))) g b l
end Cert.RowsProof
-- ==== Proof.Rows.Reference.lean ====
module
public import proofs.«01_k».proof.Proof.Gen.RowsReferenceIdeal.Read
public import proofs.«01_k».proof.Proof.Rows.Spec

/-! The reference's four results, read from its arguments. -/

@[expose] public section
set_option maxRecDepth 16384
noncomputable section
namespace Cert.RowsProof
open Cert.RowsReferenceIdeal Cert.RowsReferenceIdeal.Gen Cert.RowsReferenceIdeal.Read Idealize.ShloMosaic
variable (x0 : FVec Ideal S128x1x1024 .f32) (x1 : FVec Ideal S1024x6440 .f32) (x2 x3 : FVec Ideal S512 .f32)

/-- The projection's columns of row `b`. -/
def colsOf (b : Fin 128) (n : Nat) : EReal := column (fun k => x0 (ix3 b 0 k)) (fun k l => x1 (ix2 k l)) n

theorem sum_colsOf (b : Fin 128) (n : Nat) (h : n < 6440) : ∑ k, x0 (ix3 b 0 k) * x1 (ix2 k ⟨n, h⟩) = colsOf x0 x1 b n :=
  column_of (fun k => x0 (ix3 b 0 k)) (fun k l => x1 (ix2 k l)) n h

/-- The table of cosines of branch `a`. -/
theorem cos_a (j : Fin 8) : val_main_v17 (F := Ideal) (ix2 0 j) = Ideal.cos (turn 2048#32 0x41000000#32 j.val) := by
  pointwise [val_main_v17, val_main_v16, val_main_v15, val_main_v14, val_main_v13, val_main_v12, val_main_v11, val_main_v10, val_main_v9,
    val_main_v8, val_main_v7, val_main_v6, val_main_v2, val_main_v1, val_main_v0, val_main_c, val_main_cst, val_main_cst_0]
  rfl
/-- The table of sines of branch `a`. -/
theorem sin_a (j : Fin 8) : val_main_v19 (F := Ideal) (ix2 0 j) = Ideal.sin (turn 2048#32 0x41000000#32 j.val) := by
  pointwise [val_main_v19, val_main_v16, val_main_v15, val_main_v14, val_main_v13, val_main_v12, val_main_v11, val_main_v10, val_main_v9,
    val_main_v8, val_main_v7, val_main_v6, val_main_v2, val_main_v1, val_main_v0, val_main_c, val_main_cst, val_main_cst_0]
  rfl
/-- The table of cosines of branch `c`. -/
theorem cos_c (j : Fin 8) : val_main_v54 (F := Ideal) (ix2 0 j) = Ideal.cos (turn 2048#32 0x41000000#32 j.val) := by
  pointwise [val_main_v54, val_main_v53, val_main_v52, val_main_v51, val_main_v50, val_main_v49, val_main_v48, val_main_v47, val_main_v46,
    val_main_v45, val_main_v44, val_main_v43, val_main_v2, val_main_v1, val_main_v0, val_main_c, val_main_cst_1, val_main_cst_2]
  rfl
/-- The table of sines of branch `c`. -/
theorem sin_c (j : Fin 8) : val_main_v56 (F := Ideal) (ix2 0 j) = Ideal.sin (turn 2048#32 0x41000000#32 j.val) := by
  pointwise [val_main_v56, val_main_v53, val_main_v52, val_main_v51, val_main_v50, val_main_v49, val_main_v48, val_main_v47, val_main_v46,
    val_main_v45, val_main_v44, val_main_v43, val_main_v2, val_main_v1, val_main_v0, val_main_c, val_main_cst_1, val_main_cst_2]
  rfl
/-- The table of cosines of branch `i`. -/
theorem cos_i (j : Fin 4) : val_main_v91 (F := Ideal) (ix2 0 j) = Ideal.cos (turn 2048#32 0x40800000#32 j.val) := by
  pointwise [val_main_v91, val_main_v90, val_main_v89, val_main_v88, val_main_v87, val_main_v86, val_main_v85, val_main_v84, val_main_v83,
    val_main_v82, val_main_v81, val_main_v80, val_main_v2, val_main_v1, val_main_v0, val_main_c, val_main_cst_3, val_main_cst_4]
  rfl
/-- The table of sines of branch `i`. -/
theorem sin_i (j : Fin 4) : val_main_v93 (F := Ideal) (ix2 0 j) = Ideal.sin (turn 2048#32 0x40800000#32 j.val) := by
  pointwise [val_main_v93, val_main_v90, val_main_v89, val_main_v88, val_main_v87, val_main_v86, val_main_v85, val_main_v84, val_main_v83,
    val_main_v82, val_main_v81, val_main_v80, val_main_v2, val_main_v1, val_main_v0, val_main_c, val_main_cst_3, val_main_cst_4]
  rfl
/-- The turned keys of branch `a`. -/
theorem keys_a (b : Fin 128) (g : Fin 4) (j : Fin 64) : val_main_v38 (F := Ideal) x0 x1 (ix4 b 0 g j)
    = roped 2048#32 0x41000000#32 8 (fun j => colsOf x0 x1 b (512 + (g.val * 64 + j))) j.val := by
  pointwise [val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21,
    val_main_v20, val_main_v18, val_main_v5, val_main_v4, val_main_v3]
  simp only [sum_colsOf, cos_a, sin_a]
  unfold roped
  split
  · rfl
  · split
    · rw [show 8 + (j.val - 8) = j.val by omega]
    · rw [show 16 + (j.val - 8 - 8) = j.val by omega]

/-- The turned keys of branch `c`. -/
theorem keys_c (b : Fin 128) (g : Fin 4) (j : Fin 64) : val_main_v75 (F := Ideal) x0 x1 (ix4 b 0 g j)
    = roped 2048#32 0x41000000#32 8 (fun j => colsOf x0 x1 b (1536 + (g.val * 64 + j))) j.val := by
  pointwise [val_main_v75, val_main_v74, val_main_v73, val_main_v72, val_main_v71, val_main_v70, val_main_v69, val_main_v68, val_main_v67,
    val_main_v66, val_main_v65, val_main_v64, val_main_v63, val_main_v62, val_main_v61, val_main_v60, val_main_v59, val_main_v58,
    val_main_v57, val_main_v55, val_main_v42, val_main_v41, val_main_v3]
  simp only [sum_colsOf, cos_c, sin_c]
  unfold roped
  split
  · rfl
  · split
    · rw [show 8 + (j.val - 8) = j.val by omega]
    · rw [show 16 + (j.val - 8 - 8) = j.val by omega]

/-- The turned keys of branch `i`. -/
theorem keys_i (b : Fin 128) (j : Fin 32) : val_main_v112 (F := Ideal) x0 x1 (ix4 b 0 0 j)
    = roped 2048#32 0x40800000#32 4 (fun j => colsOf x0 x1 b (2304 + j)) j.val := by
  pointwise [val_main_v112, val_main_v111, val_main_v110, val_main_v109, val_main_v108, val_main_v107, val_main_v106, val_main_v105,
    val_main_v104, val_main_v103, val_main_v102, val_main_v101, val_main_v100, val_main_v99, val_main_v98, val_main_v97, val_main_v96,
    val_main_v95, val_main_v94, val_main_v92, val_main_v79, val_main_v78, val_main_v3]
  simp only [sum_colsOf, cos_i, sin_i]
  unfold roped
  split
  · rfl
  · split
    · rw [show 4 + (j.val - 4) = j.val by omega]
    · rw [show 8 + (j.val - 4 - 4) = j.val by omega]

/-- The key-value rows of branch `a`. -/
theorem result_a (b : Fin 128) (l : Fin 512) : val_main_v161 (F := Ideal) x0 x1 (ix2 b l)
    = kvRow 2048#32 512 768 (colsOf x0 x1 b) l.val := by
  pointwise [val_main_v161, val_main_v154, val_main_v153, val_main_v152, val_main_v40, val_main_v39, val_main_v3]
  simp only [keys_a, sum_colsOf]
  unfold kvRow
  split
  · rw [if_pos (by omega)]
    refine congrArg (fun f => roped _ _ _ f _) (funext fun j => ?_)
    rw [show l.val / 64 % 4 = l.val / 64 by omega]
  · rw [if_neg (by omega)]
    refine congrArg (colsOf x0 x1 b) ?_
    omega

/-- The key-value rows of branch `c`. -/
theorem result_c (b : Fin 128) (l : Fin 512) : val_main_v162 (F := Ideal) x0 x1 (ix2 b l)
    = kvRow 2048#32 1536 1792 (colsOf x0 x1 b) l.val := by
  pointwise [val_main_v162, val_main_v157, val_main_v156, val_main_v155, val_main_v77, val_main_v76, val_main_v3]
  simp only [keys_c, sum_colsOf]
  unfold kvRow
  split
  · rw [if_pos (by omega)]
    refine congrArg (fun f => roped _ _ _ f _) (funext fun j => ?_)
    rw [show l.val / 64 % 4 = l.val / 64 by omega]
  · rw [if_neg (by omega)]
    refine congrArg (colsOf x0 x1 b) ?_
    omega

/-- The indexer's rows. -/
theorem result_i (b : Fin 128) (l : Fin 128) : val_main_v163 (F := Ideal) x0 x1 (ix2 b l) = ixRow 2048#32 (colsOf x0 x1 b) l.val := by
  pointwise [val_main_v163, val_main_v160, val_main_v159, val_main_v158, val_main_v113, val_main_v3, val_main_cst_14]
  simp only [keys_i, sum_colsOf]
  rfl

/-- The activation of the gated unit's values. -/
theorem act_apply (b : Fin 128) (l : Fin 512) : val_main_v127 (F := Ideal) x0 x1 (ix3 b 0 l) = gelu (colsOf x0 x1 b (2856 + l.val)) := by
  pointwise [val_main_v127, val_main_v126, val_main_v125, val_main_v124, val_main_v123, val_main_v122, val_main_v121, val_main_v120,
    val_main_v119, val_main_v118, val_main_v117, val_main_v116, val_main_v115, val_main_v114, val_main_v3, val_main_cst_5,
    val_main_cst_6, val_main_cst_7, val_main_cst_8]
  simp only [sum_colsOf]
  rfl

/-- The gated unit's value rows. -/
theorem result_v (b : Fin 128) (l : Fin 512) : val_main_v164 (F := Ideal) x0 x1 x2 x3 (ix2 b l)
    = valueRow (colsOf x0 x1 b) (x2 (ix1 l)) (x3 (ix1 l)) l := by
  pointwise [val_main_v164, val_main_v151, val_main_v150, val_main_v149, val_main_v148, val_main_v147, val_main_v146, val_main_v145,
    val_main_v144, val_main_v143, val_main_v142, val_main_v141, val_main_v140, val_main_v139, val_main_v138, val_main_v137,
    val_main_v136, val_main_v135, val_main_v134, val_main_v133, val_main_v132, val_main_v131, val_main_v130, val_main_v129,
    val_main_v128, val_main_cst_9, val_main_cst_10, val_main_cst_11, val_main_cst_12, val_main_cst_13]
  simp only [act_apply]
  rfl
end Cert.RowsProof
-- ==== Proof.Rows.Kernel.lean ====
module
public import proofs.«01_k».proof.Proof.Gen.RowsIdeal.Value
public import proofs.«01_k».proof.Proof.Rows.Spec

/-! The projection kernel's block: what its body leaves in the four results' blocks. -/

@[expose] public section
set_option maxRecDepth 16384
noncomputable section
namespace Cert.RowsProof
open Cert.RowsIdeal Cert.RowsIdeal.Gen Idealize.ShloMosaic Idealize.ShloMosaic.Pipeline Idealize.ShloMosaic.TcCoe Idealize.SL.Sem

theorem zeros : (![0, 0] : Fin 2 → Nat) = fun _ => 0 := by
  funext a
  match a with
  | ⟨0, _⟩ => rfl
  | ⟨1, _⟩ => rfl

/-- 512 of the packed columns, from `o`. -/
def cols512 (w : Vec Ideal S1024x2432 .bf16) (o : Nat) (ho : o + 512 ≤ 2432) : Vec Ideal S1024x512 .bf16 :=
  fun y => w (ix2 (y 0) ⟨o + (y 1).val, by have : (y 1).val < 512 := (y 1).isLt; omega⟩)
/-- The last 384 of the packed columns. -/
def cols384 (w : Vec Ideal S1024x2432 .bf16) : Vec Ideal S1024x384 .bf16 :=
  fun y => w (ix2 (y 0) ⟨2048 + (y 1).val, by have : (y 1).val < 384 := (y 1).isLt; omega⟩)
/-- One of three stacked tables. -/
def tabSlab (w : Vec Ideal S3x128x128 .f32) (a : Fin 3) : Vec Ideal S1x128x128 .f32 := fun y => w (ix3 a (y 1) (y 2))

theorem ld_cols512 (w : Vec Ideal S1024x2432 .bf16) (o : Nat) (ho : o + 512 ≤ 2432)
    (inb : ∀ a, (![0, o] : Fin 2 → Nat) a + S1024x512.size a ≤ S1024x2432.size a) :
    View.ld w (Rect.unit (s := S1024x2432) ![0, o] S1024x512.size inb) = cols512 w o ho := by
  funext y
  refine View.ld_unit_apply_of w _ _ inb y _ fun a => ?_
  match a with
  | ⟨0, _⟩ => show (y 0).val = 0 + (y 0).val; omega
  | ⟨1, _⟩ => rfl
theorem ld_cols384 (w : Vec Ideal S1024x2432 .bf16)
    (inb : ∀ a, (![0, 2048] : Fin 2 → Nat) a + S1024x384.size a ≤ S1024x2432.size a) :
    View.ld w (Rect.unit (s := S1024x2432) ![0, 2048] S1024x384.size inb) = cols384 w := by
  funext y
  refine View.ld_unit_apply_of w _ _ inb y _ fun a => ?_
  match a with
  | ⟨0, _⟩ => show (y 0).val = 0 + (y 0).val; omega
  | ⟨1, _⟩ => rfl
theorem ld_tab (w : Vec Ideal S3x128x128 .f32) (o : Nat) (ho : o < 3)
    (inb : ∀ a, (![o, 0, 0] : Fin 3 → Nat) a + S1x128x128.size a ≤ S3x128x128.size a) :
    View.ld w (Rect.unit (s := S3x128x128) ![o, 0, 0] S1x128x128.size inb) = tabSlab w ⟨o, ho⟩ := by
  funext y
  refine View.ld_unit_apply_of w _ _ inb y _ fun a => ?_
  match a with
  | ⟨0, _⟩ => show o = o + (y 0).val; have : (y 0).val < 1 := (y 0).isLt; omega
  | ⟨1, _⟩ => show (y 1).val = 0 + (y 1).val; omega
  | ⟨2, _⟩ => show (y 2).val = 0 + (y 2).val; omega

section
variable (X : FVec Ideal S128x1024 .bf16) (u v y : FVec Ideal S128x128 .f32) (W : Vec Ideal S1024x512 .bf16) (W' : Vec Ideal S1024x384 .bf16)
  (Wg : Vec Ideal S1024x1024 .bf16)

/-- A block's row times a column of 512 loaded ones. -/
def col512 (r : Fin 128) (n : Nat) : EReal := column (fun k => X (ix2 r k)) (fun k l => W (ix2 k l)) n
theorem sum_col512 (r : Fin 128) (n : Nat) (h : n < 512) : ∑ k, X (ix2 r k) * W (ix2 k ⟨n, h⟩) = col512 X W r n :=
  column_of (fun k => X (ix2 r k)) (fun k l => W (ix2 k l)) n h
/-- A block's row times a column of 384 loaded ones. -/
def col384 (r : Fin 128) (n : Nat) : EReal := column (fun k => X (ix2 r k)) (fun k l => W' (ix2 k l)) n
theorem sum_col384 (r : Fin 128) (n : Nat) (h : n < 384) : ∑ k, X (ix2 r k) * W' (ix2 k ⟨n, h⟩) = col384 X W' r n :=
  column_of (fun k => X (ix2 r k)) (fun k l => W' (ix2 k l)) n h
/-- A block's row times a column of the gated unit's loaded ones. -/
def col1024 (r : Fin 128) (n : Nat) : EReal := column (fun k => X (ix2 r k)) (fun k l => Wg (ix2 k l)) n
theorem sum_col1024 (r : Fin 128) (n : Nat) (h : n < 1024) : ∑ k, X (ix2 r k) * Wg (ix2 k ⟨n, h⟩) = col1024 X Wg r n :=
  column_of (fun k => X (ix2 r k)) (fun k l => Wg (ix2 k l)) n h

/-- The key chunk whose columns start at `o`, at lane `l`. -/
def keyLane (r : Fin 128) (o : Nat) (l : Fin 128) : EReal :=
  chunk 8 (fun n => col512 X W r (o + n)) (u (ix2 r l)) (v (ix2 r l)) (y (ix2 r l)) l.val

theorem key_0 (r l : Fin 128) : k0_pay28 X u v y W (ix2 r l) = keyLane X u v y W r 0 l := by
  pointwise [k0_pay28, k0_pay26]
  simp only [sum_col512]
  simp only [keyLane, chunk, Nat.zero_add]
theorem key_1 (r l : Fin 128) : k0_pay33 y (k0_pay31 X u v W) (k0_pay32 X W) (ix2 r l) = keyLane X u v y W r 128 l := by
  pointwise [k0_pay33, k0_pay31, k0_pay32, k0_pay30, k0_pay26]
  simp only [sum_col512]
  rfl
theorem key_2 (r l : Fin 128) : k0_pay35 u v y (k0_pay26 X W) (ix2 r l) = keyLane X u v y W r 256 l := by
  pointwise [k0_pay35, k0_pay26]
  simp only [sum_col512]
  rfl
theorem key_3 (r l : Fin 128) : k0_pay37 u v y (k0_pay26 X W) (ix2 r l) = keyLane X u v y W r 384 l := by
  pointwise [k0_pay37, k0_pay26]
  simp only [sum_col512]
  rfl
theorem val_0 (r l : Fin 128) : k0_pay29 X W (ix2 r l) = col512 X W r l.val := by
  pointwise [k0_pay29, k0_pay27]
  exact sum_col512 ..
theorem val_1 (r l : Fin 128) : k0_pay34 (k0_pay27 X W) (ix2 r l) = col512 X W r (128 + l.val) := by
  pointwise [k0_pay34, k0_pay27]
  exact sum_col512 ..
theorem val_2 (r l : Fin 128) : k0_pay36 (k0_pay27 X W) (ix2 r l) = col512 X W r (256 + l.val) := by
  pointwise [k0_pay36, k0_pay27]
  exact sum_col512 ..
theorem val_3 (r l : Fin 128) : k0_pay38 (k0_pay27 X W) (ix2 r l) = col512 X W r (384 + l.val) := by
  pointwise [k0_pay38, k0_pay27]
  exact sum_col512 ..
theorem index_0 (r l : Fin 128) : k0_pay45 u v y (k0_pay39 X W') (ix2 r l)
    = chunk 4 (fun n => col384 X W' r (256 + n)) (u (ix2 r l)) (v (ix2 r l)) (y (ix2 r l)) l.val := by
  pointwise [k0_pay45, k0_pay39]
  simp only [sum_col384]
  rfl
/-- The activation of the gated unit's values in a block. -/
theorem value_0 (g b : Vec Ideal S1x512 .f32) (r : Fin 128) (l : Fin 512) : k0_pay50 (k0_pay46 X Wg) g b (ix2 r l)
    = norm512 (fun k => gelu (col1024 X Wg r (512 + k.val))) (g (ix2 0 l)) (b (ix2 0 l)) l := by
  pointwise [k0_pay50, k0_pay46]
  simp only [sum_col1024]
  rfl
end

variable (x : Vec Ideal S128x1024 .f32) (w : Vec Ideal S1024x2432 .bf16) (wg : Vec Ideal S1024x1024 .bf16)
  (t64 t32 tl : Vec Ideal S3x128x128 .f32) (g b ws bs : Vec Ideal S1x512 .f32)

/-- The packed projection's columns of a block's row. -/
def packed (r : Fin 128) (n : Nat) : EReal := column (fun k => x (ix2 r k)) (fun k l => w (ix2 k l)) n

theorem col512_packed (o : Nat) (ho : o + 512 ≤ 2432) (r : Fin 128) (n : Nat) (hn : n < 512) :
    col512 (k0_pay2 x) (cols512 w o ho) r n = packed x w r (o + n) := by
  unfold col512 packed column
  rw [dif_pos hn, dif_pos (show o + n < 2432 by omega)]
  refine Finset.sum_congr rfl fun k _ => ?_
  refine congrArg (· * _) ?_
  pointwise [k0_pay2]
theorem col384_packed (r : Fin 128) (n : Nat) (hn : n < 384) :
    col384 (k0_pay2 x) (cols384 w) r n = packed x w r (2048 + n) := by
  unfold col384 packed column
  rw [dif_pos hn, dif_pos (show 2048 + n < 2432 by omega)]
  refine Finset.sum_congr rfl fun k _ => ?_
  refine congrArg (· * _) ?_
  pointwise [k0_pay2]

/-- A chunk depends on its columns below 128. -/
theorem chunk_congr (s : Nat) (h h' : Nat → EReal) (c c' a a' e e' : EReal) (l : Nat) (hl : l < 128) (hh : ∀ n, n < 128 → h n = h' n)
    (hc : c = c') (ha : a = a') (he : e = e') : chunk s h c a e l = chunk s h' c' a' e' l := by
  subst hc ha he
  unfold chunk
  rw [hh l hl, hh _ (Nat.mod_lt _ (by decide)), hh _ (Nat.mod_lt _ (by decide))]

/-- The packed key chunk whose columns start at `o`, at lane `l`. -/
def packedKey (r : Fin 128) (o l : Nat) : EReal :=
  if h : l < 128 then chunk 8 (fun n => packed x w r (o + n)) (t64 (ix3 0 r ⟨l, h⟩)) (t64 (ix3 1 r ⟨l, h⟩)) (t64 (ix3 2 r ⟨l, h⟩)) l else 0
theorem key_packed (r l : Fin 128) (o o' : Nat) (ho : o + 128 ≤ 512) (e : 1024 + o = o') :
    keyLane (k0_pay2 x) (k0_pay3 (tabSlab t64 0)) (k0_pay4 (tabSlab t64 1)) (k0_pay5 (tabSlab t64 2)) (cols512 w 1024 (by omega)) r o l
      = packedKey x w t64 r o' l.val := by
  subst e
  unfold keyLane packedKey
  rw [dif_pos l.isLt]
  refine chunk_congr 8 _ _ _ _ _ _ _ _ _ l.isLt (fun n hn => ?_) ?_ ?_ ?_
  · rw [col512_packed x w 1024 (by omega) r (o + n) (by omega), Nat.add_assoc]
  · pointwise [k0_pay3]; rfl
  · pointwise [k0_pay4]; rfl
  · pointwise [k0_pay5]; rfl

/-- The block of a key-value result: two key chunks, two value chunks. -/
def kvBlock (ko vo : Nat) (r : Fin 128) (q : Nat) : EReal :=
  if q < 128 then packedKey x w t64 r ko q else if q < 256 then packedKey x w t64 r (ko + 128) (q - 128) else packed x w r (vo + (q - 256))

theorem out12_apply (r : Fin 128) (q : Fin 512) : out0_12 x w wg t64 t32 tl g b ws bs (ix2 r q) = kvBlock x w t64 1024 1536 r q.val := by
  unfold_out out0_12
  simp only [View.ld_unit_zero (S := S128x1024) zeros, ld_cols512 w 1024 (by omega), ld_cols512 w 1536 (by omega), ld_tab t64 0 (by omega),
    ld_tab t64 1 (by omega), ld_tab t64 2 (by omega)]
  canon_tiles y h
  all_goals
    obtain ⟨r', l, rfl⟩ : ∃ (r' : Fin 128) (l : Fin 128), y = ix2 r' l := ⟨y 0, y 1, by funext a; match a with | ⟨0, _⟩ => rfl | ⟨1, _⟩ => rfl⟩
    simp only [ix2, Matrix.cons_val_zero, Matrix.cons_val_one] at h0 h1
    obtain rfl : r = r' := Fin.ext h0
    unfold kvBlock
  · rw [if_neg (by omega), if_neg (by omega)]
    refine (val_1 (k0_pay2 x) (cols512 w 1536 (by omega)) r l).trans ?_
    rw [col512_packed x w 1536 (by omega) r _ (by omega)]
    exact congrArg (packed x w r) (by omega)
  · rw [if_neg (by omega), if_pos (by omega)]
    refine (key_1 (k0_pay2 x) (k0_pay3 (tabSlab t64 0)) (k0_pay4 (tabSlab t64 1)) (k0_pay5 (tabSlab t64 2)) (cols512 w 1024 (by omega)) r l).trans ?_
    rw [key_packed x w t64 r l 128 1152 (by omega) rfl]
    exact congrArg (packedKey x w t64 r _) (by omega)
  · rw [if_neg (by omega), if_neg (by omega)]
    refine (val_0 (k0_pay2 x) (cols512 w 1536 (by omega)) r l).trans ?_
    rw [col512_packed x w 1536 (by omega) r _ (by omega)]
    exact congrArg (packed x w r) (by omega)
  · rw [if_pos (by omega)]
    refine (key_0 (k0_pay2 x) (k0_pay3 (tabSlab t64 0)) (k0_pay4 (tabSlab t64 1)) (k0_pay5 (tabSlab t64 2)) (cols512 w 1024 (by omega)) r l).trans ?_
    rw [key_packed x w t64 r l 0 1024 (by omega) rfl]
    exact congrArg (packedKey x w t64 r _) (by omega)

theorem out13_apply (r : Fin 128) (q : Fin 512) : out0_13 x w wg t64 t32 tl g b ws bs (ix2 r q) = kvBlock x w t64 1280 1792 r q.val := by
  unfold_out out0_13
  simp only [View.ld_unit_zero (S := S128x1024) zeros, ld_cols512 w 1024 (by omega), ld_cols512 w 1536 (by omega), ld_tab t64 0 (by omega),
    ld_tab t64 1 (by omega), ld_tab t64 2 (by omega)]
  canon_tiles y h
  all_goals
    obtain ⟨r', l, rfl⟩ : ∃ (r' : Fin 128) (l : Fin 128), y = ix2 r' l := ⟨y 0, y 1, by funext a; match a with | ⟨0, _⟩ => rfl | ⟨1, _⟩ => rfl⟩
    simp only [ix2, Matrix.cons_val_zero, Matrix.cons_val_one] at h0 h1
    obtain rfl : r = r' := Fin.ext h0
    unfold kvBlock
  · rw [if_neg (by omega), if_neg (by omega)]
    refine (val_3 (k0_pay2 x) (cols512 w 1536 (by omega)) r l).trans ?_
    rw [col512_packed x w 1536 (by omega) r _ (by omega)]
    exact congrArg (packed x w r) (by omega)
  · rw [if_neg (by omega), if_pos (by omega)]
    refine (key_3 (k0_pay2 x) (k0_pay3 (tabSlab t64 0)) (k0_pay4 (tabSlab t64 1)) (k0_pay5 (tabSlab t64 2)) (cols512 w 1024 (by omega)) r l).trans ?_
    rw [key_packed x w t64 r l 384 1408 (by omega) rfl]
    exact congrArg (packedKey x w t64 r _) (by omega)
  · rw [if_neg (by omega), if_neg (by omega)]
    refine (val_2 (k0_pay2 x) (cols512 w 1536 (by omega)) r l).trans ?_
    rw [col512_packed x w 1536 (by omega) r _ (by omega)]
    exact congrArg (packed x w r) (by omega)
  · rw [if_pos (by omega)]
    refine (key_2 (k0_pay2 x) (k0_pay3 (tabSlab t64 0)) (k0_pay4 (tabSlab t64 1)) (k0_pay5 (tabSlab t64 2)) (cols512 w 1024 (by omega)) r l).trans ?_
    rw [key_packed x w t64 r l 256 1280 (by omega) rfl]
    exact congrArg (packedKey x w t64 r _) (by omega)

theorem out15_apply (r l : Fin 128) : out0_15 x w wg t64 t32 tl g b ws bs (ix2 r l)
    = chunk 4 (fun n => packed x w r (2304 + n)) (tl (ix3 0 r l)) (tl (ix3 1 r l)) (tl (ix3 2 r l)) l.val := by
  unfold_out out0_15
  rw [View.canon_cons_unit_zero zeros _ _ []]
  simp only [View.ld_unit_zero (S := S128x1024) zeros, ld_cols384 w, ld_tab tl 0 (by omega), ld_tab tl 1 (by omega), ld_tab tl 2 (by omega)]
  refine (index_0 ..).trans (chunk_congr 4 _ _ _ _ _ _ _ _ _ l.isLt (fun n hn => ?_) ?_ ?_ ?_)
  · rw [col384_packed x w r (256 + n) (by omega), ← Nat.add_assoc]
  · pointwise [k0_pay9]; rfl
  · pointwise [k0_pay10]; rfl
  · pointwise [k0_pay11]; rfl

theorem out17_apply (r : Fin 128) (l : Fin 512) : out0_17 x w wg t64 t32 tl g b ws bs (ix2 r l)
    = norm512 (fun k => gelu (column (fun k => x (ix2 r k)) (fun k l => wg (ix2 k l)) (512 + k.val))) (g (ix2 0 l)) (b (ix2 0 l)) l := by
  unfold_out out0_17
  rw [View.canon_cons_unit_zero zeros _ _ []]
  simp only [View.ld_unit_zero (S := S128x1024) zeros, View.ld_unit_zero (S := S1024x1024) zeros, View.ld_unit_zero (S := S1x512) zeros]
  refine (value_0 ..).trans ?_
  have e : ∀ k, k0_pay2 x (ix2 r k) = x (ix2 r k) := fun k => by pointwise [k0_pay2]
  unfold col1024
  simp only [e]
end Cert.RowsProof
-- ==== Proof.Rows.Tables.lean ====
module
public import proofs.«01_k».proof.Proof.Gen.RowsIdeal.Value
public import proofs.«01_k».proof.Proof.Rows.Spec

/-! The host's rotary tables and packed weights. -/

@[expose] public section
set_option maxRecDepth 16384
noncomputable section
namespace Cert.RowsProof
open Cert.RowsIdeal Cert.RowsIdeal.Gen Idealize.ShloMosaic Idealize.ShloMosaic.Pipeline Idealize.ShloMosaic.TcCoe Idealize.SL.Sem

/-- Every row stands at position 2048. -/
def pos : IVec S128 32 := broadcastInDim S128 ![] bcast_S_S128 (constantI S_ 32 2048#32)

/-- The frequencies of a 64-lane head's eight pairs. -/
def freq64 : FVec Ideal S8 .f32 := Host.powf (broadcastInDim S8 ![] bcast_S_S8 (constant S_ .f32 0x48F42400#32))
  (Host.divf (Host.negf (sitofp .f32 (iotaInDim S8 32 0))) (broadcastInDim S8 ![] bcast_S_S8 (constant S_ .f32 0x41000000#32)))
/-- The angles of a row's eight pairs. -/
def ang64 : FVec Ideal S128x8 .f32 :=
  mulf (broadcastInDim S128x8 ![0, 1] bcast_S128x1_S128x8_0_1 (broadcastInDim S128x1 ![0] bcast_S128_S128x1_0 (sitofp .f32 pos)))
    (broadcastInDim S128x8 ![0, 1] bcast_S1x8_S128x8_0_1 (broadcastInDim S1x8 ![1] bcast_S8_S1x8_1 freq64))
/-- A head's table repeated over the 128 lanes. -/
def slab64 (x : FVec Ideal S128x64 .f32) : FVec Ideal S1x128x128 .f32 :=
  broadcastInDim S1x128x128 ![1, 2] bcast_S128x128_S1x128x128_1_2 (shapeCast S128x128
    (broadcastInDim S1x128x2x64 ![0, 1, 2, 3] bcast_S1x128x1x64_S1x128x2x64_0_1_2_3 (shapeCast S1x128x1x64 x shapeCasts_S128x64_S1x128x1x64))
    shapeCasts_S1x128x2x64_S128x128)
/-- The three tables of 64-lane heads. -/
def tab64 : FVec Ideal S3x128x128 .f32 :=
  concatenate S3x128x128 0 [
    ⟨S1x128x128, slab64 (concatenate S128x64 1 [⟨S128x8, Host.cos ang64⟩, ⟨S128x8, Host.cos ang64⟩,
      ⟨S128x48, broadcastInDim S128x48 ![] bcast_S_S128x48 (constant S_ .f32 0x3F800000#32)⟩] concatenates_S128x8_S128x8_S128x48_S128x64_d1)⟩,
    ⟨S1x128x128, slab64 (concatenate S128x64 1 [⟨S128x8, broadcastInDim S128x8 ![] bcast_S_S128x8 (constant S_ .f32 0x00000000#32)⟩,
      ⟨S128x8, Host.sin ang64⟩, ⟨S128x48, broadcastInDim S128x48 ![] bcast_S_S128x48 (constant S_ .f32 0x00000000#32)⟩]
      concatenates_S128x8_S128x8_S128x48_S128x64_d1)⟩,
    ⟨S1x128x128, slab64 (concatenate S128x64 1 [⟨S128x8, Host.negf (Host.sin ang64)⟩,
      ⟨S128x56, broadcastInDim S128x56 ![] bcast_S_S128x56 (constant S_ .f32 0x00000000#32)⟩] concatenates_S128x8_S128x56_S128x64_d1)⟩]
    concatenates_S1x128x128_S1x128x128_S1x128x128_S3x128x128_d0

theorem tab64_0 (r l : Fin 128) : tab64 (ix3 0 r l) = cosAt 2048#32 0x41000000#32 8 (l.val % 64) := by
  pointwise [tab64, slab64, ang64, freq64, pos]
  rfl
theorem tab64_1 (r l : Fin 128) : tab64 (ix3 1 r l) = sinBefore 2048#32 0x41000000#32 8 (l.val % 64) := by
  pointwise [tab64, slab64, ang64, freq64, pos]
  rfl
theorem tab64_2 (r l : Fin 128) : tab64 (ix3 2 r l) = sinAfter 2048#32 0x41000000#32 8 (l.val % 64) := by
  pointwise [tab64, slab64, ang64, freq64, pos]
  rfl

/-- The frequencies of a 32-lane head's four pairs. -/
def freq32 : FVec Ideal S4 .f32 := Host.powf (broadcastInDim S4 ![] bcast_S_S4 (constant S_ .f32 0x48F42400#32))
  (Host.divf (Host.negf (sitofp .f32 (iotaInDim S4 32 0))) (broadcastInDim S4 ![] bcast_S_S4 (constant S_ .f32 0x40800000#32)))
/-- The angles of a row's four pairs. -/
def ang32 : FVec Ideal S128x4 .f32 :=
  mulf (broadcastInDim S128x4 ![0, 1] bcast_S128x1_S128x4_0_1 (broadcastInDim S128x1 ![0] bcast_S128_S128x1_0 (sitofp .f32 pos)))
    (broadcastInDim S128x4 ![0, 1] bcast_S1x4_S128x4_0_1 (broadcastInDim S1x4 ![1] bcast_S4_S1x4_1 freq32))
/-- A head's table repeated over the 128 lanes. -/
def slab32 (x : FVec Ideal S128x32 .f32) : FVec Ideal S1x128x128 .f32 :=
  broadcastInDim S1x128x128 ![1, 2] bcast_S128x128_S1x128x128_1_2 (shapeCast S128x128
    (broadcastInDim S1x128x4x32 ![0, 1, 2, 3] bcast_S1x128x1x32_S1x128x4x32_0_1_2_3 (shapeCast S1x128x1x32 x shapeCasts_S128x32_S1x128x1x32))
    shapeCasts_S1x128x4x32_S128x128)
/-- The three tables of 32-lane heads. -/
def tab32 : FVec Ideal S3x128x128 .f32 :=
  concatenate S3x128x128 0 [
    ⟨S1x128x128, slab32 (concatenate S128x32 1 [⟨S128x4, Host.cos ang32⟩, ⟨S128x4, Host.cos ang32⟩,
      ⟨S128x24, broadcastInDim S128x24 ![] bcast_S_S128x24 (constant S_ .f32 0x3F800000#32)⟩] concatenates_S128x4_S128x4_S128x24_S128x32_d1)⟩,
    ⟨S1x128x128, slab32 (concatenate S128x32 1 [⟨S128x4, broadcastInDim S128x4 ![] bcast_S_S128x4 (constant S_ .f32 0x00000000#32)⟩,
      ⟨S128x4, Host.sin ang32⟩, ⟨S128x24, broadcastInDim S128x24 ![] bcast_S_S128x24 (constant S_ .f32 0x00000000#32)⟩]
      concatenates_S128x4_S128x4_S128x24_S128x32_d1)⟩,
    ⟨S1x128x128, slab32 (concatenate S128x32 1 [⟨S128x4, Host.negf (Host.sin ang32)⟩,
      ⟨S128x28, broadcastInDim S128x28 ![] bcast_S_S128x28 (constant S_ .f32 0x00000000#32)⟩] concatenates_S128x4_S128x28_S128x32_d1)⟩]
    concatenates_S1x128x128_S1x128x128_S1x128x128_S3x128x128_d0
/-- The tables that leave every lane as it is. -/
def tabId : FVec Ideal S3x128x128 .f32 :=
  concatenate S3x128x128 0 [
    ⟨S1x128x128, broadcastInDim S1x128x128 ![1, 2] bcast_S128x128_S1x128x128_1_2 (broadcastInDim S128x128 ![] bcast_S_S128x128 (constant S_ .f32 0x3F800000#32))⟩,
    ⟨S1x128x128, broadcastInDim S1x128x128 ![1, 2] bcast_S128x128_S1x128x128_1_2 (broadcastInDim S128x128 ![] bcast_S_S128x128 (constant S_ .f32 0x00000000#32))⟩,
    ⟨S1x128x128, broadcastInDim S1x128x128 ![1, 2] bcast_S128x128_S1x128x128_1_2 (broadcastInDim S128x128 ![] bcast_S_S128x128 (constant S_ .f32 0x00000000#32))⟩]
    concatenates_S1x128x128_S1x128x128_S1x128x128_S3x128x128_d0
/-- The indexer's tables: those of 32-lane heads on the first 32 lanes. -/
def tabIx : FVec Ideal S3x128x128 .f32 :=
  select (broadcastInDim S3x128x128 ![0, 1, 2] bcast_S1x1x128_S3x128x128_0_1_2 (broadcastInDim S1x1x128 ![2] bcast_S128_S1x1x128_2
    (cmpi .slt (iotaInDim S128 32 0) (broadcastInDim S128 ![] bcast_S_S128 (constantI S_ 32 32#32))))) tab32 tabId

theorem slt_lane : ∀ l : Fin 128, IntOp.cmpi .slt (BitVec.ofNat 32 l.val) 32#32 = BitVec.ofBool (decide (l.val < 32)) := by decide +kernel

/-- Choosing on a lane's test against 32. -/
theorem select_lane (l : Fin 128) (a b : EReal) : Scalar.select (IntOp.cmpi .slt (BitVec.ofNat 32 l.val) 32#32) a b = if l.val < 32 then a else b := by
  rw [slt_lane]
  by_cases h : l.val < 32 <;> simp [h, Scalar.select]

theorem tabIx_0 (r l : Fin 128) : tabIx (ix3 0 r l) = if l.val < 32 then cosAt 2048#32 0x40800000#32 4 (l.val % 32) else 1 := by
  pointwise [tabIx, tab32, tabId, slab32, ang32, freq32, pos]
  exact select_lane ..
theorem tabIx_1 (r l : Fin 128) : tabIx (ix3 1 r l) = if l.val < 32 then sinBefore 2048#32 0x40800000#32 4 (l.val % 32) else 0 := by
  pointwise [tabIx, tab32, tabId, slab32, ang32, freq32, pos]
  exact select_lane ..
theorem tabIx_2 (r l : Fin 128) : tabIx (ix3 2 r l) = if l.val < 32 then sinAfter 2048#32 0x40800000#32 4 (l.val % 32) else 0 := by
  pointwise [tabIx, tab32, tabId, slab32, ang32, freq32, pos]
  exact select_lane ..

/-- The packed projection weights. -/
def packM (W : FVec Ideal S1024x6440 .f32) : FVec Ideal S1024x2432 .f32 :=
  concatenate S1024x2432 1 [⟨S1024x512, extractStridedSlice S1024x512 ![0, 0] W slices_S1024x6440_S1024x512_0_0⟩,
    ⟨S1024x512, extractStridedSlice S1024x512 ![0, 1024] W slices_S1024x6440_S1024x512_0_1024⟩,
    ⟨S1024x256, extractStridedSlice S1024x256 ![0, 512] W slices_S1024x6440_S1024x256_0_512⟩,
    ⟨S1024x256, extractStridedSlice S1024x256 ![0, 1536] W slices_S1024x6440_S1024x256_0_1536⟩,
    ⟨S1024x256, extractStridedSlice S1024x256 ![0, 768] W slices_S1024x6440_S1024x256_0_768⟩,
    ⟨S1024x256, extractStridedSlice S1024x256 ![0, 1792] W slices_S1024x6440_S1024x256_0_1792⟩,
    ⟨S1024x256, extractStridedSlice S1024x256 ![0, 2048] W slices_S1024x6440_S1024x256_0_2048⟩,
    ⟨S1024x32, extractStridedSlice S1024x32 ![0, 2304] W slices_S1024x6440_S1024x32_0_2304⟩,
    ⟨S1024x8, extractStridedSlice S1024x8 ![0, 2336] W slices_S1024x6440_S1024x8_0_2336⟩,
    ⟨S1024x88, broadcastInDim S1024x88 ![] bcast_S_S1024x88 (constant S_ .f32 0x00000000#32)⟩]
    concatenates_S1024x512_S1024x512_S1024x256_S1024x256_S1024x256_S1024x256_S1024x256_S1024x32_S1024x8_S1024x88_S1024x2432_d1

/-- The packed columns of the first branch's keys. -/
theorem packM_ka (W : FVec Ideal S1024x6440 .f32) (k : Fin 1024) (n : Nat) (hn : n < 256) :
    packM W (ix2 k ⟨1024 + n, by omega⟩) = W (ix2 k ⟨512 + n, by omega⟩) := by
  pointwise [packM]
  rw [dif_neg (show ¬ 1024 + n < 512 by omega),
    dif_neg (show ¬ 1024 + n - 512 < 512 by omega),
    dif_pos (show 1024 + n - 512 - 512 < 256 by omega)]
  refine congrArg W (congrArg (ix2 k) (Fin.ext ?_))
  simp only
  omega
/-- The packed columns of the second branch's keys. -/
theorem packM_kc (W : FVec Ideal S1024x6440 .f32) (k : Fin 1024) (n : Nat) (hn : n < 256) :
    packM W (ix2 k ⟨1280 + n, by omega⟩) = W (ix2 k ⟨1536 + n, by omega⟩) := by
  pointwise [packM]
  rw [dif_neg (show ¬ 1280 + n < 512 by omega),
    dif_neg (show ¬ 1280 + n - 512 < 512 by omega),
    dif_neg (show ¬ 1280 + n - 512 - 512 < 256 by omega),
    dif_pos (show 1280 + n - 512 - 512 - 256 < 256 by omega)]
  refine congrArg W (congrArg (ix2 k) (Fin.ext ?_))
  simp only
  omega
/-- The packed columns of the first branch's values. -/
theorem packM_va (W : FVec Ideal S1024x6440 .f32) (k : Fin 1024) (n : Nat) (hn : n < 256) :
    packM W (ix2 k ⟨1536 + n, by omega⟩) = W (ix2 k ⟨768 + n, by omega⟩) := by
  pointwise [packM]
  rw [dif_neg (show ¬ 1536 + n < 512 by omega),
    dif_neg (show ¬ 1536 + n - 512 < 512 by omega),
    dif_neg (show ¬ 1536 + n - 512 - 512 < 256 by omega),
    dif_neg (show ¬ 1536 + n - 512 - 512 - 256 < 256 by omega),
    dif_pos (show 1536 + n - 512 - 512 - 256 - 256 < 256 by omega)]
  refine congrArg W (congrArg (ix2 k) (Fin.ext ?_))
  simp only
  omega
/-- The packed columns of the second branch's values. -/
theorem packM_vc (W : FVec Ideal S1024x6440 .f32) (k : Fin 1024) (n : Nat) (hn : n < 256) :
    packM W (ix2 k ⟨1792 + n, by omega⟩) = W (ix2 k ⟨1792 + n, by omega⟩) := by
  pointwise [packM]
  rw [dif_neg (show ¬ 1792 + n < 512 by omega),
    dif_neg (show ¬ 1792 + n - 512 < 512 by omega),
    dif_neg (show ¬ 1792 + n - 512 - 512 < 256 by omega),
    dif_neg (show ¬ 1792 + n - 512 - 512 - 256 < 256 by omega),
    dif_neg (show ¬ 1792 + n - 512 - 512 - 256 - 256 < 256 by omega),
    dif_pos (show 1792 + n - 512 - 512 - 256 - 256 - 256 < 256 by omega)]
  refine congrArg W (congrArg (ix2 k) (Fin.ext ?_))
  simp only
  omega
/-- The packed columns of the indexer's key. -/
theorem packM_ik (W : FVec Ideal S1024x6440 .f32) (k : Fin 1024) (n : Nat) (hn : n < 32) :
    packM W (ix2 k ⟨2304 + n, by omega⟩) = W (ix2 k ⟨2304 + n, by omega⟩) := by
  pointwise [packM]
  rw [dif_neg (show ¬ 2304 + n < 512 by omega),
    dif_neg (show ¬ 2304 + n - 512 < 512 by omega),
    dif_neg (show ¬ 2304 + n - 512 - 512 < 256 by omega),
    dif_neg (show ¬ 2304 + n - 512 - 512 - 256 < 256 by omega),
    dif_neg (show ¬ 2304 + n - 512 - 512 - 256 - 256 < 256 by omega),
    dif_neg (show ¬ 2304 + n - 512 - 512 - 256 - 256 - 256 < 256 by omega),
    dif_neg (show ¬ 2304 + n - 512 - 512 - 256 - 256 - 256 - 256 < 256 by omega),
    dif_pos (show 2304 + n - 512 - 512 - 256 - 256 - 256 - 256 - 256 < 32 by omega)]
  refine congrArg W (congrArg (ix2 k) (Fin.ext ?_))
  simp only
  omega
/-- The packed columns of the indexer's weights. -/
theorem packM_iw (W : FVec Ideal S1024x6440 .f32) (k : Fin 1024) (n : Nat) (hn : n < 8) :
    packM W (ix2 k ⟨2336 + n, by omega⟩) = W (ix2 k ⟨2336 + n, by omega⟩) := by
  pointwise [packM]
  rw [dif_neg (show ¬ 2336 + n < 512 by omega),
    dif_neg (show ¬ 2336 + n - 512 < 512 by omega),
    dif_neg (show ¬ 2336 + n - 512 - 512 < 256 by omega),
    dif_neg (show ¬ 2336 + n - 512 - 512 - 256 < 256 by omega),
    dif_neg (show ¬ 2336 + n - 512 - 512 - 256 - 256 < 256 by omega),
    dif_neg (show ¬ 2336 + n - 512 - 512 - 256 - 256 - 256 < 256 by omega),
    dif_neg (show ¬ 2336 + n - 512 - 512 - 256 - 256 - 256 - 256 < 256 by omega),
    dif_neg (show ¬ 2336 + n - 512 - 512 - 256 - 256 - 256 - 256 - 256 < 32 by omega),
    dif_pos (show 2336 + n - 512 - 512 - 256 - 256 - 256 - 256 - 256 - 32 < 8 by omega)]
  refine congrArg W (congrArg (ix2 k) (Fin.ext ?_))
  simp only
  omega
/-- The packed columns of the padding. -/
theorem packM_pad (W : FVec Ideal S1024x6440 .f32) (k : Fin 1024) (n : Nat) (hn : n < 88) :
    packM W (ix2 k ⟨2344 + n, by omega⟩) = 0 := by
  pointwise [packM]
  rw [dif_neg (show ¬ 2344 + n < 512 by omega),
    dif_neg (show ¬ 2344 + n - 512 < 512 by omega),
    dif_neg (show ¬ 2344 + n - 512 - 512 < 256 by omega),
    dif_neg (show ¬ 2344 + n - 512 - 512 - 256 < 256 by omega),
    dif_neg (show ¬ 2344 + n - 512 - 512 - 256 - 256 < 256 by omega),
    dif_neg (show ¬ 2344 + n - 512 - 512 - 256 - 256 - 256 < 256 by omega),
    dif_neg (show ¬ 2344 + n - 512 - 512 - 256 - 256 - 256 - 256 < 256 by omega),
    dif_neg (show ¬ 2344 + n - 512 - 512 - 256 - 256 - 256 - 256 - 256 < 32 by omega),
    dif_neg (show ¬ 2344 + n - 512 - 512 - 256 - 256 - 256 - 256 - 256 - 32 < 8 by omega)]
/-- The packed gated-unit weights. -/
def packG (W : FVec Ideal S1024x6440 .f32) : FVec Ideal S1024x1024 .f32 :=
  concatenate S1024x1024 1 [⟨S1024x512, extractStridedSlice S1024x512 ![0, 2344] W slices_S1024x6440_S1024x512_0_2344⟩,
    ⟨S1024x512, extractStridedSlice S1024x512 ![0, 2856] W slices_S1024x6440_S1024x512_0_2856⟩] concatenates_S1024x512_S1024x512_S1024x1024_d1
theorem packG_v (W : FVec Ideal S1024x6440 .f32) (k : Fin 1024) (n : Fin 512) :
    packG W (ix2 k ⟨512 + n.val, by omega⟩) = W (ix2 k ⟨2856 + n.val, by omega⟩) := by
  pointwise [packG]

end Cert.RowsProof
-- ==== Proof.Rows.EntryTab.lean ====
module
public import proofs.«01_k».proof.Proof.Rows.Tables

/-! The 64-lane tables as the kernel finds them. -/

@[expose] public section
set_option maxRecDepth 16384
noncomputable section
namespace Cert.RowsProof
open Cert.RowsIdeal Cert.RowsIdeal.Gen Idealize.ShloMosaic Idealize.ShloMosaic.Pipeline Idealize.ShloMosaic.TcCoe Idealize.SL.Sem
variable (m : (ℓ : Loc nD τ sig) → Buf (Elt Ideal) ℓ) (c : Dev nD)

set_option maxHeartbeats 40000000 in
/-- The 64-lane tables' entry. -/
theorem entry_v51 : V m c main_v51 = tab64 := rfl
end Cert.RowsProof
-- ==== Proof.Rows.EntryIx.lean ====
module
public import proofs.«01_k».proof.Proof.Rows.Tables

/-! The indexer tables as the kernel finds them. -/

@[expose] public section
set_option maxRecDepth 16384
noncomputable section
namespace Cert.RowsProof
open Cert.RowsIdeal Cert.RowsIdeal.Gen Idealize.ShloMosaic Idealize.ShloMosaic.Pipeline Idealize.ShloMosaic.TcCoe Idealize.SL.Sem
variable (m : (ℓ : Loc nD τ sig) → Buf (Elt Ideal) ℓ) (c : Dev nD)

set_option maxHeartbeats 40000000 in
/-- The indexer tables' entry. -/
theorem entry_v133 : V m c main_v133 = tabIx := rfl
end Cert.RowsProof
-- ==== Proof.Rows.EntryArgs.lean ====
module
public import proofs.«01_k».proof.Proof.Rows.Tables

/-! The packed weights and vectors as the kernel finds them. -/

@[expose] public section
set_option maxRecDepth 16384
noncomputable section
namespace Cert.RowsProof
open Cert.RowsIdeal Cert.RowsIdeal.Gen Idealize.ShloMosaic Idealize.ShloMosaic.Pipeline Idealize.ShloMosaic.TcCoe Idealize.SL.Sem
variable (m : (ℓ : Loc nD τ sig) → Buf (Elt Ideal) ℓ) (c : Dev nD)

set_option maxHeartbeats 40000000 in
/-- The packed projection weights. -/
theorem entry_v11 : V m c main_v11 = truncf .bf16 (packM (m ((c : Thread nD τ).loc main_arg1))) bitsLt_bf16_f32 := rfl
set_option maxHeartbeats 40000000 in
/-- The packed gated-unit weights. -/
theorem entry_v15 : V m c main_v15 = truncf .bf16 (packG (m ((c : Thread nD τ).loc main_arg1))) bitsLt_bf16_f32 := rfl
set_option maxHeartbeats 40000000 in
/-- The rows. -/
theorem entry_v134 : V m c main_v134 = shapeCast S128x1024 (m ((c : Thread nD τ).loc main_arg0) : FVec Ideal S128x1x1024 .f32) shapeCasts_S128x1x1024_S128x1024 := rfl
set_option maxHeartbeats 40000000 in
/-- The gains. -/
theorem entry_v135 : V m c main_v135 = shapeCast S1x512 (m ((c : Thread nD τ).loc main_arg2) : FVec Ideal S512 .f32) shapeCasts_S512_S1x512 := rfl
set_option maxHeartbeats 40000000 in
/-- The shifts. -/
theorem entry_v136 : V m c main_v136 = shapeCast S1x512 (m ((c : Thread nD τ).loc main_arg3) : FVec Ideal S512 .f32) shapeCasts_S512_S1x512 := rfl

theorem entry_v134_apply (r : Fin 128) (k : Fin 1024) : V m c main_v134 (ix2 r k) = m ((c : Thread nD τ).loc main_arg0) (ix3 r 0 k) := by
  rw [entry_v134]
  pointwise []
theorem entry_v135_apply (l : Fin 512) : V m c main_v135 (ix2 0 l) = m ((c : Thread nD τ).loc main_arg2) (ix1 l) := by
  rw [entry_v135]
  pointwise []
theorem entry_v136_apply (l : Fin 512) : V m c main_v136 (ix2 0 l) = m ((c : Thread nD τ).loc main_arg3) (ix1 l) := by
  rw [entry_v136]
  pointwise []
end Cert.RowsProof
-- ==== Proof.Rows.Array.lean ====
module
public import proofs.«01_k».proof.Proof.Rows.Kernel
public import proofs.«01_k».proof.Proof.Rows.EntryTab
public import proofs.«01_k».proof.Proof.Rows.EntryIx
public import proofs.«01_k».proof.Proof.Rows.EntryArgs

/-! The projection kernel's four result arrays, read from its arguments. -/

@[expose] public section
set_option maxRecDepth 16384
noncomputable section
namespace Cert.RowsProof
open Cert.RowsIdeal Cert.RowsIdeal.Gen Idealize.ShloMosaic Idealize.ShloMosaic.Pipeline Idealize.ShloMosaic.TcCoe Idealize.SL.Sem

section
variable (x : Vec Ideal S128x1024 .f32) (w : Vec Ideal S1024x2432 .bf16) (t : Vec Ideal S3x128x128 .f32) (r : Fin 128) (f : Nat → EReal)

/-- A key-value block whose columns are `f`'s and whose tables are the rotary ones is the turned row. -/
theorem kvBlock_kvRow (ko vo ko' vo' : Nat) (hk : ∀ n, n < 256 → packed x w r (ko + n) = f (ko' + n))
    (hv : ∀ n, n < 256 → packed x w r (vo + n) = f (vo' + n)) (h0 : ∀ l : Fin 128, t (ix3 0 r l) = cosAt 2048#32 0x41000000#32 8 (l.val % 64))
    (h1 : ∀ l : Fin 128, t (ix3 1 r l) = sinBefore 2048#32 0x41000000#32 8 (l.val % 64))
    (h2 : ∀ l : Fin 128, t (ix3 2 r l) = sinAfter 2048#32 0x41000000#32 8 (l.val % 64)) (q : Nat) (hq : q < 512) :
    kvBlock x w t ko vo r q = kvRow 2048#32 ko' vo' f q := by
  unfold kvBlock kvRow packedKey
  by_cases a : q < 128
  · rw [if_pos a, dif_pos a, if_pos (show q < 256 by omega)]
    refine (chunk_congr 8 _ (fun n => f (ko' + n)) _ _ _ _ _ _ q a (fun n hn => hk n (by omega)) (h0 _) (h1 _) (h2 _)).trans ?_
    exact chunk_roped64 2048#32 0x41000000#32 (fun n => f (ko' + n)) q a
  · by_cases b : q < 256
    · rw [if_neg a, if_pos b, if_pos b, dif_pos (show q - 128 < 128 by omega)]
      refine (chunk_congr 8 _ (fun n => f (ko' + (128 + n))) _ _ _ _ _ _ (q - 128) (by omega) (fun n hn => ?_) (h0 _) (h1 _) (h2 _)).trans ?_
      · rw [Nat.add_assoc]
        exact hk _ (by omega)
      · refine (chunk_roped64 2048#32 0x41000000#32 (fun n => f (ko' + (128 + n))) (q - 128) (by omega)).trans ?_
        rw [show (q - 128) % 64 = q % 64 by omega]
        refine congrArg (fun h => roped _ _ _ h _) (funext fun j => ?_)
        rw [show 128 + ((q - 128) / 64 * 64 + j) = q / 64 * 64 + j by omega]
    · rw [if_neg a, if_neg b, if_neg b]
      exact hv _ (by omega)

/-- The indexer's block. -/
theorem chunk_ixRow (hk : ∀ n, n < 32 → packed x w r (2304 + n) = f (2304 + n)) (hw : ∀ n, n < 8 → packed x w r (2336 + n) = f (2336 + n))
    (hz : ∀ n, n < 88 → packed x w r (2344 + n) = 0)
    (h0 : ∀ l : Fin 128, t (ix3 0 r l) = if l.val < 32 then cosAt 2048#32 0x40800000#32 4 (l.val % 32) else 1)
    (h1 : ∀ l : Fin 128, t (ix3 1 r l) = if l.val < 32 then sinBefore 2048#32 0x40800000#32 4 (l.val % 32) else 0)
    (h2 : ∀ l : Fin 128, t (ix3 2 r l) = if l.val < 32 then sinAfter 2048#32 0x40800000#32 4 (l.val % 32) else 0) (q : Fin 128) :
    chunk 4 (fun n => packed x w r (2304 + n)) (t (ix3 0 r q)) (t (ix3 1 r q)) (t (ix3 2 r q)) q.val = ixRow 2048#32 f q.val := by
  rw [h0, h1, h2]
  unfold ixRow
  by_cases a : q.val < 32
  · simp only [if_pos a]
    rw [chunk_roped32 _ _ _ _ a]
    unfold roped
    beta_reduce
    split
    · rw [hk _ (by omega), hk _ (by omega)]
    · split
      · rw [hk _ (by omega), hk _ (by omega)]
      · rw [hk _ (by omega)]
  · simp only [if_neg a]
    rw [chunk_id]
    by_cases b : q.val - 32 < 8
    · rw [if_pos b, ← hw _ b]
      exact congrArg (packed x w r) (by omega)
    · rw [if_neg b, ← hz (q.val - 40) (by omega)]
      exact congrArg (packed x w r) (by omega)
end

section
variable (x : Vec Ideal S128x1024 .f32) (w : Vec Ideal S1024x2432 .bf16) (r : Fin 128) (X : FVec Ideal S128x1x1024 .f32) (W : FVec Ideal S1024x6440 .f32)

/-- The projection's columns of row `r`. -/
def argCols (n : Nat) : EReal := column (fun k => X (ix3 r 0 k)) (fun k l => W (ix2 k l)) n

/-- A packed column is a column of the projection where the packed weights' column is one. -/
theorem packed_args (hx : ∀ k, x (ix2 r k) = X (ix3 r 0 k)) (hw : ∀ (k : Fin 1024) (l : Fin 2432), w (ix2 k l) = packM W (ix2 k l))
    (n n' : Nat) (hn : n < 2432) (hn' : n' < 6440) (h : ∀ k, packM W (ix2 k ⟨n, hn⟩) = W (ix2 k ⟨n', hn'⟩)) :
    packed x w r n = argCols r X W n' := by
  unfold packed argCols column
  rw [dif_pos hn, dif_pos hn']
  refine Finset.sum_congr rfl fun k _ => ?_
  beta_reduce
  rw [hx, hw, h]
theorem packed_zero (hw : ∀ (k : Fin 1024) (l : Fin 2432), w (ix2 k l) = packM W (ix2 k l))
    (n : Nat) (hn : n < 2432) (h : ∀ k, packM W (ix2 k ⟨n, hn⟩) = 0) : packed x w r n = 0 := by
  unfold packed column
  rw [dif_pos hn]
  refine Finset.sum_eq_zero fun k _ => ?_
  beta_reduce
  rw [hw, h, mul_zero]
end

variable (m : (ℓ : Loc nD τ sig) → Buf (Elt Ideal) ℓ) (c : Dev nD)

/-- Every window holds its whole array. -/
theorem index_whole : ∀ t : Fin cfg0.N, (∀ a, win0_0.index t a = 0) ∧ (∀ a, win0_1.index t a = 0) ∧ (∀ a, win0_2.index t a = 0) ∧ (∀ a, win0_3.index t a = 0)
    ∧ (∀ a, win0_5.index t a = 0) ∧ (∀ a, win0_6.index t a = 0) ∧ (∀ a, win0_7.index t a = 0)
    ∧ (∀ a, win0_12.index t a = 0) ∧ (∀ a, win0_13.index t a = 0) ∧ (∀ a, win0_15.index t a = 0) ∧ (∀ a, win0_17.index t a = 0) :=
  (by decide +kernel : ∀ t : Fin grid0.N, (∀ a, win0_0.index t a = 0) ∧ (∀ a, win0_1.index t a = 0) ∧ (∀ a, win0_2.index t a = 0) ∧ (∀ a, win0_3.index t a = 0)
    ∧ (∀ a, win0_5.index t a = 0) ∧ (∀ a, win0_6.index t a = 0) ∧ (∀ a, win0_7.index t a = 0)
    ∧ (∀ a, win0_12.index t a = 0) ∧ (∀ a, win0_13.index t a = 0) ∧ (∀ a, win0_15.index t a = 0) ∧ (∀ a, win0_17.index t a = 0))

theorem block0 (t : Fin cfg0.N) (r : Fin 128) (k : Fin 1024) : iblk m c 0 t (ix2 r k) = V m c main_v134 (ix2 r k) := by
  blk_ext [iblk, index_whole t]
theorem block1 (t : Fin cfg0.N) (k : Fin 1024) (l : Fin 2432) : iblk m c 1 t (ix2 k l) = V m c main_v11 (ix2 k l) := by
  blk_ext [iblk, index_whole t]
theorem block2 (t : Fin cfg0.N) (k : Fin 1024) (l : Fin 1024) : iblk m c 2 t (ix2 k l) = V m c main_v15 (ix2 k l) := by
  blk_ext [iblk, index_whole t]
theorem block3 (t : Fin cfg0.N) (a : Fin 3) (r l : Fin 128) : iblk m c 3 t (ix3 a r l) = V m c main_v51 (ix3 a r l) := by
  blk_ext [iblk, index_whole t]
theorem block5 (t : Fin cfg0.N) (a : Fin 3) (r l : Fin 128) : iblk m c 5 t (ix3 a r l) = V m c main_v133 (ix3 a r l) := by
  blk_ext [iblk, index_whole t]
theorem block6 (t : Fin cfg0.N) (l : Fin 512) : iblk m c 6 t (ix2 0 l) = V m c main_v135 (ix2 0 l) := by
  blk_ext [iblk, index_whole t]
theorem block7 (t : Fin cfg0.N) (l : Fin 512) : iblk m c 7 t (ix2 0 l) = V m c main_v136 (ix2 0 l) := by
  blk_ext [iblk, index_whole t]

/-- The kernel's argument columns. -/
def cols (r : Fin 128) (n : Nat) : EReal := argCols r (m ((c : Thread nD τ).loc main_arg0)) (m ((c : Thread nD τ).loc main_arg1)) n

/-- The columns of the block's rows. -/
theorem packed_cols (t : Fin cfg0.N) (r : Fin 128) (n n' : Nat) (hn : n < 2432) (hn' : n' < 6440)
    (h : ∀ (W : FVec Ideal S1024x6440 .f32) (k : Fin 1024), packM W (ix2 k ⟨n, hn⟩) = W (ix2 k ⟨n', hn'⟩)) :
    packed (iblk m c 0 t) (iblk m c 1 t) r n = cols m c r n' :=
  packed_args _ _ r (m ((c : Thread nD τ).loc main_arg0)) (m ((c : Thread nD τ).loc main_arg1))
    (fun k => (block0 m c t r k).trans (entry_v134_apply m c r k)) (fun k l => (block1 m c t k l).trans (congrFun (entry_v11 m c) _)) n n' hn hn' (h _)
theorem packed_pad (t : Fin cfg0.N) (r : Fin 128) (n : Nat) (hn : n < 88) : packed (iblk m c 0 t) (iblk m c 1 t) r (2344 + n) = 0 :=
  packed_zero _ _ r (m ((c : Thread nD τ).loc main_arg1)) (fun k l => (block1 m c t k l).trans (congrFun (entry_v11 m c) _)) _ (by omega)
    fun k => packM_pad _ k n hn

/-- The 64-lane tables' block. -/
theorem tab_0 (t : Fin cfg0.N) (r l : Fin 128) : iblk m c 3 t (ix3 0 r l) = cosAt 2048#32 0x41000000#32 8 (l.val % 64) :=
  ((block3 m c t 0 r l).trans (congrFun (entry_v51 m c) _)).trans (tab64_0 r l)
theorem tab_1 (t : Fin cfg0.N) (r l : Fin 128) : iblk m c 3 t (ix3 1 r l) = sinBefore 2048#32 0x41000000#32 8 (l.val % 64) :=
  ((block3 m c t 1 r l).trans (congrFun (entry_v51 m c) _)).trans (tab64_1 r l)
theorem tab_2 (t : Fin cfg0.N) (r l : Fin 128) : iblk m c 3 t (ix3 2 r l) = sinAfter 2048#32 0x41000000#32 8 (l.val % 64) :=
  ((block3 m c t 2 r l).trans (congrFun (entry_v51 m c) _)).trans (tab64_2 r l)
/-- The indexer tables' block. -/
theorem tabl_0 (t : Fin cfg0.N) (r l : Fin 128) : iblk m c 5 t (ix3 0 r l) = if l.val < 32 then cosAt 2048#32 0x40800000#32 4 (l.val % 32) else 1 :=
  ((block5 m c t 0 r l).trans (congrFun (entry_v133 m c) _)).trans (tabIx_0 r l)
theorem tabl_1 (t : Fin cfg0.N) (r l : Fin 128) : iblk m c 5 t (ix3 1 r l) = if l.val < 32 then sinBefore 2048#32 0x40800000#32 4 (l.val % 32) else 0 :=
  ((block5 m c t 1 r l).trans (congrFun (entry_v133 m c) _)).trans (tabIx_1 r l)
theorem tabl_2 (t : Fin cfg0.N) (r l : Fin 128) : iblk m c 5 t (ix3 2 r l) = if l.val < 32 then sinAfter 2048#32 0x40800000#32 4 (l.val % 32) else 0 :=
  ((block5 m c t 2 r l).trans (congrFun (entry_v133 m c) _)).trans (tabIx_2 r l)

theorem emb12 (t : Fin cfg0.N) (r : Fin 128) (q : Fin 512) : (win0_12.blk t).view.emb (ix2 r q) = ix2 r q := by
  blk_ext [index_whole t]
theorem emb13 (t : Fin cfg0.N) (r : Fin 128) (q : Fin 512) : (win0_13.blk t).view.emb (ix2 r q) = ix2 r q := by
  blk_ext [index_whole t]
theorem emb15 (t : Fin cfg0.N) (r : Fin 128) (q : Fin 128) : (win0_15.blk t).view.emb (ix2 r q) = ix2 r q := by
  blk_ext [index_whole t]
theorem emb17 (t : Fin cfg0.N) (r : Fin 128) (q : Fin 512) : (win0_17.blk t).view.emb (ix2 r q) = ix2 r q := by
  blk_ext [index_whole t]

/-- The first branch's key-value rows. -/
def expected12 : FVec Ideal S128x512 .f32 := fun i => kvRow 2048#32 512 768 (cols m c (i 0)) (i 1).val
theorem array12 : (dats m 0 c).arrAt 12 cfg0.N = expected12 m c := by
  refine (dats m 0 c).arrAt_eq_of_covers 12 _ (by decide +kernel) fun t hf y => ?_
  blk_simp
  rw [after0_12]
  obtain ⟨r, q, rfl⟩ : ∃ (r : Fin 128) (q : Fin 512), y = ix2 r q := ⟨y 0, y 1, eq_ix2 (n0 := 128) (n1 := 512) y⟩
  rw [emb12 t r q]
  refine (out12_apply ..).trans ?_
  exact kvBlock_kvRow _ _ _ r _ 1024 1536 512 768 (fun n hn => packed_cols m c t r _ _ (by omega) (by omega) fun W k => packM_ka W k n hn)
    (fun n hn => packed_cols m c t r _ _ (by omega) (by omega) fun W k => packM_va W k n hn) (tab_0 m c t r) (tab_1 m c t r) (tab_2 m c t r) q.val q.isLt

/-- The second branch's key-value rows. -/
def expected13 : FVec Ideal S128x512 .f32 := fun i => kvRow 2048#32 1536 1792 (cols m c (i 0)) (i 1).val
theorem array13 : (dats m 0 c).arrAt 13 cfg0.N = expected13 m c := by
  refine (dats m 0 c).arrAt_eq_of_covers 13 _ (by decide +kernel) fun t hf y => ?_
  blk_simp
  rw [after0_13]
  obtain ⟨r, q, rfl⟩ : ∃ (r : Fin 128) (q : Fin 512), y = ix2 r q := ⟨y 0, y 1, eq_ix2 (n0 := 128) (n1 := 512) y⟩
  rw [emb13 t r q]
  refine (out13_apply ..).trans ?_
  exact kvBlock_kvRow _ _ _ r _ 1280 1792 1536 1792 (fun n hn => packed_cols m c t r _ _ (by omega) (by omega) fun W k => packM_kc W k n hn)
    (fun n hn => packed_cols m c t r _ _ (by omega) (by omega) fun W k => packM_vc W k n hn) (tab_0 m c t r) (tab_1 m c t r) (tab_2 m c t r) q.val q.isLt

/-- The indexer's rows. -/
def expected15 : FVec Ideal S128x128 .f32 := fun i => ixRow 2048#32 (cols m c (i 0)) (i 1).val
theorem array15 : (dats m 0 c).arrAt 15 cfg0.N = expected15 m c := by
  refine (dats m 0 c).arrAt_eq_of_covers 15 _ (by decide +kernel) fun t hf y => ?_
  blk_simp
  rw [after0_15]
  obtain ⟨r, q, rfl⟩ : ∃ (r : Fin 128) (q : Fin 128), y = ix2 r q := ⟨y 0, y 1, eq_ix2 (n0 := 128) (n1 := 128) y⟩
  rw [emb15 t r q]
  refine (out15_apply ..).trans ?_
  exact chunk_ixRow _ _ _ r _ (fun n hn => packed_cols m c t r _ _ (by omega) (by omega) fun W k => packM_ik W k n hn)
    (fun n hn => packed_cols m c t r _ _ (by omega) (by omega) fun W k => packM_iw W k n hn) (packed_pad m c t r)
    (tabl_0 m c t r) (tabl_1 m c t r) (tabl_2 m c t r) q

/-- The gated unit's value block, from the arguments. -/
theorem value_block (t : Fin cfg0.N) (r : Fin 128) (l : Fin 512) :
    norm512 (fun k => gelu (column (fun k => iblk m c 0 t (ix2 r k)) (fun k l => iblk m c 2 t (ix2 k l)) (512 + k.val))) (iblk m c 6 t (ix2 0 l)) (iblk m c 7 t (ix2 0 l)) l
      = valueRow (cols m c r) (m ((c : Thread nD τ).loc main_arg2) (ix1 l)) (m ((c : Thread nD τ).loc main_arg3) (ix1 l)) l := by
  unfold valueRow
  refine (congrArg₂ (fun g b => norm512 _ g b l) ((block6 m c t l).trans (entry_v135_apply m c l)) ((block7 m c t l).trans (entry_v136_apply m c l))).trans ?_
  refine congrArg (fun v => norm512 v _ _ l) (funext fun k => congrArg gelu ?_)
  unfold cols argCols column
  rw [dif_pos (show 512 + k.val < 1024 by omega), dif_pos (show 2856 + k.val < 6440 by omega)]
  refine Finset.sum_congr rfl fun j _ => ?_
  exact congrArg₂ (· * ·) ((block0 m c t r j).trans (entry_v134_apply m c r j))
    (((block2 m c t j _).trans (congrFun (entry_v15 m c) _)).trans (packG_v _ j k))

/-- The gated unit's value rows. -/
def expected17 : FVec Ideal S128x512 .f32 := fun i => valueRow (cols m c (i 0)) (m ((c : Thread nD τ).loc main_arg2) (ix1 (i 1))) (m ((c : Thread nD τ).loc main_arg3) (ix1 (i 1))) (i 1)
theorem array17 : (dats m 0 c).arrAt 17 cfg0.N = expected17 m c := by
  refine (dats m 0 c).arrAt_eq_of_covers 17 _ (by decide +kernel) fun t hf y => ?_
  blk_simp
  rw [after0_17]
  obtain ⟨r, q, rfl⟩ : ∃ (r : Fin 128) (q : Fin 512), y = ix2 r q := ⟨y 0, y 1, eq_ix2 (n0 := 128) (n1 := 512) y⟩
  rw [emb17 t r q]
  refine (out17_apply ..).trans ?_
  exact value_block m c t r q
end Cert.RowsProof
-- ==== Proof.Rows.Claims.lean ====
module
public import proofs.«01_k».proof.Defs
public import proofs.«01_k».proof.Proof.Gen.RowsIdeal.Value
public import proofs.«01_k».proof.Proof.Gen.RowsReferenceIdeal.Run
public import proofs.«01_k».proof.Proof.Gen.RowsReferenceIdeal.Read
public import proofs.«01_k».proof.Proof.Rows.Reference
public import proofs.«01_k».proof.Proof.Rows.Array
public import Idealize.ShloMosaic.Adequacy
public import Idealize.ShloMosaic.Init

/-! The claims of the sample rows' projections. -/

@[expose] public section
noncomputable section
namespace Cert.RowsProof
open Idealize.ShloMosaic Idealize.SL.Sem

/-- The reference runs, its arguments end unchanged, and every semaphore reads zero. -/
theorem reference_frame : Cert.quiescent_RowsReferenceIdeal (hRowsReferenceIdeal := Cert.RowsReferenceIdeal.Gen.facts) := by
  intro m ρ _
  exact (θ_run Cert.RowsReferenceIdeal.defs _ _).mono
    (fun r h => ⟨fun c => (h c).2.2.2.2, Idealize.ShloMosaic.sem_eq_zero_of_no_sems (by decide) r.2⟩)
    (Cert.RowsReferenceIdeal.Value.run (F := Ideal) m ρ)

section
open Cert.RowsReferenceIdeal Cert.RowsReferenceIdeal.Read
variable {x0 y0 : FVec Ideal S128x1x1024 .f32} {x1 y1 : FVec Ideal S1024x6440 .f32} {x2 y2 x3 y3 : FVec Ideal S512 .f32}

/-- The reference's first key-value rows on arguments equal to these. -/
theorem congr_a (h0 : x0 = y0) (h1 : x1 = y1) :
    val_main_v161 (F := Ideal) x0 x1 = fun i => kvRow 2048#32 512 768 (argCols (i 0) y0 y1) (i 1).val := by
  subst h0 h1
  funext i
  conv_lhs => rw [eq_ix2 i]
  exact result_a ..
/-- The reference's second key-value rows on arguments equal to these. -/
theorem congr_c (h0 : x0 = y0) (h1 : x1 = y1) :
    val_main_v162 (F := Ideal) x0 x1 = fun i => kvRow 2048#32 1536 1792 (argCols (i 0) y0 y1) (i 1).val := by
  subst h0 h1
  funext i
  conv_lhs => rw [eq_ix2 i]
  exact result_c ..
/-- The reference's indexer rows on arguments equal to these. -/
theorem congr_i (h0 : x0 = y0) (h1 : x1 = y1) :
    val_main_v163 (F := Ideal) x0 x1 = fun i => ixRow 2048#32 (argCols (i 0) y0 y1) (i 1).val := by
  subst h0 h1
  funext i
  conv_lhs => rw [eq_ix2 i]
  exact result_i ..
/-- The reference's value rows on arguments equal to these. -/
theorem congr_v (h0 : x0 = y0) (h1 : x1 = y1) (h2 : x2 = y2) (h3 : x3 = y3) :
    val_main_v164 (F := Ideal) x0 x1 x2 x3 = fun i => valueRow (argCols (i 0) y0 y1) (y2 (ix1 (i 1))) (y3 (ix1 (i 1))) (i 1) := by
  subst h0 h1 h2 h3
  funext i
  conv_lhs => rw [eq_ix2 i]
  exact result_v ..
end

/-- Kernel and reference leave equal arrays. -/
theorem equal_results : Cert.algebraic_RowsIdeal_RowsReferenceIdeal (hRowsIdeal := Cert.RowsIdeal.Gen.facts)
    (hRowsReferenceIdeal := Cert.RowsReferenceIdeal.Gen.facts) := by
  intro m g m' g' hpre hargs
  refine ⟨fun c => expected12 m c, fun c => expected13 m c, fun c => expected15 m c, fun c => expected17 m c,
    (θ_run _ _ _).mono (fun r h c => ?_) (Cert.RowsIdeal.Value.run_blocks m g),
    (θ_run _ _ _).mono (fun r h c => ?_) (Cert.RowsReferenceIdeal.Value.run (F := Ideal) m' g')⟩
  · obtain ⟨_, _, h2, h3, _, h5, _, h7, ha⟩ := h c
    exact ⟨h2.trans (array12 m c), h3.trans (array13 m c), h5.trans (array15 m c), h7.trans (array17 m c), ha⟩
  · obtain ⟨h0, h1, h2, h3, ha⟩ := h c
    obtain ⟨a0, a1, a2, a3, a4, a5⟩ := hargs c
    exact ⟨h0.trans ((Cert.RowsReferenceIdeal.Read.val_main_v161_eq (F := Ideal) (StableHlo.launchContents m' c)).trans (congr_a a0 a1)),
      h1.trans ((Cert.RowsReferenceIdeal.Read.val_main_v162_eq (F := Ideal) (StableHlo.launchContents m' c)).trans (congr_c a0 a1)),
      h2.trans ((Cert.RowsReferenceIdeal.Read.val_main_v163_eq (F := Ideal) (StableHlo.launchContents m' c)).trans (congr_i a0 a1)),
      h3.trans ((Cert.RowsReferenceIdeal.Read.val_main_v164_eq (F := Ideal) (StableHlo.launchContents m' c)).trans (congr_v a0 a1 a2 a3)), ha⟩
end Cert.RowsProof
-- ==== Proof.Pages.Reference.lean ====
module
public import proofs.«01_k».proof.Proof.Gen.PagesReferenceIdeal.Read
public import proofs.«01_k».proof.Proof.Rows.Spec

/-! The reference's three stacks of pages, read from its arguments. -/

@[expose] public section
set_option maxRecDepth 16384
noncomputable section
namespace Cert.PagesProof
open Cert.RowsProof Cert.PagesReferenceIdeal Cert.PagesReferenceIdeal.Gen Cert.PagesReferenceIdeal.Read Idealize.ShloMosaic
variable (x0 : FVec Ideal S4x4096x1024 .f32) (x1 : FVec Ideal S1024x6440 .f32) (x6 x7 : FVec Ideal S4x128x512x128 .f32)
  (x8 : FVec Ideal S4x128x32x128 .f32)

/-- The projection's columns of prompt `b`'s row `t`. -/
def colsOf (b : Fin 4) (t : Fin 4096) (n : Nat) : EReal := column (fun k => x0 (ix3 b t k)) (fun k l => x1 (ix2 k l)) n

theorem sum_colsOf (b : Fin 4) (t : Fin 4096) (n : Nat) (h : n < 6440) : ∑ k, x0 (ix3 b t k) * x1 (ix2 k ⟨n, h⟩) = colsOf x0 x1 b t n :=
  column_of (fun k => x0 (ix3 b t k)) (fun k l => x1 (ix2 k l)) n h

/-- The table of cosines of branch `a`. -/
theorem cos_a (t : Fin 4096) (j : Fin 8) : val_main_v17 (F := Ideal) (ix3 t 0 j) = Ideal.cos (turn (BitVec.ofNat 32 t.val) 0x41000000#32 j.val) := by
  pointwise [val_main_v17, val_main_v16, val_main_v15, val_main_v14, val_main_v13, val_main_v12, val_main_v11, val_main_v10, val_main_v9,
    val_main_v8, val_main_v7, val_main_v6, val_main_v5, val_main_v4, val_main_v0, val_main_cst, val_main_cst_0]
  rfl
/-- The table of sines of branch `a`. -/
theorem sin_a (t : Fin 4096) (j : Fin 8) : val_main_v19 (F := Ideal) (ix3 t 0 j) = Ideal.sin (turn (BitVec.ofNat 32 t.val) 0x41000000#32 j.val) := by
  pointwise [val_main_v19, val_main_v18, val_main_v15, val_main_v14, val_main_v13, val_main_v12, val_main_v11, val_main_v10, val_main_v9,
    val_main_v8, val_main_v7, val_main_v6, val_main_v5, val_main_v4, val_main_v0, val_main_cst, val_main_cst_0]
  rfl
/-- The table of cosines of branch `c`. -/
theorem cos_c (t : Fin 4096) (j : Fin 8) : val_main_v55 (F := Ideal) (ix3 t 0 j) = Ideal.cos (turn (BitVec.ofNat 32 t.val) 0x41000000#32 j.val) := by
  pointwise [val_main_v55, val_main_v54, val_main_v53, val_main_v52, val_main_v51, val_main_v50, val_main_v49, val_main_v48, val_main_v47,
    val_main_v46, val_main_v45, val_main_v44, val_main_v43, val_main_v42, val_main_v0, val_main_cst_1, val_main_cst_2]
  rfl
/-- The table of sines of branch `c`. -/
theorem sin_c (t : Fin 4096) (j : Fin 8) : val_main_v57 (F := Ideal) (ix3 t 0 j) = Ideal.sin (turn (BitVec.ofNat 32 t.val) 0x41000000#32 j.val) := by
  pointwise [val_main_v57, val_main_v56, val_main_v53, val_main_v52, val_main_v51, val_main_v50, val_main_v49, val_main_v48, val_main_v47,
    val_main_v46, val_main_v45, val_main_v44, val_main_v43, val_main_v42, val_main_v0, val_main_cst_1, val_main_cst_2]
  rfl
/-- The table of cosines of branch `i`. -/
theorem cos_i (t : Fin 4096) (j : Fin 4) : val_main_v93 (F := Ideal) (ix3 t 0 j) = Ideal.cos (turn (BitVec.ofNat 32 t.val) 0x40800000#32 j.val) := by
  pointwise [val_main_v93, val_main_v92, val_main_v91, val_main_v90, val_main_v89, val_main_v88, val_main_v87, val_main_v86, val_main_v85,
    val_main_v84, val_main_v83, val_main_v82, val_main_v81, val_main_v80, val_main_v0, val_main_cst_3, val_main_cst_4]
  rfl
/-- The table of sines of branch `i`. -/
theorem sin_i (t : Fin 4096) (j : Fin 4) : val_main_v95 (F := Ideal) (ix3 t 0 j) = Ideal.sin (turn (BitVec.ofNat 32 t.val) 0x40800000#32 j.val) := by
  pointwise [val_main_v95, val_main_v94, val_main_v91, val_main_v90, val_main_v89, val_main_v88, val_main_v87, val_main_v86, val_main_v85,
    val_main_v84, val_main_v83, val_main_v82, val_main_v81, val_main_v80, val_main_v0, val_main_cst_3, val_main_cst_4]
  rfl
/-- The turned keys of branch `a`. -/
theorem keys_a (b : Fin 4) (t : Fin 4096) (g : Fin 4) (j : Fin 64) : val_main_v37 (F := Ideal) x0 x1 (ix4 b t g j)
    = roped (BitVec.ofNat 32 t.val) 0x41000000#32 8 (fun j => colsOf x0 x1 b t (512 + (g.val * 64 + j))) j.val := by
  pointwise [val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20,
    val_main_v3, val_main_v2, val_main_v1]
  simp only [sum_colsOf, cos_a, sin_a]
  unfold roped
  split
  · rfl
  · split
    · rw [show 8 + (j.val - 8) = j.val by omega]
    · rw [show 16 + (j.val - 8 - 8) = j.val by omega]

/-- The turned keys of branch `c`. -/
theorem keys_c (b : Fin 4) (t : Fin 4096) (g : Fin 4) (j : Fin 64) : val_main_v75 (F := Ideal) x0 x1 (ix4 b t g j)
    = roped (BitVec.ofNat 32 t.val) 0x41000000#32 8 (fun j => colsOf x0 x1 b t (1536 + (g.val * 64 + j))) j.val := by
  pointwise [val_main_v75, val_main_v74, val_main_v73, val_main_v72, val_main_v71, val_main_v70, val_main_v69, val_main_v68, val_main_v67,
    val_main_v66, val_main_v65, val_main_v64, val_main_v63, val_main_v62, val_main_v61, val_main_v60, val_main_v59, val_main_v58,
    val_main_v41, val_main_v40, val_main_v1]
  simp only [sum_colsOf, cos_c, sin_c]
  unfold roped
  split
  · rfl
  · split
    · rw [show 8 + (j.val - 8) = j.val by omega]
    · rw [show 16 + (j.val - 8 - 8) = j.val by omega]

/-- The turned keys of branch `i`. -/
theorem keys_i (b : Fin 4) (t : Fin 4096) (j : Fin 32) : val_main_v113 (F := Ideal) x0 x1 (ix4 b t 0 j)
    = roped (BitVec.ofNat 32 t.val) 0x40800000#32 4 (fun j => colsOf x0 x1 b t (2304 + j)) j.val := by
  pointwise [val_main_v113, val_main_v112, val_main_v111, val_main_v110, val_main_v109, val_main_v108, val_main_v107, val_main_v106,
    val_main_v105, val_main_v104, val_main_v103, val_main_v102, val_main_v101, val_main_v100, val_main_v99, val_main_v98, val_main_v97,
    val_main_v96, val_main_v79, val_main_v78, val_main_v1]
  simp only [sum_colsOf, cos_i, sin_i]
  unfold roped
  split
  · rfl
  · split
    · rw [show 4 + (j.val - 4) = j.val by omega]
    · rw [show 8 + (j.val - 4 - 4) = j.val by omega]

/-- The row of a page's token, by prompt and position. -/
def promptOf (p o : Fin 128) : Fin 4 := ⟨p.val / 32, by omega⟩
def tokenOf (p o : Fin 128) : Fin 4096 := ⟨p.val % 32 * 128 + o.val, by omega⟩

/-- A key-value stack's entry, by layer and by half. -/
theorem page_kv (S : EReal) (f : Nat → EReal) (p : BitVec 32) (ko vo a q : Nat) (hq : q < 512) :
    (if _h : a < 3 then S else if _h : q / 256 < 1 then roped p 0x41000000#32 8 (fun j => f (ko + (q / 64 % 4 * 64 + j))) (q % 64)
      else f (vo + (q / 64 % 4 * 64 + q % 64))) = if a < 3 then S else kvRow p ko vo f q := by
  unfold kvRow
  by_cases ha : a < 3
  · rw [dif_pos ha, if_pos ha]
  · rw [dif_neg ha, if_neg ha]
    by_cases h : q < 256
    · rw [dif_pos (by omega), if_pos h, show q / 64 % 4 = q / 64 by omega]
    · rw [dif_neg (by omega), if_neg h, show q / 64 % 4 * 64 + q % 64 = q - 256 by omega]
/-- An indexer stack's entry, by layer. -/
theorem page_ix (S : EReal) (f : Nat → EReal) (p : BitVec 32) (a q : Nat) (hq : q < 32) :
    (if _h : a < 3 then S else roped p 0x40800000#32 4 (fun j => f (2304 + j)) q) = if a < 3 then S else ixRow p f q := by
  unfold ixRow
  by_cases ha : a < 3
  · rw [dif_pos ha, if_pos ha]
  · rw [dif_neg ha, if_neg ha, if_pos hq]

/-- The key-value pages of branch `a`: the last layer's are new. -/
theorem result_a (a : Fin 4) (p : Fin 128) (q : Fin 512) (o : Fin 128) : val_main_v164 (F := Ideal) x0 x1 x6 (ix4 a p q o)
    = if a.val < 3 then x6 (ix4 a p q o)
      else kvRow (BitVec.ofNat 32 (tokenOf p o).val) 512 768 (colsOf x0 x1 (promptOf p o) (tokenOf p o)) q.val := by
  pointwise [val_main_v164, val_main_v163, val_main_v162, val_main_v161, val_main_v160, val_main_v155, val_main_v154, val_main_v153, val_main_v39,
    val_main_v38, val_main_v1]
  simp only [keys_a, sum_colsOf]
  exact page_kv (x6 (ix4 a p q o)) (colsOf x0 x1 (promptOf p o) (tokenOf p o)) (BitVec.ofNat 32 (tokenOf p o).val) 512 768 a.val q.val q.isLt

/-- The key-value pages of branch `c`: the last layer's are new. -/
theorem result_c (a : Fin 4) (p : Fin 128) (q : Fin 512) (o : Fin 128) : val_main_v169 (F := Ideal) x0 x1 x7 (ix4 a p q o)
    = if a.val < 3 then x7 (ix4 a p q o)
      else kvRow (BitVec.ofNat 32 (tokenOf p o).val) 1536 1792 (colsOf x0 x1 (promptOf p o) (tokenOf p o)) q.val := by
  pointwise [val_main_v169, val_main_v168, val_main_v167, val_main_v166, val_main_v165, val_main_v158, val_main_v157, val_main_v156, val_main_v77,
    val_main_v76, val_main_v1]
  simp only [keys_c, sum_colsOf]
  exact page_kv (x7 (ix4 a p q o)) (colsOf x0 x1 (promptOf p o) (tokenOf p o)) (BitVec.ofNat 32 (tokenOf p o).val) 1536 1792 a.val q.val q.isLt

/-- The indexer-key pages: the last layer's are new. -/
theorem result_i (a : Fin 4) (p : Fin 128) (q : Fin 32) (o : Fin 128) : val_main_v174 (F := Ideal) x0 x1 x8 (ix4 a p q o)
    = if a.val < 3 then x8 (ix4 a p q o)
      else ixRow (BitVec.ofNat 32 (tokenOf p o).val) (colsOf x0 x1 (promptOf p o) (tokenOf p o)) q.val := by
  pointwise [val_main_v174, val_main_v173, val_main_v172, val_main_v171, val_main_v170, val_main_v114]
  simp only [keys_i, sum_colsOf]
  exact page_ix (x8 (ix4 a p q o)) (colsOf x0 x1 (promptOf p o) (tokenOf p o)) (BitVec.ofNat 32 (tokenOf p o).val) a.val q.val q.isLt
end Cert.PagesProof
-- ==== Proof.Pages.Lanes.lean ====
module
public import proofs.«01_k».proof.Proof.Gen.PagesIdeal.Skeleton
public import proofs.«01_k».proof.Proof.Rows.Spec

/-! The prompt projection's chunks of lanes and its pages, entry by entry. -/

@[expose] public section
set_option maxRecDepth 16384
noncomputable section
namespace Cert.PagesProof
open Cert.RowsProof (column column_of chunk roped cosAt sinBefore sinAfter chunk_roped64 chunk_roped32 kvRow ixRow)
open Cert.PagesIdeal Cert.PagesIdeal.Gen Idealize.ShloMosaic

/-- 512 of the packed columns, from `o`. -/
def cols512 (w : Vec Ideal S1024x2432 .bf16) (o : Nat) (ho : o + 512 ≤ 2432) : Vec Ideal S1024x512 .bf16 :=
  fun y => w (ix2 (y 0) ⟨o + (y 1).val, by have : (y 1).val < 512 := (y 1).isLt; omega⟩)
/-- The last 384 of the packed columns. -/
def cols384 (w : Vec Ideal S1024x2432 .bf16) : Vec Ideal S1024x384 .bf16 :=
  fun y => w (ix2 (y 0) ⟨2048 + (y 1).val, by have : (y 1).val < 384 := (y 1).isLt; omega⟩)
/-- One of three stacked tables. -/
def tabSlab (w : Vec Ideal S3x512x128 .f32) (a : Fin 3) : Vec Ideal S1x512x128 .f32 := fun y => w (ix3 a (y 1) (y 2))

section
variable (X : FVec Ideal S512x1024 .bf16) (u v y : FVec Ideal S512x128 .f32) (W : Vec Ideal S1024x512 .bf16) (W' : Vec Ideal S1024x384 .bf16)

/-- A block's row times a column of 512 loaded ones. -/
def col512 (r : Fin 512) (n : Nat) : EReal := column (fun k => X (ix2 r k)) (fun k l => W (ix2 k l)) n
theorem sum_col512 (r : Fin 512) (n : Nat) (h : n < 512) : ∑ k, X (ix2 r k) * W (ix2 k ⟨n, h⟩) = col512 X W r n :=
  column_of (fun k => X (ix2 r k)) (fun k l => W (ix2 k l)) n h
/-- A block's row times a column of 384 loaded ones. -/
def col384 (r : Fin 512) (n : Nat) : EReal := column (fun k => X (ix2 r k)) (fun k l => W' (ix2 k l)) n
theorem sum_col384 (r : Fin 512) (n : Nat) (h : n < 384) : ∑ k, X (ix2 r k) * W' (ix2 k ⟨n, h⟩) = col384 X W' r n :=
  column_of (fun k => X (ix2 r k)) (fun k l => W' (ix2 k l)) n h

/-- The key chunk whose columns start at `o`, at lane `l`. -/
def keyLane (r : Fin 512) (o : Nat) (l : Fin 128) : EReal :=
  chunk 8 (fun n => col512 X W r (o + n)) (u (ix2 r l)) (v (ix2 r l)) (y (ix2 r l)) l.val

theorem key_0 (r : Fin 512) (l : Fin 128) : k0_pay28 X u v y W (ix2 r l) = keyLane X u v y W r 0 l := by
  pointwise [k0_pay28, k0_pay26]
  simp only [sum_col512]
  simp only [keyLane, chunk, Nat.zero_add]
theorem key_1 (r : Fin 512) (l : Fin 128) : k0_pay43 u v y (k0_pay26 X W) (ix2 r l) = keyLane X u v y W r 128 l := by
  pointwise [k0_pay43, k0_pay26]
  simp only [sum_col512]
  rfl
theorem key_2 (r : Fin 512) (l : Fin 128) : k0_pay56 u v y (k0_pay26 X W) (ix2 r l) = keyLane X u v y W r 256 l := by
  pointwise [k0_pay56, k0_pay26]
  simp only [sum_col512]
  rfl
theorem key_3 (r : Fin 512) (l : Fin 128) : k0_pay70 u v y (k0_pay26 X W) (ix2 r l) = keyLane X u v y W r 384 l := by
  pointwise [k0_pay70, k0_pay26]
  simp only [sum_col512]
  rfl
theorem val_0 (r : Fin 512) (l : Fin 128) : k0_pay29 X W (ix2 r l) = col512 X W r (0 + l.val) := by
  rw [Nat.zero_add]
  pointwise [k0_pay29, k0_pay27]
  exact sum_col512 ..
theorem val_1 (r : Fin 512) (l : Fin 128) : k0_pay44 (k0_pay27 X W) (ix2 r l) = col512 X W r (128 + l.val) := by
  pointwise [k0_pay44, k0_pay27]
  exact sum_col512 ..
theorem val_2 (r : Fin 512) (l : Fin 128) : k0_pay57 (k0_pay27 X W) (ix2 r l) = col512 X W r (256 + l.val) := by
  pointwise [k0_pay57, k0_pay27]
  exact sum_col512 ..
theorem val_3 (r : Fin 512) (l : Fin 128) : k0_pay71 (k0_pay27 X W) (ix2 r l) = col512 X W r (384 + l.val) := by
  pointwise [k0_pay71, k0_pay27]
  exact sum_col512 ..
theorem index_0 (r : Fin 512) (l : Fin 128) : k0_pay90 u v y (k0_pay84 X W') (ix2 r l)
    = chunk 4 (fun n => col384 X W' r (256 + n)) (u (ix2 r l)) (v (ix2 r l)) (y (ix2 r l)) l.val := by
  pointwise [k0_pay90, k0_pay84]
  simp only [sum_col384]
  rfl
end

section
variable (v : FVec Ideal S512x128 .f32)
theorem page_34 (l o : Fin 128) : k0_pay34 v (ix4 0 0 l o) = v (ix2 ⟨0 + o.val, by omega⟩ l) := by
  pointwise [k0_pay34]
theorem page_36 (l o : Fin 128) : k0_pay36 v (ix4 0 0 l o) = v (ix2 ⟨128 + o.val, by omega⟩ l) := by
  pointwise [k0_pay36]
theorem page_39 (l o : Fin 128) : k0_pay39 (k0_pay38 v) (ix4 0 0 l o) = v (ix2 ⟨256 + o.val, by omega⟩ l) := by
  pointwise [k0_pay39, k0_pay38]
theorem page_41 (l o : Fin 128) : k0_pay41 v (ix4 0 0 l o) = v (ix2 ⟨384 + o.val, by omega⟩ l) := by
  pointwise [k0_pay41]
theorem page_35 (l o : Fin 128) : k0_pay35 v (ix4 0 0 l o) = v (ix2 ⟨0 + o.val, by omega⟩ l) := by
  pointwise [k0_pay35]
theorem page_37 (l o : Fin 128) : k0_pay37 v (ix4 0 0 l o) = v (ix2 ⟨128 + o.val, by omega⟩ l) := by
  pointwise [k0_pay37]
theorem page_40 (l o : Fin 128) : k0_pay40 v (ix4 0 0 l o) = v (ix2 ⟨256 + o.val, by omega⟩ l) := by
  pointwise [k0_pay40]
theorem page_42 (l o : Fin 128) : k0_pay42 v (ix4 0 0 l o) = v (ix2 ⟨384 + o.val, by omega⟩ l) := by
  pointwise [k0_pay42]
theorem page_48 (l o : Fin 128) : k0_pay48 v (ix4 0 0 l o) = v (ix2 ⟨0 + o.val, by omega⟩ l) := by
  pointwise [k0_pay48]
theorem page_50 (l o : Fin 128) : k0_pay50 v (ix4 0 0 l o) = v (ix2 ⟨128 + o.val, by omega⟩ l) := by
  pointwise [k0_pay50]
theorem page_52 (l o : Fin 128) : k0_pay52 v (ix4 0 0 l o) = v (ix2 ⟨256 + o.val, by omega⟩ l) := by
  pointwise [k0_pay52]
theorem page_54 (l o : Fin 128) : k0_pay54 v (ix4 0 0 l o) = v (ix2 ⟨384 + o.val, by omega⟩ l) := by
  pointwise [k0_pay54]
theorem page_49 (l o : Fin 128) : k0_pay49 v (ix4 0 0 l o) = v (ix2 ⟨0 + o.val, by omega⟩ l) := by
  pointwise [k0_pay49]
theorem page_51 (l o : Fin 128) : k0_pay51 v (ix4 0 0 l o) = v (ix2 ⟨128 + o.val, by omega⟩ l) := by
  pointwise [k0_pay51]
theorem page_53 (l o : Fin 128) : k0_pay53 v (ix4 0 0 l o) = v (ix2 ⟨256 + o.val, by omega⟩ l) := by
  pointwise [k0_pay53]
theorem page_55 (l o : Fin 128) : k0_pay55 v (ix4 0 0 l o) = v (ix2 ⟨384 + o.val, by omega⟩ l) := by
  pointwise [k0_pay55]
theorem page_61 (l o : Fin 128) : k0_pay61 v (ix4 0 0 l o) = v (ix2 ⟨0 + o.val, by omega⟩ l) := by
  pointwise [k0_pay61]
theorem page_63 (l o : Fin 128) : k0_pay63 v (ix4 0 0 l o) = v (ix2 ⟨128 + o.val, by omega⟩ l) := by
  pointwise [k0_pay63]
theorem page_66 (l o : Fin 128) : k0_pay66 v (ix4 0 0 l o) = v (ix2 ⟨256 + o.val, by omega⟩ l) := by
  pointwise [k0_pay66]
theorem page_68 (l o : Fin 128) : k0_pay68 v (ix4 0 0 l o) = v (ix2 ⟨384 + o.val, by omega⟩ l) := by
  pointwise [k0_pay68]
theorem page_62 (l o : Fin 128) : k0_pay62 v (ix4 0 0 l o) = v (ix2 ⟨0 + o.val, by omega⟩ l) := by
  pointwise [k0_pay62]
theorem page_65 (l o : Fin 128) : k0_pay65 (k0_pay64 v) (ix4 0 0 l o) = v (ix2 ⟨128 + o.val, by omega⟩ l) := by
  pointwise [k0_pay65, k0_pay64]
theorem page_67 (l o : Fin 128) : k0_pay67 v (ix4 0 0 l o) = v (ix2 ⟨256 + o.val, by omega⟩ l) := by
  pointwise [k0_pay67]
theorem page_69 (l o : Fin 128) : k0_pay69 v (ix4 0 0 l o) = v (ix2 ⟨384 + o.val, by omega⟩ l) := by
  pointwise [k0_pay69]
theorem page_75 (l o : Fin 128) : k0_pay75 v (ix4 0 0 l o) = v (ix2 ⟨0 + o.val, by omega⟩ l) := by
  pointwise [k0_pay75]
theorem page_77 (l o : Fin 128) : k0_pay77 v (ix4 0 0 l o) = v (ix2 ⟨128 + o.val, by omega⟩ l) := by
  pointwise [k0_pay77]
theorem page_80 (l o : Fin 128) : k0_pay80 v (ix4 0 0 l o) = v (ix2 ⟨256 + o.val, by omega⟩ l) := by
  pointwise [k0_pay80]
theorem page_82 (l o : Fin 128) : k0_pay82 v (ix4 0 0 l o) = v (ix2 ⟨384 + o.val, by omega⟩ l) := by
  pointwise [k0_pay82]
theorem page_76 (l o : Fin 128) : k0_pay76 v (ix4 0 0 l o) = v (ix2 ⟨0 + o.val, by omega⟩ l) := by
  pointwise [k0_pay76]
theorem page_79 (l o : Fin 128) : k0_pay79 (k0_pay78 v) (ix4 0 0 l o) = v (ix2 ⟨128 + o.val, by omega⟩ l) := by
  pointwise [k0_pay79, k0_pay78]
theorem page_81 (l o : Fin 128) : k0_pay81 v (ix4 0 0 l o) = v (ix2 ⟨256 + o.val, by omega⟩ l) := by
  pointwise [k0_pay81]
theorem page_83 (l o : Fin 128) : k0_pay83 v (ix4 0 0 l o) = v (ix2 ⟨384 + o.val, by omega⟩ l) := by
  pointwise [k0_pay83]
theorem page_94 (l : Fin 32) (o : Fin 128) : k0_pay94 v (ix4 0 0 l o) = v (ix2 ⟨0 + o.val, by omega⟩ ⟨l.val, by omega⟩) := by
  pointwise [k0_pay94]
theorem page_95 (l : Fin 32) (o : Fin 128) : k0_pay95 v (ix4 0 0 l o) = v (ix2 ⟨128 + o.val, by omega⟩ ⟨l.val, by omega⟩) := by
  pointwise [k0_pay95]
theorem page_96 (l : Fin 32) (o : Fin 128) : k0_pay96 v (ix4 0 0 l o) = v (ix2 ⟨256 + o.val, by omega⟩ ⟨l.val, by omega⟩) := by
  pointwise [k0_pay96]
theorem page_97 (l : Fin 32) (o : Fin 128) : k0_pay97 v (ix4 0 0 l o) = v (ix2 ⟨384 + o.val, by omega⟩ ⟨l.val, by omega⟩) := by
  pointwise [k0_pay97]
end

variable (x : Vec Ideal S512x1024 .f32) (w : Vec Ideal S1024x2432 .bf16) (t64 tl : Vec Ideal S3x512x128 .f32)

/-- The packed projection's columns of a block's row. -/
def packed (r : Fin 512) (n : Nat) : EReal := column (fun k => x (ix2 r k)) (fun k l => w (ix2 k l)) n

theorem col512_packed (o : Nat) (ho : o + 512 ≤ 2432) (r : Fin 512) (n : Nat) (hn : n < 512) :
    col512 (k0_pay2 x) (cols512 w o ho) r n = packed x w r (o + n) := by
  unfold col512 packed column
  rw [dif_pos hn, dif_pos (show o + n < 2432 by omega)]
  refine Finset.sum_congr rfl fun k _ => ?_
  refine congrArg (· * _) ?_
  pointwise [k0_pay2]
theorem col384_packed (r : Fin 512) (n : Nat) (hn : n < 384) :
    col384 (k0_pay2 x) (cols384 w) r n = packed x w r (2048 + n) := by
  unfold col384 packed column
  rw [dif_pos hn, dif_pos (show 2048 + n < 2432 by omega)]
  refine Finset.sum_congr rfl fun k _ => ?_
  refine congrArg (· * _) ?_
  pointwise [k0_pay2]

/-- A chunk depends on its columns below 128. -/
theorem chunk_congr (s : Nat) (h h' : Nat → EReal) (c c' a a' e e' : EReal) (l : Nat) (hl : l < 128) (hh : ∀ n, n < 128 → h n = h' n)
    (hc : c = c') (ha : a = a') (he : e = e') : chunk s h c a e l = chunk s h' c' a' e' l := by
  subst hc ha he
  unfold chunk
  rw [hh l hl, hh _ (Nat.mod_lt _ (by decide)), hh _ (Nat.mod_lt _ (by decide))]

/-- The packed key chunk whose columns start at `o`, at lane `l`. -/
def packedKey (r : Fin 512) (o l : Nat) : EReal :=
  if h : l < 128 then chunk 8 (fun n => packed x w r (o + n)) (t64 (ix3 0 r ⟨l, h⟩)) (t64 (ix3 1 r ⟨l, h⟩)) (t64 (ix3 2 r ⟨l, h⟩)) l else 0
theorem key_packed (r : Fin 512) (l : Fin 128) (o o' : Nat) (ho : o + 128 ≤ 512) (e : 1024 + o = o') :
    keyLane (k0_pay2 x) (k0_pay3 (tabSlab t64 0)) (k0_pay4 (tabSlab t64 1)) (k0_pay5 (tabSlab t64 2)) (cols512 w 1024 (by omega)) r o l
      = packedKey x w t64 r o' l.val := by
  subst e
  unfold keyLane packedKey
  rw [dif_pos l.isLt]
  refine chunk_congr 8 _ _ _ _ _ _ _ _ _ l.isLt (fun n hn => ?_) ?_ ?_ ?_
  · rw [col512_packed x w 1024 (by omega) r (o + n) (by omega), Nat.add_assoc]
  · pointwise [k0_pay3]; rfl
  · pointwise [k0_pay4]; rfl
  · pointwise [k0_pay5]; rfl
/-- The indexer's packed chunk at lane `l`. -/
def packedIndex (r : Fin 512) (l : Fin 128) : EReal :=
  chunk 4 (fun n => packed x w r (2304 + n)) (tl (ix3 0 r l)) (tl (ix3 1 r l)) (tl (ix3 2 r l)) l.val
theorem index_packed (r : Fin 512) (l : Fin 128) :
    k0_pay90 (k0_pay9 (tabSlab tl 0)) (k0_pay10 (tabSlab tl 1)) (k0_pay11 (tabSlab tl 2)) (k0_pay84 (k0_pay2 x) (cols384 w)) (ix2 r l)
      = packedIndex x w tl r l := by
  refine (index_0 ..).trans (chunk_congr 4 _ _ _ _ _ _ _ _ _ l.isLt (fun n hn => ?_) ?_ ?_ ?_)
  · rw [col384_packed x w r (256 + n) (by omega), ← Nat.add_assoc]
  · pointwise [k0_pay9]; rfl
  · pointwise [k0_pay10]; rfl
  · pointwise [k0_pay11]; rfl

/-- The block of a key-value result: two key chunks, two value chunks. -/
def kvBlock (ko vo : Nat) (r : Fin 512) (q : Nat) : EReal :=
  if q < 128 then packedKey x w t64 r ko q else if q < 256 then packedKey x w t64 r (ko + 128) (q - 128) else packed x w r (vo + (q - 256))
end Cert.PagesProof
-- ==== Proof.Pages.Kernel.lean ====
module
public import proofs.«01_k».proof.Proof.Gen.PagesIdeal.Value
public import proofs.«01_k».proof.Proof.Pages.Lanes
public import Idealize.ShloMosaic.Lib.Pipeline.ValueKit

/-! What one grid point of the prompt projection writes in its blocks of the three stacks. -/

@[expose] public section
set_option maxRecDepth 16384
noncomputable section
namespace Cert.PagesProof
open Cert.PagesIdeal Cert.PagesIdeal.Gen Idealize.ShloMosaic Idealize.ShloMosaic.Pipeline

/-- A load of a whole array reads the array. -/
theorem load_whole {S : Shape} {e : EltTy} {arg : Memref sig .tc .vmem S e} (harg : arg.IsWhole) (X : Vec Ideal S e)
    (off : Fin S.rank → Nat) (hoff : off = fun _ => 0) (inb : ∀ a, off a + S.size a ≤ S.size a) :
    View.readAt (Elt Ideal) arg.view (Rect.unit off S.size inb).toLoadRect (harg.unread X) = X :=
  ((congrArg (fun Y => View.ld Y (Rect.unit off S.size inb)) (harg.read_unread X))).trans (View.ld_unit_zero hoff inb X)

/-- A load of 512 packed columns. -/
theorem load_cols512 {arg : Memref sig .tc .vmem S1024x2432 .bf16} (harg : arg.IsWhole) (X : Vec Ideal S1024x2432 .bf16) (o : Nat) (ho : o + 512 ≤ 2432)
    (inb : ∀ a, (![0, o] : Fin 2 → Nat) a + S1024x512.size a ≤ S1024x2432.size a) :
    View.readAt (Elt Ideal) arg.view (Rect.unit (s := S1024x2432) ![0, o] S1024x512.size inb).toLoadRect (harg.unread X) = cols512 X o ho := by
  funext y
  refine (congrArg (fun Y => View.ld Y (Rect.unit (s := S1024x2432) ![0, o] S1024x512.size inb) y) (harg.read_unread X)).trans ?_
  refine View.ld_unit_apply_of X _ _ inb y _ fun a => ?_
  match a with
  | ⟨0, _⟩ => show (y 0).val = 0 + (y 0).val; omega
  | ⟨1, _⟩ => rfl
/-- A load of the last 384 packed columns. -/
theorem load_cols384 {arg : Memref sig .tc .vmem S1024x2432 .bf16} (harg : arg.IsWhole) (X : Vec Ideal S1024x2432 .bf16)
    (inb : ∀ a, (![0, 2048] : Fin 2 → Nat) a + S1024x384.size a ≤ S1024x2432.size a) :
    View.readAt (Elt Ideal) arg.view (Rect.unit (s := S1024x2432) ![0, 2048] S1024x384.size inb).toLoadRect (harg.unread X) = cols384 X := by
  funext y
  refine (congrArg (fun Y => View.ld Y (Rect.unit (s := S1024x2432) ![0, 2048] S1024x384.size inb) y) (harg.read_unread X)).trans ?_
  refine View.ld_unit_apply_of X _ _ inb y _ fun a => ?_
  match a with
  | ⟨0, _⟩ => show (y 0).val = 0 + (y 0).val; omega
  | ⟨1, _⟩ => rfl
/-- A load of one of three stacked tables. -/
theorem load_tab {arg : Memref sig .tc .vmem S3x512x128 .f32} (harg : arg.IsWhole) (X : Vec Ideal S3x512x128 .f32) (o : Nat) (ho : o < 3)
    (inb : ∀ a, (![o, 0, 0] : Fin 3 → Nat) a + S1x512x128.size a ≤ S3x512x128.size a) :
    View.readAt (Elt Ideal) arg.view (Rect.unit (s := S3x512x128) ![o, 0, 0] S1x512x128.size inb).toLoadRect (harg.unread X) = tabSlab X ⟨o, ho⟩ := by
  funext y
  refine (congrArg (fun Y => View.ld Y (Rect.unit (s := S3x512x128) ![o, 0, 0] S1x512x128.size inb) y) (harg.read_unread X)).trans ?_
  refine View.ld_unit_apply_of X _ _ inb y _ fun a => ?_
  match a with
  | ⟨0, _⟩ => show o = o + (y 0).val; have : (y 0).val < 1 := (y 0).isLt; omega
  | ⟨1, _⟩ => show (y 1).val = 0 + (y 1).val; omega
  | ⟨2, _⟩ => show (y 2).val = 0 + (y 2).val; omega

theorem zero_zero : (![0, 0] : Fin 2 → Nat) = fun _ => 0 := by
  funext a
  match a with
  | ⟨0, _⟩ => rfl
  | ⟨1, _⟩ => rfl

variable (c : Dev nD) (i : grid0.Coords)
  (arg1 : Memref sig .tc .vmem S512x1024 .f32) (harg1 : arg1.IsWhole)
  (arg2 : Memref sig .tc .vmem S1024x2432 .bf16) (harg2 : arg2.IsWhole)
  (arg3 : Memref sig .tc .vmem S1024x1024 .bf16) (harg3 : arg3.IsWhole)
  (arg4 : Memref sig .tc .vmem S3x512x128 .f32) (harg4 : arg4.IsWhole)
  (arg5 : Memref sig .tc .vmem S3x512x128 .f32) (harg5 : arg5.IsWhole)
  (arg6 : Memref sig .tc .vmem S3x512x128 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S8x128x128 .bf16) (harg9 : arg9.IsWhole)
  (arg10 : Memref sig .tc .vmem S128x512 .f32) (harg10 : arg10.IsWhole)
  (arg14 : Memref sig .tc .vmem S512x512 .bf16) (harg14 : arg14.IsWhole)
  (arg15 : Memref sig .tc .vmem S512x512 .bf16) (harg15 : arg15.IsWhole)
  (arg16 : Memref sig .tc .vmem S512x512 .f32) (harg16 : arg16.IsWhole)
  (arg17 : Memref sig .tc .vmem S512x512 .f32) (harg17 : arg17.IsWhole)
  (arg18 : Memref sig .tc .vmem S512x256 .bf16) (harg18 : arg18.IsWhole)
  (arg19 : Memref sig .tc .vmem S512x128 .f32) (harg19 : arg19.IsWhole)
  (arg20 : Memref sig .tc .vmem S512x512 .bf16) (harg20 : arg20.IsWhole)
  (arg21 : Memref sig .tc .vmem S512x512 .f32) (harg21 : arg21.IsWhole)
  (arg22 : Memref sig .tc .vmem S512x256 .bf16) (harg22 : arg22.IsWhole)
  (arg23 : Memref sig .tc .vmem S512x256 .bf16) (harg23 : arg23.IsWhole)
  (arg24 : Memref sig .tc .vmem S2x256x256 .bf16) (harg24 : arg24.IsWhole)
  (arg25 : Memref sig .tc .vmem S2x256x256 .bf16) (harg25 : arg25.IsWhole)
  (arg26 : Memref sig .tc .vmem S512x256 .bf16) (harg26 : arg26.IsWhole)
  (arg27 : Memref sig .tc .vmem S1x4x512x128 .f32) (harg27 : arg27.IsWhole)
  (arg28 : Memref sig .tc .vmem S1x4x512x128 .f32) (harg28 : arg28.IsWhole)
  (arg29 : Memref sig .tc .vmem S1x4x32x128 .f32) (harg29 : arg29.IsWhole)
  (x0 : Vec Ideal S512x1024 .f32)
  (x1 : Vec Ideal S1024x2432 .bf16)
  (x2 : Vec Ideal S1024x1024 .bf16)
  (x3 : Vec Ideal S3x512x128 .f32)
  (x4 : Vec Ideal S3x512x128 .f32)
  (x5 : Vec Ideal S3x512x128 .f32)
  (x6 : Vec Ideal S1x512 .f32)
  (x7 : Vec Ideal S1x512 .f32)
  (x8 : Vec Ideal S8x128x128 .bf16)
  (x9 : Vec Ideal S128x512 .f32)
/-- Key chunk 0 of the run. -/
theorem run_key_0 (r : Fin 512) (l : Fin 128) : kernelRun0_A.sl.r_18 c arg1 harg1 arg2 harg2 arg4 harg4 x0 x1 x3 (ix2 r l) = packedKey x0 x1 x3 r 1024 l.val := by
  refine Eq.trans ?_ ((key_0 ..).trans (key_packed x0 x1 x3 r l 0 1024 (by omega) rfl))
  simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r]
  rw [load_whole harg1 x0 _ zero_zero, load_cols512 harg2 x1 1024 (by omega), load_tab harg4 x3 0 (by omega), load_tab harg4 x3 1 (by omega),
    load_tab harg4 x3 2 (by omega)]
  rfl
/-- Key chunk 1 of the run. -/
theorem run_key_1 (r : Fin 512) (l : Fin 128) : kernelRun0_A.sl.r_22 c arg1 harg1 arg2 harg2 arg4 harg4 x0 x1 x3 (ix2 r l) = packedKey x0 x1 x3 r 1152 l.val := by
  refine Eq.trans ?_ ((key_1 ..).trans (key_packed x0 x1 x3 r l 128 1152 (by omega) rfl))
  simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r]
  rw [load_whole harg1 x0 _ zero_zero, load_cols512 harg2 x1 1024 (by omega), load_tab harg4 x3 0 (by omega), load_tab harg4 x3 1 (by omega),
    load_tab harg4 x3 2 (by omega)]
  rfl
/-- Key chunk 2 of the run. -/
theorem run_key_2 (r : Fin 512) (l : Fin 128) : kernelRun0_A.sl.r_26 c arg1 harg1 arg2 harg2 arg4 harg4 x0 x1 x3 (ix2 r l) = packedKey x0 x1 x3 r 1280 l.val := by
  refine Eq.trans ?_ ((key_2 ..).trans (key_packed x0 x1 x3 r l 256 1280 (by omega) rfl))
  simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r]
  rw [load_whole harg1 x0 _ zero_zero, load_cols512 harg2 x1 1024 (by omega), load_tab harg4 x3 0 (by omega), load_tab harg4 x3 1 (by omega),
    load_tab harg4 x3 2 (by omega)]
  rfl
/-- Key chunk 3 of the run. -/
theorem run_key_3 (r : Fin 512) (l : Fin 128) : kernelRun0_A.sl.r_29 c arg1 harg1 arg2 harg2 arg4 harg4 x0 x1 x3 (ix2 r l) = packedKey x0 x1 x3 r 1408 l.val := by
  refine Eq.trans ?_ ((key_3 ..).trans (key_packed x0 x1 x3 r l 384 1408 (by omega) rfl))
  simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r]
  rw [load_whole harg1 x0 _ zero_zero, load_cols512 harg2 x1 1024 (by omega), load_tab harg4 x3 0 (by omega), load_tab harg4 x3 1 (by omega),
    load_tab harg4 x3 2 (by omega)]
  rfl
/-- Value chunk 0 of the run. -/
theorem run_val_0 (r : Fin 512) (l : Fin 128) : kernelRun0_A.sl.r_19 c arg1 harg1 arg2 harg2 x0 x1 (ix2 r l) = packed x0 x1 r (1536 + l.val) := by
  have e : packed x0 x1 r (1536 + l.val) = packed x0 x1 r (1536 + (0 + l.val)) := congrArg (packed x0 x1 r) (by omega)
  refine Eq.trans ?_ ((val_0 (k0_pay2 x0) (cols512 x1 1536 (by omega)) r l).trans ((col512_packed x0 x1 1536 (by omega) r _ (by omega)).trans e.symm))
  simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r]
  rw [load_whole harg1 x0 _ zero_zero, load_cols512 harg2 x1 1536 (by omega)]
  try rfl
/-- Value chunk 1 of the run. -/
theorem run_val_1 (r : Fin 512) (l : Fin 128) : kernelRun0_A.sl.r_23 c arg1 harg1 arg2 harg2 x0 x1 (ix2 r l) = packed x0 x1 r (1664 + l.val) := by
  have e : packed x0 x1 r (1664 + l.val) = packed x0 x1 r (1536 + (128 + l.val)) := congrArg (packed x0 x1 r) (by omega)
  refine Eq.trans ?_ ((val_1 (k0_pay2 x0) (cols512 x1 1536 (by omega)) r l).trans ((col512_packed x0 x1 1536 (by omega) r _ (by omega)).trans e.symm))
  simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r]
  rw [load_whole harg1 x0 _ zero_zero, load_cols512 harg2 x1 1536 (by omega)]
  try rfl
/-- Value chunk 2 of the run. -/
theorem run_val_2 (r : Fin 512) (l : Fin 128) : kernelRun0_A.sl.r_27 c arg1 harg1 arg2 harg2 x0 x1 (ix2 r l) = packed x0 x1 r (1792 + l.val) := by
  have e : packed x0 x1 r (1792 + l.val) = packed x0 x1 r (1536 + (256 + l.val)) := congrArg (packed x0 x1 r) (by omega)
  refine Eq.trans ?_ ((val_2 (k0_pay2 x0) (cols512 x1 1536 (by omega)) r l).trans ((col512_packed x0 x1 1536 (by omega) r _ (by omega)).trans e.symm))
  simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r]
  rw [load_whole harg1 x0 _ zero_zero, load_cols512 harg2 x1 1536 (by omega)]
  try rfl
/-- Value chunk 3 of the run. -/
theorem run_val_3 (r : Fin 512) (l : Fin 128) : kernelRun0_A.sl.r_30 c arg1 harg1 arg2 harg2 x0 x1 (ix2 r l) = packed x0 x1 r (1920 + l.val) := by
  have e : packed x0 x1 r (1920 + l.val) = packed x0 x1 r (1536 + (384 + l.val)) := congrArg (packed x0 x1 r) (by omega)
  refine Eq.trans ?_ ((val_3 (k0_pay2 x0) (cols512 x1 1536 (by omega)) r l).trans ((col512_packed x0 x1 1536 (by omega) r _ (by omega)).trans e.symm))
  simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r]
  rw [load_whole harg1 x0 _ zero_zero, load_cols512 harg2 x1 1536 (by omega)]
  try rfl
/-- The indexer's chunk of the run. -/
theorem run_index (r : Fin 512) (l : Fin 128) : kernelRun0_A.sl.r_36 c arg1 harg1 arg2 harg2 arg6 harg6 x0 x1 x5 (ix2 r l) = packedIndex x0 x1 x5 r l := by
  refine Eq.trans ?_ (index_packed ..)
  simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r]
  rw [load_whole harg1 x0 _ zero_zero, load_cols384 harg2 x1, load_tab harg6 x5 0 (by omega), load_tab harg6 x5 1 (by omega),
    load_tab harg6 x5 2 (by omega)]
  rfl

/-- A grid point's block of stack 1. -/
theorem out23_apply (p : Fin 4) (q : Fin 512) (o : Fin 128) : out0_A_23 c i arg1 harg1 arg2 harg2 arg3 harg3 arg4 harg4 arg5 harg5 arg6 harg6 arg7 harg7 arg8 harg8 arg9 harg9 arg10 harg10 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 (ix4 0 p q o)
    = kvBlock x0 x1 x3 1024 1536 ⟨128 * p.val + o.val, by omega⟩ q.val := by
  unfold out0_A_23 kernelRun0_A
  dsimp only
  refine (View.read_writes_junk_apply_eq_canon _ _ _).trans ?_
  canon_tiles y h
  all_goals
    obtain ⟨l, o', rfl⟩ : ∃ (l o' : Fin 128), y = ix4 (0 : Fin 1) (0 : Fin 1) l o' := ⟨y 2, y 3, by
      funext a; match a with | ⟨0, _⟩ => exact Fin.ext (by have : (y 0).val < 1 := (y 0).isLt; show (y 0).val = 0; omega) | ⟨1, _⟩ => exact Fin.ext (by have : (y 1).val < 1 := (y 1).isLt; show (y 1).val = 0; omega) | ⟨2, _⟩ => rfl | ⟨3, _⟩ => rfl⟩
    unfold kvBlock
  · have e1 : p.val = 3 := h1
    have e2 : q.val = 384 + l.val := h2
    have e3 : o.val = o'.val := h3
    rw [if_neg (by omega), if_neg (by omega)]
    refine (page_55 _ l o').trans ((run_val_1 c arg1 harg1 arg2 harg2 x0 x1 _ l).trans ?_)
    exact congrArg₂ (packed x0 x1) (Fin.ext (by show 384 + o'.val = 128 * p.val + o.val; omega)) (by omega)
  · have e1 : p.val = 3 := h1
    have e2 : q.val = 128 + l.val := h2
    have e3 : o.val = o'.val := h3
    rw [if_neg (by omega), if_pos (by omega)]
    refine (page_54 _ l o').trans ((run_key_1 c arg1 harg1 arg2 harg2 arg4 harg4 x0 x1 x3 _ l).trans ?_)
    exact congrArg₂ (packedKey x0 x1 x3 · 1152 ·) (Fin.ext (by show 384 + o'.val = 128 * p.val + o.val; omega)) (by omega)
  · have e1 : p.val = 2 := h1
    have e2 : q.val = 384 + l.val := h2
    have e3 : o.val = o'.val := h3
    rw [if_neg (by omega), if_neg (by omega)]
    refine (page_53 _ l o').trans ((run_val_1 c arg1 harg1 arg2 harg2 x0 x1 _ l).trans ?_)
    exact congrArg₂ (packed x0 x1) (Fin.ext (by show 256 + o'.val = 128 * p.val + o.val; omega)) (by omega)
  · have e1 : p.val = 2 := h1
    have e2 : q.val = 128 + l.val := h2
    have e3 : o.val = o'.val := h3
    rw [if_neg (by omega), if_pos (by omega)]
    refine (page_52 _ l o').trans ((run_key_1 c arg1 harg1 arg2 harg2 arg4 harg4 x0 x1 x3 _ l).trans ?_)
    exact congrArg₂ (packedKey x0 x1 x3 · 1152 ·) (Fin.ext (by show 256 + o'.val = 128 * p.val + o.val; omega)) (by omega)
  · have e1 : p.val = 1 := h1
    have e2 : q.val = 384 + l.val := h2
    have e3 : o.val = o'.val := h3
    rw [if_neg (by omega), if_neg (by omega)]
    refine (page_51 _ l o').trans ((run_val_1 c arg1 harg1 arg2 harg2 x0 x1 _ l).trans ?_)
    exact congrArg₂ (packed x0 x1) (Fin.ext (by show 128 + o'.val = 128 * p.val + o.val; omega)) (by omega)
  · have e1 : p.val = 1 := h1
    have e2 : q.val = 128 + l.val := h2
    have e3 : o.val = o'.val := h3
    rw [if_neg (by omega), if_pos (by omega)]
    refine (page_50 _ l o').trans ((run_key_1 c arg1 harg1 arg2 harg2 arg4 harg4 x0 x1 x3 _ l).trans ?_)
    exact congrArg₂ (packedKey x0 x1 x3 · 1152 ·) (Fin.ext (by show 128 + o'.val = 128 * p.val + o.val; omega)) (by omega)
  · have e1 : p.val = 0 := h1
    have e2 : q.val = 384 + l.val := h2
    have e3 : o.val = o'.val := h3
    rw [if_neg (by omega), if_neg (by omega)]
    refine (page_49 _ l o').trans ((run_val_1 c arg1 harg1 arg2 harg2 x0 x1 _ l).trans ?_)
    exact congrArg₂ (packed x0 x1) (Fin.ext (by show 0 + o'.val = 128 * p.val + o.val; omega)) (by omega)
  · have e1 : p.val = 0 := h1
    have e2 : q.val = 128 + l.val := h2
    have e3 : o.val = o'.val := h3
    rw [if_neg (by omega), if_pos (by omega)]
    refine (page_48 _ l o').trans ((run_key_1 c arg1 harg1 arg2 harg2 arg4 harg4 x0 x1 x3 _ l).trans ?_)
    exact congrArg₂ (packedKey x0 x1 x3 · 1152 ·) (Fin.ext (by show 0 + o'.val = 128 * p.val + o.val; omega)) (by omega)
  · have e1 : p.val = 3 := h1
    have e2 : q.val = 256 + l.val := h2
    have e3 : o.val = o'.val := h3
    rw [if_neg (by omega), if_neg (by omega)]
    refine (page_42 _ l o').trans ((run_val_0 c arg1 harg1 arg2 harg2 x0 x1 _ l).trans ?_)
    exact congrArg₂ (packed x0 x1) (Fin.ext (by show 384 + o'.val = 128 * p.val + o.val; omega)) (by omega)
  · have e1 : p.val = 3 := h1
    have e2 : q.val = l.val := h2
    have e3 : o.val = o'.val := h3
    rw [if_pos (by omega)]
    refine (page_41 _ l o').trans ((run_key_0 c arg1 harg1 arg2 harg2 arg4 harg4 x0 x1 x3 _ l).trans ?_)
    exact congrArg₂ (packedKey x0 x1 x3 · 1024 ·) (Fin.ext (by show 384 + o'.val = 128 * p.val + o.val; omega)) (by omega)
  · have e1 : p.val = 2 := h1
    have e2 : q.val = 256 + l.val := h2
    have e3 : o.val = o'.val := h3
    rw [if_neg (by omega), if_neg (by omega)]
    refine (page_40 _ l o').trans ((run_val_0 c arg1 harg1 arg2 harg2 x0 x1 _ l).trans ?_)
    exact congrArg₂ (packed x0 x1) (Fin.ext (by show 256 + o'.val = 128 * p.val + o.val; omega)) (by omega)
  · have e1 : p.val = 2 := h1
    have e2 : q.val = l.val := h2
    have e3 : o.val = o'.val := h3
    rw [if_pos (by omega)]
    refine (page_39 _ l o').trans ((run_key_0 c arg1 harg1 arg2 harg2 arg4 harg4 x0 x1 x3 _ l).trans ?_)
    exact congrArg₂ (packedKey x0 x1 x3 · 1024 ·) (Fin.ext (by show 256 + o'.val = 128 * p.val + o.val; omega)) (by omega)
  · have e1 : p.val = 1 := h1
    have e2 : q.val = 256 + l.val := h2
    have e3 : o.val = o'.val := h3
    rw [if_neg (by omega), if_neg (by omega)]
    refine (page_37 _ l o').trans ((run_val_0 c arg1 harg1 arg2 harg2 x0 x1 _ l).trans ?_)
    exact congrArg₂ (packed x0 x1) (Fin.ext (by show 128 + o'.val = 128 * p.val + o.val; omega)) (by omega)
  · have e1 : p.val = 1 := h1
    have e2 : q.val = l.val := h2
    have e3 : o.val = o'.val := h3
    rw [if_pos (by omega)]
    refine (page_36 _ l o').trans ((run_key_0 c arg1 harg1 arg2 harg2 arg4 harg4 x0 x1 x3 _ l).trans ?_)
    exact congrArg₂ (packedKey x0 x1 x3 · 1024 ·) (Fin.ext (by show 128 + o'.val = 128 * p.val + o.val; omega)) (by omega)
  · have e1 : p.val = 0 := h1
    have e2 : q.val = 256 + l.val := h2
    have e3 : o.val = o'.val := h3
    rw [if_neg (by omega), if_neg (by omega)]
    refine (page_35 _ l o').trans ((run_val_0 c arg1 harg1 arg2 harg2 x0 x1 _ l).trans ?_)
    exact congrArg₂ (packed x0 x1) (Fin.ext (by show 0 + o'.val = 128 * p.val + o.val; omega)) (by omega)
  · have e1 : p.val = 0 := h1
    have e2 : q.val = l.val := h2
    have e3 : o.val = o'.val := h3
    rw [if_pos (by omega)]
    refine (page_34 _ l o').trans ((run_key_0 c arg1 harg1 arg2 harg2 arg4 harg4 x0 x1 x3 _ l).trans ?_)
    exact congrArg₂ (packedKey x0 x1 x3 · 1024 ·) (Fin.ext (by show 0 + o'.val = 128 * p.val + o.val; omega)) (by omega)
/-- A grid point's block of stack 2. -/
theorem out24_apply (p : Fin 4) (q : Fin 512) (o : Fin 128) : out0_A_24 c i arg1 harg1 arg2 harg2 arg3 harg3 arg4 harg4 arg5 harg5 arg6 harg6 arg7 harg7 arg8 harg8 arg9 harg9 arg10 harg10 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 (ix4 0 p q o)
    = kvBlock x0 x1 x3 1280 1792 ⟨128 * p.val + o.val, by omega⟩ q.val := by
  unfold out0_A_24 kernelRun0_A
  dsimp only
  refine (View.read_writes_junk_apply_eq_canon _ _ _).trans ?_
  canon_tiles y h
  all_goals
    obtain ⟨l, o', rfl⟩ : ∃ (l o' : Fin 128), y = ix4 (0 : Fin 1) (0 : Fin 1) l o' := ⟨y 2, y 3, by
      funext a; match a with | ⟨0, _⟩ => exact Fin.ext (by have : (y 0).val < 1 := (y 0).isLt; show (y 0).val = 0; omega) | ⟨1, _⟩ => exact Fin.ext (by have : (y 1).val < 1 := (y 1).isLt; show (y 1).val = 0; omega) | ⟨2, _⟩ => rfl | ⟨3, _⟩ => rfl⟩
    unfold kvBlock
  · have e1 : p.val = 3 := h1
    have e2 : q.val = 384 + l.val := h2
    have e3 : o.val = o'.val := h3
    rw [if_neg (by omega), if_neg (by omega)]
    refine (page_83 _ l o').trans ((run_val_3 c arg1 harg1 arg2 harg2 x0 x1 _ l).trans ?_)
    exact congrArg₂ (packed x0 x1) (Fin.ext (by show 384 + o'.val = 128 * p.val + o.val; omega)) (by omega)
  · have e1 : p.val = 3 := h1
    have e2 : q.val = 128 + l.val := h2
    have e3 : o.val = o'.val := h3
    rw [if_neg (by omega), if_pos (by omega)]
    refine (page_82 _ l o').trans ((run_key_3 c arg1 harg1 arg2 harg2 arg4 harg4 x0 x1 x3 _ l).trans ?_)
    exact congrArg₂ (packedKey x0 x1 x3 · 1408 ·) (Fin.ext (by show 384 + o'.val = 128 * p.val + o.val; omega)) (by omega)
  · have e1 : p.val = 2 := h1
    have e2 : q.val = 384 + l.val := h2
    have e3 : o.val = o'.val := h3
    rw [if_neg (by omega), if_neg (by omega)]
    refine (page_81 _ l o').trans ((run_val_3 c arg1 harg1 arg2 harg2 x0 x1 _ l).trans ?_)
    exact congrArg₂ (packed x0 x1) (Fin.ext (by show 256 + o'.val = 128 * p.val + o.val; omega)) (by omega)
  · have e1 : p.val = 2 := h1
    have e2 : q.val = 128 + l.val := h2
    have e3 : o.val = o'.val := h3
    rw [if_neg (by omega), if_pos (by omega)]
    refine (page_80 _ l o').trans ((run_key_3 c arg1 harg1 arg2 harg2 arg4 harg4 x0 x1 x3 _ l).trans ?_)
    exact congrArg₂ (packedKey x0 x1 x3 · 1408 ·) (Fin.ext (by show 256 + o'.val = 128 * p.val + o.val; omega)) (by omega)
  · have e1 : p.val = 1 := h1
    have e2 : q.val = 384 + l.val := h2
    have e3 : o.val = o'.val := h3
    rw [if_neg (by omega), if_neg (by omega)]
    refine (page_79 _ l o').trans ((run_val_3 c arg1 harg1 arg2 harg2 x0 x1 _ l).trans ?_)
    exact congrArg₂ (packed x0 x1) (Fin.ext (by show 128 + o'.val = 128 * p.val + o.val; omega)) (by omega)
  · have e1 : p.val = 1 := h1
    have e2 : q.val = 128 + l.val := h2
    have e3 : o.val = o'.val := h3
    rw [if_neg (by omega), if_pos (by omega)]
    refine (page_77 _ l o').trans ((run_key_3 c arg1 harg1 arg2 harg2 arg4 harg4 x0 x1 x3 _ l).trans ?_)
    exact congrArg₂ (packedKey x0 x1 x3 · 1408 ·) (Fin.ext (by show 128 + o'.val = 128 * p.val + o.val; omega)) (by omega)
  · have e1 : p.val = 0 := h1
    have e2 : q.val = 384 + l.val := h2
    have e3 : o.val = o'.val := h3
    rw [if_neg (by omega), if_neg (by omega)]
    refine (page_76 _ l o').trans ((run_val_3 c arg1 harg1 arg2 harg2 x0 x1 _ l).trans ?_)
    exact congrArg₂ (packed x0 x1) (Fin.ext (by show 0 + o'.val = 128 * p.val + o.val; omega)) (by omega)
  · have e1 : p.val = 0 := h1
    have e2 : q.val = 128 + l.val := h2
    have e3 : o.val = o'.val := h3
    rw [if_neg (by omega), if_pos (by omega)]
    refine (page_75 _ l o').trans ((run_key_3 c arg1 harg1 arg2 harg2 arg4 harg4 x0 x1 x3 _ l).trans ?_)
    exact congrArg₂ (packedKey x0 x1 x3 · 1408 ·) (Fin.ext (by show 0 + o'.val = 128 * p.val + o.val; omega)) (by omega)
  · have e1 : p.val = 3 := h1
    have e2 : q.val = 256 + l.val := h2
    have e3 : o.val = o'.val := h3
    rw [if_neg (by omega), if_neg (by omega)]
    refine (page_69 _ l o').trans ((run_val_2 c arg1 harg1 arg2 harg2 x0 x1 _ l).trans ?_)
    exact congrArg₂ (packed x0 x1) (Fin.ext (by show 384 + o'.val = 128 * p.val + o.val; omega)) (by omega)
  · have e1 : p.val = 3 := h1
    have e2 : q.val = l.val := h2
    have e3 : o.val = o'.val := h3
    rw [if_pos (by omega)]
    refine (page_68 _ l o').trans ((run_key_2 c arg1 harg1 arg2 harg2 arg4 harg4 x0 x1 x3 _ l).trans ?_)
    exact congrArg₂ (packedKey x0 x1 x3 · 1280 ·) (Fin.ext (by show 384 + o'.val = 128 * p.val + o.val; omega)) (by omega)
  · have e1 : p.val = 2 := h1
    have e2 : q.val = 256 + l.val := h2
    have e3 : o.val = o'.val := h3
    rw [if_neg (by omega), if_neg (by omega)]
    refine (page_67 _ l o').trans ((run_val_2 c arg1 harg1 arg2 harg2 x0 x1 _ l).trans ?_)
    exact congrArg₂ (packed x0 x1) (Fin.ext (by show 256 + o'.val = 128 * p.val + o.val; omega)) (by omega)
  · have e1 : p.val = 2 := h1
    have e2 : q.val = l.val := h2
    have e3 : o.val = o'.val := h3
    rw [if_pos (by omega)]
    refine (page_66 _ l o').trans ((run_key_2 c arg1 harg1 arg2 harg2 arg4 harg4 x0 x1 x3 _ l).trans ?_)
    exact congrArg₂ (packedKey x0 x1 x3 · 1280 ·) (Fin.ext (by show 256 + o'.val = 128 * p.val + o.val; omega)) (by omega)
  · have e1 : p.val = 1 := h1
    have e2 : q.val = 256 + l.val := h2
    have e3 : o.val = o'.val := h3
    rw [if_neg (by omega), if_neg (by omega)]
    refine (page_65 _ l o').trans ((run_val_2 c arg1 harg1 arg2 harg2 x0 x1 _ l).trans ?_)
    exact congrArg₂ (packed x0 x1) (Fin.ext (by show 128 + o'.val = 128 * p.val + o.val; omega)) (by omega)
  · have e1 : p.val = 1 := h1
    have e2 : q.val = l.val := h2
    have e3 : o.val = o'.val := h3
    rw [if_pos (by omega)]
    refine (page_63 _ l o').trans ((run_key_2 c arg1 harg1 arg2 harg2 arg4 harg4 x0 x1 x3 _ l).trans ?_)
    exact congrArg₂ (packedKey x0 x1 x3 · 1280 ·) (Fin.ext (by show 128 + o'.val = 128 * p.val + o.val; omega)) (by omega)
  · have e1 : p.val = 0 := h1
    have e2 : q.val = 256 + l.val := h2
    have e3 : o.val = o'.val := h3
    rw [if_neg (by omega), if_neg (by omega)]
    refine (page_62 _ l o').trans ((run_val_2 c arg1 harg1 arg2 harg2 x0 x1 _ l).trans ?_)
    exact congrArg₂ (packed x0 x1) (Fin.ext (by show 0 + o'.val = 128 * p.val + o.val; omega)) (by omega)
  · have e1 : p.val = 0 := h1
    have e2 : q.val = l.val := h2
    have e3 : o.val = o'.val := h3
    rw [if_pos (by omega)]
    refine (page_61 _ l o').trans ((run_key_2 c arg1 harg1 arg2 harg2 arg4 harg4 x0 x1 x3 _ l).trans ?_)
    exact congrArg₂ (packedKey x0 x1 x3 · 1280 ·) (Fin.ext (by show 0 + o'.val = 128 * p.val + o.val; omega)) (by omega)
/-- A grid point's block of the indexer keys' stack. -/
theorem out25_apply (p : Fin 4) (q : Fin 32) (o : Fin 128) : out0_A_25 c i arg1 harg1 arg2 harg2 arg3 harg3 arg4 harg4 arg5 harg5 arg6 harg6 arg7 harg7 arg8 harg8 arg9 harg9 arg10 harg10 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 (ix4 0 p q o)
    = packedIndex x0 x1 x5 ⟨128 * p.val + o.val, by omega⟩ ⟨q.val, by omega⟩ := by
  unfold out0_A_25 kernelRun0_A
  dsimp only
  refine (View.read_writes_junk_apply_eq_canon _ _ _).trans ?_
  canon_tiles y h
  all_goals
    obtain ⟨l, o', rfl⟩ : ∃ (l : Fin 32) (o' : Fin 128), y = ix4 (0 : Fin 1) (0 : Fin 1) l o' := ⟨y 2, y 3, by
      funext a; match a with | ⟨0, _⟩ => exact Fin.ext (by have : (y 0).val < 1 := (y 0).isLt; show (y 0).val = 0; omega) | ⟨1, _⟩ => exact Fin.ext (by have : (y 1).val < 1 := (y 1).isLt; show (y 1).val = 0; omega) | ⟨2, _⟩ => rfl | ⟨3, _⟩ => rfl⟩
  · have e1 : p.val = 3 := h1
    have e2 : q.val = l.val := h2
    have e3 : o.val = o'.val := h3
    refine (page_97 _ l o').trans ((run_index c arg1 harg1 arg2 harg2 arg6 harg6 x0 x1 x5 _ _).trans ?_)
    exact congrArg₂ (packedIndex x0 x1 x5) (Fin.ext (by show 384 + o'.val = 128 * p.val + o.val; omega)) (Fin.ext (by show l.val = q.val; omega))
  · have e1 : p.val = 2 := h1
    have e2 : q.val = l.val := h2
    have e3 : o.val = o'.val := h3
    refine (page_96 _ l o').trans ((run_index c arg1 harg1 arg2 harg2 arg6 harg6 x0 x1 x5 _ _).trans ?_)
    exact congrArg₂ (packedIndex x0 x1 x5) (Fin.ext (by show 256 + o'.val = 128 * p.val + o.val; omega)) (Fin.ext (by show l.val = q.val; omega))
  · have e1 : p.val = 1 := h1
    have e2 : q.val = l.val := h2
    have e3 : o.val = o'.val := h3
    refine (page_95 _ l o').trans ((run_index c arg1 harg1 arg2 harg2 arg6 harg6 x0 x1 x5 _ _).trans ?_)
    exact congrArg₂ (packedIndex x0 x1 x5) (Fin.ext (by show 128 + o'.val = 128 * p.val + o.val; omega)) (Fin.ext (by show l.val = q.val; omega))
  · have e1 : p.val = 0 := h1
    have e2 : q.val = l.val := h2
    have e3 : o.val = o'.val := h3
    refine (page_94 _ l o').trans ((run_index c arg1 harg1 arg2 harg2 arg6 harg6 x0 x1 x5 _ _).trans ?_)
    exact congrArg₂ (packedIndex x0 x1 x5) (Fin.ext (by show 0 + o'.val = 128 * p.val + o.val; omega)) (Fin.ext (by show l.val = q.val; omega))
end Cert.PagesProof
-- ==== Proof.Pages.Tables.lean ====
module
public import proofs.«01_k».proof.Proof.Gen.PagesIdeal.Value
public import proofs.«01_k».proof.Proof.Rows.Tables

/-! The host's rotary tables and packed weights. -/

@[expose] public section
set_option maxRecDepth 16384
noncomputable section
namespace Cert.PagesProof
open Cert.RowsProof (cosAt sinBefore sinAfter select_lane)
open Cert.PagesIdeal Cert.PagesIdeal.Gen Idealize.ShloMosaic Idealize.ShloMosaic.Pipeline Idealize.ShloMosaic.TcCoe Idealize.SL.Sem

/-- The frequencies of a 64-lane head's eight pairs. -/
def freq64 : FVec Ideal S8 .f32 := Host.powf (broadcastInDim S8 ![] bcast_S_S8 (constant S_ .f32 0x48F42400#32))
  (Host.divf (Host.negf (sitofp .f32 (iotaInDim S8 32 0))) (broadcastInDim S8 ![] bcast_S_S8 (constant S_ .f32 0x41000000#32)))
/-- The angles of a row's eight pairs. -/
def ang64 : FVec Ideal S4096x8 .f32 :=
  mulf (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1 freq64))
/-- A head's table repeated over the 128 lanes. -/
def slab64 (x : FVec Ideal S4096x64 .f32) : FVec Ideal S1x4096x128 .f32 :=
  broadcastInDim S1x4096x128 ![1, 2] bcast_S4096x128_S1x4096x128_1_2 (shapeCast S4096x128
    (broadcastInDim S1x4096x2x64 ![0, 1, 2, 3] bcast_S1x4096x1x64_S1x4096x2x64_0_1_2_3 (shapeCast S1x4096x1x64 x shapeCasts_S4096x64_S1x4096x1x64))
    shapeCasts_S1x4096x2x64_S4096x128)
/-- The three tables of 64-lane heads. -/
def tab64 : FVec Ideal S3x4096x128 .f32 :=
  concatenate S3x4096x128 0 [
    ⟨S1x4096x128, slab64 (concatenate S4096x64 1 [⟨S4096x8, Host.cos ang64⟩, ⟨S4096x8, Host.cos ang64⟩,
      ⟨S4096x48, broadcastInDim S4096x48 ![] bcast_S_S4096x48 (constant S_ .f32 0x3F800000#32)⟩] concatenates_S4096x8_S4096x8_S4096x48_S4096x64_d1)⟩,
    ⟨S1x4096x128, slab64 (concatenate S4096x64 1 [⟨S4096x8, broadcastInDim S4096x8 ![] bcast_S_S4096x8 (constant S_ .f32 0x00000000#32)⟩,
      ⟨S4096x8, Host.sin ang64⟩, ⟨S4096x48, broadcastInDim S4096x48 ![] bcast_S_S4096x48 (constant S_ .f32 0x00000000#32)⟩]
      concatenates_S4096x8_S4096x8_S4096x48_S4096x64_d1)⟩,
    ⟨S1x4096x128, slab64 (concatenate S4096x64 1 [⟨S4096x8, Host.negf (Host.sin ang64)⟩,
      ⟨S4096x56, broadcastInDim S4096x56 ![] bcast_S_S4096x56 (constant S_ .f32 0x00000000#32)⟩] concatenates_S4096x8_S4096x56_S4096x64_d1)⟩]
    concatenates_S1x4096x128_S1x4096x128_S1x4096x128_S3x4096x128_d0

theorem tab64_0 (r : Fin 4096) (l : Fin 128) : tab64 (ix3 0 r l) = cosAt (BitVec.ofNat 32 r.val) 0x41000000#32 8 (l.val % 64) := by
  pointwise [tab64, slab64, ang64, freq64]
  rfl
theorem tab64_1 (r : Fin 4096) (l : Fin 128) : tab64 (ix3 1 r l) = sinBefore (BitVec.ofNat 32 r.val) 0x41000000#32 8 (l.val % 64) := by
  pointwise [tab64, slab64, ang64, freq64]
  rfl
theorem tab64_2 (r : Fin 4096) (l : Fin 128) : tab64 (ix3 2 r l) = sinAfter (BitVec.ofNat 32 r.val) 0x41000000#32 8 (l.val % 64) := by
  pointwise [tab64, slab64, ang64, freq64]
  rfl

/-- The frequencies of a 32-lane head's four pairs. -/
def freq32 : FVec Ideal S4 .f32 := Host.powf (broadcastInDim S4 ![] bcast_S_S4 (constant S_ .f32 0x48F42400#32))
  (Host.divf (Host.negf (sitofp .f32 (iotaInDim S4 32 0))) (broadcastInDim S4 ![] bcast_S_S4 (constant S_ .f32 0x40800000#32)))
/-- The angles of a row's four pairs. -/
def ang32 : FVec Ideal S4096x4 .f32 :=
  mulf (broadcastInDim S4096x4 ![0, 1] bcast_S4096x1_S4096x4_0_1 (broadcastInDim S4096x1 ![0] bcast_S4096_S4096x1_0 (sitofp .f32 (iotaInDim S4096 32 0))))
    (broadcastInDim S4096x4 ![0, 1] bcast_S1x4_S4096x4_0_1 (broadcastInDim S1x4 ![1] bcast_S4_S1x4_1 freq32))
/-- A head's table repeated over the 128 lanes. -/
def slab32 (x : FVec Ideal S4096x32 .f32) : FVec Ideal S1x4096x128 .f32 :=
  broadcastInDim S1x4096x128 ![1, 2] bcast_S4096x128_S1x4096x128_1_2 (shapeCast S4096x128
    (broadcastInDim S1x4096x4x32 ![0, 1, 2, 3] bcast_S1x4096x1x32_S1x4096x4x32_0_1_2_3 (shapeCast S1x4096x1x32 x shapeCasts_S4096x32_S1x4096x1x32))
    shapeCasts_S1x4096x4x32_S4096x128)
/-- The three tables of 32-lane heads. -/
def tab32 : FVec Ideal S3x4096x128 .f32 :=
  concatenate S3x4096x128 0 [
    ⟨S1x4096x128, slab32 (concatenate S4096x32 1 [⟨S4096x4, Host.cos ang32⟩, ⟨S4096x4, Host.cos ang32⟩,
      ⟨S4096x24, broadcastInDim S4096x24 ![] bcast_S_S4096x24 (constant S_ .f32 0x3F800000#32)⟩] concatenates_S4096x4_S4096x4_S4096x24_S4096x32_d1)⟩,
    ⟨S1x4096x128, slab32 (concatenate S4096x32 1 [⟨S4096x4, broadcastInDim S4096x4 ![] bcast_S_S4096x4 (constant S_ .f32 0x00000000#32)⟩,
      ⟨S4096x4, Host.sin ang32⟩, ⟨S4096x24, broadcastInDim S4096x24 ![] bcast_S_S4096x24 (constant S_ .f32 0x00000000#32)⟩]
      concatenates_S4096x4_S4096x4_S4096x24_S4096x32_d1)⟩,
    ⟨S1x4096x128, slab32 (concatenate S4096x32 1 [⟨S4096x4, Host.negf (Host.sin ang32)⟩,
      ⟨S4096x28, broadcastInDim S4096x28 ![] bcast_S_S4096x28 (constant S_ .f32 0x00000000#32)⟩] concatenates_S4096x4_S4096x28_S4096x32_d1)⟩]
    concatenates_S1x4096x128_S1x4096x128_S1x4096x128_S3x4096x128_d0
/-- The tables that leave every lane as it is. -/
def tabId : FVec Ideal S3x4096x128 .f32 :=
  concatenate S3x4096x128 0 [
    ⟨S1x4096x128, broadcastInDim S1x4096x128 ![1, 2] bcast_S4096x128_S1x4096x128_1_2 (broadcastInDim S4096x128 ![] bcast_S_S4096x128 (constant S_ .f32 0x3F800000#32))⟩,
    ⟨S1x4096x128, broadcastInDim S1x4096x128 ![1, 2] bcast_S4096x128_S1x4096x128_1_2 (broadcastInDim S4096x128 ![] bcast_S_S4096x128 (constant S_ .f32 0x00000000#32))⟩,
    ⟨S1x4096x128, broadcastInDim S1x4096x128 ![1, 2] bcast_S4096x128_S1x4096x128_1_2 (broadcastInDim S4096x128 ![] bcast_S_S4096x128 (constant S_ .f32 0x00000000#32))⟩]
    concatenates_S1x4096x128_S1x4096x128_S1x4096x128_S3x4096x128_d0
/-- The indexer's tables: those of 32-lane heads on the first 32 lanes. -/
def tabIx : FVec Ideal S3x4096x128 .f32 :=
  select (broadcastInDim S3x4096x128 ![0, 1, 2] bcast_S1x1x128_S3x4096x128_0_1_2 (broadcastInDim S1x1x128 ![2] bcast_S128_S1x1x128_2
    (cmpi .slt (iotaInDim S128 32 0) (broadcastInDim S128 ![] bcast_S_S128 (constantI S_ 32 32#32))))) tab32 tabId

theorem tabIx_0 (r : Fin 4096) (l : Fin 128) : tabIx (ix3 0 r l) = if l.val < 32 then cosAt (BitVec.ofNat 32 r.val) 0x40800000#32 4 (l.val % 32) else 1 := by
  pointwise [tabIx, tab32, tabId, slab32, ang32, freq32]
  exact select_lane ..
theorem tabIx_1 (r : Fin 4096) (l : Fin 128) : tabIx (ix3 1 r l) = if l.val < 32 then sinBefore (BitVec.ofNat 32 r.val) 0x40800000#32 4 (l.val % 32) else 0 := by
  pointwise [tabIx, tab32, tabId, slab32, ang32, freq32]
  exact select_lane ..
theorem tabIx_2 (r : Fin 4096) (l : Fin 128) : tabIx (ix3 2 r l) = if l.val < 32 then sinAfter (BitVec.ofNat 32 r.val) 0x40800000#32 4 (l.val % 32) else 0 := by
  pointwise [tabIx, tab32, tabId, slab32, ang32, freq32]
  exact select_lane ..

/-- The packed projection weights. -/
def packM (W : FVec Ideal S1024x6440 .f32) : FVec Ideal S1024x2432 .f32 :=
  concatenate S1024x2432 1 [⟨S1024x512, extractStridedSlice S1024x512 ![0, 0] W slices_S1024x6440_S1024x512_0_0⟩,
    ⟨S1024x512, extractStridedSlice S1024x512 ![0, 1024] W slices_S1024x6440_S1024x512_0_1024⟩,
    ⟨S1024x256, extractStridedSlice S1024x256 ![0, 512] W slices_S1024x6440_S1024x256_0_512⟩,
    ⟨S1024x256, extractStridedSlice S1024x256 ![0, 1536] W slices_S1024x6440_S1024x256_0_1536⟩,
    ⟨S1024x256, extractStridedSlice S1024x256 ![0, 768] W slices_S1024x6440_S1024x256_0_768⟩,
    ⟨S1024x256, extractStridedSlice S1024x256 ![0, 1792] W slices_S1024x6440_S1024x256_0_1792⟩,
    ⟨S1024x256, extractStridedSlice S1024x256 ![0, 2048] W slices_S1024x6440_S1024x256_0_2048⟩,
    ⟨S1024x32, extractStridedSlice S1024x32 ![0, 2304] W slices_S1024x6440_S1024x32_0_2304⟩,
    ⟨S1024x8, extractStridedSlice S1024x8 ![0, 2336] W slices_S1024x6440_S1024x8_0_2336⟩,
    ⟨S1024x88, broadcastInDim S1024x88 ![] bcast_S_S1024x88 (constant S_ .f32 0x00000000#32)⟩]
    concatenates_S1024x512_S1024x512_S1024x256_S1024x256_S1024x256_S1024x256_S1024x256_S1024x32_S1024x8_S1024x88_S1024x2432_d1

theorem packM_eq (W : FVec Ideal S1024x6440 .f32) : packM W = Cert.RowsProof.packM W := rfl

end Cert.PagesProof
-- ==== Proof.Pages.EntryTab.lean ====
module
public import proofs.«01_k».proof.Proof.Pages.Tables

/-! The 64-lane tables as the kernel finds them. -/

@[expose] public section
set_option maxRecDepth 16384
noncomputable section
namespace Cert.PagesProof
open Cert.PagesIdeal Cert.PagesIdeal.Gen Idealize.ShloMosaic Idealize.ShloMosaic.Pipeline Idealize.ShloMosaic.TcCoe Idealize.SL.Sem
variable (m : (ℓ : Loc nD τ sig) → Buf (Elt Ideal) ℓ) (c : Dev nD)

set_option maxHeartbeats 40000000 in
/-- The 64-lane tables' entry. -/
theorem entry_v51 : V m c main_v51 = tab64 := rfl
end Cert.PagesProof
-- ==== Proof.Pages.EntryIx.lean ====
module
public import proofs.«01_k».proof.Proof.Pages.Tables

/-! The indexer tables as the kernel finds them. -/

@[expose] public section
set_option maxRecDepth 16384
noncomputable section
namespace Cert.PagesProof
open Cert.PagesIdeal Cert.PagesIdeal.Gen Idealize.ShloMosaic Idealize.ShloMosaic.Pipeline Idealize.ShloMosaic.TcCoe Idealize.SL.Sem
variable (m : (ℓ : Loc nD τ sig) → Buf (Elt Ideal) ℓ) (c : Dev nD)

set_option maxHeartbeats 40000000 in
/-- The indexer tables' entry. -/
theorem entry_v133 : V m c main_v133 = tabIx := rfl
end Cert.PagesProof
-- ==== Proof.Pages.EntryArgs.lean ====
module
public import proofs.«01_k».proof.Proof.Pages.Tables

/-! The packed weights and rows as the kernel finds them. -/

@[expose] public section
set_option maxRecDepth 16384
noncomputable section
namespace Cert.PagesProof
open Cert.PagesIdeal Cert.PagesIdeal.Gen Idealize.ShloMosaic Idealize.ShloMosaic.Pipeline Idealize.ShloMosaic.TcCoe Idealize.SL.Sem
variable (m : (ℓ : Loc nD τ sig) → Buf (Elt Ideal) ℓ) (c : Dev nD)

set_option maxHeartbeats 40000000 in
/-- The packed projection weights. -/
theorem entry_v11 : V m c main_v11 = truncf .bf16 (packM (m ((c : Thread nD τ).loc main_arg1))) bitsLt_bf16_f32 := rfl
set_option maxHeartbeats 40000000 in
/-- The rows. -/
theorem entry_v138 : V m c main_v138 = shapeCast S16384x1024 (m ((c : Thread nD τ).loc main_arg0) : FVec Ideal S4x4096x1024 .f32) shapeCasts_S4x4096x1024_S16384x1024 := rfl

/-- The stacked prompts' rows. -/
theorem rows_apply (y : FVec Ideal S4x4096x1024 .f32) (r : Fin 16384) (k : Fin 1024) :
    shapeCast S16384x1024 y shapeCasts_S4x4096x1024_S16384x1024 (ix2 r k) = y (ix3 ⟨r.val / 4096, by omega⟩ ⟨r.val % 4096, by omega⟩ k) :=
  shapeCast_apply y shapeCasts_S4x4096x1024_S16384x1024 (ix2 r k) (ix3 ⟨r.val / 4096, by omega⟩ ⟨r.val % 4096, by omega⟩ k)
    (by rewrite [Shape.rowMajor_val_three, Shape.rowMajor_val_two]
        show (r.val / 4096 * 4096 + r.val % 4096) * 1024 + k.val = r.val * 1024 + k.val
        omega)
theorem entry_v138_apply (r : Fin 16384) (k : Fin 1024) :
    V m c main_v138 (ix2 r k) = m ((c : Thread nD τ).loc main_arg0) (ix3 ⟨r.val / 4096, by omega⟩ ⟨r.val % 4096, by omega⟩ k) := by
  rw [entry_v138]
  exact rows_apply ..

set_option maxHeartbeats 40000000 in
/-- The stacks' first contents are the stacks given. -/
theorem entry_23 : V m c main_v145_13 = m ((c : Thread nD τ).loc main_arg6) := rfl
set_option maxHeartbeats 40000000 in
theorem entry_24 : V m c main_v145_14 = m ((c : Thread nD τ).loc main_arg7) := rfl
set_option maxHeartbeats 40000000 in
theorem entry_25 : V m c main_v145_15 = m ((c : Thread nD τ).loc main_arg8) := rfl
end Cert.PagesProof
-- ==== Proof.Pages.Array.lean ====
module
public import proofs.«01_k».proof.Proof.Pages.Kernel
public import proofs.«01_k».proof.Proof.Pages.Reference
public import proofs.«01_k».proof.Proof.Pages.EntryTab
public import proofs.«01_k».proof.Proof.Pages.EntryIx
public import proofs.«01_k».proof.Proof.Pages.EntryArgs

/-! The prompt projection's three stacks of pages, read from its arguments. -/

@[expose] public section
set_option maxRecDepth 16384
noncomputable section
namespace Cert.PagesProof
open Cert.RowsProof (column chunk roped cosAt sinBefore sinAfter chunk_roped64 chunk_roped32 kvRow ixRow packM_ka packM_kc packM_va packM_vc packM_ik)
open Cert.PagesIdeal Cert.PagesIdeal.Gen Idealize.ShloMosaic Idealize.ShloMosaic.Pipeline Idealize.ShloMosaic.TcCoe Idealize.SL.Sem

section
variable (x : Vec Ideal S512x1024 .f32) (w : Vec Ideal S1024x2432 .bf16) (t : Vec Ideal S3x512x128 .f32) (r : Fin 512) (p : BitVec 32) (f : Nat → EReal)

/-- A key-value block whose columns are `f`'s and whose tables are the rotary ones is the turned row. -/
theorem kvBlock_kvRow (ko vo ko' vo' : Nat) (hk : ∀ n, n < 256 → packed x w r (ko + n) = f (ko' + n))
    (hv : ∀ n, n < 256 → packed x w r (vo + n) = f (vo' + n)) (h0 : ∀ l : Fin 128, t (ix3 0 r l) = cosAt p 0x41000000#32 8 (l.val % 64))
    (h1 : ∀ l : Fin 128, t (ix3 1 r l) = sinBefore p 0x41000000#32 8 (l.val % 64))
    (h2 : ∀ l : Fin 128, t (ix3 2 r l) = sinAfter p 0x41000000#32 8 (l.val % 64)) (q : Nat) (hq : q < 512) :
    kvBlock x w t ko vo r q = kvRow p ko' vo' f q := by
  unfold kvBlock kvRow packedKey
  by_cases a : q < 128
  · rw [if_pos a, dif_pos a, if_pos (show q < 256 by omega)]
    refine (chunk_congr 8 _ (fun n => f (ko' + n)) _ _ _ _ _ _ q a (fun n hn => hk n (by omega)) (h0 _) (h1 _) (h2 _)).trans ?_
    exact chunk_roped64 p 0x41000000#32 (fun n => f (ko' + n)) q a
  · by_cases b : q < 256
    · rw [if_neg a, if_pos b, if_pos b, dif_pos (show q - 128 < 128 by omega)]
      refine (chunk_congr 8 _ (fun n => f (ko' + (128 + n))) _ _ _ _ _ _ (q - 128) (by omega) (fun n hn => ?_) (h0 _) (h1 _) (h2 _)).trans ?_
      · rw [Nat.add_assoc]
        exact hk _ (by omega)
      · refine (chunk_roped64 p 0x41000000#32 (fun n => f (ko' + (128 + n))) (q - 128) (by omega)).trans ?_
        rw [show (q - 128) % 64 = q % 64 by omega]
        refine congrArg (fun h => roped _ _ _ h _) (funext fun j => ?_)
        rw [show 128 + ((q - 128) / 64 * 64 + j) = q / 64 * 64 + j by omega]
    · rw [if_neg a, if_neg b, if_neg b]
      exact hv _ (by omega)

/-- The indexer's block at a key's lane. -/
theorem packedIndex_ixRow (hk : ∀ n, n < 32 → packed x w r (2304 + n) = f (2304 + n))
    (h0 : ∀ l : Fin 128, t (ix3 0 r l) = if l.val < 32 then cosAt p 0x40800000#32 4 (l.val % 32) else 1)
    (h1 : ∀ l : Fin 128, t (ix3 1 r l) = if l.val < 32 then sinBefore p 0x40800000#32 4 (l.val % 32) else 0)
    (h2 : ∀ l : Fin 128, t (ix3 2 r l) = if l.val < 32 then sinAfter p 0x40800000#32 4 (l.val % 32) else 0) (q : Fin 128) (a : q.val < 32) :
    packedIndex x w t r q = ixRow p f q.val := by
  unfold packedIndex
  rw [h0, h1, h2]
  unfold ixRow
  simp only [if_pos a]
  rw [chunk_roped32 _ _ _ _ a]
  unfold roped
  beta_reduce
  split
  · rw [hk _ (by omega), hk _ (by omega)]
  · split
    · rw [hk _ (by omega), hk _ (by omega)]
    · rw [hk _ (by omega)]
end

section
variable (x : Vec Ideal S512x1024 .f32) (w : Vec Ideal S1024x2432 .bf16) (r : Fin 512) (b : Fin 4) (s : Fin 4096)
  (X : FVec Ideal S4x4096x1024 .f32) (W : FVec Ideal S1024x6440 .f32)

/-- A packed column is a column of the projection where the packed weights' column is one. -/
theorem packed_args (hx : ∀ k, x (ix2 r k) = X (ix3 b s k)) (hw : ∀ (k : Fin 1024) (l : Fin 2432), w (ix2 k l) = packM W (ix2 k l))
    (n n' : Nat) (hn : n < 2432) (hn' : n' < 6440) (h : ∀ k, packM W (ix2 k ⟨n, hn⟩) = W (ix2 k ⟨n', hn'⟩)) :
    packed x w r n = colsOf X W b s n' := by
  unfold packed colsOf column
  rw [dif_pos hn, dif_pos hn']
  refine Finset.sum_congr rfl fun k _ => ?_
  beta_reduce
  rw [hx, hw, h]
end

variable (m : (ℓ : Loc nD τ sig) → Buf (Elt Ideal) ℓ) (c : Dev nD)

/-- Only the last layer is written. -/
theorem last_layer (a : Nat) (g e e' : EReal) (h : e = e') : (if 3 ≤ a / 1 then g else e) = if a < 3 then e' else g := by
  subst h
  by_cases b : a < 3
  · rw [if_neg (by omega), if_pos b]
  · rw [if_pos (by omega), if_neg b]

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, ∀ a, win0_1.index t a = 0 :=
  (by decide +kernel : ∀ t : Fin grid0.N, ∀ a, win0_1.index t a = 0)
theorem index3 : ∀ t : Fin cfg0.N, win0_3.index t 0 = 0 ∧ win0_3.index t 1 = t.val % 8 ∧ win0_3.index t 2 = 0 :=
  (by decide +kernel : ∀ t : Fin grid0.N, win0_3.index t 0 = 0 ∧ win0_3.index t 1 = t.val % 8 ∧ win0_3.index t 2 = 0)
theorem index5 : ∀ t : Fin cfg0.N, win0_5.index t 0 = 0 ∧ win0_5.index t 1 = t.val % 8 ∧ win0_5.index t 2 = 0 :=
  (by decide +kernel : ∀ t : Fin grid0.N, win0_5.index t 0 = 0 ∧ win0_5.index t 1 = t.val % 8 ∧ win0_5.index t 2 = 0)
theorem index23 : ∀ t : Fin cfg0.N, win0_23.index t 0 = 3 ∧ win0_23.index t 1 = t.val ∧ win0_23.index t 2 = 0 ∧ win0_23.index t 3 = 0 :=
  (by decide +kernel : ∀ t : Fin grid0.N, win0_23.index t 0 = 3 ∧ win0_23.index t 1 = t.val ∧ win0_23.index t 2 = 0 ∧ win0_23.index t 3 = 0)
theorem index24 : ∀ t : Fin cfg0.N, win0_24.index t 0 = 3 ∧ win0_24.index t 1 = t.val ∧ win0_24.index t 2 = 0 ∧ win0_24.index t 3 = 0 :=
  (by decide +kernel : ∀ t : Fin grid0.N, win0_24.index t 0 = 3 ∧ win0_24.index t 1 = t.val ∧ win0_24.index t 2 = 0 ∧ win0_24.index t 3 = 0)
theorem index25 : ∀ t : Fin cfg0.N, win0_25.index t 0 = 3 ∧ win0_25.index t 1 = t.val ∧ win0_25.index t 2 = 0 ∧ win0_25.index t 3 = 0 :=
  (by decide +kernel : ∀ t : Fin grid0.N, win0_25.index t 0 = 3 ∧ win0_25.index t 1 = t.val ∧ win0_25.index t 2 = 0 ∧ win0_25.index t 3 = 0)

theorem block0 (t : Fin cfg0.N) (r : Fin 512) (k : Fin 1024) (R : Fin 16384) (hR : R.val = 512 * t.val + r.val) :
    iblk m c 0 t (ix2 r k) = V m c main_v138 (ix2 R k) := by
  blk_ext [iblk, index0 t, hR]
theorem block1 (t : Fin cfg0.N) (k : Fin 1024) (l : Fin 2432) : iblk m c 1 t (ix2 k l) = V m c main_v11 (ix2 k l) := by
  blk_ext [iblk, index1 t]
theorem block3 (t : Fin cfg0.N) (a : Fin 3) (r : Fin 512) (l : Fin 128) (R : Fin 4096) (hR : R.val = 512 * (t.val % 8) + r.val) :
    iblk m c 3 t (ix3 a r l) = V m c main_v51 (ix3 a R l) := by
  blk_ext [iblk, index3 t, hR]
theorem block5 (t : Fin cfg0.N) (a : Fin 3) (r : Fin 512) (l : Fin 128) (R : Fin 4096) (hR : R.val = 512 * (t.val % 8) + r.val) :
    iblk m c 5 t (ix3 a r l) = V m c main_v133 (ix3 a R l) := by
  blk_ext [iblk, index5 t, hR]

/-- The kernel's argument columns of prompt `b`'s row `s`. -/
def cols (b : Fin 4) (s : Fin 4096) (n : Nat) : EReal := colsOf (m ((c : Thread nD τ).loc main_arg0)) (m ((c : Thread nD τ).loc main_arg1)) b s n

/-- The columns of the block's rows. -/
theorem packed_cols (t : Fin cfg0.N) (r : Fin 512) (b : Fin 4) (s : Fin 4096) (hs : b.val * 4096 + s.val = 512 * t.val + r.val)
    (n n' : Nat) (hn : n < 2432) (hn' : n' < 6440)
    (h : ∀ (W : FVec Ideal S1024x6440 .f32) (k : Fin 1024), packM W (ix2 k ⟨n, hn⟩) = W (ix2 k ⟨n', hn'⟩)) :
    packed (iblk m c 0 t) (iblk m c 1 t) r n = cols m c b s n' :=
  packed_args _ _ r b s (m ((c : Thread nD τ).loc main_arg0)) (m ((c : Thread nD τ).loc main_arg1))
    (fun k => (block0 m c t r k ⟨b.val * 4096 + s.val, by omega⟩ hs).trans ((entry_v138_apply m c _ k).trans
      (congrArg₂ (fun b s => m ((c : Thread nD τ).loc main_arg0) (ix3 b s k)) (Fin.ext (by show (b.val * 4096 + s.val) / 4096 = b.val; omega))
        (Fin.ext (by show (b.val * 4096 + s.val) % 4096 = s.val; omega)))))
    (fun k l => (block1 m c t k l).trans (congrFun (entry_v11 m c) _)) n n' hn hn' (h _)

section
variable (t : Fin cfg0.N) (r : Fin 512) (s : Fin 4096) (hs : s.val = 512 * (t.val % 8) + r.val)
include hs
/-- The 64-lane tables' block. -/
theorem tab_0 (l : Fin 128) : iblk m c 3 t (ix3 0 r l) = cosAt (BitVec.ofNat 32 s.val) 0x41000000#32 8 (l.val % 64) :=
  ((block3 m c t 0 r l s hs).trans (congrFun (entry_v51 m c) _)).trans (tab64_0 s l)
theorem tab_1 (l : Fin 128) : iblk m c 3 t (ix3 1 r l) = sinBefore (BitVec.ofNat 32 s.val) 0x41000000#32 8 (l.val % 64) :=
  ((block3 m c t 1 r l s hs).trans (congrFun (entry_v51 m c) _)).trans (tab64_1 s l)
theorem tab_2 (l : Fin 128) : iblk m c 3 t (ix3 2 r l) = sinAfter (BitVec.ofNat 32 s.val) 0x41000000#32 8 (l.val % 64) :=
  ((block3 m c t 2 r l s hs).trans (congrFun (entry_v51 m c) _)).trans (tab64_2 s l)
/-- The indexer tables' block. -/
theorem tabl_0 (l : Fin 128) : iblk m c 5 t (ix3 0 r l) = if l.val < 32 then cosAt (BitVec.ofNat 32 s.val) 0x40800000#32 4 (l.val % 32) else 1 :=
  ((block5 m c t 0 r l s hs).trans (congrFun (entry_v133 m c) _)).trans (tabIx_0 s l)
theorem tabl_1 (l : Fin 128) : iblk m c 5 t (ix3 1 r l) = if l.val < 32 then sinBefore (BitVec.ofNat 32 s.val) 0x40800000#32 4 (l.val % 32) else 0 :=
  ((block5 m c t 1 r l s hs).trans (congrFun (entry_v133 m c) _)).trans (tabIx_1 s l)
theorem tabl_2 (l : Fin 128) : iblk m c 5 t (ix3 2 r l) = if l.val < 32 then sinAfter (BitVec.ofNat 32 s.val) 0x40800000#32 4 (l.val % 32) else 0 :=
  ((block5 m c t 2 r l s hs).trans (congrFun (entry_v133 m c) _)).trans (tabIx_2 s l)
end

theorem emb23 (t : Fin cfg0.N) (p : Fin 4) (q : Fin 512) (o P : Fin 128) (hP : P.val = 4 * t.val + p.val) :
    (win0_23.blk t).view.emb (ix4 0 p q o) = ix4 3 P q o := by
  blk_ext [index23 t, hP]
theorem emb24 (t : Fin cfg0.N) (p : Fin 4) (q : Fin 512) (o P : Fin 128) (hP : P.val = 4 * t.val + p.val) :
    (win0_24.blk t).view.emb (ix4 0 p q o) = ix4 3 P q o := by
  blk_ext [index24 t, hP]
theorem emb25 (t : Fin cfg0.N) (p : Fin 4) (q : Fin 32) (o P : Fin 128) (hP : P.val = 4 * t.val + p.val) :
    (win0_25.blk t).view.emb (ix4 0 p q o) = ix4 3 P q o := by
  blk_ext [index25 t, hP]

/-- The first branch's key-value pages: the last layer's are new. -/
def expected23 : FVec Ideal S4x128x512x128 .f32 := fun i => if (i 0).val < 3 then m ((c : Thread nD τ).loc main_arg6) i
  else kvRow (BitVec.ofNat 32 (tokenOf (i 1) (i 3)).val) 512 768 (cols m c (promptOf (i 1) (i 3)) (tokenOf (i 1) (i 3))) (i 2).val
/-- A new page of the first branch. -/
def page23 (i : S4x128x512x128.Idx) : EReal :=
  kvRow (BitVec.ofNat 32 (tokenOf (i 1) (i 3)).val) 512 768 (cols m c (promptOf (i 1) (i 3)) (tokenOf (i 1) (i 3))) (i 2).val
theorem last23 : (fun i : S4x128x512x128.Idx => if 3 ≤ (i 0 : ℕ) / 1 then page23 m c i else V m c main_v145_13 i) = expected23 m c := by
  funext i
  exact last_layer (i 0).val (page23 m c i) (V m c main_v145_13 i) (m ((c : Thread nD τ).loc main_arg6) i) (congrFun (entry_23 m c) i)
set_option maxHeartbeats 4000000 in
theorem array23 : (dats m 0 c).arrAt 23 cfg0.N = expected23 m c := by
  have key : (dats m 0 c).arrAt 23 cfg0.N = fun i : S4x128x512x128.Idx => if 3 ≤ (i 0 : ℕ) / 1 then page23 m c i else V m c main_v145_13 i := by
    refine (dats m 0 c).arrAt_eq_of_coversWhere 23 _ (fun β => 3 ≤ β (0 : Fin _)) (by decide +kernel) (fun t hf y => ?_) (fun j => Iff.rfl)
    blk_simp
    rw [after0_23]
    obtain ⟨p, q, o, rfl⟩ : ∃ (p : Fin 4) (q : Fin 512) (o : Fin 128), y = ix4 0 p q o := ⟨y 1, y 2, y 3, by
      funext a; match a with | ⟨0, _⟩ => exact Fin.ext (by have : (y 0).val < 1 := (y 0).isLt; show (y 0).val = 0; omega) | ⟨1, _⟩ => rfl | ⟨2, _⟩ => rfl | ⟨3, _⟩ => rfl⟩
    have ht : t.val < 32 := t.isLt
    rw [emb23 t p q o ⟨4 * t.val + p.val, by omega⟩ rfl]
    unfold outsAt0
    dsimp only
    refine (out23_apply ..).trans ?_
    have hs : (tokenOf ⟨4 * t.val + p.val, by omega⟩ o).val = 512 * (t.val % 8) + (128 * p.val + o.val) := by
      show (4 * t.val + p.val) % 32 * 128 + o.val = _
      omega
    have hb : (promptOf ⟨4 * t.val + p.val, by omega⟩ o).val * 4096 + (tokenOf ⟨4 * t.val + p.val, by omega⟩ o).val = 512 * t.val + (128 * p.val + o.val) := by
      show (4 * t.val + p.val) / 32 * 4096 + ((4 * t.val + p.val) % 32 * 128 + o.val) = _
      omega
    exact kvBlock_kvRow _ _ _ _ _ _ 1024 1536 512 768 (fun n hn => packed_cols m c t _ _ _ hb _ _ (by omega) (by omega) fun W k => packM_ka W k n hn)
      (fun n hn => packed_cols m c t _ _ _ hb _ _ (by omega) (by omega) fun W k => packM_va W k n hn)
      (tab_0 m c t _ _ hs) (tab_1 m c t _ _ hs) (tab_2 m c t _ _ hs) q.val q.isLt
  exact key.trans (last23 m c)

/-- The second branch's key-value pages: the last layer's are new. -/
def expected24 : FVec Ideal S4x128x512x128 .f32 := fun i => if (i 0).val < 3 then m ((c : Thread nD τ).loc main_arg7) i
  else kvRow (BitVec.ofNat 32 (tokenOf (i 1) (i 3)).val) 1536 1792 (cols m c (promptOf (i 1) (i 3)) (tokenOf (i 1) (i 3))) (i 2).val
/-- A new page of the second branch. -/
def page24 (i : S4x128x512x128.Idx) : EReal :=
  kvRow (BitVec.ofNat 32 (tokenOf (i 1) (i 3)).val) 1536 1792 (cols m c (promptOf (i 1) (i 3)) (tokenOf (i 1) (i 3))) (i 2).val
theorem last24 : (fun i : S4x128x512x128.Idx => if 3 ≤ (i 0 : ℕ) / 1 then page24 m c i else V m c main_v145_14 i) = expected24 m c := by
  funext i
  exact last_layer (i 0).val (page24 m c i) (V m c main_v145_14 i) (m ((c : Thread nD τ).loc main_arg7) i) (congrFun (entry_24 m c) i)
set_option maxHeartbeats 4000000 in
theorem array24 : (dats m 0 c).arrAt 24 cfg0.N = expected24 m c := by
  have key : (dats m 0 c).arrAt 24 cfg0.N = fun i : S4x128x512x128.Idx => if 3 ≤ (i 0 : ℕ) / 1 then page24 m c i else V m c main_v145_14 i := by
    refine (dats m 0 c).arrAt_eq_of_coversWhere 24 _ (fun β => 3 ≤ β (0 : Fin _)) (by decide +kernel) (fun t hf y => ?_) (fun j => Iff.rfl)
    blk_simp
    rw [after0_24]
    obtain ⟨p, q, o, rfl⟩ : ∃ (p : Fin 4) (q : Fin 512) (o : Fin 128), y = ix4 0 p q o := ⟨y 1, y 2, y 3, by
      funext a; match a with | ⟨0, _⟩ => exact Fin.ext (by have : (y 0).val < 1 := (y 0).isLt; show (y 0).val = 0; omega) | ⟨1, _⟩ => rfl | ⟨2, _⟩ => rfl | ⟨3, _⟩ => rfl⟩
    have ht : t.val < 32 := t.isLt
    rw [emb24 t p q o ⟨4 * t.val + p.val, by omega⟩ rfl]
    unfold outsAt0
    dsimp only
    refine (out24_apply ..).trans ?_
    have hs : (tokenOf ⟨4 * t.val + p.val, by omega⟩ o).val = 512 * (t.val % 8) + (128 * p.val + o.val) := by
      show (4 * t.val + p.val) % 32 * 128 + o.val = _
      omega
    have hb : (promptOf ⟨4 * t.val + p.val, by omega⟩ o).val * 4096 + (tokenOf ⟨4 * t.val + p.val, by omega⟩ o).val = 512 * t.val + (128 * p.val + o.val) := by
      show (4 * t.val + p.val) / 32 * 4096 + ((4 * t.val + p.val) % 32 * 128 + o.val) = _
      omega
    exact kvBlock_kvRow _ _ _ _ _ _ 1280 1792 1536 1792 (fun n hn => packed_cols m c t _ _ _ hb _ _ (by omega) (by omega) fun W k => packM_kc W k n hn)
      (fun n hn => packed_cols m c t _ _ _ hb _ _ (by omega) (by omega) fun W k => packM_vc W k n hn)
      (tab_0 m c t _ _ hs) (tab_1 m c t _ _ hs) (tab_2 m c t _ _ hs) q.val q.isLt
  exact key.trans (last24 m c)

/-- The indexer keys' pages: the last layer's are new. -/
def expected25 : FVec Ideal S4x128x32x128 .f32 := fun i => if (i 0).val < 3 then m ((c : Thread nD τ).loc main_arg8) i
  else ixRow (BitVec.ofNat 32 (tokenOf (i 1) (i 3)).val) (cols m c (promptOf (i 1) (i 3)) (tokenOf (i 1) (i 3))) (i 2).val
/-- A new page of indexer keys. -/
def page25 (i : S4x128x32x128.Idx) : EReal :=
  ixRow (BitVec.ofNat 32 (tokenOf (i 1) (i 3)).val) (cols m c (promptOf (i 1) (i 3)) (tokenOf (i 1) (i 3))) (i 2).val
theorem last25 : (fun i : S4x128x32x128.Idx => if 3 ≤ (i 0 : ℕ) / 1 then page25 m c i else V m c main_v145_15 i) = expected25 m c := by
  funext i
  exact last_layer (i 0).val (page25 m c i) (V m c main_v145_15 i) (m ((c : Thread nD τ).loc main_arg8) i) (congrFun (entry_25 m c) i)
set_option maxHeartbeats 4000000 in
theorem array25 : (dats m 0 c).arrAt 25 cfg0.N = expected25 m c := by
  have key : (dats m 0 c).arrAt 25 cfg0.N = fun i : S4x128x32x128.Idx => if 3 ≤ (i 0 : ℕ) / 1 then page25 m c i else V m c main_v145_15 i := by
    refine (dats m 0 c).arrAt_eq_of_coversWhere 25 _ (fun β => 3 ≤ β (0 : Fin _)) (by decide +kernel) (fun t hf y => ?_) (fun j => Iff.rfl)
    blk_simp
    rw [after0_25]
    obtain ⟨p, q, o, rfl⟩ : ∃ (p : Fin 4) (q : Fin 32) (o : Fin 128), y = ix4 0 p q o := ⟨y 1, y 2, y 3, by
      funext a; match a with | ⟨0, _⟩ => exact Fin.ext (by have : (y 0).val < 1 := (y 0).isLt; show (y 0).val = 0; omega) | ⟨1, _⟩ => rfl | ⟨2, _⟩ => rfl | ⟨3, _⟩ => rfl⟩
    have ht : t.val < 32 := t.isLt
    rw [emb25 t p q o ⟨4 * t.val + p.val, by omega⟩ rfl]
    unfold outsAt0
    dsimp only
    refine (out25_apply ..).trans ?_
    have hs : (tokenOf ⟨4 * t.val + p.val, by omega⟩ o).val = 512 * (t.val % 8) + (128 * p.val + o.val) := by
      show (4 * t.val + p.val) % 32 * 128 + o.val = _
      omega
    have hb : (promptOf ⟨4 * t.val + p.val, by omega⟩ o).val * 4096 + (tokenOf ⟨4 * t.val + p.val, by omega⟩ o).val = 512 * t.val + (128 * p.val + o.val) := by
      show (4 * t.val + p.val) / 32 * 4096 + ((4 * t.val + p.val) % 32 * 128 + o.val) = _
      omega
    exact packedIndex_ixRow _ _ _ _ _ _ (fun n hn => packed_cols m c t _ _ _ hb _ _ (by omega) (by omega) fun W k => packM_ik W k n hn)
      (tabl_0 m c t _ _ hs) (tabl_1 m c t _ _ hs) (tabl_2 m c t _ _ hs) ⟨q.val, by omega⟩ q.isLt
  exact key.trans (last25 m c)
end Cert.PagesProof
-- ==== Proof.Pages.QueryKernel.lean ====
module
public import proofs.«01_k».proof.Proof.Pages.Kernel

/-! The rows of queries that one grid point of the prompt projection writes. -/

@[expose] public section
set_option maxRecDepth 16384
noncomputable section
namespace Cert.PagesProof
open Cert.RowsProof (column column_of chunk)
open Cert.PagesIdeal Cert.PagesIdeal.Gen Idealize.ShloMosaic Idealize.ShloMosaic.Pipeline

/-- The first 1024 of the packed columns. -/
def cols1024 (w : Vec Ideal S1024x2432 .bf16) : Vec Ideal S1024x1024 .bf16 :=
  fun y => w (ix2 (y 0) ⟨(y 1).val, by have : (y 1).val < 1024 := (y 1).isLt; omega⟩)
/-- A load of the first 1024 packed columns. -/
theorem load_cols1024 {arg : Memref sig .tc .vmem S1024x2432 .bf16} (harg : arg.IsWhole) (X : Vec Ideal S1024x2432 .bf16)
    (inb : ∀ a, (![0, 0] : Fin 2 → Nat) a + S1024x1024.size a ≤ S1024x2432.size a) :
    View.readAt (Elt Ideal) arg.view (Rect.unit (s := S1024x2432) ![0, 0] S1024x1024.size inb).toLoadRect (harg.unread X) = cols1024 X := by
  funext y
  refine (congrArg (fun Y => View.ld Y (Rect.unit (s := S1024x2432) ![0, 0] S1024x1024.size inb) y) (harg.read_unread X)).trans ?_
  refine View.ld_unit_apply_of X _ _ inb y _ fun a => ?_
  match a with
  | ⟨0, _⟩ => show (y 0).val = 0 + (y 0).val; omega
  | ⟨1, _⟩ => show (y 1).val = 0 + (y 1).val; omega

/-- The factor of a query. -/
abbrev queryScale : EReal := Ideal.ofBits .f32 0x3E38AA3B#32

section
variable (X : FVec Ideal S512x1024 .bf16) (x : Vec Ideal S512x1024 .f32) (u v y : FVec Ideal S512x128 .f32) (U : Vec Ideal S1x512x128 .f32) (W : Vec Ideal S1024x1024 .bf16)

/-- A block's row times a column of 1024 loaded ones. -/
def col1024 (r : Fin 512) (n : Nat) : EReal := column (fun k => X (ix2 r k)) (fun k l => W (ix2 k l)) n
theorem sum_col1024 (r : Fin 512) (n : Nat) (h : n < 1024) : ∑ k, X (ix2 r k) * W (ix2 k ⟨n, h⟩) = col1024 X W r n :=
  column_of (fun k => X (ix2 r k)) (fun k l => W (ix2 k l)) n h

/-- The query chunk whose columns start at `o`, at lane `l`. -/
def queryLane (r : Fin 512) (o : Nat) (l : Fin 128) : EReal :=
  chunk 8 (fun n => col1024 X W r (o + n)) (u (ix2 r l)) (v (ix2 r l)) (y (ix2 r l)) l.val * queryScale

theorem query_0 (r : Fin 512) (l : Fin 128) :
    k0_pay15 v y (k0_pay13 x W) (k0_pay14 x U W) 8#32 (ix2 r l) = queryLane (k0_pay2 x) (k0_pay3 U) v y W r 0 l := by
  have e : k0_pay3 U (ix2 r l) = U (ix3 0 r l) := by pointwise [k0_pay3]
  unfold queryLane
  rw [e]
  pointwise [k0_pay15, k0_pay14, k0_pay13, k0_pay12, k0_pay3]
  simp only [sum_col1024]
  simp only [chunk, Nat.zero_add]
theorem query_1 (r : Fin 512) (l : Fin 128) : k0_pay16 u v y (k0_pay12 x W) (ix2 r l) = queryLane (k0_pay2 x) u v y W r 128 l := by
  pointwise [k0_pay16, k0_pay12]
  simp only [sum_col1024]
  rfl
theorem query_2 (r : Fin 512) (l : Fin 128) : k0_pay17 u v y (k0_pay12 x W) (ix2 r l) = queryLane (k0_pay2 x) u v y W r 256 l := by
  pointwise [k0_pay17, k0_pay12]
  simp only [sum_col1024]
  rfl
theorem query_4 (r : Fin 512) (l : Fin 128) : k0_pay22 u v y (k0_pay12 x W) (ix2 r l) = queryLane (k0_pay2 x) u v y W r 512 l := by
  pointwise [k0_pay22, k0_pay12]
  simp only [sum_col1024]
  rfl
theorem query_5 (r : Fin 512) (l : Fin 128) : k0_pay23 u v y (k0_pay12 x W) (ix2 r l) = queryLane (k0_pay2 x) u v y W r 640 l := by
  pointwise [k0_pay23, k0_pay12]
  simp only [sum_col1024]
  rfl
theorem query_6 (r : Fin 512) (l : Fin 128) : k0_pay24 u v y (k0_pay12 x W) (ix2 r l) = queryLane (k0_pay2 x) u v y W r 768 l := by
  pointwise [k0_pay24, k0_pay12]
  simp only [sum_col1024]
  rfl
theorem query_7 (r : Fin 512) (l : Fin 128) : k0_pay25 u v y (k0_pay12 x W) (ix2 r l) = queryLane (k0_pay2 x) u v y W r 896 l := by
  pointwise [k0_pay25, k0_pay12]
  simp only [sum_col1024]
  rfl
theorem query_3 (r : Fin 512) (l : Fin 128) :
    k0_pay21 (k0_pay19 u v (k0_pay12 x W)) (k0_pay20 y (k0_pay12 x W)) (ix2 r l) = queryLane (k0_pay2 x) u v y W r 384 l := by
  pointwise [k0_pay21, k0_pay20, k0_pay19, k0_pay18, k0_pay12]
  simp only [sum_col1024]
  rfl
end

section
variable (x : Vec Ideal S512x1024 .f32) (w : Vec Ideal S1024x2432 .bf16) (t64 : Vec Ideal S3x512x128 .f32)
theorem col1024_packed (r : Fin 512) (n : Nat) (hn : n < 1024) : col1024 (k0_pay2 x) (cols1024 w) r n = packed x w r n := by
  unfold col1024 packed column
  rw [dif_pos hn, dif_pos (show n < 2432 by omega)]
  refine Finset.sum_congr rfl fun k _ => ?_
  refine congrArg (· * _) ?_
  pointwise [k0_pay2]
theorem query_packed (r : Fin 512) (l : Fin 128) (o : Nat) (ho : o + 128 ≤ 1024) :
    queryLane (k0_pay2 x) (k0_pay3 (tabSlab t64 0)) (k0_pay4 (tabSlab t64 1)) (k0_pay5 (tabSlab t64 2)) (cols1024 w) r o l
      = packedKey x w t64 r o l.val * queryScale := by
  unfold queryLane packedKey
  rw [dif_pos l.isLt]
  refine congrArg (· * queryScale) (chunk_congr 8 _ _ _ _ _ _ _ _ _ l.isLt (fun n hn => ?_) ?_ ?_ ?_)
  · exact col1024_packed x w r (o + n) (by omega)
  · pointwise [k0_pay3]; rfl
  · pointwise [k0_pay4]; rfl
  · pointwise [k0_pay5]; rfl
/-- The block of a branch's queries: four chunks. -/
def queryBlock (o : Nat) (r : Fin 512) (q : Nat) : EReal := packedKey x w t64 r (o + q / 128 * 128) (q % 128) * queryScale
end

variable (c : Dev nD) (i : grid0.Coords)
  (arg1 : Memref sig .tc .vmem S512x1024 .f32) (harg1 : arg1.IsWhole)
  (arg2 : Memref sig .tc .vmem S1024x2432 .bf16) (harg2 : arg2.IsWhole)
  (arg3 : Memref sig .tc .vmem S1024x1024 .bf16) (harg3 : arg3.IsWhole)
  (arg4 : Memref sig .tc .vmem S3x512x128 .f32) (harg4 : arg4.IsWhole)
  (arg5 : Memref sig .tc .vmem S3x512x128 .f32) (harg5 : arg5.IsWhole)
  (arg6 : Memref sig .tc .vmem S3x512x128 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S8x128x128 .bf16) (harg9 : arg9.IsWhole)
  (arg10 : Memref sig .tc .vmem S128x512 .f32) (harg10 : arg10.IsWhole)
  (arg14 : Memref sig .tc .vmem S512x512 .bf16) (harg14 : arg14.IsWhole)
  (arg15 : Memref sig .tc .vmem S512x512 .bf16) (harg15 : arg15.IsWhole)
  (arg16 : Memref sig .tc .vmem S512x512 .f32) (harg16 : arg16.IsWhole)
  (arg17 : Memref sig .tc .vmem S512x512 .f32) (harg17 : arg17.IsWhole)
  (arg18 : Memref sig .tc .vmem S512x256 .bf16) (harg18 : arg18.IsWhole)
  (arg19 : Memref sig .tc .vmem S512x128 .f32) (harg19 : arg19.IsWhole)
  (arg20 : Memref sig .tc .vmem S512x512 .bf16) (harg20 : arg20.IsWhole)
  (arg21 : Memref sig .tc .vmem S512x512 .f32) (harg21 : arg21.IsWhole)
  (arg22 : Memref sig .tc .vmem S512x256 .bf16) (harg22 : arg22.IsWhole)
  (arg23 : Memref sig .tc .vmem S512x256 .bf16) (harg23 : arg23.IsWhole)
  (arg24 : Memref sig .tc .vmem S2x256x256 .bf16) (harg24 : arg24.IsWhole)
  (arg25 : Memref sig .tc .vmem S2x256x256 .bf16) (harg25 : arg25.IsWhole)
  (arg26 : Memref sig .tc .vmem S512x256 .bf16) (harg26 : arg26.IsWhole)
  (arg27 : Memref sig .tc .vmem S1x4x512x128 .f32) (harg27 : arg27.IsWhole)
  (arg28 : Memref sig .tc .vmem S1x4x512x128 .f32) (harg28 : arg28.IsWhole)
  (arg29 : Memref sig .tc .vmem S1x4x32x128 .f32) (harg29 : arg29.IsWhole)
  (x0 : Vec Ideal S512x1024 .f32)
  (x1 : Vec Ideal S1024x2432 .bf16)
  (x2 : Vec Ideal S1024x1024 .bf16)
  (x3 : Vec Ideal S3x512x128 .f32)
  (x4 : Vec Ideal S3x512x128 .f32)
  (x5 : Vec Ideal S3x512x128 .f32)
  (x6 : Vec Ideal S1x512 .f32)
  (x7 : Vec Ideal S1x512 .f32)
  (x8 : Vec Ideal S8x128x128 .bf16)
  (x9 : Vec Ideal S128x512 .f32)
/-- A grid point's rows of the first branch's queries. -/
theorem out10_apply (r : Fin 512) (q : Fin 512) : out0_A_10 c i arg1 harg1 arg2 harg2 arg3 harg3 arg4 harg4 arg5 harg5 arg6 harg6 arg7 harg7 arg8 harg8 arg9 harg9 arg10 harg10 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 (ix2 r q) = queryBlock x0 x1 x3 0 r q.val := by
  unfold out0_A_10 kernelRun0_A
  dsimp only
  refine (View.read_writes_junk_apply_eq_canon _ _ _).trans ?_
  canon_tiles y h
  all_goals
    obtain ⟨r', l, rfl⟩ : ∃ (r' : Fin 512) (l : Fin 128), y = ix2 r' l := ⟨y 0, y 1, by funext a; match a with | ⟨0, _⟩ => rfl | ⟨1, _⟩ => rfl⟩
    have e0 : r.val = r'.val := by exact h0
    obtain rfl : r = r' := Fin.ext e0
  · have e1 : q.val = 384 + l.val := by exact h1
    refine Eq.trans ?_ (congrArg₂ (packedKey x0 x1 x3 r · · * queryScale) (show 384 = 0 + q.val / 128 * 128 by omega) (show l.val = q.val % 128 by omega))
    refine Eq.trans ?_ ((query_3 ..).trans (query_packed x0 x1 x3 r l 384 (by omega)))
    simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r]
    rw [load_whole harg1 x0 _ zero_zero, load_cols1024 harg2 x1, load_tab harg4 x3 0 (by omega), load_tab harg4 x3 1 (by omega),
      load_tab harg4 x3 2 (by omega)]
    rfl
  · have e1 : q.val = 256 + l.val := by exact h1
    refine Eq.trans ?_ (congrArg₂ (packedKey x0 x1 x3 r · · * queryScale) (show 256 = 0 + q.val / 128 * 128 by omega) (show l.val = q.val % 128 by omega))
    refine Eq.trans ?_ ((query_2 ..).trans (query_packed x0 x1 x3 r l 256 (by omega)))
    simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r]
    rw [load_whole harg1 x0 _ zero_zero, load_cols1024 harg2 x1, load_tab harg4 x3 0 (by omega), load_tab harg4 x3 1 (by omega),
      load_tab harg4 x3 2 (by omega)]
    rfl
  · have e1 : q.val = 128 + l.val := by exact h1
    refine Eq.trans ?_ (congrArg₂ (packedKey x0 x1 x3 r · · * queryScale) (show 128 = 0 + q.val / 128 * 128 by omega) (show l.val = q.val % 128 by omega))
    refine Eq.trans ?_ ((query_1 ..).trans (query_packed x0 x1 x3 r l 128 (by omega)))
    simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r]
    rw [load_whole harg1 x0 _ zero_zero, load_cols1024 harg2 x1, load_tab harg4 x3 0 (by omega), load_tab harg4 x3 1 (by omega),
      load_tab harg4 x3 2 (by omega)]
    rfl
  · have e1 : q.val = l.val := by exact h1
    refine Eq.trans ?_ (congrArg₂ (packedKey x0 x1 x3 r · · * queryScale) (show 0 = 0 + q.val / 128 * 128 by omega) (show l.val = q.val % 128 by omega))
    refine Eq.trans ?_ ((query_0 ..).trans (query_packed x0 x1 x3 r l 0 (by omega)))
    simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r]
    rw [load_whole harg1 x0 _ zero_zero, load_cols1024 harg2 x1, load_tab harg4 x3 0 (by omega), load_tab harg4 x3 1 (by omega),
      load_tab harg4 x3 2 (by omega)]
    rfl
/-- A grid point's rows of the second branch's queries. -/
theorem out11_apply (r : Fin 512) (q : Fin 512) : out0_A_11 c i arg1 harg1 arg2 harg2 arg3 harg3 arg4 harg4 arg5 harg5 arg6 harg6 arg7 harg7 arg8 harg8 arg9 harg9 arg10 harg10 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 (ix2 r q) = queryBlock x0 x1 x3 512 r q.val := by
  unfold out0_A_11 kernelRun0_A
  dsimp only
  refine (View.read_writes_junk_apply_eq_canon _ _ _).trans ?_
  canon_tiles y h
  all_goals
    obtain ⟨r', l, rfl⟩ : ∃ (r' : Fin 512) (l : Fin 128), y = ix2 r' l := ⟨y 0, y 1, by funext a; match a with | ⟨0, _⟩ => rfl | ⟨1, _⟩ => rfl⟩
    have e0 : r.val = r'.val := by exact h0
    obtain rfl : r = r' := Fin.ext e0
  · have e1 : q.val = 384 + l.val := by exact h1
    refine Eq.trans ?_ (congrArg₂ (packedKey x0 x1 x3 r · · * queryScale) (show 896 = 512 + q.val / 128 * 128 by omega) (show l.val = q.val % 128 by omega))
    refine Eq.trans ?_ ((query_7 ..).trans (query_packed x0 x1 x3 r l 896 (by omega)))
    simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r]
    rw [load_whole harg1 x0 _ zero_zero, load_cols1024 harg2 x1, load_tab harg4 x3 0 (by omega), load_tab harg4 x3 1 (by omega),
      load_tab harg4 x3 2 (by omega)]
    rfl
  · have e1 : q.val = 256 + l.val := by exact h1
    refine Eq.trans ?_ (congrArg₂ (packedKey x0 x1 x3 r · · * queryScale) (show 768 = 512 + q.val / 128 * 128 by omega) (show l.val = q.val % 128 by omega))
    refine Eq.trans ?_ ((query_6 ..).trans (query_packed x0 x1 x3 r l 768 (by omega)))
    simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r]
    rw [load_whole harg1 x0 _ zero_zero, load_cols1024 harg2 x1, load_tab harg4 x3 0 (by omega), load_tab harg4 x3 1 (by omega),
      load_tab harg4 x3 2 (by omega)]
    rfl
  · have e1 : q.val = 128 + l.val := by exact h1
    refine Eq.trans ?_ (congrArg₂ (packedKey x0 x1 x3 r · · * queryScale) (show 640 = 512 + q.val / 128 * 128 by omega) (show l.val = q.val % 128 by omega))
    refine Eq.trans ?_ ((query_5 ..).trans (query_packed x0 x1 x3 r l 640 (by omega)))
    simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r]
    rw [load_whole harg1 x0 _ zero_zero, load_cols1024 harg2 x1, load_tab harg4 x3 0 (by omega), load_tab harg4 x3 1 (by omega),
      load_tab harg4 x3 2 (by omega)]
    rfl
  · have e1 : q.val = l.val := by exact h1
    refine Eq.trans ?_ (congrArg₂ (packedKey x0 x1 x3 r · · * queryScale) (show 512 = 512 + q.val / 128 * 128 by omega) (show l.val = q.val % 128 by omega))
    refine Eq.trans ?_ ((query_4 ..).trans (query_packed x0 x1 x3 r l 512 (by omega)))
    simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r]
    rw [load_whole harg1 x0 _ zero_zero, load_cols1024 harg2 x1, load_tab harg4 x3 0 (by omega), load_tab harg4 x3 1 (by omega),
      load_tab harg4 x3 2 (by omega)]
    rfl
end Cert.PagesProof
-- ==== Proof.Pages.QueryReference.lean ====
module
public import proofs.«01_k».proof.Proof.Pages.Reference

/-! The reference's queries, read from its arguments. -/

@[expose] public section
set_option maxRecDepth 16384
noncomputable section
namespace Cert.PagesProof
open Cert.RowsProof Cert.PagesReferenceIdeal Cert.PagesReferenceIdeal.Gen Cert.PagesReferenceIdeal.Read Idealize.ShloMosaic
variable (x0 : FVec Ideal S4x4096x1024 .f32) (x1 : FVec Ideal S1024x6440 .f32)

/-- One row of queries: eight turned heads, scaled; `o` their first column of the projection. -/
def queryRow (p : BitVec 32) (o : Nat) (f : Nat → EReal) (q : Nat) : EReal :=
  roped p 0x41000000#32 8 (fun j => f (o + (q / 64 * 64 + j))) (q % 64) * Ideal.ofBits .f32 0x3E38AA3B#32

/-- The table of cosines of branch `a`'s queries. -/
theorem cos_qa (t : Fin 4096) (j : Fin 8) : val_main_v191 (F := Ideal) (ix3 t 0 j) = Ideal.cos (turn (BitVec.ofNat 32 t.val) 0x41000000#32 j.val) := by
  pointwise [val_main_v191, val_main_v190, val_main_v189, val_main_v188, val_main_v187, val_main_v186, val_main_v185, val_main_v184, val_main_v183, val_main_v182, val_main_v181, val_main_v180, val_main_v179, val_main_v178, val_main_v0, val_main_cst_14, val_main_cst_15]
  rfl
/-- The table of sines of branch `a`'s queries. -/
theorem sin_qa (t : Fin 4096) (j : Fin 8) : val_main_v193 (F := Ideal) (ix3 t 0 j) = Ideal.sin (turn (BitVec.ofNat 32 t.val) 0x41000000#32 j.val) := by
  pointwise [val_main_v193, val_main_v192, val_main_v189, val_main_v188, val_main_v187, val_main_v186, val_main_v185, val_main_v184, val_main_v183, val_main_v182, val_main_v181, val_main_v180, val_main_v179, val_main_v178, val_main_v0, val_main_cst_14, val_main_cst_15]
  rfl
/-- The turned queries of branch `a`. -/
theorem queries_a (b : Fin 4) (t : Fin 4096) (g : Fin 8) (j : Fin 64) : val_main_v211 (F := Ideal) x0 x1 (ix4 b t g j)
    = roped (BitVec.ofNat 32 t.val) 0x41000000#32 8 (fun j => colsOf x0 x1 b t (g.val * 64 + j)) j.val := by
  pointwise [val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v177, val_main_v176, val_main_v175]
  simp only [sum_colsOf, cos_qa, sin_qa]
  unfold roped
  split
  · rfl
  · split
    · rw [show 8 + (j.val - 8) = j.val by omega]
    · rw [show 16 + (j.val - 8 - 8) = j.val by omega]
/-- The rows of queries of branch `a`. -/
theorem result_qa (R : Fin 16384) (q : Fin 512) : val_main_v254 (F := Ideal) x0 x1 (ix2 R q)
    = queryRow (BitVec.ofNat 32 (R.val % 4096)) 0 (colsOf x0 x1 ⟨R.val / 4096, by omega⟩ ⟨R.val % 4096, by omega⟩) q.val := by
  pointwise [val_main_v254, val_main_v214, val_main_v213, val_main_v212, val_main_cst_16]
  simp only [queries_a]
  unfold queryRow
  simp only [Nat.zero_add]
/-- The table of cosines of branch `c`'s queries. -/
theorem cos_qc (t : Fin 4096) (j : Fin 8) : val_main_v230 (F := Ideal) (ix3 t 0 j) = Ideal.cos (turn (BitVec.ofNat 32 t.val) 0x41000000#32 j.val) := by
  pointwise [val_main_v230, val_main_v229, val_main_v228, val_main_v227, val_main_v226, val_main_v225, val_main_v224, val_main_v223, val_main_v222, val_main_v221, val_main_v220, val_main_v219, val_main_v218, val_main_v217, val_main_v0, val_main_cst_17, val_main_cst_18]
  rfl
/-- The table of sines of branch `c`'s queries. -/
theorem sin_qc (t : Fin 4096) (j : Fin 8) : val_main_v232 (F := Ideal) (ix3 t 0 j) = Ideal.sin (turn (BitVec.ofNat 32 t.val) 0x41000000#32 j.val) := by
  pointwise [val_main_v232, val_main_v231, val_main_v228, val_main_v227, val_main_v226, val_main_v225, val_main_v224, val_main_v223, val_main_v222, val_main_v221, val_main_v220, val_main_v219, val_main_v218, val_main_v217, val_main_v0, val_main_cst_17, val_main_cst_18]
  rfl
/-- The turned queries of branch `c`. -/
theorem queries_c (b : Fin 4) (t : Fin 4096) (g : Fin 8) (j : Fin 64) : val_main_v250 (F := Ideal) x0 x1 (ix4 b t g j)
    = roped (BitVec.ofNat 32 t.val) 0x41000000#32 8 (fun j => colsOf x0 x1 b t (1024 + (g.val * 64 + j))) j.val := by
  pointwise [val_main_v250, val_main_v249, val_main_v248, val_main_v247, val_main_v246, val_main_v245, val_main_v244, val_main_v243, val_main_v242, val_main_v241, val_main_v240, val_main_v239, val_main_v238, val_main_v237, val_main_v236, val_main_v235, val_main_v234, val_main_v233, val_main_v216, val_main_v215, val_main_v175]
  simp only [sum_colsOf, cos_qc, sin_qc]
  unfold roped
  split
  · rfl
  · split
    · rw [show 8 + (j.val - 8) = j.val by omega]
    · rw [show 16 + (j.val - 8 - 8) = j.val by omega]
/-- The rows of queries of branch `c`. -/
theorem result_qc (R : Fin 16384) (q : Fin 512) : val_main_v255 (F := Ideal) x0 x1 (ix2 R q)
    = queryRow (BitVec.ofNat 32 (R.val % 4096)) 1024 (colsOf x0 x1 ⟨R.val / 4096, by omega⟩ ⟨R.val % 4096, by omega⟩) q.val := by
  pointwise [val_main_v255, val_main_v253, val_main_v252, val_main_v251, val_main_cst_19]
  simp only [queries_c]
  unfold queryRow
  rfl
end Cert.PagesProof
-- ==== Proof.Pages.QueryArray.lean ====
module
public import proofs.«01_k».proof.Proof.Pages.Array
public import proofs.«01_k».proof.Proof.Pages.QueryKernel
public import proofs.«01_k».proof.Proof.Pages.QueryReference

/-! The prompt projection's rows of queries, read from its arguments. -/

@[expose] public section
set_option maxRecDepth 16384
noncomputable section
namespace Cert.PagesProof
open Cert.RowsProof (column chunk roped cosAt sinBefore sinAfter chunk_roped64)
open Cert.PagesIdeal Cert.PagesIdeal.Gen Idealize.ShloMosaic Idealize.ShloMosaic.Pipeline Idealize.ShloMosaic.TcCoe Idealize.SL.Sem

section
variable (x : Vec Ideal S512x1024 .f32) (w : Vec Ideal S1024x2432 .bf16) (t : Vec Ideal S3x512x128 .f32) (r : Fin 512) (p : BitVec 32) (f : Nat → EReal)

/-- A block of queries whose columns are `f`'s and whose tables are the rotary ones is the row of queries. -/
theorem queryBlock_queryRow (o o' : Nat) (hk : ∀ n, n < 512 → packed x w r (o + n) = f (o' + n))
    (h0 : ∀ l : Fin 128, t (ix3 0 r l) = cosAt p 0x41000000#32 8 (l.val % 64))
    (h1 : ∀ l : Fin 128, t (ix3 1 r l) = sinBefore p 0x41000000#32 8 (l.val % 64))
    (h2 : ∀ l : Fin 128, t (ix3 2 r l) = sinAfter p 0x41000000#32 8 (l.val % 64)) (q : Nat) (hq : q < 512) :
    queryBlock x w t o r q = queryRow p o' f q := by
  unfold queryBlock queryRow packedKey
  have a : q % 128 < 128 := by omega
  rw [dif_pos a]
  refine congrArg (· * _) ?_
  refine (chunk_congr 8 _ (fun n => f (o' + (q / 128 * 128 + n))) _ _ _ _ _ _ (q % 128) a (fun n hn => ?_) (h0 _) (h1 _) (h2 _)).trans ?_
  · rw [Nat.add_assoc]
    exact hk _ (by omega)
  · refine (chunk_roped64 p 0x41000000#32 (fun n => f (o' + (q / 128 * 128 + n))) (q % 128) a).trans ?_
    rw [show q % 128 % 64 = q % 64 by omega]
    refine congrArg (fun h => roped _ _ _ h _) (funext fun j => ?_)
    rw [show q / 128 * 128 + (q % 128 / 64 * 64 + j) = q / 64 * 64 + j by omega]
end

/-- The packed columns of the first branch's queries. -/
theorem packM_qa (W : FVec Ideal S1024x6440 .f32) (k : Fin 1024) (n : Nat) (hn : n < 512) :
    packM W (ix2 k ⟨0 + n, by omega⟩) = W (ix2 k ⟨0 + n, by omega⟩) := by
  pointwise [packM]
  exact dif_pos hn
/-- The packed columns of the second branch's queries. -/
theorem packM_qc (W : FVec Ideal S1024x6440 .f32) (k : Fin 1024) (n : Nat) (hn : n < 512) :
    packM W (ix2 k ⟨512 + n, by omega⟩) = W (ix2 k ⟨1024 + n, by omega⟩) := by
  pointwise [packM]
  exact dif_pos hn

variable (m : (ℓ : Loc nD τ sig) → Buf (Elt Ideal) ℓ) (c : Dev nD)

theorem index10 : ∀ t : Fin cfg0.N, win0_10.index t 0 = t.val ∧ win0_10.index t 1 = 0 :=
  (by decide +kernel : ∀ t : Fin grid0.N, win0_10.index t 0 = t.val ∧ win0_10.index t 1 = 0)
theorem emb10 (t : Fin cfg0.N) (r q : Fin 512) (R : Fin 16384) (hR : R.val = 512 * t.val + r.val) :
    (win0_10.blk t).view.emb (ix2 r q) = ix2 R q := by
  blk_ext [index10 t, hR]
/-- The first branch's queries. -/
def expected10 : FVec Ideal S16384x512 .bf16 := fun i =>
  queryRow (BitVec.ofNat 32 ((i 0).val % 4096)) 0 (cols m c ⟨(i 0).val / 4096, by have : (i 0).val < 16384 := (i 0).isLt; omega⟩ ⟨(i 0).val % 4096, by omega⟩) (i 1).val
set_option maxHeartbeats 4000000 in
theorem array10 : (dats m 0 c).arrAt 10 cfg0.N = expected10 m c := by
  refine (dats m 0 c).arrAt_eq_of_covers 10 _ (by decide +kernel) fun t hf y => ?_
  blk_simp
  rw [after0_10]
  obtain ⟨r, q, rfl⟩ : ∃ (r : Fin 512) (q : Fin 512), y = ix2 r q := ⟨y 0, y 1, eq_ix2 (n0 := 512) (n1 := 512) y⟩
  have ht : t.val < 32 := t.isLt
  rw [emb10 t r q ⟨512 * t.val + r.val, by omega⟩ rfl]
  unfold outsAt0
  dsimp only
  refine (out10_apply ..).trans ?_
  have hs : (512 * t.val + r.val) % 4096 = 512 * (t.val % 8) + r.val := by omega
  have hb : (512 * t.val + r.val) / 4096 * 4096 + (512 * t.val + r.val) % 4096 = 512 * t.val + r.val := by omega
  exact queryBlock_queryRow _ _ _ _ _ _ 0 0 (fun n hn => packed_cols m c t _ ⟨(512 * t.val + r.val) / 4096, by omega⟩ ⟨(512 * t.val + r.val) % 4096, by omega⟩ hb _ _ (by omega) (by omega) fun W k => packM_qa W k n hn)
    (tab_0 m c t _ ⟨(512 * t.val + r.val) % 4096, by omega⟩ hs) (tab_1 m c t _ ⟨(512 * t.val + r.val) % 4096, by omega⟩ hs) (tab_2 m c t _ ⟨(512 * t.val + r.val) % 4096, by omega⟩ hs) q.val q.isLt

theorem index11 : ∀ t : Fin cfg0.N, win0_11.index t 0 = t.val ∧ win0_11.index t 1 = 0 :=
  (by decide +kernel : ∀ t : Fin grid0.N, win0_11.index t 0 = t.val ∧ win0_11.index t 1 = 0)
theorem emb11 (t : Fin cfg0.N) (r q : Fin 512) (R : Fin 16384) (hR : R.val = 512 * t.val + r.val) :
    (win0_11.blk t).view.emb (ix2 r q) = ix2 R q := by
  blk_ext [index11 t, hR]
/-- The second branch's queries. -/
def expected11 : FVec Ideal S16384x512 .bf16 := fun i =>
  queryRow (BitVec.ofNat 32 ((i 0).val % 4096)) 1024 (cols m c ⟨(i 0).val / 4096, by have : (i 0).val < 16384 := (i 0).isLt; omega⟩ ⟨(i 0).val % 4096, by omega⟩) (i 1).val
set_option maxHeartbeats 4000000 in
theorem array11 : (dats m 0 c).arrAt 11 cfg0.N = expected11 m c := by
  refine (dats m 0 c).arrAt_eq_of_covers 11 _ (by decide +kernel) fun t hf y => ?_
  blk_simp
  rw [after0_11]
  obtain ⟨r, q, rfl⟩ : ∃ (r : Fin 512) (q : Fin 512), y = ix2 r q := ⟨y 0, y 1, eq_ix2 (n0 := 512) (n1 := 512) y⟩
  have ht : t.val < 32 := t.isLt
  rw [emb11 t r q ⟨512 * t.val + r.val, by omega⟩ rfl]
  unfold outsAt0
  dsimp only
  refine (out11_apply ..).trans ?_
  have hs : (512 * t.val + r.val) % 4096 = 512 * (t.val % 8) + r.val := by omega
  have hb : (512 * t.val + r.val) / 4096 * 4096 + (512 * t.val + r.val) % 4096 = 512 * t.val + r.val := by omega
  exact queryBlock_queryRow _ _ _ _ _ _ 512 1024 (fun n hn => packed_cols m c t _ ⟨(512 * t.val + r.val) / 4096, by omega⟩ ⟨(512 * t.val + r.val) % 4096, by omega⟩ hb _ _ (by omega) (by omega) fun W k => packM_qc W k n hn)
    (tab_0 m c t _ ⟨(512 * t.val + r.val) % 4096, by omega⟩ hs) (tab_1 m c t _ ⟨(512 * t.val + r.val) % 4096, by omega⟩ hs) (tab_2 m c t _ ⟨(512 * t.val + r.val) % 4096, by omega⟩ hs) q.val q.isLt
end Cert.PagesProof
-- ==== Proof.Pages.Claims.lean ====
module
public import proofs.«01_k».proof.Defs
public import proofs.«01_k».proof.Proof.Gen.PagesIdeal.Value
public import proofs.«01_k».proof.Proof.Gen.PagesReferenceIdeal.Run
public import proofs.«01_k».proof.Proof.Gen.PagesReferenceIdeal.Read
public import proofs.«01_k».proof.Proof.Pages.Reference
public import proofs.«01_k».proof.Proof.Pages.Array
public import proofs.«01_k».proof.Proof.Pages.QueryArray
public import Idealize.ShloMosaic.Adequacy
public import Idealize.ShloMosaic.Init

/-! The claims of the prompts' page stacks and queries. -/

@[expose] public section
noncomputable section
namespace Cert.PagesProof
open Cert.RowsProof Idealize.ShloMosaic Idealize.SL.Sem

/-- The reference runs, its arguments end unchanged, and every semaphore reads zero. -/
theorem reference_frame : Cert.quiescent_PagesReferenceIdeal (hPagesReferenceIdeal := Cert.PagesReferenceIdeal.Gen.facts) := by
  intro m ρ _
  exact (θ_run Cert.PagesReferenceIdeal.defs _ _).mono
    (fun r h => ⟨fun c => (h c).2.2.2.2.2, Idealize.ShloMosaic.sem_eq_zero_of_no_sems (by decide) r.2⟩)
    (Cert.PagesReferenceIdeal.Value.run (F := Ideal) m ρ)

section
open Cert.PagesReferenceIdeal Cert.PagesReferenceIdeal.Read
/-- What a stack of key-value pages ends as: three layers kept, the last one new. -/
def kvStack (vA vB : ℕ) (x0 : FVec Ideal S4x4096x1024 .f32) (x1 : FVec Ideal S1024x6440 .f32) (x : FVec Ideal S4x128x512x128 .f32) :
    FVec Ideal S4x128x512x128 .f32 := fun i => if (i 0).val < 3 then x i
  else kvRow (BitVec.ofNat 32 (tokenOf (i 1) (i 3)).val) vA vB (colsOf x0 x1 (promptOf (i 1) (i 3)) (tokenOf (i 1) (i 3))) (i 2).val
/-- What the stack of indexer pages ends as: three layers kept, the last one new. -/
def ixStack (x0 : FVec Ideal S4x4096x1024 .f32) (x1 : FVec Ideal S1024x6440 .f32) (x : FVec Ideal S4x128x32x128 .f32) :
    FVec Ideal S4x128x32x128 .f32 := fun i => if (i 0).val < 3 then x i
  else ixRow (BitVec.ofNat 32 (tokenOf (i 1) (i 3)).val) (colsOf x0 x1 (promptOf (i 1) (i 3)) (tokenOf (i 1) (i 3))) (i 2).val

/-- All rows of a branch's queries. -/
def queryStack (o : ℕ) (x0 : FVec Ideal S4x4096x1024 .f32) (x1 : FVec Ideal S1024x6440 .f32) : FVec Ideal S16384x512 .bf16 := fun i =>
  queryRow (BitVec.ofNat 32 ((i 0).val % 4096)) o
    (colsOf x0 x1 ⟨(i 0).val / 4096, by have : (i 0).val < 16384 := (i 0).isLt; omega⟩ ⟨(i 0).val % 4096, by omega⟩) (i 1).val

variable {x0 y0 : FVec Ideal S4x4096x1024 .f32} {x1 y1 : FVec Ideal S1024x6440 .f32} {x y : FVec Ideal S4x128x512x128 .f32} {z w : FVec Ideal S4x128x32x128 .f32}

/-- The reference's first key-value pages on arguments equal to these. -/
theorem congr_a (h0 : x0 = y0) (h1 : x1 = y1) (h : x = y) : val_main_v164 (F := Ideal) x0 x1 x = kvStack 512 768 y0 y1 y := by
  subst h0 h1 h
  funext i
  conv_lhs => rw [eq_ix4 i]
  refine (result_a ..).trans ?_
  conv_rhs => rw [eq_ix4 i]
  rfl
/-- The reference's second key-value pages on arguments equal to these. -/
theorem congr_c (h0 : x0 = y0) (h1 : x1 = y1) (h : x = y) : val_main_v169 (F := Ideal) x0 x1 x = kvStack 1536 1792 y0 y1 y := by
  subst h0 h1 h
  funext i
  conv_lhs => rw [eq_ix4 i]
  refine (result_c ..).trans ?_
  conv_rhs => rw [eq_ix4 i]
  rfl
/-- The reference's indexer pages on arguments equal to these. -/
theorem congr_i (h0 : x0 = y0) (h1 : x1 = y1) (h : z = w) : val_main_v174 (F := Ideal) x0 x1 z = ixStack y0 y1 w := by
  subst h0 h1 h
  funext i
  conv_lhs => rw [eq_ix4 i]
  refine (result_i ..).trans ?_
  conv_rhs => rw [eq_ix4 i]
  rfl
/-- The reference's first queries on arguments equal to these. -/
theorem congr_qa (h0 : x0 = y0) (h1 : x1 = y1) : val_main_v254 (F := Ideal) x0 x1 = queryStack 0 y0 y1 := by
  subst h0 h1
  funext i
  conv_lhs => rw [eq_ix2 i]
  refine (result_qa ..).trans ?_
  conv_rhs => rw [eq_ix2 i]
  rfl
/-- The reference's second queries on arguments equal to these. -/
theorem congr_qc (h0 : x0 = y0) (h1 : x1 = y1) : val_main_v255 (F := Ideal) x0 x1 = queryStack 1024 y0 y1 := by
  subst h0 h1
  funext i
  conv_lhs => rw [eq_ix2 i]
  refine (result_qc ..).trans ?_
  conv_rhs => rw [eq_ix2 i]
  rfl
end

/-- Kernel and reference leave equal arrays. -/
theorem equal_results : Cert.algebraic_PagesIdeal_PagesReferenceIdeal (hPagesIdeal := Cert.PagesIdeal.Gen.facts)
    (hPagesReferenceIdeal := Cert.PagesReferenceIdeal.Gen.facts) := by
  intro m g m' g' hpre hargs
  refine ⟨fun c => expected23 m c, fun c => expected24 m c, fun c => expected25 m c, fun c => expected10 m c, fun c => expected11 m c,
    (θ_run _ _ _).mono (fun r h c => ?_) (Cert.PagesIdeal.Value.run_blocks m g),
    (θ_run _ _ _).mono (fun r h c => ?_) (Cert.PagesReferenceIdeal.Value.run (F := Ideal) m' g')⟩
  · obtain ⟨h0, h1, _, _, _, _, _, _, _, _, _, _, _, h13, h14, h15, ha⟩ := h c
    exact ⟨h13.trans (array23 m c), h14.trans (array24 m c), h15.trans (array25 m c), h0.trans (array10 m c), h1.trans (array11 m c), ha⟩
  · obtain ⟨h0, h1, h2, h3, h4, ha⟩ := h c
    obtain ⟨a0, a1, a2, a3, a4, a5, a6, a7, a8⟩ := hargs c
    exact ⟨h0.trans ((Cert.PagesReferenceIdeal.Read.val_main_v164_eq (F := Ideal) (StableHlo.launchContents m' c)).trans (congr_a a0 a1 a6)),
      h1.trans ((Cert.PagesReferenceIdeal.Read.val_main_v169_eq (F := Ideal) (StableHlo.launchContents m' c)).trans (congr_c a0 a1 a7)),
      h2.trans ((Cert.PagesReferenceIdeal.Read.val_main_v174_eq (F := Ideal) (StableHlo.launchContents m' c)).trans (congr_i a0 a1 a8)),
      h3.trans ((Cert.PagesReferenceIdeal.Read.val_main_v254_eq (F := Ideal) (StableHlo.launchContents m' c)).trans (congr_qa a0 a1)),
      h4.trans ((Cert.PagesReferenceIdeal.Read.val_main_v255_eq (F := Ideal) (StableHlo.launchContents m' c)).trans (congr_qc a0 a1)), ha⟩
end Cert.PagesProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Moe.Equation
public import proofs.«01_k».proof.Proof.Gen.Sample
public import proofs.«01_k».proof.Proof.Gen.Sample.Frame
public import proofs.«01_k».proof.Proof.Gen.SampleIdeal
public import proofs.«01_k».proof.Proof.Gen.SampleIdeal.Frame
public import proofs.«01_k».proof.Proof.Gen.SampleIdeal.Value
public import proofs.«01_k».proof.Proof.Gen.SampleReferenceIdeal
public import proofs.«01_k».proof.Proof.Gen.SampleReferenceIdeal.Run
public import proofs.«01_k».proof.Proof.Gen.SampleReferenceIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Sample.Claims
public import proofs.«01_k».proof.Proof.Merge.Claims
public import proofs.«01_k».proof.Proof.Rows.Claims
public import proofs.«01_k».proof.Proof.Gen.Rows
public import proofs.«01_k».proof.Proof.Gen.Rows.Frame
public import proofs.«01_k».proof.Proof.Gen.RowsIdeal
public import proofs.«01_k».proof.Proof.Gen.RowsIdeal.Frame
public import proofs.«01_k».proof.Proof.Gen.RowsIdeal.Value
public import proofs.«01_k».proof.Proof.Gen.RowsReferenceIdeal
public import proofs.«01_k».proof.Proof.Gen.RowsReferenceIdeal.Run
public import proofs.«01_k».proof.Proof.Gen.RowsReferenceIdeal.Read
public import proofs.«01_k».proof.Proof.Gen.Pages
public import proofs.«01_k».proof.Proof.Gen.Pages.Frame
public import proofs.«01_k».proof.Proof.Gen.PagesIdeal
public import proofs.«01_k».proof.Proof.Gen.PagesIdeal.Frame
public import proofs.«01_k».proof.Proof.Gen.PagesIdeal.Value
public import proofs.«01_k».proof.Proof.Gen.PagesReferenceIdeal
public import proofs.«01_k».proof.Proof.Gen.PagesReferenceIdeal.Run
public import proofs.«01_k».proof.Proof.Gen.PagesReferenceIdeal.Read
public import proofs.«01_k».proof.Proof.Pages.Claims
public import Idealize.ShloMosaic.Adequacy
public import Idealize.ShloMosaic.Init

@[expose] public section

noncomputable section

namespace Cert.Proof

open Idealize.ShloMosaic Idealize.SL.Sem

/-- The reference runs, its arguments end unchanged, and every semaphore reads zero. -/
theorem reference_frame : Cert.quiescent_ReferenceIdeal (hReferenceIdeal := Cert.ReferenceIdeal.Gen.facts) := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

open Cert.ReferenceIdeal Cert.ReferenceIdeal.Read in
/-- Equal arguments give the reference's one result. -/
theorem result_congr {x0 y0 : (⟨S16384x1024, .f32⟩ : BufTy).Contents (Elt Ideal)} {x1 y1 : (⟨S1024x4, .f32⟩ : BufTy).Contents (Elt Ideal)}
    {x2 y2 : (⟨S4, .f32⟩ : BufTy).Contents (Elt Ideal)} {x3 y3 : (⟨S1024x16, .f32⟩ : BufTy).Contents (Elt Ideal)}
    {x4 y4 : (⟨S16, .f32⟩ : BufTy).Contents (Elt Ideal)} {x5 y5 x6 y6 : (⟨S16x1024x256, .f32⟩ : BufTy).Contents (Elt Ideal)}
    {x7 y7 : (⟨S16x256x1024, .f32⟩ : BufTy).Contents (Elt Ideal)} {x8 y8 x9 y9 : (⟨S1024, .f32⟩ : BufTy).Contents (Elt Ideal)}
    (h0 : x0 = y0) (h1 : x1 = y1) (h2 : x2 = y2) (h3 : x3 = y3) (h4 : x4 = y4) (h5 : x5 = y5) (h6 : x6 = y6) (h7 : x7 = y7)
    (h8 : x8 = y8) (h9 : x9 = y9) :
    val_main_v108 (F := Ideal) x0 x1 x2 x3 x4 x5 x6 x7 x8 x9 = val_main_v108 (F := Ideal) y0 y1 y2 y3 y4 y5 y6 y7 y8 y9 := by
  subst h0 h1 h2 h3 h4 h5 h6 h7 h8 h9; rfl

/-- Kernel and reference leave equal arrays when the router's inputs are finite. -/
theorem equal_results : Cert.algebraic_KernelIdeal_ReferenceIdeal_pre_finite_router (hKernelIdeal := Cert.KernelIdeal.Gen.facts)
    (hReferenceIdeal := Cert.ReferenceIdeal.Gen.facts) (hPre_finite_router := Cert.Moe.preFacts) := by
  intro m g m' g' hpre hargs
  haveI := Cert.Moe.preFacts
  have hfin := fun c => Cert.Moe.finite_of_pre _ _ _ _ _ _ _ _ _ _ (hpre c)
  refine ⟨fun c => Cert.Moe.expected m c, (θ_run _ _ _).mono (fun r h c => ?_) (Cert.KernelIdeal.Value.run_blocks m g),
    (θ_run _ _ _).mono (fun r h c => ?_) (Cert.ReferenceIdeal.Value.run (F := Ideal) m' g')⟩
  · obtain ⟨h0, h1⟩ := h c
    exact ⟨h0.trans (Cert.Moe.kernel_eq_expected m c (hfin c)), h1⟩
  · obtain ⟨h0, h1⟩ := h c
    obtain ⟨a0, a1, a2, a3, a4, a5, a6, a7, a8, a9⟩ := hargs c
    exact ⟨h0.trans ((Cert.ReferenceIdeal.Read.val_main_v108_eq (F := Ideal) (StableHlo.launchContents m' c)).trans
      (result_congr a0 a1 a2 a3 a4 a5 a6 a7 a8 a9)), h1⟩

/-- The certificate: the frames, each call's reading over the extended reals, and its equality with its reference. -/
theorem claim : Cert.Claim := ⟨Cert.Kernel.Gen.facts, Cert.KernelIdeal.Gen.facts, Cert.ReferenceIdeal.Gen.facts,
  Cert.Sample.Gen.facts, Cert.SampleIdeal.Gen.facts, Cert.SampleReferenceIdeal.Gen.facts,
  Cert.Rows.Gen.facts, Cert.RowsIdeal.Gen.facts, Cert.RowsReferenceIdeal.Gen.facts,
  Cert.Merge.Gen.facts, Cert.MergeIdeal.Gen.facts, Cert.MergeReferenceIdeal.Gen.facts,
  Cert.Pages.Gen.facts, Cert.PagesIdeal.Gen.facts, Cert.PagesReferenceIdeal.Gen.facts, Cert.Moe.preFacts, Cert.Moe.Sample.preFacts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Sample.Gen.frame m ρ, fun m ρ _ => Cert.SampleIdeal.Gen.frame m ρ, fun m ρ _ => Cert.SampleIdeal.Gen.frame m ρ,
  Cert.Moe.Sample.reference_frame, fun m ρ _ => Cert.Moe.Sample.reference_frame m ρ trivial,
  fun m ρ _ => Cert.Rows.Gen.frame m ρ, fun m ρ _ => Cert.RowsIdeal.Gen.frame m ρ, Cert.RowsProof.reference_frame,
  fun m ρ _ => Cert.Merge.Gen.frame m ρ, fun m ρ _ => Cert.MergeIdeal.Gen.frame m ρ, Cert.MergeProof.reference_frame,
  fun m ρ _ => Cert.Pages.Gen.frame m ρ, fun m ρ _ => Cert.PagesIdeal.Gen.frame m ρ, Cert.PagesProof.reference_frame,
  trivial, equal_results, trivial, Cert.Moe.Sample.equal_results, trivial, Cert.RowsProof.equal_results,
  trivial, Cert.MergeProof.equal_results, trivial, Cert.PagesProof.equal_results⟩

end Cert.Proof

end
